-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Kernel21Ideal_finite_norm [hPre_finite_norm : Cert.Pre_finite_norm.Facts] (m : (ℓ : Loc Cert.Kernel21Ideal.nD Cert.Kernel21Ideal.τ Cert.Kernel21Ideal.sig) → Buf (Elt Ideal) ℓ) : Prop :=
  ∀ c : Dev Cert.Kernel21Ideal.nD,
    (Cert.Pre_finite_norm.fn (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)) (m ((c.tc : Thread Cert.Kernel21Ideal.nD Cert.Kernel21Ideal.τ).loc Cert.Kernel21Ideal.main_arg2)) (m ((c.tc : Thread Cert.Kernel21Ideal.nD Cert.Kernel21Ideal.τ).loc Cert.Kernel21Ideal.main_arg3)) (m ((c.tc : Thread Cert.Kernel21Ideal.nD Cert.Kernel21Ideal.τ).loc Cert.Kernel21Ideal.main_arg4)) (m ((c.tc : Thread Cert.Kernel21Ideal.nD Cert.Kernel21Ideal.τ).loc Cert.Kernel21Ideal.main_arg5)) (m ((c.tc : Thread Cert.Kernel21Ideal.nD Cert.Kernel21Ideal.τ).loc Cert.Kernel21Ideal.main_arg6)) (m ((c.tc : Thread Cert.Kernel21Ideal.nD Cert.Kernel21Ideal.τ).loc Cert.Kernel21Ideal.main_arg7))) = (fun _ => 1#1)

def Pre_Reference21Ideal (m : (ℓ : Loc Cert.Reference21Ideal.nD Cert.Reference21Ideal.τ Cert.Reference21Ideal.sig) → Buf (Elt Ideal) ℓ) : Prop :=
  True

def Pre_Reference21Ideal_finite_norm [hPre_finite_norm : Cert.Pre_finite_norm.Facts] (m : (ℓ : Loc Cert.Reference21Ideal.nD Cert.Reference21Ideal.τ Cert.Reference21Ideal.sig) → Buf (Elt Ideal) ℓ) : Prop :=
  ∀ c : Dev Cert.Reference21Ideal.nD,
    (Cert.Pre_finite_norm.fn (F := Ideal) (m ((c.tc : Thread Cert.Reference21Ideal.nD Cert.Reference21Ideal.τ).loc Cert.Reference21Ideal.main_arg0)) (m ((c.tc : Thread Cert.Reference21Ideal.nD Cert.Reference21Ideal.τ).loc Cert.Reference21Ideal.main_arg1)) (m ((c.tc : Thread Cert.Reference21Ideal.nD Cert.Reference21Ideal.τ).loc Cert.Reference21Ideal.main_arg2)) (m ((c.tc : Thread Cert.Reference21Ideal.nD Cert.Reference21Ideal.τ).loc Cert.Reference21Ideal.main_arg3)) (m ((c.tc : Thread Cert.Reference21Ideal.nD Cert.Reference21Ideal.τ).loc Cert.Reference21Ideal.main_arg4)) (m ((c.tc : Thread Cert.Reference21Ideal.nD Cert.Reference21Ideal.τ).loc Cert.Reference21Ideal.main_arg5)) (m ((c.tc : Thread Cert.Reference21Ideal.nD Cert.Reference21Ideal.τ).loc Cert.Reference21Ideal.main_arg6)) (m ((c.tc : Thread Cert.Reference21Ideal.nD Cert.Reference21Ideal.τ).loc Cert.Reference21Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1)
      ∧ r.2.mem ((c.tc : Thread Cert.Kernel21.nD Cert.Kernel21.τ).loc Cert.Kernel21.main_arg2) = m ((c.tc : Thread Cert.Kernel21.nD Cert.Kernel21.τ).loc Cert.Kernel21.main_arg2)
      ∧ r.2.mem ((c.tc : Thread Cert.Kernel21.nD Cert.Kernel21.τ).loc Cert.Kernel21.main_arg3) = m ((c.tc : Thread Cert.Kernel21.nD Cert.Kernel21.τ).loc Cert.Kernel21.main_arg3)
      ∧ r.2.mem ((c.tc : Thread Cert.Kernel21.nD Cert.Kernel21.τ).loc Cert.Kernel21.main_arg4) = m ((c.tc : Thread Cert.Kernel21.nD Cert.Kernel21.τ).loc Cert.Kernel21.main_arg4)
      ∧ r.2.mem ((c.tc : Thread Cert.Kernel21.nD Cert.Kernel21.τ).loc Cert.Kernel21.main_arg5) = m ((c.tc : Thread Cert.Kernel21.nD Cert.Kernel21.τ).loc Cert.Kernel21.main_arg5)
      ∧ r.2.mem ((c.tc : Thread Cert.Kernel21.nD Cert.Kernel21.τ).loc Cert.Kernel21.main_arg6) = m ((c.tc : Thread Cert.Kernel21.nD Cert.Kernel21.τ).loc Cert.Kernel21.main_arg6)
      ∧ r.2.mem ((c.tc : Thread Cert.Kernel21.nD Cert.Kernel21.τ).loc Cert.Kernel21.main_arg7) = m ((c.tc : Thread Cert.Kernel21.nD Cert.Kernel21.τ).loc Cert.Kernel21.main_arg7))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Kernel21Ideal_pre_finite_norm [hKernel21Ideal : Cert.Kernel21Ideal.Facts] [hPre_finite_norm : Cert.Pre_finite_norm.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal_finite_norm m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
      ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
      ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
      ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
      ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
      ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
      ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def quiescent_Reference21Ideal_pre_finite_norm [hReference21Ideal : Cert.Reference21Ideal.Facts] [hPre_finite_norm : Cert.Pre_finite_norm.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal_finite_norm m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1)
      ∧ r.2.mem ((c.tc : Thread Cert.Reference21Ideal.nD Cert.Reference21Ideal.τ).loc Cert.Reference21Ideal.main_arg2) = m ((c.tc : Thread Cert.Reference21Ideal.nD Cert.Reference21Ideal.τ).loc Cert.Reference21Ideal.main_arg2)
      ∧ r.2.mem ((c.tc : Thread Cert.Reference21Ideal.nD Cert.Reference21Ideal.τ).loc Cert.Reference21Ideal.main_arg3) = m ((c.tc : Thread Cert.Reference21Ideal.nD Cert.Reference21Ideal.τ).loc Cert.Reference21Ideal.main_arg3)
      ∧ r.2.mem ((c.tc : Thread Cert.Reference21Ideal.nD Cert.Reference21Ideal.τ).loc Cert.Reference21Ideal.main_arg4) = m ((c.tc : Thread Cert.Reference21Ideal.nD Cert.Reference21Ideal.τ).loc Cert.Reference21Ideal.main_arg4)
      ∧ r.2.mem ((c.tc : Thread Cert.Reference21Ideal.nD Cert.Reference21Ideal.τ).loc Cert.Reference21Ideal.main_arg5) = m ((c.tc : Thread Cert.Reference21Ideal.nD Cert.Reference21Ideal.τ).loc Cert.Reference21Ideal.main_arg5)
      ∧ r.2.mem ((c.tc : Thread Cert.Reference21Ideal.nD Cert.Reference21Ideal.τ).loc Cert.Reference21Ideal.main_arg6) = m ((c.tc : Thread Cert.Reference21Ideal.nD Cert.Reference21Ideal.τ).loc Cert.Reference21Ideal.main_arg6)
      ∧ r.2.mem ((c.tc : Thread Cert.Reference21Ideal.nD Cert.Reference21Ideal.τ).loc Cert.Reference21Ideal.main_arg7) = m ((c.tc : Thread Cert.Reference21Ideal.nD Cert.Reference21Ideal.τ).loc Cert.Reference21Ideal.main_arg7))
      ∧ r.2.sem = fun _ => 0)

def preserves_Kernel_KernelIdeal : Prop :=
  IdealRules.named_const.Statement Cert.KernelIdeal.κ "far" .f32 0x749DC5AE#32 ⊤

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67_0) = v0 c
          ∧ r.2.mem ((c.tc : Thread Cert.KernelIdeal.nD Cert.KernelIdeal.τ).loc Cert.KernelIdeal.main_v67_1) = v1 c
          ∧ r.2.mem ((c.tc : Thread Cert.KernelIdeal.nD Cert.KernelIdeal.τ).loc Cert.KernelIdeal.main_v67_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v104) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v2_0)) (v1 : (c : Dev Cert.Kernel2Ideal.nD) → Buf (Elt Ideal) ((c.tc : Thread Cert.Kernel2Ideal.nD Cert.Kernel2Ideal.τ).loc Cert.Kernel2Ideal.main_v2_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2_0) = v0 c
          ∧ r.2.mem ((c.tc : Thread Cert.Kernel2Ideal.nD Cert.Kernel2Ideal.τ).loc Cert.Kernel2Ideal.main_v2_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v5) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v8) = v0 c
          ∧ r.2.mem ((c.tc : Thread Cert.Reference3Ideal.nD Cert.Reference3Ideal.τ).loc Cert.Reference3Ideal.main_v5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_v5) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v2_0)) (v1 : (c : Dev Cert.Kernel5Ideal.nD) → Buf (Elt Ideal) ((c.tc : Thread Cert.Kernel5Ideal.nD Cert.Kernel5Ideal.τ).loc Cert.Kernel5Ideal.main_v2_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2_0) = v0 c
          ∧ r.2.mem ((c.tc : Thread Cert.Kernel5Ideal.nD Cert.Kernel5Ideal.τ).loc Cert.Kernel5Ideal.main_v2_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v5) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v4_0)) (v1 : (c : Dev Cert.Kernel6Ideal.nD) → Buf (Elt Ideal) ((c.tc : Thread Cert.Kernel6Ideal.nD Cert.Kernel6Ideal.τ).loc Cert.Kernel6Ideal.main_v4_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4_0) = v0 c
          ∧ r.2.mem ((c.tc : Thread Cert.Kernel6Ideal.nD Cert.Kernel6Ideal.τ).loc Cert.Kernel6Ideal.main_v4_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v5) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v2_0)) (v1 : (c : Dev Cert.Kernel7Ideal.nD) → Buf (Elt Ideal) ((c.tc : Thread Cert.Kernel7Ideal.nD Cert.Kernel7Ideal.τ).loc Cert.Kernel7Ideal.main_v2_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2_0) = v0 c
          ∧ r.2.mem ((c.tc : Thread Cert.Kernel7Ideal.nD Cert.Kernel7Ideal.τ).loc Cert.Kernel7Ideal.main_v2_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v5) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v2) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v3) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v3) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v2_0)) (v1 : (c : Dev Cert.Kernel17Ideal.nD) → Buf (Elt Ideal) ((c.tc : Thread Cert.Kernel17Ideal.nD Cert.Kernel17Ideal.τ).loc Cert.Kernel17Ideal.main_v2_1)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2_0) = v0 c
          ∧ r.2.mem ((c.tc : Thread Cert.Kernel17Ideal.nD Cert.Kernel17Ideal.τ).loc Cert.Kernel17Ideal.main_v2_1) = v1 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v5) = v1 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v5_0)) (v1 : (c : Dev Cert.Kernel18Ideal.nD) → Buf (Elt Ideal) ((c.tc : Thread Cert.Kernel18Ideal.nD Cert.Kernel18Ideal.τ).loc Cert.Kernel18Ideal.main_v5_1)) (v2 : (c : Dev Cert.Kernel18Ideal.nD) → Buf (Elt Ideal) ((c.tc : Thread Cert.Kernel18Ideal.nD Cert.Kernel18Ideal.τ).loc Cert.Kernel18Ideal.main_v5_2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v5_0) = v0 c
          ∧ r.2.mem ((c.tc : Thread Cert.Kernel18Ideal.nD Cert.Kernel18Ideal.τ).loc Cert.Kernel18Ideal.main_v5_1) = v1 c
          ∧ r.2.mem ((c.tc : Thread Cert.Kernel18Ideal.nD Cert.Kernel18Ideal.τ).loc Cert.Kernel18Ideal.main_v5_2) = v2 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v31) = v0 c
          ∧ r.2.mem ((c.tc : Thread Cert.Reference18Ideal.nD Cert.Reference18Ideal.τ).loc Cert.Reference18Ideal.main_v32) = v1 c
          ∧ r.2.mem ((c.tc : Thread Cert.Reference18Ideal.nD Cert.Reference18Ideal.τ).loc Cert.Reference18Ideal.main_v34) = v2 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v0_0)) (v1 : (c : Dev Cert.Kernel19Ideal.nD) → Buf (Elt Ideal) ((c.tc : Thread Cert.Kernel19Ideal.nD Cert.Kernel19Ideal.τ).loc Cert.Kernel19Ideal.main_v0_1)) (v2 : (c : Dev Cert.Kernel19Ideal.nD) → Buf (Elt Ideal) ((c.tc : Thread Cert.Kernel19Ideal.nD Cert.Kernel19Ideal.τ).loc Cert.Kernel19Ideal.main_v0_2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0_0) = v0 c
          ∧ r.2.mem ((c.tc : Thread Cert.Kernel19Ideal.nD Cert.Kernel19Ideal.τ).loc Cert.Kernel19Ideal.main_v0_1) = v1 c
          ∧ r.2.mem ((c.tc : Thread Cert.Kernel19Ideal.nD Cert.Kernel19Ideal.τ).loc Cert.Kernel19Ideal.main_v0_2) = v2 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v23) = v0 c
          ∧ r.2.mem ((c.tc : Thread Cert.Reference19Ideal.nD Cert.Reference19Ideal.τ).loc Cert.Reference19Ideal.main_v4) = v1 c
          ∧ r.2.mem ((c.tc : Thread Cert.Reference19Ideal.nD Cert.Reference19Ideal.τ).loc Cert.Reference19Ideal.main_v10) = v2 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)) →
    ∃ (v0 : (c : Dev Cert.Kernel20Ideal.nD) → Buf (Elt Ideal) ((c.tc : Thread Cert.Kernel20Ideal.nD Cert.Kernel20Ideal.τ).loc Cert.Kernel20Ideal.main_v2_0)) (v1 : (c : Dev Cert.Kernel20Ideal.nD) → Buf (Elt Ideal) ((c.tc : Thread Cert.Kernel20Ideal.nD Cert.Kernel20Ideal.τ).loc Cert.Kernel20Ideal.main_v2_1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v2_0) = v0 c
          ∧ r.2.mem ((c.tc : Thread Cert.Kernel20Ideal.nD Cert.Kernel20Ideal.τ).loc Cert.Kernel20Ideal.main_v2_1) = v1 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v2) = v0 c
          ∧ r.2.mem ((c.tc : Thread Cert.Reference20Ideal.nD Cert.Reference20Ideal.τ).loc Cert.Reference20Ideal.main_v37) = v1 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4))

def preserves_Kernel21_Kernel21Ideal : Prop :=
  True

def algebraic_Kernel21Ideal_Reference21Ideal_pre_finite_norm [hKernel21Ideal : Cert.Kernel21Ideal.Facts] [hReference21Ideal : Cert.Reference21Ideal.Facts] [hPre_finite_norm : Cert.Pre_finite_norm.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal_finite_norm m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)
      ∧ m' ((c.tc : Thread Cert.Reference21Ideal.nD Cert.Reference21Ideal.τ).loc Cert.Reference21Ideal.main_arg2) = m ((c.tc : Thread Cert.Kernel21Ideal.nD Cert.Kernel21Ideal.τ).loc Cert.Kernel21Ideal.main_arg2)
      ∧ m' ((c.tc : Thread Cert.Reference21Ideal.nD Cert.Reference21Ideal.τ).loc Cert.Reference21Ideal.main_arg3) = m ((c.tc : Thread Cert.Kernel21Ideal.nD Cert.Kernel21Ideal.τ).loc Cert.Kernel21Ideal.main_arg3)
      ∧ m' ((c.tc : Thread Cert.Reference21Ideal.nD Cert.Reference21Ideal.τ).loc Cert.Reference21Ideal.main_arg4) = m ((c.tc : Thread Cert.Kernel21Ideal.nD Cert.Kernel21Ideal.τ).loc Cert.Kernel21Ideal.main_arg4)
      ∧ m' ((c.tc : Thread Cert.Reference21Ideal.nD Cert.Reference21Ideal.τ).loc Cert.Reference21Ideal.main_arg5) = m ((c.tc : Thread Cert.Kernel21Ideal.nD Cert.Kernel21Ideal.τ).loc Cert.Kernel21Ideal.main_arg5)
      ∧ m' ((c.tc : Thread Cert.Reference21Ideal.nD Cert.Reference21Ideal.τ).loc Cert.Reference21Ideal.main_arg6) = m ((c.tc : Thread Cert.Kernel21Ideal.nD Cert.Kernel21Ideal.τ).loc Cert.Kernel21Ideal.main_arg6)
      ∧ m' ((c.tc : Thread Cert.Reference21Ideal.nD Cert.Reference21Ideal.τ).loc Cert.Reference21Ideal.main_arg7) = m ((c.tc : Thread Cert.Kernel21Ideal.nD Cert.Kernel21Ideal.τ).loc Cert.Kernel21Ideal.main_arg7)) →
    ∃ (v0 : (c : Dev Cert.Kernel21Ideal.nD) → Buf (Elt Ideal) ((c.tc : Thread Cert.Kernel21Ideal.nD Cert.Kernel21Ideal.τ).loc Cert.Kernel21Ideal.main_v3_0)) (v1 : (c : Dev Cert.Kernel21Ideal.nD) → Buf (Elt Ideal) ((c.tc : Thread Cert.Kernel21Ideal.nD Cert.Kernel21Ideal.τ).loc Cert.Kernel21Ideal.main_v3_1)) (v2 : (c : Dev Cert.Kernel21Ideal.nD) → Buf (Elt Ideal) ((c.tc : Thread Cert.Kernel21Ideal.nD Cert.Kernel21Ideal.τ).loc Cert.Kernel21Ideal.main_v3_2)) (v3 : (c : Dev Cert.Kernel21Ideal.nD) → Buf (Elt Ideal) ((c.tc : Thread Cert.Kernel21Ideal.nD Cert.Kernel21Ideal.τ).loc Cert.Kernel21Ideal.main_v3_3)) (v4 : (c : Dev Cert.Kernel21Ideal.nD) → Buf (Elt Ideal) ((c.tc : Thread Cert.Kernel21Ideal.nD Cert.Kernel21Ideal.τ).loc Cert.Kernel21Ideal.main_v3_4)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v3_0) = v0 c
          ∧ r.2.mem ((c.tc : Thread Cert.Kernel21Ideal.nD Cert.Kernel21Ideal.τ).loc Cert.Kernel21Ideal.main_v3_1) = v1 c
          ∧ r.2.mem ((c.tc : Thread Cert.Kernel21Ideal.nD Cert.Kernel21Ideal.τ).loc Cert.Kernel21Ideal.main_v3_2) = v2 c
          ∧ r.2.mem ((c.tc : Thread Cert.Kernel21Ideal.nD Cert.Kernel21Ideal.τ).loc Cert.Kernel21Ideal.main_v3_3) = v3 c
          ∧ r.2.mem ((c.tc : Thread Cert.Kernel21Ideal.nD Cert.Kernel21Ideal.τ).loc Cert.Kernel21Ideal.main_v3_4) = v4 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1)
          ∧ r.2.mem ((c.tc : Thread Cert.Kernel21Ideal.nD Cert.Kernel21Ideal.τ).loc Cert.Kernel21Ideal.main_arg2) = m ((c.tc : Thread Cert.Kernel21Ideal.nD Cert.Kernel21Ideal.τ).loc Cert.Kernel21Ideal.main_arg2)
          ∧ r.2.mem ((c.tc : Thread Cert.Kernel21Ideal.nD Cert.Kernel21Ideal.τ).loc Cert.Kernel21Ideal.main_arg3) = m ((c.tc : Thread Cert.Kernel21Ideal.nD Cert.Kernel21Ideal.τ).loc Cert.Kernel21Ideal.main_arg3)
          ∧ r.2.mem ((c.tc : Thread Cert.Kernel21Ideal.nD Cert.Kernel21Ideal.τ).loc Cert.Kernel21Ideal.main_arg4) = m ((c.tc : Thread Cert.Kernel21Ideal.nD Cert.Kernel21Ideal.τ).loc Cert.Kernel21Ideal.main_arg4)
          ∧ r.2.mem ((c.tc : Thread Cert.Kernel21Ideal.nD Cert.Kernel21Ideal.τ).loc Cert.Kernel21Ideal.main_arg5) = m ((c.tc : Thread Cert.Kernel21Ideal.nD Cert.Kernel21Ideal.τ).loc Cert.Kernel21Ideal.main_arg5)
          ∧ r.2.mem ((c.tc : Thread Cert.Kernel21Ideal.nD Cert.Kernel21Ideal.τ).loc Cert.Kernel21Ideal.main_arg6) = m ((c.tc : Thread Cert.Kernel21Ideal.nD Cert.Kernel21Ideal.τ).loc Cert.Kernel21Ideal.main_arg6)
          ∧ r.2.mem ((c.tc : Thread Cert.Kernel21Ideal.nD Cert.Kernel21Ideal.τ).loc Cert.Kernel21Ideal.main_arg7) = m ((c.tc : Thread Cert.Kernel21Ideal.nD Cert.Kernel21Ideal.τ).loc Cert.Kernel21Ideal.main_arg7))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v62) = v0 c
          ∧ r.2.mem ((c.tc : Thread Cert.Reference21Ideal.nD Cert.Reference21Ideal.τ).loc Cert.Reference21Ideal.main_v63) = v1 c
          ∧ r.2.mem ((c.tc : Thread Cert.Reference21Ideal.nD Cert.Reference21Ideal.τ).loc Cert.Reference21Ideal.main_v38) = v2 c
          ∧ r.2.mem ((c.tc : Thread Cert.Reference21Ideal.nD Cert.Reference21Ideal.τ).loc Cert.Reference21Ideal.main_v35) = v3 c
          ∧ r.2.mem ((c.tc : Thread Cert.Reference21Ideal.nD Cert.Reference21Ideal.τ).loc Cert.Reference21Ideal.main_v65) = v4 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1)
          ∧ r.2.mem ((c.tc : Thread Cert.Reference21Ideal.nD Cert.Reference21Ideal.τ).loc Cert.Reference21Ideal.main_arg2) = m' ((c.tc : Thread Cert.Reference21Ideal.nD Cert.Reference21Ideal.τ).loc Cert.Reference21Ideal.main_arg2)
          ∧ r.2.mem ((c.tc : Thread Cert.Reference21Ideal.nD Cert.Reference21Ideal.τ).loc Cert.Reference21Ideal.main_arg3) = m' ((c.tc : Thread Cert.Reference21Ideal.nD Cert.Reference21Ideal.τ).loc Cert.Reference21Ideal.main_arg3)
          ∧ r.2.mem ((c.tc : Thread Cert.Reference21Ideal.nD Cert.Reference21Ideal.τ).loc Cert.Reference21Ideal.main_arg4) = m' ((c.tc : Thread Cert.Reference21Ideal.nD Cert.Reference21Ideal.τ).loc Cert.Reference21Ideal.main_arg4)
          ∧ r.2.mem ((c.tc : Thread Cert.Reference21Ideal.nD Cert.Reference21Ideal.τ).loc Cert.Reference21Ideal.main_arg5) = m' ((c.tc : Thread Cert.Reference21Ideal.nD Cert.Reference21Ideal.τ).loc Cert.Reference21Ideal.main_arg5)
          ∧ r.2.mem ((c.tc : Thread Cert.Reference21Ideal.nD Cert.Reference21Ideal.τ).loc Cert.Reference21Ideal.main_arg6) = m' ((c.tc : Thread Cert.Reference21Ideal.nD Cert.Reference21Ideal.τ).loc Cert.Reference21Ideal.main_arg6)
          ∧ r.2.mem ((c.tc : Thread Cert.Reference21Ideal.nD Cert.Reference21Ideal.τ).loc Cert.Reference21Ideal.main_arg7) = m' ((c.tc : Thread Cert.Reference21Ideal.nD Cert.Reference21Ideal.τ).loc Cert.Reference21Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hPre_finite : Cert.Pre_finite.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Kernel21Ideal_pre_finite_norm (hKernel21Ideal := hKernel21Ideal) (hPre_finite_norm := hPre_finite_norm)
    ∧ quiescent_Reference21Ideal (hReference21Ideal := hReference21Ideal)
    ∧ quiescent_Reference21Ideal_pre_finite_norm (hReference21Ideal := hReference21Ideal) (hPre_finite_norm := hPre_finite_norm)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal_pre_finite_norm (hKernel21Ideal := hKernel21Ideal) (hReference21Ideal := hReference21Ideal) (hPre_finite_norm := hPre_finite_norm)
-- ==== Pre_finite.lean ====
abbrev S16x512x512 : Shape := ⟨3, ![16, 512, 512]⟩
abbrev S16x512x8 : Shape := ⟨3, ![16, 512, 8]⟩
abbrev S_ : Shape := ⟨0, ![]⟩

class Facts : Prop where
  bcast_S_S16x512x512 : S_.BroadcastsInDim S16x512x512 (![] : Fin 0 → Fin S16x512x512.rank)
  reducesTo_S16x512x512_S_d0_1_2 : S16x512x512.ReducesTo [0, 1, 2] S_
  h_S_ : 0 < S_.numel
  bcast_S_S16x512x8 : S_.BroadcastsInDim S16x512x8 (![] : Fin 0 → Fin S16x512x8.rank)
  reducesTo_S16x512x8_S_d0_1_2 : S16x512x8.ReducesTo [0, 1, 2] S_

variable [Facts]

def fn_part1 {F : FTy → Type} [FloatOps F] (main_arg4 : FVec F S16x512x8 .f32) (main_v13 : IVec S_ 1) (main_v16 : IVec S16x512x512 1) : IVec S_ 1 :=
  let main_c_5 : IVec S_ 1 := constantI S_ 1 1#1
  let main_v17 : IVec S_ 1 := (fun x v => Host.reduce IntOp.andi x v reducesTo_S16x512x512_S_d0_1_2 h_S_) main_v16 main_c_5
  let main_v18 : IVec S_ 1 := andi main_v13 main_v17
  let main_v19 : FVec F S16x512x8 .f32 := Host.absf main_arg4
  let main_cst_6 : FVec F S_ .f32 := constant S_ .f32 0x7F800000#32
  let main_v20 : FVec F S16x512x8 .f32 := broadcastInDim S16x512x8 ![] bcast_S_S16x512x8 main_cst_6
  let main_v21 : IVec S16x512x8 1 := cmpf .olt main_v19 main_v20
  let main_c_7 : IVec S_ 1 := constantI S_ 1 1#1
  let main_v22 : IVec S_ 1 := (fun x v => Host.reduce IntOp.andi x v reducesTo_S16x512x8_S_d0_1_2 h_S_) main_v21 main_c_7
  let main_v23 : IVec S_ 1 := andi main_v18 main_v22
  main_v23

def fn {F : FTy → Type} [FloatOps F] (main_arg0 : FVec F S16x512x512 .f32) (main_arg1 : FVec F S16x512x512 .f32) (main_arg2 : FVec F S16x512x512 .f32) (main_arg3 : FVec F S16x512x512 .f32) (main_arg4 : FVec F S16x512x8 .f32) : IVec S_ 1 :=
  let main_v0 : FVec F S16x512x512 .f32 := Host.absf main_arg0
  let main_cst : FVec F S_ .f32 := constant S_ .f32 0x7F800000#32
  let main_v1 : FVec F S16x512x512 .f32 := broadcastInDim S16x512x512 ![] bcast_S_S16x512x512 main_cst
  let main_v2 : IVec S16x512x512 1 := cmpf .olt main_v0 main_v1
  let main_c : IVec S_ 1 := constantI S_ 1 1#1
  let main_v3 : IVec S_ 1 := (fun x v => Host.reduce IntOp.andi x v reducesTo_S16x512x512_S_d0_1_2 h_S_) main_v2 main_c
  let main_v4 : FVec F S16x512x512 .f32 := Host.absf main_arg1
  let main_cst_0 : FVec F S_ .f32 := constant S_ .f32 0x7F800000#32
  let main_v5 : FVec F S16x512x512 .f32 := broadcastInDim S16x512x512 ![] bcast_S_S16x512x512 main_cst_0
  let main_v6 : IVec S16x512x512 1 := cmpf .olt main_v4 main_v5
  let main_c_1 : IVec S_ 1 := constantI S_ 1 1#1
  let main_v7 : IVec S_ 1 := (fun x v => Host.reduce IntOp.andi x v reducesTo_S16x512x512_S_d0_1_2 h_S_) main_v6 main_c_1
  let main_v8 : IVec S_ 1 := andi main_v3 main_v7
  let main_v9 : FVec F S16x512x512 .f32 := Host.absf main_arg2
  let main_cst_2 : FVec F S_ .f32 := constant S_ .f32 0x7F800000#32
  let main_v10 : FVec F S16x512x512 .f32 := broadcastInDim S16x512x512 ![] bcast_S_S16x512x512 main_cst_2
  let main_v11 : IVec S16x512x512 1 := cmpf .olt main_v9 main_v10
  let main_c_3 : IVec S_ 1 := constantI S_ 1 1#1
  let main_v12 : IVec S_ 1 := (fun x v => Host.reduce IntOp.andi x v reducesTo_S16x512x512_S_d0_1_2 h_S_) main_v11 main_c_3
  let main_v13 : IVec S_ 1 := andi main_v8 main_v12
  let main_v14 : FVec F S16x512x512 .f32 := Host.absf main_arg3
  let main_cst_4 : FVec F S_ .f32 := constant S_ .f32 0x7F800000#32
  let main_v15 : FVec F S16x512x512 .f32 := broadcastInDim S16x512x512 ![] bcast_S_S16x512x512 main_cst_4
  let main_v16 : IVec S16x512x512 1 := cmpf .olt main_v14 main_v15
  fn_part1 (F := F) main_arg4 main_v13 main_v16
-- ==== Pre_finite_norm.lean ====
abbrev S8192x1024 : Shape := ⟨2, ![8192, 1024]⟩
abbrev S1x1024 : Shape := ⟨2, ![1, 1024]⟩
abbrev S8192x2816 : Shape := ⟨2, ![8192, 2816]⟩
abbrev S1024x5632 : Shape := ⟨2, ![1024, 5632]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S8192x2816 : S_.BroadcastsInDim S8192x2816 (![] : Fin 0 → Fin S8192x2816.rank)
  reducesTo_S8192x2816_S_d0_1 : S8192x2816.ReducesTo [0, 1] S_
  bcast_S_S1024x5632 : S_.BroadcastsInDim S1024x5632 (![] : Fin 0 → Fin S1024x5632.rank)
  reducesTo_S1024x5632_S_d0_1 : S1024x5632.ReducesTo [0, 1] S_

variable [Facts]

def fn_part1 {F : FTy → Type} [FloatOps F] (main_arg7 : FVec F S1024x5632 .f32) (main_v13 : IVec S_ 1) (main_v16 : IVec S8192x2816 1) : IVec S_ 1 :=
  let main_c_5 : IVec S_ 1 := constantI S_ 1 1#1
  let main_v17 : IVec S_ 1 := (fun x v => Host.reduce IntOp.andi x v reducesTo_S8192x2816_S_d0_1 h_S_) main_v16 main_c_5
  let main_v18 : IVec S_ 1 := andi main_v13 main_v17
  let main_v19 : FVec F S1024x5632 .f32 := Host.absf main_arg7
  let main_cst_6 : FVec F S_ .f32 := constant S_ .f32 0x7F800000#32
  let main_v20 : FVec F S1024x5632 .f32 := broadcastInDim S1024x5632 ![] bcast_S_S1024x5632 main_cst_6
  let main_v21 : IVec S1024x5632 1 := cmpf .olt main_v19 main_v20
  let main_c_7 : IVec S_ 1 := constantI S_ 1 1#1
  let main_v22 : IVec S_ 1 := (fun x v => Host.reduce IntOp.andi x v reducesTo_S1024x5632_S_d0_1 h_S_) main_v21 main_c_7
  let main_v23 : IVec S_ 1 := andi main_v18 main_v22
  main_v23

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S8192x1024 .f32) (main_arg5 : FVec F S8192x2816 .f32) (main_arg6 : FVec F S8192x2816 .f32) (main_arg7 : FVec F S1024x5632 .f32) : IVec S_ 1 :=
  let main_v0 : FVec F S1x1024 .f32 := Host.absf main_arg2
  let main_cst : FVec F S_ .f32 := constant S_ .f32 0x7F800000#32
  let main_v1 : FVec F S1x1024 .f32 := broadcastInDim S1x1024 ![] bcast_S_S1x1024 main_cst
  let main_v2 : IVec S1x1024 1 := cmpf .olt main_v0 main_v1
  let main_c : IVec S_ 1 := constantI S_ 1 1#1
  let main_v3 : IVec S_ 1 := (fun x v => Host.reduce IntOp.andi x v reducesTo_S1x1024_S_d0_1 h_S_) main_v2 main_c
  let main_v4 : FVec F S8192x1024 .f32 := Host.absf main_arg4
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x2816 .f32 := Host.absf main_arg5
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  let main_v14 : FVec F S8192x2816 .f32 := Host.absf main_arg6
  let main_cst_4 : FVec F S_ .f32 := constant S_ .f32 0x7F800000#32
  let main_v15 : FVec F S8192x2816 .f32 := broadcastInDim S8192x2816 ![] bcast_S_S8192x2816 main_cst_4
  let main_v16 : IVec S8192x2816 1 := cmpf .olt main_v14 main_v15
  fn_part1 (F := F) main_arg7 main_v13 main_v16
-- ==== Kernel.lean ====
abbrev S16x512x512 : Shape := ⟨3, ![16, 512, 512]⟩
abbrev S16x512x8 : Shape := ⟨3, ![16, 512, 8]⟩
abbrev S8 : Shape := ⟨1, ![8]⟩
abbrev S16x512x8x64 : Shape := ⟨4, ![16, 512, 8, 64]⟩
abbrev S_ : Shape := ⟨0, ![]⟩
abbrev S1 : Shape := ⟨1, ![1]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S16x8x512x512 : Shape := ⟨4, ![16, 8, 512, 512]⟩
abbrev S1x8x512x512 : Shape := ⟨4, ![1, 8, 512, 512]⟩
abbrev S1x1x512x512 : Shape := ⟨4, ![1, 1, 512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x512x1536 : Shape := ⟨3, ![16, 512, 1536]⟩
abbrev S16x512x8x1 : Shape := ⟨4, ![16, 512, 8, 1]⟩
abbrev S4x512x128 : Shape := ⟨3, ![4, 512, 128]⟩
abbrev S3x256x256 : Shape := ⟨3, ![3, 256, 256]⟩
abbrev S16x256x256 : Shape := ⟨3, ![16, 256, 256]⟩
abbrev S128x256 : Shape := ⟨2, ![128, 256]⟩
abbrev S1x128x256 : Shape := ⟨3, ![1, 128, 256]⟩
abbrev S1x128 : Shape := ⟨2, ![1, 128]⟩
abbrev S1x128x128 : Shape := ⟨3, ![1, 128, 128]⟩
abbrev S128x128 : Shape := ⟨2, ![128, 128]⟩
abbrev S256x128 : Shape := ⟨2, ![256, 128]⟩
abbrev S1x256x128 : Shape := ⟨3, ![1, 256, 128]⟩
abbrev S256x256 : Shape := ⟨2, ![256, 256]⟩
abbrev S1x256x256 : Shape := ⟨3, ![1, 256, 256]⟩
abbrev S128 : Shape := ⟨1, ![128]⟩
abbrev S128x1 : Shape := ⟨2, ![128, 1]⟩
abbrev S256x1 : Shape := ⟨2, ![256, 1]⟩

abbrev nBuf : Space → Nat
  | .hbm => 94
  | .vmem => 25
  | .smem => 1
  | _ => 0

abbrev bufTy : (tb : Table) → Fin (tcTables nBuf tb) → BufTy
  | .hbm, ⟨0, _⟩ => ⟨S16x512x512, .f32⟩
  | .hbm, ⟨1, _⟩ => ⟨S16x512x512, .f32⟩
  | .hbm, ⟨2, _⟩ => ⟨S16x512x512, .f32⟩
  | .hbm, ⟨3, _⟩ => ⟨S16x512x512, .f32⟩
  | .hbm, ⟨4, _⟩ => ⟨S16x512x8, .f32⟩
  | .hbm, ⟨5, _⟩ => ⟨S8, .f32⟩
  | .hbm, ⟨6, _⟩ => ⟨S16x512x8x64, .f32⟩
  | .hbm, ⟨7, _⟩ => ⟨S16x512x8x64, .f32⟩
  | .hbm, ⟨8, _⟩ => ⟨S16x512x8x64, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S1, .f32⟩
  | .hbm, ⟨19, _⟩ => ⟨S1, .f32⟩
  | .hbm, ⟨20, _⟩ => ⟨S1, .f32⟩
  | .hbm, ⟨21, _⟩ => ⟨S1, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S8, .f32⟩
  | .hbm, ⟨26, _⟩ => ⟨S512, .i32⟩
  | .hbm, ⟨27, _⟩ => ⟨S1x512, .i32⟩
  | .hbm, ⟨28, _⟩ => ⟨S512x1, .i32⟩
  | .hbm, ⟨29, _⟩ => ⟨S512x512, .i32⟩
  | .hbm, ⟨30, _⟩ => ⟨S512x512, .i32⟩
  | .hbm, ⟨31, _⟩ => ⟨S512x512, .i32⟩
  | .hbm, ⟨32, _⟩ => ⟨S512x512, .i32⟩
  | .hbm, ⟨33, _⟩ => ⟨S_, .i32⟩
  | .hbm, ⟨34, _⟩ => ⟨S512x512, .i32⟩
  | .hbm, ⟨35, _⟩ => ⟨S512x512, .i1⟩
  | .hbm, ⟨36, _⟩ => ⟨S512x512, .i32⟩
  | .hbm, ⟨37, _⟩ => ⟨S_, .i32⟩
  | .hbm, ⟨38, _⟩ => ⟨S512x512, .i32⟩
  | .hbm, ⟨39, _⟩ => ⟨S512x512, .i32⟩
  | .hbm, ⟨40, _⟩ => ⟨S512x512, .f32⟩
  | .hbm, ⟨41, _⟩ => ⟨S8x1x1, .f32⟩
  | .hbm, ⟨42, _⟩ => ⟨S8x1x1, .f32⟩
  | .hbm, ⟨43, _⟩ => ⟨S1x512x512, .f32⟩
  | .hbm, ⟨44, _⟩ => ⟨S8x512x512, .f32⟩
  | .hbm, ⟨45, _⟩ => ⟨S8x512x512, .f32⟩
  | .hbm, ⟨46, _⟩ => ⟨S8x512x512, .f32⟩
  | .hbm, ⟨47, _⟩ => ⟨S16x8x512x512, .f32⟩
  | .hbm, ⟨48, _⟩ => ⟨S_, .f32⟩
  | .hbm, ⟨49, _⟩ => ⟨S16x8x512x512, .f32⟩
  | .hbm, ⟨50, _⟩ => ⟨S16x8x512x512, .f32⟩
  | .hbm, ⟨51, _⟩ => ⟨S1x8x512x512, .f32⟩
  | .hbm, ⟨52, _⟩ => ⟨S16x8x512x512, .f32⟩
  | .hbm, ⟨53, _⟩ => ⟨S16x8x512x512, .f32⟩
  | .hbm, ⟨54, _⟩ => ⟨S1x1x512x512, .i1⟩
  | .hbm, ⟨55, _⟩ => ⟨S_, .f32⟩
  | .hbm, ⟨56, _⟩ => ⟨S_, .f32⟩
  | .hbm, ⟨57, _⟩ => ⟨S16x8x512x512, .i1⟩
  | .hbm, ⟨58, _⟩ => ⟨S16x8x512x512, .f32⟩
  | .hbm, ⟨59, _⟩ => ⟨S16x8x512x512, .f32⟩
  | .hbm, ⟨60, _⟩ => ⟨S_, .f32⟩
  | .hbm, ⟨61, _⟩ => ⟨S16x8x512, .f32⟩
  | .hbm, ⟨62, _⟩ => ⟨S16x8x512x1, .f32⟩
  | .hbm, ⟨63, _⟩ => ⟨S16x8x512x512, .f32⟩
  | .hbm, ⟨64, _⟩ => ⟨S16x8x512x512, .f32⟩
  | .hbm, ⟨65, _⟩ => ⟨S16x8x512x512, .f32⟩
  | .hbm, ⟨66, _⟩ => ⟨S_, .f32⟩
  | .hbm, ⟨67, _⟩ => ⟨S16x8x512, .f32⟩
  | .hbm, ⟨68, _⟩ => ⟨S16x8x512x1, .f32⟩
  | .hbm, ⟨69, _⟩ => ⟨S16x8x512x512, .f32⟩
  | .hbm, ⟨70, _⟩ => ⟨S16x8x512x512, .f32⟩
  | .hbm, ⟨71, _⟩ => ⟨S16x8x64x512, .f32⟩
  | .hbm, ⟨72, _⟩ => ⟨S16x512x8x64, .f32⟩
  | .hbm, ⟨73, _⟩ => ⟨S16x8x512x1, .f32⟩
  | .hbm, ⟨74, _⟩ => ⟨S16x8x512x1, .f32⟩
  | .hbm, ⟨75, _⟩ => ⟨S16x8x512, .f32⟩
  | .hbm, ⟨76, _⟩ => ⟨S16x512x8, .f32⟩
  | .hbm, ⟨77, _⟩ => ⟨S16x512x8x64, .f32⟩
  | .hbm, ⟨78, _⟩ => ⟨S16x512x8x64, .f32⟩
  | .hbm, ⟨79, _⟩ => ⟨S_, .f32⟩
  | .hbm, ⟨80, _⟩ => ⟨S16x512x8, .f32⟩
  | .hbm, ⟨81, _⟩ => ⟨S16x512x8, .f32⟩
  | .hbm, ⟨82, _⟩ => ⟨S16x512x1536, .f32⟩
  | .hbm, ⟨83, _⟩ => ⟨S16x512x1536, .bf16⟩
  | .hbm, ⟨84, _⟩ => ⟨S16x512x512, .bf16⟩
  | .hbm, ⟨85, _⟩ => ⟨S16x512x8x1, .f32⟩
  | .hbm, ⟨86, _⟩ => ⟨S16x512x8x64, .f32⟩
  | .hbm, ⟨87, _⟩ => ⟨S16x512x512, .f32⟩
  | .hbm, ⟨88, _⟩ => ⟨S16x512x8x1, .f32⟩
  | .hbm, ⟨89, _⟩ => ⟨S16x512x8x64, .f32⟩
  | .hbm, ⟨90, _⟩ => ⟨S16x512x512, .f32⟩
  | .hbm, ⟨91, _⟩ => ⟨S16x512x512, .bf16⟩
  | .hbm, ⟨92, _⟩ => ⟨S16x512x512, .bf16⟩
  | .hbm, ⟨93, _⟩ => ⟨S16x512x512, .bf16⟩
  | .local _ .vmem, ⟨0, _⟩ => ⟨S4x512x128, .bf16⟩
  | .local _ .vmem, ⟨1, _⟩ => ⟨S4x512x128, .bf16⟩
  | .local _ .vmem, ⟨2, _⟩ => ⟨S4x512x128, .bf16⟩
  | .local _ .vmem, ⟨3, _⟩ => ⟨S4x512x128, .bf16⟩
  | .local _ .vmem, ⟨4, _⟩ => ⟨S4x512x128, .bf16⟩
  | .local _ .vmem, ⟨5, _⟩ => ⟨S4x512x128, .bf16⟩
  | .local _ .vmem, ⟨6, _⟩ => ⟨S4x512x128, .bf16⟩
  | .local _ .vmem, ⟨7, _⟩ => ⟨S4x512x128, .bf16⟩
  | .local _ .vmem, ⟨8, _⟩ => ⟨S4x512x128, .f32⟩
  | .local _ .vmem, ⟨9, _⟩ => ⟨S4x512x128, .f32⟩
  | .local _ .vmem, ⟨10, _⟩ => ⟨S4x512x128, .f32⟩
  | .local _ .vmem, ⟨11, _⟩ => ⟨S4x512x128, .f32⟩
  | .local _ .vmem, ⟨12, _⟩ => ⟨S4x512x128, .bf16⟩
  | .local _ .vmem, ⟨13, _⟩ => ⟨S4x512x128, .bf16⟩
  | .local _ .vmem, ⟨14, _⟩ => ⟨S4x512x128, .bf16⟩
  | .local _ .vmem, ⟨15, _⟩ => ⟨S4x512x128, .bf16⟩
  | .local _ .vmem, ⟨16, _⟩ => ⟨S4x512x128, .bf16⟩
  | .local _ .vmem, ⟨17, _⟩ => ⟨S4x512x128, .bf16⟩
  | .local _ .vmem, ⟨18, _⟩ => ⟨S4x512x128, .f32⟩
  | .local _ .vmem, ⟨19, _⟩ => ⟨S4x512x128, .f32⟩
  | .local _ .vmem, ⟨20, _⟩ => ⟨S3x256x256, .f32⟩
  | .local _ .vmem, ⟨21, _⟩ => ⟨S16x256x256, .f32⟩
  | .local _ .vmem, ⟨22, _⟩ => ⟨S16x256x256, .f32⟩
  | .local _ .vmem, ⟨23, _⟩ => ⟨S16x256x256, .bf16⟩
  | .local _ .vmem, ⟨24, _⟩ => ⟨S16x256x256, .bf16⟩
  | .local _ .smem, ⟨0, _⟩ => ⟨S8, .f32⟩
  | _, _ => ⟨S16x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_cst_4 : Ref sig .tc := ⟨.hbm, 13, rfl⟩
abbrev main_cst_5 : Ref sig .tc := ⟨.hbm, 14, rfl⟩
abbrev main_cst_6 : Ref sig .tc := ⟨.hbm, 15, rfl⟩
abbrev main_cst_7 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_8 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_12 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67_0 : Ref sig .tc := ⟨.hbm, 91, rfl⟩
abbrev main_v67_1 : Ref sig .tc := ⟨.hbm, 92, rfl⟩
abbrev main_v67_2 : Ref sig .tc := ⟨.hbm, 93, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_scratch5 : Ref sig .tc := ⟨.vmem, 23, rfl⟩
abbrev cc0_scratch6 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨3, ![4, 4, 1], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 1 → Nat :=
  let arg1 : BitVec 32 := BitVec.ofNat 32 (i 1).val
  let c2_i32_1325 : BitVec 32 := 2#32
  let v2424 : BitVec 32 := Scalar.muli arg1 c2_i32_1325
  let v2425 : Index := Scalar.indexCast v2424
  ![v2425.toNat]
def k0_off2 (i : grid0.Coords) : Fin 1 → Nat :=
  let arg1 : BitVec 32 := BitVec.ofNat 32 (i 1).val
  let c2_i32_1329 : BitVec 32 := 2#32
  let v2432 : BitVec 32 := Scalar.muli arg1 c2_i32_1329
  let c1_i32_1330 : BitVec 32 := 1#32
  let v2433 : BitVec 32 := Scalar.addi v2432 c1_i32_1330
  let v2434 : Index := Scalar.indexCast v2433
  ![v2434.toNat]
def k0_mult1 (i : grid0.Coords) : BitVec 32 :=
  let c256_i32 : BitVec 32 := 256#32
  let c0_i32_4 : BitVec 32 := 0#32
  let arg2 : BitVec 32 := BitVec.ofNat 32 (i 2).val
  let c512_i32 : BitVec 32 := 512#32
  let v8 : BitVec 32 := Scalar.muli arg2 c512_i32
  let c0_i32_2 : BitVec 32 := 0#32
  let v9 : BitVec 32 := Scalar.addi v8 c0_i32_2
  let c64_i32_3 : BitVec 32 := 64#32
  let v10 : BitVec 32 := Scalar.subi v9 c64_i32_3
  let v11 : BitVec 32 := Scalar.maxsi c0_i32_4 v10
  let v12 : BitVec 32 := Scalar.minsi c256_i32 v11
  v12
def k0_mult2 (i : grid0.Coords) : BitVec 32 :=
  let c256_i32_10 : BitVec 32 := 256#32
  let c0_i32_9 : BitVec 32 := 0#32
  let arg2 : BitVec 32 := BitVec.ofNat 32 (i 2).val
  let c512_i32_7 : BitVec 32 := 512#32
  let v18 : BitVec 32 := Scalar.muli arg2 c512_i32_7
  let c128_i32 : BitVec 32 := 128#32
  let v19 : BitVec 32 := Scalar.addi v18 c128_i32
  let c64_i32_8 : BitVec 32 := 64#32
  let v20 : BitVec 32 := Scalar.subi v19 c64_i32_8
  let v21 : BitVec 32 := Scalar.maxsi c0_i32_9 v20
  let v22 : BitVec 32 := Scalar.minsi c256_i32_10 v21
  v22
def k0_mult3 (i : grid0.Coords) : BitVec 32 :=
  let c256_i32_20 : BitVec 32 := 256#32
  let c0_i32_19 : BitVec 32 := 0#32
  let arg2 : BitVec 32 := BitVec.ofNat 32 (i 2).val
  let c512_i32_16 : BitVec 32 := 512#32
  let v28 : BitVec 32 := Scalar.muli arg2 c512_i32_16
  let c256_i32_17 : BitVec 32 := 256#32
  let v29 : BitVec 32 := Scalar.addi v28 c256_i32_17
  let c64_i32_18 : BitVec 32 := 64#32
  let v30 : BitVec 32 := Scalar.subi v29 c64_i32_18
  let v31 : BitVec 32 := Scalar.maxsi c0_i32_19 v30
  let v32 : BitVec 32 := Scalar.minsi c256_i32_20 v31
  v32
def k0_mult4 (i : grid0.Coords) : BitVec 32 :=
  let c256_i32_30 : BitVec 32 := 256#32
  let c0_i32_29 : BitVec 32 := 0#32
  let arg2 : BitVec 32 := BitVec.ofNat 32 (i 2).val
  let c512_i32_26 : BitVec 32 := 512#32
  let v38 : BitVec 32 := Scalar.muli arg2 c512_i32_26
  let c384_i32_27 : BitVec 32 := 384#32
  let v39 : BitVec 32 := Scalar.addi v38 c384_i32_27
  let c64_i32_28 : BitVec 32 := 64#32
  let v40 : BitVec 32 := Scalar.subi v39 c64_i32_28
  let v41 : BitVec 32 := Scalar.maxsi c0_i32_29 v40
  let v42 : BitVec 32 := Scalar.minsi c256_i32_30 v41
  v42
def k0_off3 (i : grid0.Coords) (c0_i32_2 : BitVec 32) : Fin 3 → Nat :=
  let c0_39 : Index := 0#32
  let c256_i32 : BitVec 32 := 256#32
  let c0_i32_4 : BitVec 32 := 0#32
  let arg2 : BitVec 32 := BitVec.ofNat 32 (i 2).val
  let c512_i32 : BitVec 32 := 512#32
  let v8 : BitVec 32 := Scalar.muli arg2 c512_i32
  let v9 : BitVec 32 := Scalar.addi v8 c0_i32_2
  let c64_i32_3 : BitVec 32 := 64#32
  let v10 : BitVec 32 := Scalar.subi v9 c64_i32_3
  let v11 : BitVec 32 := Scalar.maxsi c0_i32_4 v10
  let v12 : BitVec 32 := Scalar.minsi c256_i32 v11
  let v13 : BitVec 32 := v12
  let v60 : Index := Scalar.indexCast v13
  let c0_40 : Index := 0#32
  ![0, v60.toNat, 0]
def k0_off4 (i : grid0.Coords) (c0_i32_2 : BitVec 32) : Fin 3 → Nat :=
  let arg2 : BitVec 32 := BitVec.ofNat 32 (i 2).val
  let c512_i32 : BitVec 32 := 512#32
  let v8 : BitVec 32 := Scalar.muli arg2 c512_i32
  let v9 : BitVec 32 := Scalar.addi v8 c0_i32_2
  let c0_i32_5 : BitVec 32 := 0#32
  let v14 : BitVec 1 := Scalar.cmpi .eq v9 c0_i32_5
  let c0_i32_6 : BitVec 32 := 0#32
  let c384_i32 : BitVec 32 := 384#32
  let v15 : BitVec 1 := Scalar.cmpi .eq v9 c384_i32
  let c2_i32 : BitVec 32 := 2#32
  let c1_i32 : BitVec 32 := 1#32
  let v16 : BitVec 32 := Scalar.select v15 c2_i32 c1_i32
  let v17 : BitVec 32 := Scalar.select v14 c0_i32_6 v16
  let v64 : Index := Scalar.indexCast v17
  let c0_42 : Index := 0#32
  let c0_43 : Index := 0#32
  ![v64.toNat, 0, 0]
def k0_off5 (i : grid0.Coords) (c0_i32_2 : BitVec 32) : Fin 3 → Nat :=
  let c1_125 : Index := 1#32
  let c256_i32 : BitVec 32 := 256#32
  let c0_i32_4 : BitVec 32 := 0#32
  let arg2 : BitVec 32 := BitVec.ofNat 32 (i 2).val
  let c512_i32 : BitVec 32 := 512#32
  let v8 : BitVec 32 := Scalar.muli arg2 c512_i32
  let v9 : BitVec 32 := Scalar.addi v8 c0_i32_2
  let c64_i32_3 : BitVec 32 := 64#32
  let v10 : BitVec 32 := Scalar.subi v9 c64_i32_3
  let v11 : BitVec 32 := Scalar.maxsi c0_i32_4 v10
  let v12 : BitVec 32 := Scalar.minsi c256_i32 v11
  let v13 : BitVec 32 := v12
  let v220 : Index := Scalar.indexCast v13
  let c0_126 : Index := 0#32
  ![1, v220.toNat, 0]
def k0_off6 (i : grid0.Coords) (c0_i32_2 : BitVec 32) : Fin 3 → Nat :=
  let c2_213 : Index := 2#32
  let c256_i32 : BitVec 32 := 256#32
  let c0_i32_4 : BitVec 32 := 0#32
  let arg2 : BitVec 32 := BitVec.ofNat 32 (i 2).val
  let c512_i32 : BitVec 32 := 512#32
  let v8 : BitVec 32 := Scalar.muli arg2 c512_i32
  let v9 : BitVec 32 := Scalar.addi v8 c0_i32_2
  let c64_i32_3 : BitVec 32 := 64#32
  let v10 : BitVec 32 := Scalar.subi v9 c64_i32_3
  let v11 : BitVec 32 := Scalar.maxsi c0_i32_4 v10
  let v12 : BitVec 32 := Scalar.minsi c256_i32 v11
  let v13 : BitVec 32 := v12
  let v380 : Index := Scalar.indexCast v13
  let c0_214 : Index := 0#32
  ![2, v380.toNat, 0]
def k0_off7 (i : grid0.Coords) (c0_i32_2 : BitVec 32) : Fin 3 → Nat :=
  let c3_301 : Index := 3#32
  let c256_i32 : BitVec 32 := 256#32
  let c0_i32_4 : BitVec 32 := 0#32
  let arg2 : BitVec 32 := BitVec.ofNat 32 (i 2).val
  let c512_i32 : BitVec 32 := 512#32
  let v8 : BitVec 32 := Scalar.muli arg2 c512_i32
  let v9 : BitVec 32 := Scalar.addi v8 c0_i32_2
  let c64_i32_3 : BitVec 32 := 64#32
  let v10 : BitVec 32 := Scalar.subi v9 c64_i32_3
  let v11 : BitVec 32 := Scalar.maxsi c0_i32_4 v10
  let v12 : BitVec 32 := Scalar.minsi c256_i32 v11
  let v13 : BitVec 32 := v12
  let v540 : Index := Scalar.indexCast v13
  let c0_302 : Index := 0#32
  ![3, v540.toNat, 0]
def k0_cond2 (i : grid0.Coords) : BitVec 1 :=
  let arg2 : BitVec 32 := BitVec.ofNat 32 (i 2).val
  let c0_i32_1312 : BitVec 32 := 0#32
  let v2400 : BitVec 1 := Scalar.cmpi .eq arg2 c0_i32_1312
  let v2401 : BitVec 32 := Scalar.extui v2400
  let c0_i32_1313 : BitVec 32 := 0#32
  let v2402 : BitVec 1 := Scalar.cmpi .ne v2401 c0_i32_1313
  v2402

def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S4x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S4x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S4x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S4x512x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S4x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S4x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S4x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S4x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S4x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]
-- ==== KernelIdeal.lean ====
variable {F : FTy → Type} [FloatOps F] [Named F]
def κ : String → Option EReal := fun
  | "far" => some ⊤
  | _ => none
-- ==== ReferenceIdeal.lean ====
abbrev S16x512x512 : Shape := ⟨3, ![16, 512, 512]⟩
abbrev S16x512x8 : Shape := ⟨3, ![16, 512, 8]⟩
abbrev S16x512x8x64 : Shape := ⟨4, ![16, 512, 8, 64]⟩
abbrev S_ : Shape := ⟨0, ![]⟩
abbrev S1 : Shape := ⟨1, ![1]⟩
abbrev S8 : Shape := ⟨1, ![8]⟩
abbrev S512 : Shape := ⟨1, ![512]⟩
abbrev S1x512 : Shape := ⟨2, ![1, 512]⟩
abbrev S512x1 : Shape := ⟨2, ![512, 1]⟩
abbrev S512x512 : Shape := ⟨2, ![512, 512]⟩
abbrev S8x1x1 : Shape := ⟨3, ![8, 1, 1]⟩
abbrev S1x512x512 : Shape := ⟨3, ![1, 512, 512]⟩
abbrev S8x512x512 : Shape := ⟨3, ![8, 512, 512]⟩
abbrev S16x8x512x512 : Shape := ⟨4, ![16, 8, 512, 512]⟩
abbrev S1x8x512x512 : Shape := ⟨4, ![1, 8, 512, 512]⟩
abbrev S1x1x512x512 : Shape := ⟨4, ![1, 1, 512, 512]⟩
abbrev S16x8x512 : Shape := ⟨3, ![16, 8, 512]⟩
abbrev S16x8x512x1 : Shape := ⟨4, ![16, 8, 512, 1]⟩
abbrev S16x8x64x512 : Shape := ⟨4, ![16, 8, 64, 512]⟩
abbrev S16x8x512x64 : Shape := ⟨4, ![16, 8, 512, 64]⟩

abbrev nBuf : Space → Nat
  | .hbm => 138
  | .vmem => 0
  | .smem => 0
  | _ => 0

abbrev hbmTy0_0 (i : Nat) : BufTy := match i % 128 with
  | 0 => ⟨S16x512x512, .f32⟩
  | 1 => ⟨S16x512x512, .f32⟩
  | 2 => ⟨S16x512x512, .f32⟩
  | 3 => ⟨S16x512x512, .f32⟩
  | 4 => ⟨S16x512x8, .f32⟩
  | 5 => ⟨S16x512x8x64, .f32⟩
  | 6 => ⟨S16x512x8x64, .f32⟩
  | 7 => ⟨S16x512x8x64, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S1, .f32⟩
  | 17 => ⟨S1, .f32⟩
  | 18 => ⟨S1, .f32⟩
  | 19 => ⟨S1, .f32⟩
  | 20 => ⟨S1, .f32⟩
  | 21 => ⟨S1, .f32⟩
  | 22 => ⟨S1, .f32⟩
  | 23 => ⟨S1, .f32⟩
  | 24 => ⟨S8, .f32⟩
  | 25 => ⟨S512, .i32⟩
  | 26 => ⟨S1x512, .i32⟩
  | 27 => ⟨S512x1, .i32⟩
  | 28 => ⟨S512x512, .i32⟩
  | 29 => ⟨S512x512, .i32⟩
  | 30 => ⟨S512x512, .i32⟩
  | 31 => ⟨S512x512, .i32⟩
  | 32 => ⟨S_, .i32⟩
  | 33 => ⟨S512x512, .i32⟩
  | 34 => ⟨S512x512, .i1⟩
  | 35 => ⟨S512x512, .i32⟩
  | 36 => ⟨S_, .i32⟩
  | 37 => ⟨S512x512, .i32⟩
  | 38 => ⟨S512x512, .i32⟩
  | 39 => ⟨S512x512, .f32⟩
  | 40 => ⟨S8x1x1, .f32⟩
  | 41 => ⟨S8x1x1, .f32⟩
  | 42 => ⟨S1x512x512, .f32⟩
  | 43 => ⟨S8x512x512, .f32⟩
  | 44 => ⟨S8x512x512, .f32⟩
  | 45 => ⟨S8x512x512, .f32⟩
  | 46 => ⟨S16x8x512x512, .f32⟩
  | 47 => ⟨S_, .f32⟩
  | 48 => ⟨S16x8x512x512, .f32⟩
  | 49 => ⟨S16x8x512x512, .f32⟩
  | 50 => ⟨S1x8x512x512, .f32⟩
  | 51 => ⟨S16x8x512x512, .f32⟩
  | 52 => ⟨S16x8x512x512, .f32⟩
  | 53 => ⟨S1x1x512x512, .i1⟩
  | 54 => ⟨S_, .f32⟩
  | 55 => ⟨S_, .f32⟩
  | 56 => ⟨S16x8x512x512, .i1⟩
  | 57 => ⟨S16x8x512x512, .f32⟩
  | 58 => ⟨S16x8x512x512, .f32⟩
  | 59 => ⟨S_, .f32⟩
  | 60 => ⟨S16x8x512x512, .f32⟩
  | 61 => ⟨S_, .f32⟩
  | 62 => ⟨S16x8x512, .f32⟩
  | 63 => ⟨S16x8x512x1, .f32⟩
  | 64 => ⟨S16x8x512x512, .f32⟩
  | 65 => ⟨S16x8x512x512, .i1⟩
  | 66 => ⟨S16x8x512x512, .f32⟩
  | 67 => ⟨S_, .f32⟩
  | 68 => ⟨S16x8x512, .f32⟩
  | 69 => ⟨S16x8x512x1, .f32⟩
  | 70 => ⟨S16x8x512x512, .f32⟩
  | 71 => ⟨S16x8x512x512, .f32⟩
  | 72 => ⟨S16x8x512x512, .f32⟩
  | 73 => ⟨S_, .f32⟩
  | 74 => ⟨S16x8x512, .f32⟩
  | 75 => ⟨S16x8x512x1, .f32⟩
  | 76 => ⟨S16x8x512x512, .f32⟩
  | 77 => ⟨S16x8x512x512, .f32⟩
  | 78 => ⟨S16x8x512x1, .f32⟩
  | 79 => ⟨S_, .f32⟩
  | 80 => ⟨S16x8x512x1, .f32⟩
  | 81 => ⟨S16x8x512x1, .f32⟩
  | 82 => ⟨S16x8x64x512, .f32⟩
  | 83 => ⟨S16x512x8x64, .f32⟩
  | 84 => ⟨S16x8x512x1, .f32⟩
  | 85 => ⟨S16x8x512x1, .f32⟩
  | 86 => ⟨S16x8x512, .f32⟩
  | 87 => ⟨S16x512x8, .f32⟩
  | 88 => ⟨S16x512x8x64, .f32⟩
  | 89 => ⟨S16x8x512, .f32⟩
  | 90 => ⟨S16x8x512x1, .f32⟩
  | 91 => ⟨S16x8x512x1, .f32⟩
  | 92 => ⟨S16x8x64x512, .f32⟩
  | 93 => ⟨S16x8x512x512, .f32⟩
  | 94 => ⟨S16x8x64x512, .f32⟩
  | 95 => ⟨S16x512x8x64, .f32⟩
  | 96 => ⟨S16x8x512x512, .f32⟩
  | 97 => ⟨S16x8x512x512, .f32⟩
  | 98 => ⟨S16x8x512x512, .f32⟩
  | 99 => ⟨S_, .f32⟩
  | 100 => ⟨S16x8x512, .f32⟩
  | 101 => ⟨S16x8x512x1, .f32⟩
  | 102 => ⟨S16x8x512x1, .f32⟩
  | 103 => ⟨S16x8x512x1, .f32⟩
  | 104 => ⟨S16x8x512x512, .f32⟩
  | 105 => ⟨S16x8x512x512, .f32⟩
  | 106 => ⟨S_, .f32⟩
  | 107 => ⟨S16x8x512, .f32⟩
  | 108 => ⟨S16x8x512x512, .f32⟩
  | 109 => ⟨S16x8x512x512, .f32⟩
  | 110 => ⟨S16x8x512x512, .f32⟩
  | 111 => ⟨S16x8x512x512, .f32⟩
  | 112 => ⟨S_, .f32⟩
  | 113 => ⟨S16x8x512, .f32⟩
  | 114 => ⟨S16x8x512x1, .f32⟩
  | 115 => ⟨S16x8x512x1, .f32⟩
  | 116 => ⟨S_, .f32⟩
  | 117 => ⟨S16x8x512, .f32⟩
  | 118 => ⟨S16x8x512, .f32⟩
  | 119 => ⟨S16x8x512x512, .f32⟩
  | 120 => ⟨S16x8x512x512, .f32⟩
  | 121 => ⟨S16x8x512x512, .f32⟩
  | 122 => ⟨S_, .f32⟩
  | 123 => ⟨S16x8x512x512, .f32⟩
  | 124 => ⟨S16x8x512x512, .f32⟩
  | 125 => ⟨S_, .f32⟩
  | 126 => ⟨S16x8x512x512, .f32⟩
  | 127 => ⟨S16x8x512x512, .f32⟩
  | _ => ⟨S16x512x512, .f32⟩

abbrev hbmTy0_1 (i : Nat) : BufTy := match i % 128 with
  | 0 => ⟨S16x8x512x64, .f32⟩
  | 1 => ⟨S16x512x8x64, .f32⟩
  | 2 => ⟨S16x8x512x64, .f32⟩
  | 3 => ⟨S16x512x8x64, .f32⟩
  | 4 => ⟨S16x512x512, .f32⟩
  | 5 => ⟨S16x512x512, .bf16⟩
  | 6 => ⟨S16x512x512, .f32⟩
  | 7 => ⟨S16x512x512, .bf16⟩
  | 8 => ⟨S16x512x512, .f32⟩
  | 9 => ⟨S16x512x512, .bf16⟩
  | _ => ⟨S16x512x512, .f32⟩

abbrev hbmTy (i : Nat) : BufTy := match i / 128 with
  | 0 => hbmTy0_0 i
  | 1 => hbmTy0_1 i
  | _ => ⟨S16x512x512, .f32⟩

abbrev bufTy : (tb : Table) → Fin (tcTables nBuf tb) → BufTy
  | .hbm, ⟨i, _⟩ => hbmTy i
  | _, _ => ⟨S16x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_cst_4 : Ref sig .tc := ⟨.hbm, 13, rfl⟩
abbrev main_cst_5 : Ref sig .tc := ⟨.hbm, 14, rfl⟩
abbrev main_cst_6 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_7 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_8 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_call0_v0 : Ref sig .tc := ⟨.hbm, 55, rfl⟩
abbrev main_v38_1 : Ref sig .tc := ⟨.hbm, 56, rfl⟩
abbrev main_call0_v2 : Ref sig .tc := ⟨.hbm, 57, rfl⟩
abbrev main_v38_0 : Ref sig .tc := ⟨.hbm, 58, rfl⟩
abbrev main_call0_cst : Ref sig .tc := ⟨.hbm, 59, rfl⟩
abbrev main_v38_2 : Ref sig .tc := ⟨.hbm, 60, rfl⟩
abbrev main_cst_10 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_11 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_cst_12 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_13 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_16 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_17 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_call1_cst : Ref sig .tc := ⟨.hbm, 122, rfl⟩
abbrev main_call1_v0 : Ref sig .tc := ⟨.hbm, 123, rfl⟩
abbrev main_v92 : Ref sig .tc := ⟨.hbm, 124, rfl⟩
abbrev main_cst_18 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩

abbrev nD : Nat := 1
abbrev τ : Topo := Topo.v7x

variable {F : FTy → Type} [FloatOps F]
-- ==== Kernel2.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S1024x1024 : Shape := ⟨2, ![1024, 1024]⟩
abbrev S3072 : Shape := ⟨1, ![3072]⟩
abbrev S256x3072 : Shape := ⟨2, ![256, 3072]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1x3072, .f32⟩
  | .hbm, ⟨3, _⟩ => ⟨S8192x3072, .f32⟩
  | .hbm, ⟨4, _⟩ => ⟨S8192x1024, .bf16⟩
  | .hbm, ⟨5, _⟩ => ⟨S8192x3072, .bf16⟩
  | .hbm, ⟨6, _⟩ => ⟨S1024x3072, .bf16⟩
  | .hbm, ⟨7, _⟩ => ⟨S1x3072, .f32⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S1024x3072, .bf16⟩
  | .local _ .vmem, ⟨5, _⟩ => ⟨S1x3072, .f32⟩
  | .local _ .vmem, ⟨6, _⟩ => ⟨S1024x3072, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference2Ideal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S_ : Shape := ⟨0, ![]⟩
abbrev S3072 : Shape := ⟨1, ![3072]⟩
abbrev S3072x1024 : Shape := ⟨2, ![3072, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .f32⟩
  | .hbm, ⟨7, _⟩ => ⟨S8192x3072, .f32⟩
  | .hbm, ⟨8, _⟩ => ⟨S_, .f32⟩
  | .hbm, ⟨9, _⟩ => ⟨S3072, .f32⟩
  | .hbm, ⟨10, _⟩ => ⟨S1x3072, .f32⟩
  | .hbm, ⟨11, _⟩ => ⟨S3072x1024, .f32⟩
  | .hbm, ⟨12, _⟩ => ⟨S1024x3072, .f32⟩
  | .hbm, ⟨13, _⟩ => ⟨S1024x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel3.lean ====
abbrev S8192x1024 : Shape := ⟨2, ![8192, 1024]⟩
abbrev S1024x2816 : Shape := ⟨2, ![1024, 2816]⟩
abbrev S1x2816 : Shape := ⟨2, ![1, 2816]⟩
abbrev S8192x2816 : Shape := ⟨2, ![8192, 2816]⟩
abbrev S1024x1024 : Shape := ⟨2, ![1024, 1024]⟩
abbrev S2816 : Shape := ⟨1, ![2816]⟩
abbrev S256x2816 : Shape := ⟨2, ![256, 2816]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1x2816, .f32⟩
  | .hbm, ⟨3, _⟩ => ⟨S8192x2816, .f32⟩
  | .hbm, ⟨4, _⟩ => ⟨S8192x1024, .bf16⟩
  | .hbm, ⟨5, _⟩ => ⟨S8192x2816, .bf16⟩
  | .hbm, ⟨6, _⟩ => ⟨S1024x2816, .bf16⟩
  | .hbm, ⟨7, _⟩ => ⟨S1x2816, .f32⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S1024x2816, .bf16⟩
  | .local _ .vmem, ⟨5, _⟩ => ⟨S1x2816, .f32⟩
  | .local _ .vmem, ⟨6, _⟩ => ⟨S1024x2816, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference3Ideal.lean ====
abbrev S8192x1024 : Shape := ⟨2, ![8192, 1024]⟩
abbrev S1024x2816 : Shape := ⟨2, ![1024, 2816]⟩
abbrev S1x2816 : Shape := ⟨2, ![1, 2816]⟩
abbrev S8192x2816 : Shape := ⟨2, ![8192, 2816]⟩
abbrev S_ : Shape := ⟨0, ![]⟩
abbrev S2816 : Shape := ⟨1, ![2816]⟩
abbrev S2816x1024 : Shape := ⟨2, ![2816, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2816, .f32⟩
  | .hbm, ⟨2, _⟩ => ⟨S1x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S2816, .f32⟩
  | .hbm, ⟨10, _⟩ => ⟨S1x2816, .f32⟩
  | .hbm, ⟨11, _⟩ => ⟨S2816x1024, .f32⟩
  | .hbm, ⟨12, _⟩ => ⟨S1024x2816, .f32⟩
  | .hbm, ⟨13, _⟩ => ⟨S1024x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel4.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S1024x2816 : Shape := ⟨2, ![1024, 2816]⟩
abbrev S1024x1024 : Shape := ⟨2, ![1024, 1024]⟩
abbrev S1024 : Shape := ⟨1, ![1024]⟩
abbrev S256x1024 : Shape := ⟨2, ![256, 1024]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x2816, .bf16⟩
  | .hbm, ⟨5, _⟩ => ⟨S8192x1024, .bf16⟩
  | .hbm, ⟨6, _⟩ => ⟨S2816x1024, .bf16⟩
  | .hbm, ⟨7, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S1x1024, .f32⟩
  | .local _ .vmem, ⟨6, _⟩ => ⟨S2816x1024, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v100 : BitVec 1 := Scalar.cmpi .eq arg0 c7_i32
  let v101 : BitVec 32 := Scalar.extui v100
  let c0_i32_73 : BitVec 32 := 0#32
  let v102 : BitVec 1 := Scalar.cmpi .ne v101 c0_i32_73
  v102

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S8192x2816 : Shape := ⟨2, ![8192, 2816]⟩
abbrev S2816x1024 : Shape := ⟨2, ![2816, 1024]⟩
abbrev S1x1024 : Shape := ⟨2, ![1, 1024]⟩
abbrev S8192x1024 : Shape := ⟨2, ![8192, 1024]⟩
abbrev S_ : Shape := ⟨0, ![]⟩
abbrev S1024 : Shape := ⟨1, ![1024]⟩
abbrev S1024x2816 : Shape := ⟨2, ![1024, 2816]⟩

abbrev nBuf : Space → Nat
  | .hbm => 14
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S2816x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x2816, .f32⟩
  | .hbm, ⟨12, _⟩ => ⟨S2816x1024, .f32⟩
  | .hbm, ⟨13, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S1024x1024 : Shape := ⟨2, ![1024, 1024]⟩
abbrev S2048 : Shape := ⟨1, ![2048]⟩
abbrev S256x2048 : Shape := ⟨2, ![256, 2048]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x2048, .f32⟩
  | .hbm, ⟨4, _⟩ => ⟨S8192x1024, .bf16⟩
  | .hbm, ⟨5, _⟩ => ⟨S8192x2048, .bf16⟩
  | .hbm, ⟨6, _⟩ => ⟨S1024x2048, .bf16⟩
  | .hbm, ⟨7, _⟩ => ⟨S1x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1x2048, .f32⟩
  | .local _ .vmem, ⟨6, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference5Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S_ : Shape := ⟨0, ![]⟩
abbrev S2048 : Shape := ⟨1, ![2048]⟩
abbrev S2048x1024 : Shape := ⟨2, ![2048, 1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S2048, .f32⟩
  | .hbm, ⟨10, _⟩ => ⟨S1x2048, .f32⟩
  | .hbm, ⟨11, _⟩ => ⟨S2048x1024, .f32⟩
  | .hbm, ⟨12, _⟩ => ⟨S1024x2048, .f32⟩
  | .hbm, ⟨13, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel6.lean ====
abbrev S8192x1024 : Shape := ⟨2, ![8192, 1024]⟩
abbrev S1024x1536 : Shape := ⟨2, ![1024, 1536]⟩
abbrev S1x1536 : Shape := ⟨2, ![1, 1536]⟩
abbrev S8192x512 : Shape := ⟨2, ![8192, 512]⟩
abbrev S1024x1024 : Shape := ⟨2, ![1024, 1024]⟩
abbrev S1024x512 : Shape := ⟨2, ![1024, 512]⟩
abbrev S1536 : Shape := ⟨1, ![1536]⟩
abbrev S256x1536 : Shape := ⟨2, ![256, 1536]⟩
abbrev S1024x256 : Shape := ⟨2, ![1024, 256]⟩

abbrev nBuf : Space → Nat
  | .hbm => 12
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1024, .bf16⟩
  | .hbm, ⟨7, _⟩ => ⟨S8192x512, .bf16⟩
  | .hbm, ⟨8, _⟩ => ⟨S8192x512, .bf16⟩
  | .hbm, ⟨9, _⟩ => ⟨S8192x512, .bf16⟩
  | .hbm, ⟨10, _⟩ => ⟨S1024x1536, .bf16⟩
  | .hbm, ⟨11, _⟩ => ⟨S1x1536, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1536, .bf16⟩
  | .local _ .vmem, ⟨9, _⟩ => ⟨S1x1536, .f32⟩
  | .local _ .vmem, ⟨10, _⟩ => ⟨S1024x1536, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v49 : BitVec 1 := Scalar.cmpi .eq arg0 c7_i32
  let v50 : BitVec 32 := Scalar.extui v49
  let c0_i32_35 : BitVec 32 := 0#32
  let v51 : BitVec 1 := Scalar.cmpi .ne v50 c0_i32_35
  v51

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1536 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1536 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference6Ideal.lean ====
abbrev S8192x1024 : Shape := ⟨2, ![8192, 1024]⟩
abbrev S1024x1536 : Shape := ⟨2, ![1024, 1536]⟩
abbrev S1x1536 : Shape := ⟨2, ![1, 1536]⟩
abbrev S8192x512 : Shape := ⟨2, ![8192, 512]⟩
abbrev S8192x1536 : Shape := ⟨2, ![8192, 1536]⟩
abbrev S_ : Shape := ⟨0, ![]⟩
abbrev S1536 : Shape := ⟨1, ![1536]⟩
abbrev S1536x1024 : Shape := ⟨2, ![1536, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1x1536, .f32⟩
  | .hbm, ⟨3, _⟩ => ⟨S8192x512, .f32⟩
  | .hbm, ⟨4, _⟩ => ⟨S8192x512, .f32⟩
  | .hbm, ⟨5, _⟩ => ⟨S8192x512, .f32⟩
  | .hbm, ⟨6, _⟩ => ⟨S8192x1536, .f32⟩
  | .hbm, ⟨7, _⟩ => ⟨S8192x1536, .f32⟩
  | .hbm, ⟨8, _⟩ => ⟨S8192x1536, .f32⟩
  | .hbm, ⟨9, _⟩ => ⟨S8192x1536, .f32⟩
  | .hbm, ⟨10, _⟩ => ⟨S_, .f32⟩
  | .hbm, ⟨11, _⟩ => ⟨S1536, .f32⟩
  | .hbm, ⟨12, _⟩ => ⟨S1x1536, .f32⟩
  | .hbm, ⟨13, _⟩ => ⟨S1536x1024, .f32⟩
  | .hbm, ⟨14, _⟩ => ⟨S1024x1536, .f32⟩
  | .hbm, ⟨15, _⟩ => ⟨S1024x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Kernel7.lean ====
abbrev S8192x1024 : Shape := ⟨2, ![8192, 1024]⟩
abbrev S1024x1024 : Shape := ⟨2, ![1024, 1024]⟩
abbrev S1x1024 : Shape := ⟨2, ![1, 1024]⟩
abbrev S1024 : Shape := ⟨1, ![1024]⟩
abbrev S256x1024 : Shape := ⟨2, ![256, 1024]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S8192x1024, .bf16⟩
  | .hbm, ⟨5, _⟩ => ⟨S8192x1024, .bf16⟩
  | .hbm, ⟨6, _⟩ => ⟨S1024x1024, .bf16⟩
  | .hbm, ⟨7, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v44 : BitVec 1 := Scalar.cmpi .eq arg0 c7_i32
  let v45 : BitVec 32 := Scalar.extui v44
  let c0_i32_31 : BitVec 32 := 0#32
  let v46 : BitVec 1 := Scalar.cmpi .ne v45 c0_i32_31
  v46

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference7Ideal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S1024 : Shape := ⟨1, ![1024]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x1024, .f32⟩
  | .hbm, ⟨12, _⟩ => ⟨S1024x1024, .f32⟩
  | .hbm, ⟨13, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel8.lean ====
abbrev S8192x1024 : Shape := ⟨2, ![8192, 1024]⟩
abbrev S1024x3072 : Shape := ⟨2, ![1024, 3072]⟩
abbrev S8192x3072 : Shape := ⟨2, ![8192, 3072]⟩
abbrev S1024x1024 : Shape := ⟨2, ![1024, 1024]⟩
abbrev S512x3072 : Shape := ⟨2, ![512, 3072]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .bf16⟩
  | .hbm, ⟨4, _⟩ => ⟨S1024x3072, .bf16⟩
  | .hbm, ⟨5, _⟩ => ⟨S8192x1024, .f32⟩
  | .local _ .vmem, ⟨0, _⟩ => ⟨S1024x3072, .bf16⟩
  | .local _ .vmem, ⟨1, _⟩ => ⟨S1024x3072, .bf16⟩
  | .local _ .vmem, ⟨2, _⟩ => ⟨S1024x3072, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S8192x1024 : Shape := ⟨2, ![8192, 1024]⟩
abbrev S1024x3072 : Shape := ⟨2, ![1024, 3072]⟩
abbrev S8192x3072 : Shape := ⟨2, ![8192, 3072]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S8192x3072, .f32⟩
  | .hbm, ⟨3, _⟩ => ⟨S8192x3072, .f32⟩
  | .hbm, ⟨4, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel9.lean ====
abbrev S8192x1024 : Shape := ⟨2, ![8192, 1024]⟩
abbrev S1024x2048 : Shape := ⟨2, ![1024, 2048]⟩
abbrev S8192x2048 : Shape := ⟨2, ![8192, 2048]⟩
abbrev S1024x1024 : Shape := ⟨2, ![1024, 1024]⟩
abbrev S512x2048 : Shape := ⟨2, ![512, 2048]⟩
abbrev S1024x512 : Shape := ⟨2, ![1024, 512]⟩

abbrev nBuf : Space → Nat
  | .hbm => 7
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .f32⟩
  | .hbm, ⟨4, _⟩ => ⟨S8192x2048, .bf16⟩
  | .hbm, ⟨5, _⟩ => ⟨S1024x2048, .bf16⟩
  | .hbm, ⟨6, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference9Ideal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | .hbm, ⟨3, _⟩ => ⟨S8192x1024, .f32⟩
  | .hbm, ⟨4, _⟩ => ⟨S8192x2048, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩

abbrev nD : Nat := 1
abbrev τ : Topo := Topo.v7x

variable {F : FTy → Type} [FloatOps F]
-- ==== Kernel10.lean ====
abbrev S8192x1024 : Shape := ⟨2, ![8192, 1024]⟩
abbrev S1024x1536 : Shape := ⟨2, ![1024, 1536]⟩
abbrev S8192x512 : Shape := ⟨2, ![8192, 512]⟩
abbrev S1024x512 : Shape := ⟨2, ![1024, 512]⟩
abbrev S1024x1024 : Shape := ⟨2, ![1024, 1024]⟩
abbrev S512x1536 : Shape := ⟨2, ![512, 1536]⟩

abbrev nBuf : Space → Nat
  | .hbm => 10
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S1024x1536, .bf16⟩
  | .hbm, ⟨9, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x1536, .bf16⟩
  | .local _ .vmem, ⟨7, _⟩ => ⟨S1024x1024, .f32⟩
  | .local _ .vmem, ⟨8, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1536 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference10Ideal.lean ====
abbrev S8192x1024 : Shape := ⟨2, ![8192, 1024]⟩
abbrev S1024x1536 : Shape := ⟨2, ![1024, 1536]⟩
abbrev S8192x512 : Shape := ⟨2, ![8192, 512]⟩
abbrev S8192x1536 : Shape := ⟨2, ![8192, 1536]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x1536, .f32⟩
  | .hbm, ⟨6, _⟩ => ⟨S8192x1536, .f32⟩
  | .hbm, ⟨7, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1x3072, .f32⟩
  | .hbm, ⟨3, _⟩ => ⟨S8192x1024, .bf16⟩
  | .hbm, ⟨4, _⟩ => ⟨S1024x3072, .bf16⟩
  | .hbm, ⟨5, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1x3072, .f32⟩
  | .local _ .vmem, ⟨4, _⟩ => ⟨S1024x3072, .bf16⟩
  | .local _ .vmem, ⟨5, _⟩ => ⟨S1024x3072, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference11Ideal.lean ====
abbrev S8192x1024 : Shape := ⟨2, ![8192, 1024]⟩
abbrev S1024x3072 : Shape := ⟨2, ![1024, 3072]⟩
abbrev S1x3072 : Shape := ⟨2, ![1, 3072]⟩
abbrev S8192x3072 : Shape := ⟨2, ![8192, 3072]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x3072, .f32⟩
  | .hbm, ⟨2, _⟩ => ⟨S1x3072, .f32⟩
  | .hbm, ⟨3, _⟩ => ⟨S8192x3072, .f32⟩
  | .hbm, ⟨4, _⟩ => ⟨S8192x3072, .f32⟩
  | .hbm, ⟨5, _⟩ => ⟨S8192x3072, .f32⟩
  | .hbm, ⟨6, _⟩ => ⟨S8192x3072, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel12.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x1024, .bf16⟩
  | .hbm, ⟨4, _⟩ => ⟨S1024x2048, .bf16⟩
  | .hbm, ⟨5, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1x2048, .f32⟩
  | .local _ .vmem, ⟨4, _⟩ => ⟨S1024x2048, .bf16⟩
  | .local _ .vmem, ⟨5, _⟩ => ⟨S1024x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference12Ideal.lean ====
abbrev S8192x1024 : Shape := ⟨2, ![8192, 1024]⟩
abbrev S1024x2048 : Shape := ⟨2, ![1024, 2048]⟩
abbrev S1x2048 : Shape := ⟨2, ![1, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel13.lean ====
abbrev S8192x1024 : Shape := ⟨2, ![8192, 1024]⟩
abbrev S1024x1536 : Shape := ⟨2, ![1024, 1536]⟩
abbrev S1x1536 : Shape := ⟨2, ![1, 1536]⟩
abbrev S8192x1536 : Shape := ⟨2, ![8192, 1536]⟩
abbrev S1024x1024 : Shape := ⟨2, ![1024, 1024]⟩
abbrev S1024x512 : Shape := ⟨2, ![1024, 512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1x1536, .f32⟩
  | .hbm, ⟨3, _⟩ => ⟨S8192x1024, .bf16⟩
  | .hbm, ⟨4, _⟩ => ⟨S1024x1536, .bf16⟩
  | .hbm, ⟨5, _⟩ => ⟨S8192x1536, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1x1536, .f32⟩
  | .local _ .vmem, ⟨4, _⟩ => ⟨S1024x1536, .bf16⟩
  | .local _ .vmem, ⟨5, _⟩ => ⟨S1024x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1536 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference13Ideal.lean ====
abbrev S8192x1024 : Shape := ⟨2, ![8192, 1024]⟩
abbrev S1024x1536 : Shape := ⟨2, ![1024, 1536]⟩
abbrev S1x1536 : Shape := ⟨2, ![1, 1536]⟩
abbrev S8192x1536 : Shape := ⟨2, ![8192, 1536]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1536, .f32⟩
  | .hbm, ⟨2, _⟩ => ⟨S1x1536, .f32⟩
  | .hbm, ⟨3, _⟩ => ⟨S8192x1536, .f32⟩
  | .hbm, ⟨4, _⟩ => ⟨S8192x1536, .f32⟩
  | .hbm, ⟨5, _⟩ => ⟨S8192x1536, .f32⟩
  | .hbm, ⟨6, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1024x1024 : Shape := ⟨2, ![1024, 1024]⟩
abbrev S1x1024 : Shape := ⟨2, ![1, 1024]⟩
abbrev S1024x512 : Shape := ⟨2, ![1024, 512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .bf16⟩
  | .hbm, ⟨4, _⟩ => ⟨S1024x1024, .bf16⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference14Ideal.lean ====
abbrev S8192x1024 : Shape := ⟨2, ![8192, 1024]⟩
abbrev S1024x1024 : Shape := ⟨2, ![1024, 1024]⟩
abbrev S1x1024 : Shape := ⟨2, ![1, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel15.lean ====
abbrev S8192x512 : Shape := ⟨2, ![8192, 512]⟩
abbrev S512x1024 : Shape := ⟨2, ![512, 1024]⟩
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .bf16⟩
  | .hbm, ⟨4, _⟩ => ⟨S512x1024, .bf16⟩
  | .hbm, ⟨5, _⟩ => ⟨S8192x512, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S1024x512, .bf16⟩
  | .local _ .vmem, ⟨4, _⟩ => ⟨S1024x512, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S8192x512 : Shape := ⟨2, ![8192, 512]⟩
abbrev S512x1024 : Shape := ⟨2, ![512, 1024]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S8192x1024, .f32⟩
  | .hbm, ⟨3, _⟩ => ⟨S8192x1024, .f32⟩
  | .hbm, ⟨4, _⟩ => ⟨S8192x512, .f32⟩
  | .hbm, ⟨5, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel16.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S512x512 : Shape := ⟨2, ![512, 512]⟩
abbrev S1x512 : Shape := ⟨2, ![1, 512]⟩

abbrev nBuf : Space → Nat
  | .hbm => 6
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S1x1024, .f32⟩
  | .hbm, ⟨3, _⟩ => ⟨S8192x512, .bf16⟩
  | .hbm, ⟨4, _⟩ => ⟨S512x1024, .bf16⟩
  | .hbm, ⟨5, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S1x1024, .f32⟩
  | .local _ .vmem, ⟨4, _⟩ => ⟨S1024x1024, .bf16⟩
  | .local _ .vmem, ⟨5, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference16Ideal.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩
abbrev S1024x512 : Shape := ⟨2, ![1024, 512]⟩
abbrev S1024x1024 : Shape := ⟨2, ![1024, 1024]⟩
abbrev S1024 : Shape := ⟨1, ![1024]⟩
abbrev S256x1024 : Shape := ⟨2, ![256, 1024]⟩
abbrev S1024x256 : Shape := ⟨2, ![1024, 256]⟩

abbrev nBuf : Space → Nat
  | .hbm => 8
  | .vmem => 7
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S1x1024, .f32⟩
  | .hbm, ⟨3, _⟩ => ⟨S8192x1024, .f32⟩
  | .hbm, ⟨4, _⟩ => ⟨S8192x512, .bf16⟩
  | .hbm, ⟨5, _⟩ => ⟨S8192x1024, .bf16⟩
  | .hbm, ⟨6, _⟩ => ⟨S512x1024, .bf16⟩
  | .hbm, ⟨7, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S512x1024, .bf16⟩
  | .local _ .vmem, ⟨5, _⟩ => ⟨S1x1024, .f32⟩
  | .local _ .vmem, ⟨6, _⟩ => ⟨S512x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v28 : BitVec 1 := Scalar.cmpi .eq arg0 c7_i32
  let v29 : BitVec 32 := Scalar.extui v28
  let c0_i32_19 : BitVec 32 := 0#32
  let v30 : BitVec 1 := Scalar.cmpi .ne v29 c0_i32_19
  v30

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference17Ideal.lean ====
abbrev S8192x512 : Shape := ⟨2, ![8192, 512]⟩
abbrev S512x1024 : Shape := ⟨2, ![512, 1024]⟩
abbrev S1x1024 : Shape := ⟨2, ![1, 1024]⟩
abbrev S8192x1024 : Shape := ⟨2, ![8192, 1024]⟩
abbrev S_ : Shape := ⟨0, ![]⟩
abbrev S1024 : Shape := ⟨1, ![1024]⟩
abbrev S1024x512 : Shape := ⟨2, ![1024, 512]⟩

abbrev nBuf : Space → Nat
  | .hbm => 14
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1024, .f32⟩
  | .hbm, ⟨2, _⟩ => ⟨S1x1024, .f32⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S1024, .f32⟩
  | .hbm, ⟨10, _⟩ => ⟨S1x1024, .f32⟩
  | .hbm, ⟨11, _⟩ => ⟨S1024x512, .f32⟩
  | .hbm, ⟨12, _⟩ => ⟨S512x1024, .f32⟩
  | .hbm, ⟨13, _⟩ => ⟨S512x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel18.lean ====
abbrev S8192x1024 : Shape := ⟨2, ![8192, 1024]⟩
abbrev S8192x2048 : Shape := ⟨2, ![8192, 2048]⟩
abbrev S1024x1024 : Shape := ⟨2, ![1024, 1024]⟩
abbrev S512x1024 : Shape := ⟨2, ![512, 1024]⟩
abbrev S512x2048 : Shape := ⟨2, ![512, 2048]⟩

abbrev nBuf : Space → Nat
  | .hbm => 13
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x2048, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .hbm, ⟨11, _⟩ => ⟨S8192x1024, .bf16⟩
  | .hbm, ⟨12, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x2048, .bf16⟩
  | .local _ .vmem, ⟨4, _⟩ => ⟨S512x2048, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x2048, .bf16⟩
  | .local _ .vmem, ⟨14, _⟩ => ⟨S512x2048, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference18Ideal.lean ====
abbrev S8192x1024 : Shape := ⟨2, ![8192, 1024]⟩
abbrev S8192x2048 : Shape := ⟨2, ![8192, 2048]⟩
abbrev S1024x1024 : Shape := ⟨2, ![1024, 1024]⟩
abbrev S_ : Shape := ⟨0, ![]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x2048, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | .hbm, ⟨43, _⟩ => ⟨S8192x1024, .bf16⟩
  | .hbm, ⟨44, _⟩ => ⟨S8192x2048, .f32⟩
  | .hbm, ⟨45, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel19.lean ====
abbrev S224x128 : Shape := ⟨2, ![224, 128]⟩

abbrev nBuf : Space → Nat
  | .hbm => 7
  | .vmem => 7
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S224x128, .f32⟩
  | .hbm, ⟨5, _⟩ => ⟨S224x128, .f32⟩
  | .hbm, ⟨6, _⟩ => ⟨S224x128, .f32⟩
  | .local _ .vmem, ⟨0, _⟩ => ⟨S224x128, .f32⟩
  | .local _ .vmem, ⟨1, _⟩ => ⟨S224x128, .f32⟩
  | .local _ .vmem, ⟨2, _⟩ => ⟨S224x128, .f32⟩
  | .local _ .vmem, ⟨3, _⟩ => ⟨S224x128, .f32⟩
  | .local _ .vmem, ⟨4, _⟩ => ⟨S224x128, .f32⟩
  | .local _ .vmem, ⟨5, _⟩ => ⟨S224x128, .f32⟩
  | .local _ .vmem, ⟨6, _⟩ => ⟨S224x128, .f32⟩
  | _, _ => ⟨S224x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S224x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S224x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S224x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S224x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S224x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference19Ideal.lean ====
abbrev S224x128 : Shape := ⟨2, ![224, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S224x128, .f32⟩
  | .hbm, ⟨1, _⟩ => ⟨S224x128, .f32⟩
  | .hbm, ⟨2, _⟩ => ⟨S224x128, .f32⟩
  | .hbm, ⟨3, _⟩ => ⟨S224x128, .f32⟩
  | .hbm, ⟨4, _⟩ => ⟨S_, .f32⟩
  | .hbm, ⟨5, _⟩ => ⟨S224x128, .f32⟩
  | .hbm, ⟨6, _⟩ => ⟨S224x128, .f32⟩
  | .hbm, ⟨7, _⟩ => ⟨S_, .f32⟩
  | .hbm, ⟨8, _⟩ => ⟨S224x128, .f32⟩
  | .hbm, ⟨9, _⟩ => ⟨S224x128, .f32⟩
  | .hbm, ⟨10, _⟩ => ⟨S224x128, .f32⟩
  | .hbm, ⟨11, _⟩ => ⟨S_, .f32⟩
  | .hbm, ⟨12, _⟩ => ⟨S224x128, .f32⟩
  | .hbm, ⟨13, _⟩ => ⟨S224x128, .f32⟩
  | .hbm, ⟨14, _⟩ => ⟨S224x128, .f32⟩
  | .hbm, ⟨15, _⟩ => ⟨S_, .f32⟩
  | .hbm, ⟨16, _⟩ => ⟨S224x128, .f32⟩
  | .hbm, ⟨17, _⟩ => ⟨S224x128, .f32⟩
  | .hbm, ⟨18, _⟩ => ⟨S224x128, .f32⟩
  | .hbm, ⟨19, _⟩ => ⟨S_, .f32⟩
  | .hbm, ⟨20, _⟩ => ⟨S224x128, .f32⟩
  | .hbm, ⟨21, _⟩ => ⟨S224x128, .f32⟩
  | .hbm, ⟨22, _⟩ => ⟨S_, .f32⟩
  | .hbm, ⟨23, _⟩ => ⟨S224x128, .f32⟩
  | .hbm, ⟨24, _⟩ => ⟨S224x128, .f32⟩
  | .hbm, ⟨25, _⟩ => ⟨S224x128, .f32⟩
  | .hbm, ⟨26, _⟩ => ⟨S_, .f32⟩
  | .hbm, ⟨27, _⟩ => ⟨S224x128, .f32⟩
  | .hbm, ⟨28, _⟩ => ⟨S224x128, .f32⟩
  | .hbm, ⟨29, _⟩ => ⟨S224x128, .f32⟩
  | .hbm, ⟨30, _⟩ => ⟨S_, .f32⟩
  | .hbm, ⟨31, _⟩ => ⟨S224x128, .f32⟩
  | .hbm, ⟨32, _⟩ => ⟨S224x128, .f32⟩
  | .hbm, ⟨33, _⟩ => ⟨S224x128, .f32⟩
  | .hbm, ⟨34, _⟩ => ⟨S_, .f32⟩
  | .hbm, ⟨35, _⟩ => ⟨S224x128, .f32⟩
  | .hbm, ⟨36, _⟩ => ⟨S224x128, .f32⟩
  | _, _ => ⟨S224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel20.lean ====
abbrev S8192x1024 : Shape := ⟨2, ![8192, 1024]⟩
abbrev S1024x5632 : Shape := ⟨2, ![1024, 5632]⟩
abbrev S1x5632 : Shape := ⟨2, ![1, 5632]⟩
abbrev S3x2816 : Shape := ⟨2, ![3, 2816]⟩
abbrev S1x2816 : Shape := ⟨2, ![1, 2816]⟩
abbrev S8192x5632 : Shape := ⟨2, ![8192, 5632]⟩
abbrev S8192x2816 : Shape := ⟨2, ![8192, 2816]⟩
abbrev S16x1024 : Shape := ⟨2, ![16, 1024]⟩
abbrev S256x1024 : Shape := ⟨2, ![256, 1024]⟩
abbrev S256x5632 : Shape := ⟨2, ![256, 5632]⟩
abbrev S256x2816 : Shape := ⟨2, ![256, 2816]⟩
abbrev S288x1024 : Shape := ⟨2, ![288, 1024]⟩
abbrev S288x1 : Shape := ⟨2, ![288, 1]⟩
abbrev S1024x256 : Shape := ⟨2, ![1024, 256]⟩
abbrev S288x256 : Shape := ⟨2, ![288, 256]⟩
abbrev S1x256 : Shape := ⟨2, ![1, 256]⟩
abbrev S256x256 : Shape := ⟨2, ![256, 256]⟩

abbrev nBuf : Space → Nat
  | .hbm => 9
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1x5632, .f32⟩
  | .hbm, ⟨3, _⟩ => ⟨S3x2816, .f32⟩
  | .hbm, ⟨4, _⟩ => ⟨S1x2816, .f32⟩
  | .hbm, ⟨5, _⟩ => ⟨S8192x1024, .bf16⟩
  | .hbm, ⟨6, _⟩ => ⟨S1024x5632, .bf16⟩
  | .hbm, ⟨7, _⟩ => ⟨S8192x5632, .f32⟩
  | .hbm, ⟨8, _⟩ => ⟨S8192x2816, .bf16⟩
  | .local _ .vmem, ⟨0, _⟩ => ⟨S16x1024, .bf16⟩
  | .local _ .vmem, ⟨1, _⟩ => ⟨S16x1024, .bf16⟩
  | .local _ .vmem, ⟨2, _⟩ => ⟨S256x1024, .bf16⟩
  | .local _ .vmem, ⟨3, _⟩ => ⟨S256x1024, .bf16⟩
  | .local _ .vmem, ⟨4, _⟩ => ⟨S16x1024, .bf16⟩
  | .local _ .vmem, ⟨5, _⟩ => ⟨S16x1024, .bf16⟩
  | .local _ .vmem, ⟨6, _⟩ => ⟨S1024x5632, .bf16⟩
  | .local _ .vmem, ⟨7, _⟩ => ⟨S1x5632, .f32⟩
  | .local _ .vmem, ⟨8, _⟩ => ⟨S3x2816, .f32⟩
  | .local _ .vmem, ⟨9, _⟩ => ⟨S1x2816, .f32⟩
  | .local _ .vmem, ⟨10, _⟩ => ⟨S256x5632, .f32⟩
  | .local _ .vmem, ⟨11, _⟩ => ⟨S256x5632, .f32⟩
  | .local _ .vmem, ⟨12, _⟩ => ⟨S256x2816, .bf16⟩
  | .local _ .vmem, ⟨13, _⟩ => ⟨S256x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c16_i32 : BitVec 32 := 16#32
  let v1 : BitVec 32 := Scalar.muli v0 c16_i32
  let c511_i32 : BitVec 32 := 511#32
  let v2 : BitVec 32 := Scalar.minsi v1 c511_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S16x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S3x2816 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x2816 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S256x5632 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference20Ideal.lean ====
abbrev S8192x1024 : Shape := ⟨2, ![8192, 1024]⟩
abbrev S1024x5632 : Shape := ⟨2, ![1024, 5632]⟩
abbrev S1x5632 : Shape := ⟨2, ![1, 5632]⟩
abbrev S3x2816 : Shape := ⟨2, ![3, 2816]⟩
abbrev S1x2816 : Shape := ⟨2, ![1, 2816]⟩
abbrev S8192x5632 : Shape := ⟨2, ![8192, 5632]⟩
abbrev S8192x2816 : Shape := ⟨2, ![8192, 2816]⟩
abbrev S_ : Shape := ⟨0, ![]⟩
abbrev S8194x2816 : Shape := ⟨2, ![8194, 2816]⟩
abbrev S2816 : Shape := ⟨1, ![2816]⟩

abbrev nBuf : Space → Nat
  | .hbm => 46
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5632, .f32⟩
  | .hbm, ⟨2, _⟩ => ⟨S1x5632, .f32⟩
  | .hbm, ⟨3, _⟩ => ⟨S3x2816, .f32⟩
  | .hbm, ⟨4, _⟩ => ⟨S1x2816, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x2816, .f32⟩
  | .hbm, ⟨9, _⟩ => ⟨S8192x2816, .f32⟩
  | .hbm, ⟨10, _⟩ => ⟨S_, .f32⟩
  | .hbm, ⟨11, _⟩ => ⟨S1x2816, .f32⟩
  | .hbm, ⟨12, _⟩ => ⟨S8194x2816, .f32⟩
  | .hbm, ⟨13, _⟩ => ⟨S8192x2816, .f32⟩
  | .hbm, ⟨14, _⟩ => ⟨S1x2816, .f32⟩
  | .hbm, ⟨15, _⟩ => ⟨S2816, .f32⟩
  | .hbm, ⟨16, _⟩ => ⟨S1x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S1x2816, .f32⟩
  | .hbm, ⟨21, _⟩ => ⟨S2816, .f32⟩
  | .hbm, ⟨22, _⟩ => ⟨S1x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S1x2816, .f32⟩
  | .hbm, ⟨28, _⟩ => ⟨S2816, .f32⟩
  | .hbm, ⟨29, _⟩ => ⟨S1x2816, .f32⟩
  | .hbm, ⟨30, _⟩ => ⟨S8192x2816, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_cst_0 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_1 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩

abbrev nD : Nat := 1
abbrev τ : Topo := Topo.v7x

variable {F : FTy → Type} [FloatOps F]
-- ==== Kernel21.lean ====
abbrev S8192x1024 : Shape := ⟨2, ![8192, 1024]⟩
abbrev S1x1024 : Shape := ⟨2, ![1, 1024]⟩
abbrev S8192x2816 : Shape := ⟨2, ![8192, 2816]⟩
abbrev S1024x5632 : Shape := ⟨2, ![1024, 5632]⟩
abbrev S1x1 : Shape := ⟨2, ![1, 1]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S256x5632 : Shape := ⟨2, ![256, 5632]⟩
abbrev S1024 : Shape := ⟨1, ![1024]⟩

abbrev nBuf : Space → Nat
  | .hbm => 17
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1024x5632, .f32⟩
  | .hbm, ⟨8, _⟩ => ⟨S8192x2816, .bf16⟩
  | .hbm, ⟨9, _⟩ => ⟨S8192x2816, .bf16⟩
  | .hbm, ⟨10, _⟩ => ⟨S1024x5632, .bf16⟩
  | .hbm, ⟨11, _⟩ => ⟨S8192x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x2816, .bf16⟩
  | .local _ .vmem, ⟨9, _⟩ => ⟨S256x2816, .bf16⟩
  | .local _ .vmem, ⟨10, _⟩ => ⟨S256x2816, .bf16⟩
  | .local _ .vmem, ⟨11, _⟩ => ⟨S256x2816, .bf16⟩
  | .local _ .vmem, ⟨12, _⟩ => ⟨S1024x5632, .bf16⟩
  | .local _ .vmem, ⟨13, _⟩ => ⟨S256x1024, .f32⟩
  | .local _ .vmem, ⟨14, _⟩ => ⟨S256x1024, .f32⟩
  | .local _ .vmem, ⟨15, _⟩ => ⟨S256x1024, .bf16⟩
  | .local _ .vmem, ⟨16, _⟩ => ⟨S256x1024, .bf16⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3_0 : Ref sig .tc := ⟨.hbm, 11, rfl⟩
abbrev main_v3_1 : Ref sig .tc := ⟨.hbm, 12, rfl⟩
abbrev main_v3_2 : Ref sig .tc := ⟨.hbm, 13, rfl⟩
abbrev main_v3_3 : Ref sig .tc := ⟨.hbm, 14, rfl⟩
abbrev main_v3_4 : Ref sig .tc := ⟨.hbm, 15, rfl⟩
abbrev main_v3_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19
abbrev cc0_sem13_0 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x5632 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference21Ideal.lean ====
abbrev S8192x1024 : Shape := ⟨2, ![8192, 1024]⟩
abbrev S1x1024 : Shape := ⟨2, ![1, 1024]⟩
abbrev S8192x2816 : Shape := ⟨2, ![8192, 2816]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S8192x5632 : Shape := ⟨2, ![8192, 5632]⟩
abbrev S1024 : Shape := ⟨1, ![1024]⟩

abbrev nBuf : Space → Nat
  | .hbm => 92
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S1024x5632, .f32⟩
  | .hbm, ⟨8, _⟩ => ⟨S_, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x5632, .f32⟩
  | .hbm, ⟨45, _⟩ => ⟨S8192x5632, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S1024, .f32⟩
  | .hbm, ⟨53, _⟩ => ⟨S1x1024, .f32⟩
  | .hbm, ⟨54, _⟩ => ⟨S8192x1024, .f32⟩
  | .hbm, ⟨55, _⟩ => ⟨S_, .f32⟩
  | .hbm, ⟨56, _⟩ => ⟨S1024, .f32⟩
  | .hbm, ⟨57, _⟩ => ⟨S1x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S8192x1, .f32⟩
  | .hbm, ⟨67, _⟩ => ⟨S_, .f32⟩
  | .hbm, ⟨68, _⟩ => ⟨S8192x1, .f32⟩
  | .hbm, ⟨69, _⟩ => ⟨S8192x1, .f32⟩
  | .hbm, ⟨70, _⟩ => ⟨S_, .f32⟩
  | .hbm, ⟨71, _⟩ => ⟨S8192, .f32⟩
  | .hbm, ⟨72, _⟩ => ⟨S8192x1024, .f32⟩
  | .hbm, ⟨73, _⟩ => ⟨S8192x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S_, .f32⟩
  | .hbm, ⟨79, _⟩ => ⟨S8192, .f32⟩
  | .hbm, ⟨80, _⟩ => ⟨S8192x1, .f32⟩
  | .hbm, ⟨81, _⟩ => ⟨S_, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192, .f32⟩
  | .hbm, ⟨86, _⟩ => ⟨S8192x1024, .f32⟩
  | .hbm, ⟨87, _⟩ => ⟨S8192x1024, .f32⟩
  | .hbm, ⟨88, _⟩ => ⟨S8192x1024, .bf16⟩
  | .hbm, ⟨89, _⟩ => ⟨S_, .f32⟩
  | .hbm, ⟨90, _⟩ => ⟨S1024, .f32⟩
  | .hbm, ⟨91, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_cst_3 : Ref sig .tc := ⟨.hbm, 24, rfl⟩
abbrev main_v12 : Ref sig .tc := ⟨.hbm, 25, rfl⟩
abbrev main_v13 : Ref sig .tc := ⟨.hbm, 26, rfl⟩
abbrev main_cst_4 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_9 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_10 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_11 : Ref sig .tc := ⟨.hbm, 67, rfl⟩
abbrev main_v47 : Ref sig .tc := ⟨.hbm, 68, rfl⟩
abbrev main_v48 : Ref sig .tc := ⟨.hbm, 69, rfl⟩
abbrev main_cst_12 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_cst_14 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_cst_16 : Ref sig .tc := ⟨.hbm, 89, rfl⟩
abbrev main_v64 : Ref sig .tc := ⟨.hbm, 90, rfl⟩
abbrev main_v65 : Ref sig .tc := ⟨.hbm, 91, rfl⟩

abbrev nD : Nat := 1
abbrev τ : Topo := Topo.v7x

variable {F : FTy → Type} [FloatOps F]
-- ==== Proof.Softmax.lean ====
module

public import Idealize.ShloMosaic.PureOps.Ideal.Laws

@[expose] public section

set_option maxRecDepth 16384

noncomputable section

/-! # Window attention over the reals, and its gradient

One head of one residue class: 512 positions, 64 features. `Q`, `K`, `V` are the queries, keys and values, `D` the
gradient at the output, `G` the gradient at the log-denominator, `σ` the head's slope. Position `i` attends to the
positions `j` at distance at most 64. -/

namespace Cert.Window

open Finset

/-- Distance between two positions. -/
def gap (i j : Fin 512) : ℕ := (i.val - j.val) + (j.val - i.val)

theorem gap_self (i : Fin 512) : gap i i = 0 := by simp [gap]

section Forward

variable (σ : ℝ) (Q K : Fin 512 → Fin 64 → ℝ)

/-- The score of key `j` for query `i`: the product over 8, less the slope times 16 times the distance. -/
def score (i j : Fin 512) : ℝ := (∑ d, Q i d * K j d) * (1 / 8) + -σ * ((gap i j : ℝ) * 16)

/-- The score within the window, `-∞` outside. -/
def masked (i j : Fin 512) : EReal := if gap i j ≤ 64 then (score σ Q K i j : EReal) else ⊥

/-- The largest score in the window of `i`. -/
def top (i : Fin 512) : ℝ := ((univ : Finset (Fin 512)).fold max ⊥ (masked σ Q K i)).toReal

/-- The row maximum of the masked scores is the real `top`. -/
theorem fold_masked (i : Fin 512) : (univ : Finset (Fin 512)).fold max ⊥ (masked σ Q K i) = (top σ Q K i : EReal) := by
  have hs : (univ : Finset (Fin 512)).fold max ⊥ (masked σ Q K i) = univ.sup (masked σ Q K i) := rfl
  have hb : univ.sup (masked σ Q K i) ≠ ⊥ := by
    intro h
    have h1 : masked σ Q K i i ≤ univ.sup (masked σ Q K i) := Finset.le_sup (mem_univ i)
    rw [h, le_bot_iff, masked, if_pos (by rw [gap_self]; omega)] at h1
    exact EReal.coe_ne_bot _ h1
  have ht : univ.sup (masked σ Q K i) ≠ ⊤ := by
    refine ne_of_lt ((Finset.sup_lt_iff bot_lt_top).2 fun j _ => ?_)
    rw [masked]
    split
    · exact EReal.coe_lt_top _
    · exact bot_lt_top
  rw [top, hs, EReal.coe_toReal ht hb]

/-- Some key attains the row maximum. -/
theorem exists_top (i : Fin 512) : ∃ j, masked σ Q K i j = (top σ Q K i : EReal) := by
  obtain ⟨j, _, hj⟩ := Finset.exists_mem_eq_sup (univ : Finset (Fin 512)) ⟨i, mem_univ i⟩ (masked σ Q K i)
  exact ⟨j, by rw [← fold_masked, ← hj]; rfl⟩

/-- The exponential of a score less the row maximum, `0` outside the window. -/
def ex (i j : Fin 512) : ℝ := if gap i j ≤ 64 then Real.exp (score σ Q K i j - top σ Q K i) else 0

/-- The exponential of a masked score less the row maximum. -/
theorem exp_masked (i j : Fin 512) : Idealize.ShloMosaic.Ideal.exp (masked σ Q K i j - (top σ Q K i : EReal)) = (ex σ Q K i j : EReal) := by
  unfold masked ex
  split
  · rw [← EReal.coe_sub]; rfl
  · rw [EReal.bot_sub]; rfl

theorem ex_nonneg (i j : Fin 512) : 0 ≤ ex σ Q K i j := by
  unfold ex; split
  · exact (Real.exp_pos _).le
  · exact le_rfl

/-- The softmax denominator of row `i`. -/
def den (i : Fin 512) : ℝ := ∑ j, ex σ Q K i j

theorem den_pos (i : Fin 512) : 0 < den σ Q K i := by
  refine Finset.sum_pos' (fun j _ => ex_nonneg σ Q K i j) ⟨i, mem_univ i, ?_⟩
  rw [ex, if_pos (by rw [gap_self]; omega)]
  exact Real.exp_pos _

/-- The attention weight of key `j` for query `i`. -/
def prob (i j : Fin 512) : ℝ := ex σ Q K i j / den σ Q K i

theorem prob_far {i j : Fin 512} (h : 64 < gap i j) : prob σ Q K i j = 0 := by
  rw [prob, ex, if_neg (by omega), zero_div]

theorem sum_prob (i : Fin 512) : ∑ j, prob σ Q K i j = 1 := by
  unfold prob
  rw [← Finset.sum_div]
  exact div_self (den_pos σ Q K i).ne'

/-- The log-denominator of row `i`. -/
def lse (i : Fin 512) : ℝ := top σ Q K i + Real.log (den σ Q K i)

/-- The attention weight from the log-denominator. -/
theorem exp_score_sub_lse {i j : Fin 512} (h : gap i j ≤ 64) : Real.exp (score σ Q K i j - lse σ Q K i) = prob σ Q K i j := by
  rw [prob, ex, if_pos h, lse, show score σ Q K i j - (top σ Q K i + Real.log (den σ Q K i))
    = (score σ Q K i j - top σ Q K i) - Real.log (den σ Q K i) by ring, Real.exp_sub, Real.exp_log (den_pos σ Q K i)]

end Forward

section Backward

variable (σ : ℝ) (Q K V D : Fin 512 → Fin 64 → ℝ) (G : Fin 512 → ℝ)

/-- The attention output. -/
def out (i : Fin 512) (d : Fin 64) : ℝ := ∑ j, V j d * prob σ Q K i j

/-- The gradient at the weight of key `j` for query `i`, through the output. -/
def dprob (i j : Fin 512) : ℝ := ∑ d, D i d * V j d

/-- The inner product of the output and its gradient. -/
def delta (i : Fin 512) : ℝ := ∑ d, D i d * out σ Q K V i d

theorem delta_eq (i : Fin 512) : delta σ Q K V D i = ∑ j, prob σ Q K i j * dprob V D i j := by
  unfold delta out dprob
  simp only [Finset.mul_sum]
  rw [Finset.sum_comm]
  exact Finset.sum_congr rfl fun j _ => Finset.sum_congr rfl fun d _ => by ring

/-- The gradient at the score of key `j` for query `i`. -/
def dscore (i j : Fin 512) : ℝ := prob σ Q K i j * (dprob V D i j - (delta σ Q K V D i - G i))

theorem dscore_far {i j : Fin 512} (h : 64 < gap i j) : dscore σ Q K V D G i j = 0 := by
  rw [dscore, prob_far σ Q K h, zero_mul]

/-- The gradient at the score in terms of the exponentials, as differentiating the quotient gives it. -/
theorem dscore_eq (i j : Fin 512) :
    (dprob V D i j * (1 / den σ Q K i)
      + (G i * (1 / den σ Q K i) + -∑ k, dprob V D i k * (1 * (1 / (den σ Q K i * den σ Q K i))) * ex σ Q K i k)) * ex σ Q K i j
      = dscore σ Q K V D G i j := by
  have hd := (den_pos σ Q K i).ne'
  have h1 : ∑ k, dprob V D i k * (1 * (1 / (den σ Q K i * den σ Q K i))) * ex σ Q K i k
      = delta σ Q K V D i * (1 / den σ Q K i) := by
    rw [delta_eq, Finset.sum_mul]
    refine Finset.sum_congr rfl fun k _ => ?_
    rw [prob]; field_simp
  rw [h1, dscore, prob]
  field_simp
  ring

/-- The gradients at the scores of a row add up to the gradient at its log-denominator, so nothing is left to pass
through the row maximum. -/
theorem sum_dscore (i : Fin 512) : G i + ∑ j, -dscore σ Q K V D G i j = 0 := by
  unfold dscore
  rw [Finset.sum_neg_distrib]
  have h : ∑ j, prob σ Q K i j * (dprob V D i j - (delta σ Q K V D i - G i))
      = (∑ j, prob σ Q K i j * dprob V D i j) - (∑ j, prob σ Q K i j) * (delta σ Q K V D i - G i) := by
    rw [Finset.sum_mul, ← Finset.sum_sub_distrib]
    exact Finset.sum_congr rfl fun j _ => by ring
  rw [h, ← delta_eq, sum_prob]
  ring

/-- The gradient at the queries. -/
def gradQ (i : Fin 512) (d : Fin 64) : ℝ := ∑ j, dscore σ Q K V D G i j * (1 / 8) * K j d

/-- The gradient at the keys. -/
def gradK (j : Fin 512) (d : Fin 64) : ℝ := ∑ i, dscore σ Q K V D G i j * (1 / 8) * Q i d

/-- The gradient at the values. -/
def gradV (j : Fin 512) (d : Fin 64) : ℝ := ∑ i, D i d * prob σ Q K i j

end Backward

end Cert.Window
-- ==== Proof.Numbers.lean ====
module

public import proofs.«01_k».proof.Proof.Softmax
public import Idealize.ShloMosaic.Lib.WordCmp
public import Idealize.ShloMosaic.Lib.ValueIdx
public import Idealize.ShloMosaic.Lib.ValueIdxCoords

@[expose] public section

set_option maxRecDepth 16384

noncomputable section

/-! # Words and extended reals shared by the kernel's and the reference's readings -/

namespace Cert.Window

open Finset Idealize.ShloMosaic Idealize.ShloMosaic.ValueIdx Idealize.ShloMosaic.WordCmp

/-- A real array as an array of extended reals. -/
def up {s : Shape} (a : s.Idx → ℝ) : s.Idx → EReal := fun i => (a i : EReal)

theorem up_apply {s : Shape} (a : s.Idx → ℝ) (i : s.Idx) : up a i = (a i : EReal) := rfl

/-- A sum of reals is a real. -/
theorem coe_sum {ι : Type} (s : Finset ι) (f : ι → ℝ) : (∑ k ∈ s, (f k : EReal)) = ((∑ k ∈ s, f k : ℝ) : EReal) := by
  classical
  induction s using Finset.induction_on with
  | empty => simp
  | insert a s ha ih => rw [Finset.sum_insert ha, Finset.sum_insert ha, ih, EReal.coe_add]

/-- A quotient of reals by a nonzero real. -/
theorem div_real (x : ℝ) {y : ℝ} (h : y ≠ 0) : Ideal.div (x : EReal) (y : EReal) = ((x * (1 / y) : ℝ) : EReal) := by
  rw [Ideal.div_coe h, EReal.coe_mul]

theorem log_real {y : ℝ} (h : 0 < y) : Ideal.log (y : EReal) = (Real.log y : EReal) := by
  rw [Ideal.log_coe, if_neg (by linarith)]

/-- The feature `d` of head `h` among the 512 columns. -/
def lane (h : Fin 8) (d : Fin 64) : Fin 512 := ⟨64 * h.val + d.val, by omega⟩

/-- Head `h` of residue class `r`: positions by features. -/
def rows (a : (⟨3, ![16, 512, 512]⟩ : Shape).Idx → ℝ) (r : Fin 16) (h : Fin 8) (i : Fin 512) (d : Fin 64) : ℝ := a (ix3 r i (lane h d))

/-- Head `h` of residue class `r` of an array with one number per position and head. -/
def col (a : (⟨3, ![16, 512, 8]⟩ : Shape).Idx → ℝ) (r : Fin 16) (h : Fin 8) (i : Fin 512) : ℝ := a (ix3 r i h)

/-- The words of the eight slopes. -/
def slopeWord : Fin 8 → BitVec 32 := ![0x3CA14518#32, 0x3C800000#32, 0x3C4B2FF5#32, 0x3C214518#32, 0x3C000000#32, 0x3BCB2FF5#32, 0x3BA14518#32, 0x3B800000#32]

/-- The slope of a head. -/
def slope (h : Fin 8) : ℝ := (Ideal.ofBits .f32 (slopeWord h)).toReal

/-- A word whose exponent is not all ones denotes a real. -/
theorem word_real (w : BitVec 32) (h : ¬(w.extractLsb' 23 8).toNat = 2 ^ 8 - 1) : ∃ x : ℝ, Ideal.ofBits .f32 w = (x : EReal) := by
  simp only [Ideal.ofBits, Ideal.ieee]
  rw [if_neg h]
  split
  · exact ⟨_, rfl⟩
  · exact ⟨_, rfl⟩

/-- A slope's word denotes a real. -/
theorem slope_eq (h : Fin 8) : Ideal.ofBits .f32 (slopeWord h) = (slope h : EReal) := by
  obtain ⟨x, hx⟩ := word_real (slopeWord h) ((by decide : ∀ h : Fin 8, ¬((slopeWord h).extractLsb' 23 8).toNat = 2 ^ 8 - 1) h)
  rw [slope, hx, EReal.toReal_coe]

/-- The word of one eighth. -/
theorem word_eighth : Ideal.ofBits .f32 0x3E000000#32 = ((1 / 8 : ℝ) : EReal) := by
  simp only [Ideal.ofBits, Ideal.ieee]
  rw [if_neg (by decide), if_neg (by decide), if_neg (by decide)]
  congr 1
  norm_num [show ((0x3E000000#32).extractLsb' 23 8).toNat = 124 by decide, show ((0x3E000000#32).extractLsb' 0 23).toNat = 0 by decide,
    show ((0x3E00#16).extractLsb' 7 8).toNat = 124 by decide, show ((0x3E00#16).extractLsb' 0 7).toNat = 0 by decide,
    show ((0x3F800000#32).extractLsb' 23 8).toNat = 127 by decide, show ((0x3F800000#32).extractLsb' 0 23).toNat = 0 by decide]

/-- The same in half the width. -/
theorem word_eighth_bf16 : Ideal.ofBits .bf16 0x3E00#16 = ((1 / 8 : ℝ) : EReal) := by
  simp only [Ideal.ofBits, Ideal.ieee]
  rw [if_neg (by decide), if_neg (by decide), if_neg (by decide)]
  congr 1
  norm_num [show ((0x3E000000#32).extractLsb' 23 8).toNat = 124 by decide, show ((0x3E000000#32).extractLsb' 0 23).toNat = 0 by decide,
    show ((0x3E00#16).extractLsb' 7 8).toNat = 124 by decide, show ((0x3E00#16).extractLsb' 0 7).toNat = 0 by decide,
    show ((0x3F800000#32).extractLsb' 23 8).toNat = 127 by decide, show ((0x3F800000#32).extractLsb' 0 23).toNat = 0 by decide]

theorem word_one : Ideal.ofBits .f32 0x3F800000#32 = ((1 : ℝ) : EReal) := by
  simp only [Ideal.ofBits, Ideal.ieee]
  rw [if_neg (by decide), if_neg (by decide), if_neg (by decide)]
  congr 1
  norm_num [show ((0x3E000000#32).extractLsb' 23 8).toNat = 124 by decide, show ((0x3E000000#32).extractLsb' 0 23).toNat = 0 by decide,
    show ((0x3E00#16).extractLsb' 7 8).toNat = 124 by decide, show ((0x3E00#16).extractLsb' 0 7).toNat = 0 by decide,
    show ((0x3F800000#32).extractLsb' 23 8).toNat = 127 by decide, show ((0x3F800000#32).extractLsb' 0 23).toNat = 0 by decide]

theorem word_neg_inf : Ideal.ofBits .f32 0xFF800000#32 = ⊥ := by
  simp [Ideal.ofBits, Ideal.ieee]

/-- The absolute value of a difference of two small words. -/
theorem absi_sub (a b : ℕ) (ha : a < 1024) (hb : b < 1024) :
    IntOp.absi (IntOp.subi (BitVec.ofNat 32 a) (BitVec.ofNat 32 b)) = BitVec.ofNat 32 ((a - b) + (b - a)) := by
  unfold IntOp.absi IntOp.subi
  rw [BitVec.msb_eq_decide]
  apply BitVec.eq_of_toNat_eq
  rcases Nat.lt_or_ge a b with h | h
  · rw [if_pos]
    · simp only [BitVec.toNat_neg, BitVec.toNat_sub, BitVec.toNat_ofNat]
      omega
    · simp only [BitVec.toNat_sub, BitVec.toNat_ofNat, decide_eq_true_eq]
      omega
  · rw [if_neg]
    · simp only [BitVec.toNat_sub, BitVec.toNat_ofNat]
      omega
    · simp only [BitVec.toNat_sub, BitVec.toNat_ofNat, decide_eq_true_eq]
      omega

theorem select_ofBool {α : Type} (p : Prop) [Decidable p] (a b : α) :
    Scalar.select (BitVec.ofBool (decide p)) a b = if p then a else b := by
  by_cases h : p
  · rw [if_pos h, decide_eq_true h]; rfl
  · rw [if_neg h, decide_eq_false h]; rfl

/-- The window test on a small word. -/
theorem cmpi_sle_64 (n : ℕ) (h : n < 2048) : IntOp.cmpi .sle (BitVec.ofNat 32 n) 64#32 = BitVec.ofBool (decide (n ≤ 64)) := by
  have h64 : ((64#32 : BitVec 32)).toInt = 64 := by decide
  have hn : (BitVec.ofNat 32 n).toInt = (n : ℤ) := toInt_ofNat_of_lt (by omega)
  rw [cmpi_sle_eq, hn, h64]
  congr 1
  simp

/-- 16 times a small word, as a real. -/
theorem toInt_muli_16 (n : ℕ) (h : n < 2048) : (((IntOp.muli (BitVec.ofNat 32 n) 16#32).toInt : ℝ) : EReal) = (((n : ℝ) * 16 : ℝ) : EReal) := by
  have hm : IntOp.muli (BitVec.ofNat 32 n) 16#32 = BitVec.ofNat 32 (n * 16) := by
    unfold IntOp.muli
    apply BitVec.eq_of_toNat_eq
    simp only [BitVec.toNat_mul, BitVec.toNat_ofNat]
    omega
  have hi : (BitVec.ofNat 32 (n * 16)).toInt = ((n * 16 : ℕ) : ℤ) := toInt_ofNat_of_lt (by omega)
  rw [hm, hi]
  congr 1
  push_cast
  ring

/-- An element of a rank-1 array from its coordinate's number. -/
theorem at1 {n0 : ℕ} {α : Type} (f : (⟨1, ![n0]⟩ : Shape).Idx → α) (i : (⟨1, ![n0]⟩ : Shape).Idx) (a : Fin n0) (h0 : (i 0).val = a.val) :
    f i = f (ix1 a) := congrArg f (funext fun x => match x with | ⟨0, _⟩ => Fin.ext h0)

theorem at2 {n0 n1 : ℕ} {α : Type} (f : (⟨2, ![n0, n1]⟩ : Shape).Idx → α) (i : (⟨2, ![n0, n1]⟩ : Shape).Idx) (a : Fin n0) (b : Fin n1)
    (h0 : (i 0).val = a.val) (h1 : (i 1).val = b.val) : f i = f (ix2 a b) :=
  congrArg f (funext fun x => match x with | ⟨0, _⟩ => Fin.ext h0 | ⟨1, _⟩ => Fin.ext h1)

theorem at3 {n0 n1 n2 : ℕ} {α : Type} (f : (⟨3, ![n0, n1, n2]⟩ : Shape).Idx → α) (i : (⟨3, ![n0, n1, n2]⟩ : Shape).Idx) (a : Fin n0) (b : Fin n1)
    (c : Fin n2) (h0 : (i 0).val = a.val) (h1 : (i 1).val = b.val) (h2 : (i 2).val = c.val) : f i = f (ix3 a b c) :=
  congrArg f (funext fun x => match x with | ⟨0, _⟩ => Fin.ext h0 | ⟨1, _⟩ => Fin.ext h1 | ⟨2, _⟩ => Fin.ext h2)

theorem at4 {n0 n1 n2 n3 : ℕ} {α : Type} (f : (⟨4, ![n0, n1, n2, n3]⟩ : Shape).Idx → α) (i : (⟨4, ![n0, n1, n2, n3]⟩ : Shape).Idx) (a : Fin n0)
    (b : Fin n1) (c : Fin n2) (d : Fin n3) (h0 : (i 0).val = a.val) (h1 : (i 1).val = b.val) (h2 : (i 2).val = c.val) (h3 : (i 3).val = d.val) :
    f i = f (ix4 a b c d) :=
  congrArg f (funext fun x => match x with | ⟨0, _⟩ => Fin.ext h0 | ⟨1, _⟩ => Fin.ext h1 | ⟨2, _⟩ => Fin.ext h2 | ⟨3, _⟩ => Fin.ext h3)

end Cert.Window
-- ==== Proof.Finite.lean ====
module

public import proofs.«01_k».proof.Pre_finite
public import proofs.«01_k».proof.Proof.Gen.Pre_finite
public import proofs.«01_k».proof.Proof.Numbers
public import Idealize.ShloMosaic.Lib.ReduceAll
public import Idealize.ShloMosaic.Lib.Affine

@[expose] public section

set_option maxRecDepth 16384

noncomputable section

/-! # Arguments that are finite are real -/

namespace Cert.Window

open Idealize.ShloMosaic Cert.Pre_finite Cert.Pre_finite.Gen

/-- A value whose magnitude is below the greatest is a real. -/
theorem real_of_absf {s : Shape} (x : FVec Ideal s .f32) (y : FVec Ideal s .f32) (hy : ∀ i, y i = Ideal.ofBits .f32 0x7F800000#32)
    (h : ∀ i, (cmpf .olt (Host.absf x) y) i = 1#1) : ∃ a : s.Idx → ℝ, x = up a := by
  have hx : ∀ i, ∃ a : ℝ, x i = (a : EReal) := by
    intro i
    have h1 := h i
    have h2 : (⊤ : EReal) = y i := by rw [hy]; simp [Ideal.ofBits, Ideal.ieee]
    have h3 : max (x i) (-(x i)) < (⊤ : EReal) := by
      rw [h2]
      by_contra hn
      revert h1
      show ¬ (BitVec.ofBool (decide (max (x i) (-(x i)) < y i)) = 1#1)
      rw [decide_eq_false hn]
      decide
    have ht : x i ≠ ⊤ := fun e => by rw [e] at h3; simp at h3
    have hb : x i ≠ ⊥ := fun e => by rw [e] at h3; simp at h3
    exact ⟨(x i).toReal, (EReal.coe_toReal ht hb).symm⟩
  choose a ha using hx
  exact ⟨a, funext ha⟩

/-- The precondition, read: every argument is real everywhere. -/
theorem reals_of_finite (x0 x1 x2 x3 : FVec Ideal S16x512x512 .f32) (x4 : FVec Ideal S16x512x8 .f32)
    (h : Cert.Pre_finite.fn (F := Ideal) x0 x1 x2 x3 x4 = fun _ => 1#1) :
    (∃ a, x0 = up a) ∧ (∃ a, x1 = up a) ∧ (∃ a, x2 = up a) ∧ (∃ a, x3 = up a) ∧ ∃ a, x4 = up a := by
  have h' := congrFun h (fun a => a.elim0)
  dsimp only [Cert.Pre_finite.fn, fn_part1] at h'
  simp only [andi, IntOp.andi_eq_one] at h'
  obtain ⟨⟨⟨⟨h0, h1⟩, h2⟩, h3⟩, h4⟩ := h'
  haveI : Subsingleton S_.Idx := ⟨fun a b => funext fun k => k.elim0⟩
  exact ⟨real_of_absf _ _ (fun _ => rfl) (Host.reduce_andi_all _ _ _ _ _ h0), real_of_absf _ _ (fun _ => rfl) (Host.reduce_andi_all _ _ _ _ _ h1),
    real_of_absf _ _ (fun _ => rfl) (Host.reduce_andi_all _ _ _ _ _ h2), real_of_absf _ _ (fun _ => rfl) (Host.reduce_andi_all _ _ _ _ _ h3),
    real_of_absf _ _ (fun _ => rfl) (Host.reduce_andi_all _ _ _ _ _ h4)⟩

end Cert.Window
-- ==== Proof.NormMath.lean ====
module

public import proofs.«01_k».proof.Proof.Numbers

@[expose] public section

set_option maxRecDepth 16384

noncomputable section

/-! # The gradient through a norm over a row

A row of 1024 numbers is centred and divided by its deviation.  The gradient as the launches form it, with two means
taken off, is the one of the chain rule through the mean, the variance and the reciprocal root. -/

namespace Cert.NormMath

open Idealize.ShloMosaic Cert.Window

/-- The word of 1024. -/
def count : EReal := Ideal.ofBits .f32 0x44800000#32

/-- The word of what is added to a variance. -/
def eps : EReal := Ideal.ofBits .f32 0x3727C5AC#32

/-- A row without its mean. -/
def centred (r : Fin 1024 → EReal) (j : Fin 1024) : EReal := r j - Ideal.div (∑ k, r k) count

/-- The variance, a little enlarged. -/
def spread (r : Fin 1024 → EReal) : EReal := Ideal.div (∑ k, centred r k * centred r k) count + eps

/-- The reciprocal root of the variance. -/
def scale (r : Fin 1024 → EReal) : EReal := Ideal.rsqrt (spread r)

/-- The gradient with two means taken off. -/
def grad (r a : Fin 1024 → EReal) (j : Fin 1024) : EReal :=
  scale r * (a j - Ideal.div (∑ k, a k) count - centred r j * scale r * Ideal.div (∑ k, a k * (centred r k * scale r)) count)

/-- What the chain rule gives the variance's entries. -/
def through (r a : Fin 1024 → EReal) : EReal :=
  Ideal.div ((∑ k, centred r k * a k) * (Ideal.ofBits .f32 0xBF000000#32 * Ideal.div (scale r) (spread r))) count

/-- What it gives a centred entry. -/
def inner (r a : Fin 1024 → EReal) (j : Fin 1024) : EReal := a j * scale r + centred r j * through r a + through r a * centred r j

/-- The gradient of the chain rule. -/
def chain (r a : Fin 1024 → EReal) (j : Fin 1024) : EReal := inner r a j + Ideal.div (∑ k, -inner r a k) count

theorem count_eq : count = ((1024 : ℝ) : EReal) := by
  simp only [count, Ideal.ofBits, Ideal.ieee]
  rw [if_neg (by decide), if_neg (by decide), if_neg (by decide)]
  congr 1
  norm_num [show ((0x44800000#32).extractLsb' 23 8).toNat = 137 by decide, show ((0x44800000#32).extractLsb' 0 23).toNat = 0 by decide]

theorem half_eq : Ideal.ofBits .f32 0xBF000000#32 = ((-(1 / 2) : ℝ) : EReal) := by
  simp only [Ideal.ofBits, Ideal.ieee]
  rw [if_neg (by decide), if_neg (by decide), if_pos (by decide)]
  congr 1
  norm_num [show ((0xBF000000#32).extractLsb' 23 8).toNat = 126 by decide, show ((0xBF000000#32).extractLsb' 0 23).toNat = 0 by decide]

theorem eps_eq : ∃ e : ℝ, 0 < e ∧ eps = (e : EReal) := by
  simp only [eps, Ideal.ofBits, Ideal.ieee]
  rw [if_neg (by decide), if_neg (by decide), if_neg (by decide)]
  refine ⟨_, ?_, rfl⟩
  norm_num [show ((0x3727C5AC#32).extractLsb' 23 8).toNat = 110 by decide, show ((0x3727C5AC#32).extractLsb' 0 23).toNat = 2606508 by decide]

/-- For real rows the two gradients are the same. -/
theorem chain_eq (r a : Fin 1024 → ℝ) (j : Fin 1024) :
    chain (fun k => (r k : EReal)) (fun k => (a k : EReal)) j = grad (fun k => (r k : EReal)) (fun k => (a k : EReal)) j := by
  obtain ⟨e, he, hE⟩ := eps_eq
  obtain ⟨c, hc⟩ : ∃ c : Fin 1024 → ℝ, c = fun j => r j - (∑ k, r k) * (1 / 1024) := ⟨_, rfl⟩
  have hcen : ∀ j, centred (fun k => (r k : EReal)) j = (c j : EReal) := fun j => by
    rw [centred, coe_sum, count_eq, div_real _ (by norm_num), ← EReal.coe_sub, hc]
  have hz : ∑ k, c k = 0 := by
    rw [hc]
    simp only [Finset.sum_sub_distrib, Finset.sum_const, Finset.card_univ, Fintype.card_fin, nsmul_eq_mul]
    push_cast
    ring
  obtain ⟨v, hv⟩ : ∃ v : ℝ, v = (∑ k, c k * c k) * (1 / 1024) + e := ⟨_, rfl⟩
  have hvp : 0 < v := by
    rw [hv]
    exact add_pos_of_nonneg_of_pos (mul_nonneg (Finset.sum_nonneg fun k _ => mul_self_nonneg _) (by norm_num)) he
  have hspread : spread (fun k => (r k : EReal)) = (v : EReal) := by
    rw [spread, hE, count_eq]
    simp only [hcen, ← EReal.coe_mul]
    rw [coe_sum, div_real _ (by norm_num), ← EReal.coe_add, hv]
  obtain ⟨s, hs⟩ : ∃ s : ℝ, s = (Real.sqrt v)⁻¹ := ⟨_, rfl⟩
  have hscale : scale (fun k => (r k : EReal)) = (s : EReal) := by
    rw [scale, hspread, Ideal.rsqrt_coe, if_neg (by linarith), if_neg (by linarith), hs]
  have hsv : 1 / v = s * s := by
    rw [hs, ← mul_inv, Real.mul_self_sqrt hvp.le, one_div]
  obtain ⟨q, hq⟩ : ∃ q : ℝ, q = (∑ k, c k * a k) * (-(1 / 2) * (s * (1 / v))) * (1 / 1024) := ⟨_, rfl⟩
  have hthrough : through (fun k => (r k : EReal)) (fun k => (a k : EReal)) = (q : EReal) := by
    rw [through, hspread, hscale, half_eq, count_eq]
    simp only [hcen, ← EReal.coe_mul]
    rw [coe_sum, div_real _ hvp.ne', ← EReal.coe_mul, ← EReal.coe_mul, div_real _ (by norm_num), hq]
  have hinner : ∀ j, inner (fun k => (r k : EReal)) (fun k => (a k : EReal)) j = ((a j * s + c j * q + q * c j : ℝ) : EReal) := fun j => by
    rw [inner, hthrough, hscale, hcen]
    push_cast
    rfl
  rw [chain, grad]
  simp only [hinner, hcen, hscale, count_eq, ← EReal.coe_mul, ← EReal.coe_neg]
  rw [coe_sum, coe_sum, coe_sum, div_real _ (by norm_num), div_real _ (by norm_num), div_real _ (by norm_num)]
  simp only [← EReal.coe_mul, ← EReal.coe_sub, ← EReal.coe_add]
  congr 1
  have h1 : ∑ k, -(a k * s + c k * q + q * c k) = -((∑ k, a k) * s) := by
    simp only [Finset.sum_neg_distrib, Finset.sum_add_distrib, ← Finset.sum_mul, ← Finset.mul_sum, hz]
    ring
  have h2 : ∑ k, a k * (c k * s) = (∑ k, c k * a k) * s := by
    rw [Finset.sum_mul]
    exact Finset.sum_congr rfl fun k _ => by ring
  rw [h1, h2, hq, hsv]
  ring

/-- A sum that is a number has numbers as its terms. -/
theorem terms_real {ι : Type} (s : Finset ι) (f : ι → EReal) (h : ∃ x : ℝ, ∑ k ∈ s, f k = (x : EReal)) : ∀ k ∈ s, ∃ x : ℝ, f k = (x : EReal) := by
  classical
  induction s using Finset.induction_on with
  | empty => simp
  | insert a s ha ih =>
    rw [Finset.sum_insert ha] at h
    obtain ⟨x, hx⟩ := h
    have h2 : (∃ y : ℝ, f a = (y : EReal)) ∧ ∃ z : ℝ, ∑ k ∈ s, f k = (z : EReal) := by
      generalize f a = u at hx
      generalize ∑ k ∈ s, f k = v at hx
      induction u using EReal.rec <;> induction v using EReal.rec <;> simp_all
    intro k hk
    rcases Finset.mem_insert.mp hk with rfl | hk
    · exact h2.1
    · exact ih h2.2 k hk

/-- A value is infinite or a number. -/
theorem infinite_or_real (x : EReal) : x = ⊤ ∨ x = ⊥ ∨ ∃ y : ℝ, x = (y : EReal) := by
  induction x using EReal.rec
  · exact .inr (.inl rfl)
  · exact .inr (.inr ⟨_, rfl⟩)
  · exact .inl rfl

/-- The spread of a row with an infinite entry is infinite. -/
theorem spread_top (r : Fin 1024 → EReal) (h : ¬∀ k, ∃ x : ℝ, r k = (x : EReal)) : spread r = ⊤ := by
  have hp : (0 : ℝ) < 1 / 1024 := by norm_num
  have hc : ∀ j, centred r j * centred r j = ⊤ := fun j => by
    rcases infinite_or_real (∑ k, r k) with e | e | e
    · rw [centred, e, count_eq, Ideal.div_coe (by norm_num), EReal.top_mul_coe_of_pos hp, EReal.sub_top, EReal.bot_mul_bot]
    · rw [centred, e, count_eq, Ideal.div_coe (by norm_num), EReal.bot_mul_coe_of_pos hp]
      rcases infinite_or_real (r j) with e | e | ⟨y, e⟩ <;> rw [e] <;> simp [sub_eq_add_neg]
    · exact absurd (fun k => terms_real _ _ e k (Finset.mem_univ k)) h
  have hs : ∑ k, centred r k * centred r k = ⊤ := by
    rcases infinite_or_real (∑ k, centred r k * centred r k) with e | e | e
    · exact e
    · exact absurd (e ▸ Finset.sum_nonneg fun k _ => (hc k).symm ▸ le_top : (0 : EReal) ≤ ⊥) (by simp)
    · obtain ⟨x, hx⟩ := terms_real _ _ e 0 (Finset.mem_univ 0)
      exact absurd ((hc 0).symm.trans hx) (by simp)
  obtain ⟨e, -, he⟩ := eps_eq
  rw [spread, hs, count_eq, Ideal.div_coe (by norm_num), EReal.top_mul_coe_of_pos hp, he, EReal.top_add_coe]

/-- Of a row with an infinite entry both gradients are zero. -/
theorem chain_infinite (r a : Fin 1024 → EReal) (h : ¬∀ k, ∃ x : ℝ, r k = (x : EReal)) (j : Fin 1024) : chain r a j = grad r a j := by
  have hscale : scale r = 0 := by rw [scale, spread_top r h, Ideal.rsqrt_top]
  have hz : Ideal.div 0 count = 0 := by rw [count_eq, Ideal.div_coe (by norm_num), zero_mul]
  have ht : through r a = 0 := by
    rw [through, hscale, spread_top r h, show Ideal.div 0 ⊤ = 0 by simp [Ideal.div], mul_zero, mul_zero, hz]
  have hi : ∀ k, inner r a k = 0 := fun k => by rw [inner, hscale, ht, mul_zero, mul_zero, zero_mul, add_zero, add_zero]
  rw [chain, grad, hscale, zero_mul]
  simp only [hi, neg_zero, Finset.sum_const_zero, hz, add_zero]

/-- Where the arriving gradient is real the two gradients are the same, whatever the row. -/
theorem chain_eq_grad (r : Fin 1024 → EReal) (a : Fin 1024 → ℝ) (j : Fin 1024) :
    chain r (fun k => (a k : EReal)) j = grad r (fun k => (a k : EReal)) j := by
  by_cases h : ∀ k, ∃ x : ℝ, r k = (x : EReal)
  · choose x hx using h
    rw [show r = fun k => (x k : EReal) from funext hx]
    exact chain_eq x a j
  · exact chain_infinite r _ h j

end Cert.NormMath
end
-- ==== Proof.Rows.lean ====
module

public import proofs.«01_k».proof.Proof.Gen.Kernel2Ideal.Value
public import Idealize.ShloMosaic.Lib.Pipeline.ValueKit
public import Idealize.ShloMosaic.Lib.Pipeline.ReadBack

@[expose] public section

set_option maxRecDepth 16384

noncomputable section

/-! # Sums over rows, gathered block by block

What the launches that gather a weight's gradient share: their accumulator is stored in chunks of rows, each chunk
grows by a product of two blocks, and eight blocks of 1024 rows make up the 8192 rows. -/

namespace Cert.Rows

open Idealize.ShloMosaic Idealize.ShloMosaic.TcCoe Idealize.SL.Sem

/-- An index of a matrix is its row and its column. -/
theorem eta2 {a b : ℕ} (i : (⟨2, ![a, b]⟩ : Shape).Idx) : ∃ (x : Fin a) (y : Fin b), i = ix2 x y :=
  ⟨i 0, i 1, by funext k; fin_cases k <;> rfl⟩

/-- An index of a single row is its column. -/
theorem eta_row {b : ℕ} (i : (⟨2, ![1, b]⟩ : Shape).Idx) : ∃ y : Fin b, i = ix2 (0 : Fin 1) y :=
  ⟨i 1, by funext k; fin_cases k; exact Subsingleton.elim (α := Fin 1) _ _; rfl⟩

/-- Stores that cover a place hide what was stored there before. -/
theorem canon_hide {S : Shape} {e : EltTy} (L' : List (View.Piece (Elt Ideal) S e)) :
    ∀ (L : List (View.Piece (Elt Ideal) S e)) (y : S.Idx), (∃ u ∈ L, y ∈ u.1.set) → View.canon (L ++ L') y = View.canon L y
  | [], _, h => by obtain ⟨_, hp, _⟩ := h; exact absurd hp List.not_mem_nil
  | p :: L, y, h => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_hide L' L y ?_
      obtain ⟨q, hq, hyq⟩ := h
      rcases List.mem_cons.mp hq with rfl | hq'
      · exact absurd hyq hm
      · exact ⟨q, hq', hyq⟩

/-- Two stores that cover the buffer hide what was stored before them. -/
theorem canon_over2 {S : Shape} {e : EltTy} (p q f : View.Piece (Elt Ideal) S e) (y : S.Idx) (h : ∃ u ∈ [p, q], y ∈ u.1.set) :
    View.canon [p, q, f] y = View.canon [p, q] y :=
  canon_hide [f] [p, q] y h

/-- So do four. -/
theorem canon_over4 {S : Shape} {e : EltTy} (p q r w f : View.Piece (Elt Ideal) S e) (y : S.Idx)
    (h : ∃ u ∈ [p, q, r, w], y ∈ u.1.set) : View.canon [p, q, r, w, f] y = View.canon [p, q, r, w] y :=
  canon_hide [f] [p, q, r, w] y h

/-- So do eleven. -/
theorem canon_over11 {S : Shape} {e : EltTy} (p0 p1 p2 p3 p4 p5 p6 p7 p8 p9 p10 f : View.Piece (Elt Ideal) S e) (y : S.Idx)
    (h : ∃ u ∈ [p0, p1, p2, p3, p4, p5, p6, p7, p8, p9, p10], y ∈ u.1.set) :
    View.canon [p0, p1, p2, p3, p4, p5, p6, p7, p8, p9, p10, f] y = View.canon [p0, p1, p2, p3, p4, p5, p6, p7, p8, p9, p10] y :=
  canon_hide [f] [p0, p1, p2, p3, p4, p5, p6, p7, p8, p9, p10] y h

/-- A load of a rectangle, entry by entry. -/
theorem ld_at {A B a b : ℕ} {e : EltTy} (X : Vec Ideal ⟨2, ![A, B]⟩ e) (o0 o1 : ℕ) (bd) (i : Fin a) (j : Fin b) (p : Fin A) (q : Fin B)
    (h0 : (p : ℕ) = o0 + i) (h1 : (q : ℕ) = o1 + j) :
    View.ld X (Rect.unit (s := ⟨2, ![A, B]⟩) ![o0, o1] ![a, b] bd) (ix2 i j) = X (ix2 p q) := by
  refine View.ld_unit_apply_of _ _ _ _ _ _ fun k => ?_
  fin_cases k
  · exact h0
  · exact h1

/-- A load of the whole. -/
theorem ld_all {A B : ℕ} {e : EltTy} (X : Vec Ideal ⟨2, ![A, B]⟩ e) (bd) :
    View.ld X (Rect.unit (s := ⟨2, ![A, B]⟩) ![0, 0] ![A, B] bd) = X := by
  funext y
  obtain ⟨i, j, rfl⟩ := eta2 (a := A) (b := B) y
  exact ld_at X 0 0 bd i j i j (by omega) (by omega)

/-- One chunk as a launch stores it, at the place it fills of the whole accumulator: if the payload adds to a chunk the
product of two blocks, the place grows by the sum over the blocks' rows. -/
theorem chunk_at {M N w : ℕ}
    (pay : Vec Ideal ⟨2, ![1024, N]⟩ .bf16 → Vec Ideal ⟨2, ![w, N]⟩ .f32 → Vec Ideal ⟨2, ![1024, w]⟩ .bf16 → Vec Ideal ⟨2, ![w, N]⟩ .f32)
    (hpay : ∀ g s h i j, pay g s h (ix2 i j) = s (ix2 i j) + ∑ k : Fin 1024, h (ix2 k i) * g (ix2 k j))
    (g : Vec Ideal ⟨2, ![1024, N]⟩ .bf16) (sc : Vec Ideal ⟨2, ![M, N]⟩ .f32) (h : Vec Ideal ⟨2, ![1024, M]⟩ .bf16) (o : ℕ)
    (b1) (b2) (x : (⟨2, ![w, N]⟩ : Shape).Idx) (r : Fin M) (l : Fin N)
    (h0 : (ix2 r l 0 : ℕ) = o + x 0) (h1 : (ix2 r l 1 : ℕ) = x 1) :
    pay g (View.ld sc (Rect.unit (s := ⟨2, ![M, N]⟩) ![o, 0] ![w, N] b1))
      (View.ld h (Rect.unit (s := ⟨2, ![1024, M]⟩) ![0, o] ![1024, w] b2)) x
      = sc (ix2 r l) + ∑ k : Fin 1024, h (ix2 k r) * g (ix2 k l) := by
  obtain ⟨i, j, rfl⟩ := eta2 x
  rw [hpay]
  obtain rfl : l = j := Fin.ext h1
  congr 1
  · exact ld_at _ _ _ _ _ _ _ _ h0 (by omega)
  · exact Finset.sum_congr rfl fun k _ => congrArg (· * _) (ld_at _ _ _ _ _ _ _ _ (by omega) h0)

/-- Eight blocks of 1024 rows, added one after the other from zero, are all rows. -/
theorem gathered {n : ℕ} (hn : n = 8) {ι : Type} (f : (k : ℕ) → k < n → ι → EReal) (g : Fin 8192 → ι → EReal)
    (first : ∀ t : Fin n, t.val % 8 = 0 → ∀ i, f t.val t.isLt i = 0 + ∑ k : Fin 1024, g ⟨1024 * t.val + k.val, by omega⟩ i)
    (next : ∀ t : Fin n, ¬t.val % 8 = 0 → ∀ i,
      f t.val t.isLt i = f (t.val - 1) (Nat.lt_of_le_of_lt (Nat.sub_le _ _) t.isLt) i + ∑ k : Fin 1024, g ⟨1024 * t.val + k.val, by omega⟩ i)
    (h7 : 7 < n) (i : ι) : f 7 h7 i = ∑ k : Fin 8192, g k i := by
  subst hn
  have h := Pipeline.eq_sum_fin_of_reset_step_apply_last (N := 8) f 8
    (fun _ => (0 : EReal)) (fun t i => ∑ k : Fin 1024, g ⟨1024 * t.val + k.val, by omega⟩ i)
    first next (by decide) ⟨7, h7⟩ rfl i
  refine h.trans ((zero_add _).trans ?_)
  exact Fin.sum_mul_add_congr fun s k hl => by
    have e : (⟨1024 * s.val + k.val, by omega⟩ : Fin 8192) = ⟨s.val * 1024 + k.val, hl⟩ := Fin.ext (by simp only; omega)
    rw [e]

end Cert.Rows
end
-- ==== Proof.Norm.lean ====
module

public import proofs.«01_k».proof.Defs
public import proofs.«01_k».proof.Proof.Gen.Kernel21.Frame
public import proofs.«01_k».proof.Proof.Gen.Kernel21Ideal.Value
public import proofs.«01_k».proof.Proof.Gen.Reference21Ideal.Read
public import proofs.«01_k».proof.Proof.Gen.Pre_finite_norm
public import proofs.«01_k».proof.Proof.Finite
public import proofs.«01_k».proof.Proof.NormMath
public import proofs.«01_k».proof.Proof.Rows

@[expose] public section

set_option maxRecDepth 16384

noncomputable section

/-! # The launch `d_h1_ln1`: the gradients through the norm after the mixing -/

namespace Cert.Kernel21Ideal.Norm

open Idealize.ShloMosaic Idealize.ShloMosaic.TcCoe Idealize.SL.Sem
open Cert.Kernel21Ideal Cert.Kernel21Ideal.Gen Cert.Reference21Ideal.Read Cert.Rows Cert.NormMath

variable (m : (ℓ : Loc nD τ sig) → Buf (Elt Ideal) ℓ) (c : Dev nD)

/-- The word of the stream's factor. -/
def alpha : EReal := Ideal.ofBits .f32 0x3F9837F0#32

section
variable {n : ℕ} (H M D : (⟨2, ![n, 1024]⟩ : Shape).Idx → EReal) (A B : (⟨2, ![n, 2816]⟩ : Shape).Idx → EReal)
  (W : (⟨2, ![1024, 5632]⟩ : Shape).Idx → EReal) (G : (⟨2, ![1, 1024]⟩ : Shape).Idx → EReal)

/-- A row of what enters the norm. -/
def row (i : Fin n) (k : Fin 1024) : EReal := alpha * H (ix2 i k) + M (ix2 i k)

/-- Two gradients side by side. -/
def side (i : Fin n) (k : Fin 5632) : EReal :=
  if h : k.val < 2816 then A (ix2 i ⟨k.val, h⟩) else B (ix2 i ⟨k.val - 2816, by omega⟩)

/-- A row of the gradient that arrives at the norm's result. -/
def ct (i : Fin n) (j : Fin 1024) : EReal := alpha * D (ix2 i j) + ∑ k : Fin 5632, side A B i k * W (ix2 j k)

/-- The product's sum taken over the two gradients one after the other. -/
theorem ct_eq (i : Fin n) (j : Fin 1024) :
    ct D A B W i j = alpha * D (ix2 i j) + (∑ k : Fin 2816, A (ix2 i k) * W (ix2 j ⟨k.val, by omega⟩)
      + ∑ k : Fin 2816, B (ix2 i k) * W (ix2 j ⟨2816 + k.val, by omega⟩)) := by
  unfold ct
  congr 1
  refine (Fin.sum_univ_add (a := 2816) (b := 2816) fun k : Fin (2816 + 2816) => side A B i k * W (ix2 j k)).trans (congrArg₂ _ ?_ ?_)
  · refine Finset.sum_congr rfl fun k _ => ?_
    unfold side
    rw [dif_pos (show (Fin.castAdd 2816 k).val < 2816 from k.isLt)]
    rfl
  · refine Finset.sum_congr rfl fun k _ => ?_
    unfold side
    rw [dif_neg (show ¬(Fin.natAdd 2816 k).val < 2816 by simp)]
    congr 3
    simp

/-- A row of the gradient that leaves the norm. -/
def dr (i : Fin n) (j : Fin 1024) : EReal := grad (row H M i) (fun k => ct D A B W i k * G (ix2 0 k)) j

/-- A row's part of the factor's gradient. -/
def dg (i : Fin n) (j : Fin 1024) : EReal := ct D A B W i j * (centred (row H M i) j * scale (row H M i))

end

section
variable (h x d : Vec Ideal S256x1024 .f32) (a b : Vec Ideal S256x2816 .bf16) (w : Vec Ideal S1024x5632 .bf16) (g s : Vec Ideal S1x1024 .f32)

/-- The rows with their means taken off. -/
theorem pay7_apply (i : Fin 256) (j : Fin 1024) : k0_pay7 (F := Ideal) h x (ix2 i j) = centred (row h x i) j := by
  pointwise [k0_pay7]
  rfl

/-- One over the root of a row's spread. -/
theorem pay8_apply (i : Fin 256) : k0_pay8 (F := Ideal) h x (ix2 i 0) = scale (row h x i) := by
  have e := pay7_apply h x i
  unfold k0_pay8 scale spread
  simp only [← e]
  generalize k0_pay7 (F := Ideal) h x = z
  pointwise []
  rfl

/-- The normed rows. -/
theorem pay9_apply (i : Fin 256) (j : Fin 1024) : k0_pay9 (F := Ideal) h x (ix2 i j) = centred (row h x i) j * scale (row h x i) := by
  rw [← pay8_apply, ← pay7_apply]
  unfold k0_pay9
  generalize k0_pay8 (F := Ideal) h x = y
  generalize k0_pay7 (F := Ideal) h x = z
  pointwise []

/-- The gradient that arrives at the norm's result. -/
theorem pay12_apply (i : Fin 256) (j : Fin 1024) :
    k0_pay12 (F := Ideal) (k0_pay10 a b) (k0_pay11 w) d (ix2 i j) = ct d a b w i j := by
  rw [ct_eq]
  pointwise [k0_pay12, k0_pay10, k0_pay11]
  rfl

/-- The gradient that leaves the norm. -/
theorem pay13_apply (i : Fin 256) (j : Fin 1024) :
    k0_pay13 (F := Ideal) (k0_pay8 h x) (k0_pay9 h x) g (k0_pay10 a b) (k0_pay11 w) d (ix2 i j) = dr h x d a b w g i j := by
  have e1 := pay12_apply d a b w i
  have e2 := pay9_apply h x i
  have e3 := pay8_apply h x i
  unfold k0_pay13 dr grad
  simp only [← e1, ← e2]
  simp only [← e3]
  generalize k0_pay12 (F := Ideal) (k0_pay10 a b) (k0_pay11 w) d = u
  generalize k0_pay9 (F := Ideal) h x = y
  generalize k0_pay8 (F := Ideal) h x = z
  pointwise []
  rfl

/-- The factor's gradient grows by the block's rows. -/
theorem pay15_apply (j : Fin 1024) :
    k0_pay15 (F := Ideal) (k0_pay9 h x) (k0_pay10 a b) (k0_pay11 w) d s (ix2 0 j) = s (ix2 0 j) + ∑ i : Fin 256, dg h x d a b w i j := by
  have e1 := fun i => pay12_apply d a b w i j
  have e2 := fun i => pay9_apply h x i j
  unfold k0_pay15 dg
  simp only [← e1, ← e2]
  generalize k0_pay12 (F := Ideal) (k0_pay10 a b) (k0_pay11 w) d = u
  generalize k0_pay9 (F := Ideal) h x = y
  pointwise []

/-- The shift's gradient grows by the block's rows. -/
theorem pay1_apply (j : Fin 1024) :
    k0_pay1 (F := Ideal) (k0_pay16 s) (k0_pay17 (k0_pay10 a b) (k0_pay11 w) d) (ix2 0 j) = s (ix2 0 j) + ∑ i : Fin 256, ct d a b w i j := by
  have e1 := fun i => pay12_apply d a b w i j
  unfold k0_pay1 k0_pay16 k0_pay17
  simp only [← e1]
  generalize k0_pay12 (F := Ideal) (k0_pay10 a b) (k0_pay11 w) d = u
  pointwise []

/-- The column sums of what leaves the norm grow by the block's rows. -/
theorem pay2_apply (j : Fin 1024) :
    k0_pay2 (F := Ideal) (k0_pay13 (k0_pay8 h x) (k0_pay9 h x) g (k0_pay10 a b) (k0_pay11 w) d) s (ix2 0 j)
      = s (ix2 0 j) + ∑ i : Fin 256, dr h x d a b w g i j := by
  have e1 := fun i => pay13_apply h x d a b w g i j
  unfold k0_pay2
  simp only [← e1]
  generalize k0_pay13 (F := Ideal) (k0_pay8 h x) (k0_pay9 h x) g (k0_pay10 a b) (k0_pay11 w) d = u
  pointwise []

/-- The three sums start from zero. -/
theorem zero_apply (j : Fin 1024) : k0_pay3 (F := Ideal) (ix2 0 j) = 0 ∧ k0_pay4 (F := Ideal) (ix2 0 j) = 0 ∧ k0_pay5 (F := Ideal) (ix2 0 j) = 0 := by
  refine ⟨?_, ?_, ?_⟩
  all_goals pointwise [k0_pay3, k0_pay4, k0_pay5]

end

section
variable (i : Fin 8192) (j k : Fin 1024)

/-! The places the reference's sums and broadcasts read. -/

/-- A place a sum or broadcast of the reference reads. -/
theorem at3 : idx_main_v3 (idx_main_v4 (ix2 i 0)) k = ix2 i k := by funext a; fin_cases a <;> rfl
/-- A place a sum or broadcast of the reference reads. -/
theorem at7 : idx_main_v7 (ix2 i j) = ix2 i 0 := by funext a; fin_cases a <;> rfl
/-- A place a sum or broadcast of the reference reads. -/
theorem at10 : idx_main_v10 (idx_main_v11 (ix2 i 0)) k = ix2 i k := by funext a; fin_cases a <;> rfl
/-- A place a sum or broadcast of the reference reads. -/
theorem at20 : idx_main_v20 (ix2 i j) = ix2 i 0 := by funext a; fin_cases a <;> rfl
/-- A place a sum or broadcast of the reference reads. -/
theorem at39 : idx_main_v39 (ix2 i j) = ix2 0 j := by funext a; fin_cases a <;> rfl
/-- A place a sum or broadcast of the reference reads. -/
theorem at44 : idx_main_v44 (ix2 i j) = ix2 i 0 := by funext a; fin_cases a <;> rfl
/-- A place a sum or broadcast of the reference reads. -/
theorem at49 (x : Fin 1) : idx_main_v49 (idx_main_v50 (ix2 i j)) x = ix2 i 0 := by
  rw [Subsingleton.elim x 0]; funext a; fin_cases a <;> rfl
/-- A place a sum or broadcast of the reference reads. -/
theorem at60 (x : Fin 1) : idx_main_v60 (idx_main_v61 (ix2 i j)) x = ix2 i 0 := by
  rw [Subsingleton.elim x 0]; funext a; fin_cases a <;> rfl
/-- A place a sum or broadcast of the reference reads. -/
theorem at42 : idx_main_v42 (idx_main_v43 (ix2 i 0)) k = ix2 i k := by
  funext a; fin_cases a
  · exact Fin.ext (show i.val * 1 + 0 = i.val by omega)
  · rfl
/-- A place a sum or broadcast of the reference reads. -/
theorem at56 : idx_main_v56 (idx_main_v57 (ix2 i 0)) k = ix2 i k := by
  funext a; fin_cases a
  · exact Fin.ext (show i.val * 1 + 0 = i.val by omega)
  · rfl
/-- A place a sum or broadcast of the reference reads. -/
theorem at37 : idx_main_v37 (idx_main_v38 (ix2 0 j)) i = ix2 i j := by
  funext a; fin_cases a
  · rfl
  · exact Fin.ext (show 0 * 1024 + j.val = j.val by omega)
/-- A place a sum or broadcast of the reference reads. -/
theorem at34 : idx_main_v34 (idx_main_v35 (ix2 0 j)) i = ix2 i j := by
  funext a; fin_cases a
  · rfl
  · exact Fin.ext (show 0 * 1024 + j.val = j.val by omega)
/-- A place a sum or broadcast of the reference reads. -/
theorem at64 : idx_main_v64 (idx_main_v65 (ix2 0 j)) i = ix2 i j := by funext a; fin_cases a <;> rfl
/-- A place a sum or broadcast of the reference reads. -/
theorem at30 (x : Fin 5632) : lidx_main_v30 (ix2 i j) x = ix2 i x ∧ ridx_main_v30 (ix2 i j) x = ix2 j x :=
  ⟨by funext a; fin_cases a <;> rfl, by funext a; fin_cases a <;> rfl⟩

end

section
variable (x0 x1 x4 : Vec Ideal S8192x1024 .f32) (x2 : Vec Ideal S1x1024 .f32) (x5 x6 : Vec Ideal S8192x2816 .f32) (x7 : Vec Ideal S1024x5632 .f32)

/-- The gradient with the norm's factor. -/
def act (i : Fin 8192) (k : Fin 1024) : EReal := ct x4 x5 x6 x7 i k * x2 (ix2 0 k)

/-- The reference's rows that enter the norm. -/
theorem ref_row (i : Fin 8192) (k : Fin 1024) : val_main_v2 (F := Ideal) x0 x1 (ix2 i k) = row x0 x1 i k := by
  pointwise [val_main_v2_apply, val_main_v1_apply, val_main_v0_apply, val_main_cst_apply]
  rfl

/-- Its rows with their means taken off. -/
theorem ref_centred (i : Fin 8192) (k : Fin 1024) : val_main_v8 (F := Ideal) x0 x1 (ix2 i k) = centred (row x0 x1 i) k := by
  unfold centred
  simp only [← ref_row]
  pointwise [val_main_v8_apply, val_main_v7_apply, val_main_v6_apply, val_main_v5_apply, val_main_v4_apply, val_main_v3_apply,
    val_main_cst_0_apply, val_main_cst_1_apply, at7, at3]
  rfl

/-- Its rows' spread. -/
theorem ref_spread (i : Fin 8192) : val_main_v15 (F := Ideal) x0 x1 (ix2 i 0) = spread (row x0 x1 i) := by
  unfold spread
  simp only [← ref_centred]
  pointwise [val_main_v15_apply, val_main_v14_apply, val_main_v13_apply, val_main_v12_apply, val_main_v11_apply, val_main_v10_apply,
    val_main_v9_apply, val_main_cst_2_apply, val_main_cst_3_apply, val_main_cst_4_apply, at10]
  rfl

/-- One over the root of it. -/
theorem ref_scale (i : Fin 8192) : val_main_v16 (F := Ideal) x0 x1 (ix2 i 0) = scale (row x0 x1 i) := by
  rw [val_main_v16_apply, ref_spread]
  rfl

/-- Its two gradients side by side. -/
theorem ref_side (i : Fin 8192) (k : Fin 5632) : val_main_v29 (F := Ideal) x5 x6 (ix2 i k) = side x5 x6 i k := by
  pointwise [val_main_v29]
  rfl

/-- Its gradient at the norm's result. -/
theorem ref_ct (i : Fin 8192) (j : Fin 1024) : val_main_v33 (F := Ideal) x4 x5 x6 x7 (ix2 i j) = ct x4 x5 x6 x7 i j := by
  pointwise [val_main_v33_apply, val_main_v32_apply, val_main_v31_apply, val_main_v30_apply, val_main_cst_7_apply, (at30 i j _).1, (at30 i j _).2, ref_side]
  exact add_comm _ _

/-- The same with the norm's factor. -/
theorem ref_act (i : Fin 8192) (j : Fin 1024) : val_main_v40 (F := Ideal) x2 x4 x5 x6 x7 (ix2 i j) = act x4 x2 x5 x6 x7 i j := by
  unfold act
  rw [← ref_ct]
  pointwise [val_main_v40_apply, val_main_v39_apply, at39]

/-- What comes back through the spread. -/
theorem ref_through (i : Fin 8192) (j : Fin 1024) :
    val_main_v50 (F := Ideal) x0 x1 x2 x4 x5 x6 x7 (ix2 i j) = through (row x0 x1 i) (act x4 x2 x5 x6 x7 i) := by
  unfold through
  simp only [← ref_act, ← ref_centred, ← ref_scale, ← ref_spread]
  pointwise [val_main_v50_apply, val_main_v49_apply, val_main_v48_apply, val_main_v47_apply, val_main_v46_apply, val_main_v43_apply,
    val_main_v42_apply, val_main_v41_apply, val_main_v19_apply, val_main_v18_apply, val_main_v17_apply, val_main_cst_5_apply,
    val_main_cst_10_apply, val_main_cst_11_apply, val_main_cst_12_apply, at49, at42, Fin.sum_univ_one]
  rfl

/-- What comes back to the rows with their means taken off. -/
theorem ref_inner (i : Fin 8192) (j : Fin 1024) :
    val_main_v54 (F := Ideal) x0 x1 x2 x4 x5 x6 x7 (ix2 i j) = NormMath.inner (row x0 x1 i) (act x4 x2 x5 x6 x7 i) j := by
  unfold NormMath.inner
  rw [← ref_through x0 x1 x4 x2 x5 x6 x7 i j, ← ref_act, ← ref_centred, ← ref_scale]
  pointwise [val_main_v54_apply, val_main_v53_apply, val_main_v52_apply, val_main_v51_apply, val_main_v45_apply, val_main_v44_apply, at44]

/-- What comes back to the rows. -/
theorem ref_chain (i : Fin 8192) (j : Fin 1024) :
    val_main_v62 (F := Ideal) x0 x1 x2 x4 x5 x6 x7 (ix2 i j) = chain (row x0 x1 i) (act x4 x2 x5 x6 x7 i) j := by
  unfold chain
  simp only [← ref_inner]
  pointwise [val_main_v62_apply, val_main_v61_apply, val_main_v60_apply, val_main_v59_apply, val_main_v58_apply, val_main_v57_apply,
    val_main_v56_apply, val_main_v55_apply, val_main_cst_13_apply, val_main_cst_14_apply, val_main_cst_15_apply, at60, at56, Fin.sum_univ_one]
  rfl

/-- The reference's gradient of the factor sums over all rows. -/
theorem ref_dg (j : Fin 1024) :
    val_main_v38 (F := Ideal) x0 x1 x4 x5 x6 x7 (ix2 0 j) = ∑ i : Fin 8192, dg x0 x1 x4 x5 x6 x7 i j := by
  unfold dg
  simp only [← ref_ct, ← ref_centred, ← ref_scale]
  rw [val_main_v38_apply, val_main_v37_apply, val_main_cst_9_apply]
  simp only [at37, val_main_v36_apply, val_main_v21_apply, val_main_v20_apply, at20]
  pointwise []
  exact Finset.sum_congr rfl fun k _ => mul_comm _ _

/-- So does its gradient of the shift. -/
theorem ref_db (j : Fin 1024) :
    val_main_v35 (F := Ideal) x4 x5 x6 x7 (ix2 0 j) = ∑ i : Fin 8192, ct x4 x5 x6 x7 i j := by
  simp only [← ref_ct]
  pointwise [val_main_v35_apply, val_main_v34_apply, val_main_cst_8_apply, at34]

/-- So do its column sums. -/
theorem ref_ds (j : Fin 1024) :
    val_main_v65 (F := Ideal) x0 x1 x2 x4 x5 x6 x7 (ix2 0 j) = ∑ i : Fin 8192, chain (row x0 x1 i) (act x4 x2 x5 x6 x7 i) j := by
  simp only [← ref_chain]
  pointwise [val_main_v65_apply, val_main_v64_apply, val_main_cst_16_apply, at64]

end

/-- The stream's rows at a grid point. -/
def hBlk (t : Fin cfg0.N) : Vec Ideal S256x1024 .f32 := iblk m c 0 t

/-- The mixing's rows. -/
def xBlk (t : Fin cfg0.N) : Vec Ideal S256x1024 .f32 := iblk m c 1 t

/-- The norm's factor. -/
def gBlk (t : Fin cfg0.N) : Vec Ideal S1x1024 .f32 := iblk m c 2 t

/-- The stream's gradient. -/
def dBlk (t : Fin cfg0.N) : Vec Ideal S256x1024 .f32 := iblk m c 4 t

/-- The gradient of the product's first half. -/
def aBlk (t : Fin cfg0.N) : Vec Ideal S256x2816 .bf16 := iblk m c 5 t

/-- The gradient of its second half. -/
def bBlk (t : Fin cfg0.N) : Vec Ideal S256x2816 .bf16 := iblk m c 6 t

/-- The weight. -/
def wBlk (t : Fin cfg0.N) : Vec Ideal S1024x5632 .bf16 := iblk m c 7 t

/-- What a point leaves of the gradient. -/
theorem dr_at (t : Fin cfg0.N) (i : Fin 256) (j : Fin 1024) :
    (outsAt0 m c t.val t.isLt).1 (ix2 i j) = dr (hBlk m c t) (xBlk m c t) (dBlk m c t) (aBlk m c t) (bBlk m c t) (wBlk m c t) (gBlk m c t) i j := by
  by_cases h0 : t.val % 32 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    exact pay13_apply (hBlk m c t) (xBlk m c t) (dBlk m c t) (aBlk m c t) (bBlk m c t) (wBlk m c t) (gBlk m c t) i j

/-- What it leaves of the gradient's narrowed copy. -/
theorem drb_at (t : Fin cfg0.N) (i : Fin 256) (j : Fin 1024) :
    (outsAt0 m c t.val t.isLt).2.1 (ix2 i j) = dr (hBlk m c t) (xBlk m c t) (dBlk m c t) (aBlk m c t) (bBlk m c t) (wBlk m c t) (gBlk m c t) i j := by
  by_cases h0 : t.val % 32 = 0
  on_goal 1 => rw [outsAt0_A m c t h0]
  on_goal 2 => rw [outsAt0_B m c t h0]
  all_goals
    frame_open
    simp (disch := decide) only [↓ View.readCov_skip, ↓ View.readCov_cons_toLoadRect, ↓ View.readCov_fill]
    frame_out
    exact pay13_apply (hBlk m c t) (xBlk m c t) (dBlk m c t) (aBlk m c t) (bBlk m c t) (wBlk m c t) (gBlk m c t) i j

/-- After the first point the three sums are over the point's rows. -/
theorem sums_first (t : Fin cfg0.N) (h0 : t.val % 32 = 0) (j : Fin 1024) :
    (outsAt0 m c t.val t.isLt).2.2.1 (ix2 0 j) = 0 + ∑ i : Fin 256, dg (hBlk m c t) (xBlk m c t) (dBlk m c t) (aBlk m c t) (bBlk m c t) (wBlk m c t) i j
    ∧ (outsAt0 m c t.val t.isLt).2.2.2.1 (ix2 0 j) = 0 + ∑ i : Fin 256, ct (dBlk m c t) (aBlk m c t) (bBlk m c t) (wBlk m c t) i j
    ∧ (outsAt0 m c t.val t.isLt).2.2.2.2.1 (ix2 0 j)
      = 0 + ∑ i : Fin 256, dr (hBlk m c t) (xBlk m c t) (dBlk m c t) (aBlk m c t) (bBlk m c t) (wBlk m c t) (gBlk m c t) i j := by
  obtain ⟨z1, z2, z3⟩ := zero_apply j
  rw [outsAt0_A m c t h0]
  refine ⟨?_, ?_, ?_⟩
  on_goal 1 => rw [← z1]
  on_goal 2 => rw [← z2]
  on_goal 3 => rw [← z3]
  all_goals
    frame_open
    simp (disch := decide) only [↓ View.readCov_skip, ↓ View.readCov_cons_toLoadRect, ↓ View.readCov_fill]
    frame_out
  · exact pay15_apply (hBlk m c t) (xBlk m c t) (dBlk m c t) (aBlk m c t) (bBlk m c t) (wBlk m c t) _ j
  · exact pay1_apply (dBlk m c t) (aBlk m c t) (bBlk m c t) (wBlk m c t) _ j
  · exact pay2_apply (hBlk m c t) (xBlk m c t) (dBlk m c t) (aBlk m c t) (bBlk m c t) (wBlk m c t) (gBlk m c t) _ j

/-- After a later point they have grown by those. -/
theorem sums_next (t : Fin cfg0.N) (h0 : ¬t.val % 32 = 0) (j : Fin 1024) :
    (outsAt0 m c t.val t.isLt).2.2.1 (ix2 0 j) = (outsAt0 m c (t.val - 1) (Nat.lt_of_le_of_lt (Nat.sub_le _ _) t.isLt)).2.2.1 (ix2 0 j)
      + ∑ i : Fin 256, dg (hBlk m c t) (xBlk m c t) (dBlk m c t) (aBlk m c t) (bBlk m c t) (wBlk m c t) i j
    ∧ (outsAt0 m c t.val t.isLt).2.2.2.1 (ix2 0 j) = (outsAt0 m c (t.val - 1) (Nat.lt_of_le_of_lt (Nat.sub_le _ _) t.isLt)).2.2.2.1 (ix2 0 j)
      + ∑ i : Fin 256, ct (dBlk m c t) (aBlk m c t) (bBlk m c t) (wBlk m c t) i j
    ∧ (outsAt0 m c t.val t.isLt).2.2.2.2.1 (ix2 0 j) = (outsAt0 m c (t.val - 1) (Nat.lt_of_le_of_lt (Nat.sub_le _ _) t.isLt)).2.2.2.2.1 (ix2 0 j)
      + ∑ i : Fin 256, dr (hBlk m c t) (xBlk m c t) (dBlk m c t) (aBlk m c t) (bBlk m c t) (wBlk m c t) (gBlk m c t) i j := by
  rw [outsAt0_B m c t h0]
  refine ⟨?_, ?_, ?_⟩
  all_goals
    frame_open
    simp (disch := decide) only [↓ View.readCov_skip, ↓ View.readCov_cons_toLoadRect, ↓ View.readCov_fill]
    frame_out
  · exact pay15_apply (hBlk m c t) (xBlk m c t) (dBlk m c t) (aBlk m c t) (bBlk m c t) (wBlk m c t) _ j
  · exact pay1_apply (dBlk m c t) (aBlk m c t) (bBlk m c t) (wBlk m c t) _ j
  · exact pay2_apply (hBlk m c t) (xBlk m c t) (dBlk m c t) (aBlk m c t) (bBlk m c t) (wBlk m c t) (gBlk m c t) _ j

/-- Thirty-two blocks of 256 rows, added one after the other from zero, are all rows. -/
theorem gathered32 {n : ℕ} (hn : n = 32) {ι : Type} (f : (k : ℕ) → k < n → ι → EReal) (g : Fin 8192 → ι → EReal)
    (first : ∀ t : Fin n, t.val % 32 = 0 → ∀ i, f t.val t.isLt i = 0 + ∑ k : Fin 256, g ⟨256 * t.val + k.val, by omega⟩ i)
    (next : ∀ t : Fin n, ¬t.val % 32 = 0 → ∀ i,
      f t.val t.isLt i = f (t.val - 1) (Nat.lt_of_le_of_lt (Nat.sub_le _ _) t.isLt) i + ∑ k : Fin 256, g ⟨256 * t.val + k.val, by omega⟩ i)
    (h31 : 31 < n) (i : ι) : f 31 h31 i = ∑ k : Fin 8192, g k i := by
  subst hn
  have h := Pipeline.eq_sum_fin_of_reset_step_apply_last (N := 32) f 32
    (fun _ => (0 : EReal)) (fun t i => ∑ k : Fin 256, g ⟨256 * t.val + k.val, by omega⟩ i)
    first next (by decide) ⟨31, h31⟩ rfl i
  refine h.trans ((zero_add _).trans ?_)
  exact Fin.sum_mul_add_congr fun s k hl => by
    have e : (⟨256 * s.val + k.val, by omega⟩ : Fin 8192) = ⟨s.val * 256 + k.val, hl⟩ := Fin.ext (by simp only; omega)
    rw [e]

/-- A point's row in the whole arrays. -/
def place (t : Fin cfg0.N) (i : Fin 256) : Fin 8192 := ⟨256 * t.val + i.val, by have : t.val < 32 := t.isLt; omega⟩

/-! Which block a point takes of each array. -/

/-- The block a point takes. -/
theorem index_0 : ∀ t : Fin cfg0.N, (cfg0.win 0).index t = ![t.val, 0] :=
  (by decide +kernel : ∀ t : Fin cfg0.N, (cfg0.win 0).index t = ![t.val, 0])

/-- The block a point takes. -/
theorem index_1 : ∀ t : Fin cfg0.N, (cfg0.win 1).index t = ![t.val, 0] :=
  (by decide +kernel : ∀ t : Fin cfg0.N, (cfg0.win 1).index t = ![t.val, 0])

/-- The block a point takes. -/
theorem index_2 : ∀ t : Fin cfg0.N, (cfg0.win 2).index t = ![0, 0] :=
  (by decide +kernel : ∀ t : Fin cfg0.N, (cfg0.win 2).index t = ![0, 0])

/-- The block a point takes. -/
theorem index_4 : ∀ t : Fin cfg0.N, (cfg0.win 4).index t = ![t.val, 0] :=
  (by decide +kernel : ∀ t : Fin cfg0.N, (cfg0.win 4).index t = ![t.val, 0])

/-- The block a point takes. -/
theorem index_5 : ∀ t : Fin cfg0.N, (cfg0.win 5).index t = ![t.val, 0] :=
  (by decide +kernel : ∀ t : Fin cfg0.N, (cfg0.win 5).index t = ![t.val, 0])

/-- The block a point takes. -/
theorem index_6 : ∀ t : Fin cfg0.N, (cfg0.win 6).index t = ![t.val, 0] :=
  (by decide +kernel : ∀ t : Fin cfg0.N, (cfg0.win 6).index t = ![t.val, 0])

/-- The block a point takes. -/
theorem index_7 : ∀ t : Fin cfg0.N, (cfg0.win 7).index t = ![0, 0] :=
  (by decide +kernel : ∀ t : Fin cfg0.N, (cfg0.win 7).index t = ![0, 0])

/-- The block a point takes. -/
theorem index_8 : ∀ t : Fin cfg0.N, (cfg0.win 8).index t = ![t.val, 0] :=
  (by decide +kernel : ∀ t : Fin cfg0.N, (cfg0.win 8).index t = ![t.val, 0])

/-- The block a point takes. -/
theorem index_9 : ∀ t : Fin cfg0.N, (cfg0.win 9).index t = ![t.val, 0] :=
  (by decide +kernel : ∀ t : Fin cfg0.N, (cfg0.win 9).index t = ![t.val, 0])

/-- The block a point takes. -/
theorem index_10 : ∀ t : Fin cfg0.N, (cfg0.win 10).index t = ![0, 0] :=
  (by decide +kernel : ∀ t : Fin cfg0.N, (cfg0.win 10).index t = ![0, 0])

/-- The block a point takes. -/
theorem index_11 : ∀ t : Fin cfg0.N, (cfg0.win 11).index t = ![0, 0] :=
  (by decide +kernel : ∀ t : Fin cfg0.N, (cfg0.win 11).index t = ![0, 0])

/-- The block a point takes. -/
theorem index_12 : ∀ t : Fin cfg0.N, (cfg0.win 12).index t = ![0, 0] :=
  (by decide +kernel : ∀ t : Fin cfg0.N, (cfg0.win 12).index t = ![0, 0])

/-! What the launch finds in its arrays. -/

/-- An array as the launch finds it is the caller's. -/
theorem V_main_arg5 : V m c main_v0 = (m ((c : Thread nD τ).loc main_arg5)) := by
  show StableHlo.after hostOps0 (fun b => m (c, b)) _ = _
  simp only [hostOps0]
  after_results_simp
  rfl

/-- An array as the launch finds it is the caller's. -/
theorem V_main_arg6 : V m c main_v1 = (m ((c : Thread nD τ).loc main_arg6)) := by
  show StableHlo.after hostOps0 (fun b => m (c, b)) _ = _
  simp only [hostOps0]
  after_results_simp
  rfl

/-- An array as the launch finds it is the caller's. -/
theorem V_main_arg7 : V m c main_v2 = (m ((c : Thread nD τ).loc main_arg7)) := by
  show StableHlo.after hostOps0 (fun b => m (c, b)) _ = _
  simp only [hostOps0]
  after_results_simp
  rfl

/-- An array as the launch finds it is the caller's. -/
theorem V_main_arg0 : V m c main_arg0 = (m ((c : Thread nD τ).loc main_arg0)) := by
  show StableHlo.after hostOps0 (fun b => m (c, b)) _ = _
  simp only [hostOps0]
  after_results_simp

/-- An array as the launch finds it is the caller's. -/
theorem V_main_arg1 : V m c main_arg1 = (m ((c : Thread nD τ).loc main_arg1)) := by
  show StableHlo.after hostOps0 (fun b => m (c, b)) _ = _
  simp only [hostOps0]
  after_results_simp

/-- An array as the launch finds it is the caller's. -/
theorem V_main_arg2 : V m c main_arg2 = (m ((c : Thread nD τ).loc main_arg2)) := by
  show StableHlo.after hostOps0 (fun b => m (c, b)) _ = _
  simp only [hostOps0]
  after_results_simp

/-- An array as the launch finds it is the caller's. -/
theorem V_main_arg4 : V m c main_arg4 = (m ((c : Thread nD τ).loc main_arg4)) := by
  show StableHlo.after hostOps0 (fun b => m (c, b)) _ = _
  simp only [hostOps0]
  after_results_simp

section
variable (x0 x1 x4 : Vec Ideal S8192x1024 .f32) (x2 : Vec Ideal S1x1024 .f32) (x5 x6 : Vec Ideal S8192x2816 .f32) (x7 : Vec Ideal S1024x5632 .f32)

/-- The arguments the launch starts from. -/
structure Given : Prop where
  e0 : m ((c : Thread nD τ).loc main_arg0) = x0
  e1 : m ((c : Thread nD τ).loc main_arg1) = x1
  e2 : m ((c : Thread nD τ).loc main_arg2) = x2
  e4 : m ((c : Thread nD τ).loc main_arg4) = x4
  e5 : m ((c : Thread nD τ).loc main_arg5) = x5
  e6 : m ((c : Thread nD τ).loc main_arg6) = x6
  e7 : m ((c : Thread nD τ).loc main_arg7) = x7

variable {m c x0 x1 x4 x2 x5 x6 x7}
variable (e : Given m c x0 x1 x4 x2 x5 x6 x7)

/-! A point's blocks, entry by entry. -/

include e in
/-- An entry of a point's block. -/
theorem hBlk_eq (t : Fin cfg0.N) (i : Fin 256) (j : Fin 1024) : hBlk m c t (ix2 i j) = x0 (ix2 (place t i) j) := by
  rw [← e.e0, ← V_main_arg0 m c]
  blk_ext [hBlk, iblk, index_0 t, place]

include e in
/-- An entry of a point's block. -/
theorem xBlk_eq (t : Fin cfg0.N) (i : Fin 256) (j : Fin 1024) : xBlk m c t (ix2 i j) = x1 (ix2 (place t i) j) := by
  rw [← e.e1, ← V_main_arg1 m c]
  blk_ext [xBlk, iblk, index_1 t, place]

include e in
/-- An entry of a point's block. -/
theorem gBlk_eq (t : Fin cfg0.N) (j : Fin 1024) : gBlk m c t (ix2 0 j) = x2 (ix2 0 j) := by
  rw [← e.e2, ← V_main_arg2 m c]
  blk_ext [gBlk, iblk, index_2 t]

include e in
/-- An entry of a point's block. -/
theorem dBlk_eq (t : Fin cfg0.N) (i : Fin 256) (j : Fin 1024) : dBlk m c t (ix2 i j) = x4 (ix2 (place t i) j) := by
  rw [← e.e4, ← V_main_arg4 m c]
  blk_ext [dBlk, iblk, index_4 t, place]

include e in
/-- An entry of a point's block. -/
theorem aBlk_eq (t : Fin cfg0.N) (i : Fin 256) (j : Fin 2816) : aBlk m c t (ix2 i j) = x5 (ix2 (place t i) j) := by
  rw [← e.e5, ← V_main_arg5 m c]
  blk_ext [aBlk, iblk, index_5 t, place]

include e in
/-- An entry of a point's block. -/
theorem bBlk_eq (t : Fin cfg0.N) (i : Fin 256) (j : Fin 2816) : bBlk m c t (ix2 i j) = x6 (ix2 (place t i) j) := by
  rw [← e.e6, ← V_main_arg6 m c]
  blk_ext [bBlk, iblk, index_6 t, place]

include e in
/-- An entry of a point's block. -/
theorem wBlk_eq (t : Fin cfg0.N) (i : Fin 1024) (j : Fin 5632) : wBlk m c t (ix2 i j) = x7 (ix2 i j) := by
  rw [← e.e7, ← V_main_arg7 m c]
  blk_ext [wBlk, iblk, index_7 t]

include e in
/-- A point's row of what enters the norm. -/
theorem row_at (t : Fin cfg0.N) (i : Fin 256) : row (hBlk m c t) (xBlk m c t) i = row x0 x1 (place t i) := by
  funext k
  unfold row
  rw [hBlk_eq e, xBlk_eq e]

include e in
/-- A point's row of the gradient that arrives. -/
theorem ct_at (t : Fin cfg0.N) (i : Fin 256) :
    ct (dBlk m c t) (aBlk m c t) (bBlk m c t) (wBlk m c t) i = ct x4 x5 x6 x7 (place t i) := by
  funext j
  unfold ct side
  simp only [dBlk_eq e, aBlk_eq e, bBlk_eq e, wBlk_eq e]

include e in
/-- A point's row of the gradient that leaves. -/
theorem dr_of (t : Fin cfg0.N) (i : Fin 256) (j : Fin 1024) :
    dr (hBlk m c t) (xBlk m c t) (dBlk m c t) (aBlk m c t) (bBlk m c t) (wBlk m c t) (gBlk m c t) i j = dr x0 x1 x4 x5 x6 x7 x2 (place t i) j := by
  unfold dr
  simp only [row_at e, ct_at e, gBlk_eq e]

include e in
/-- A point's row of the factor's gradient. -/
theorem dg_of (t : Fin cfg0.N) (i : Fin 256) (j : Fin 1024) :
    dg (hBlk m c t) (xBlk m c t) (dBlk m c t) (aBlk m c t) (bBlk m c t) (wBlk m c t) i j = dg x0 x1 x4 x5 x6 x7 (place t i) j := by
  unfold dg
  rw [row_at e, ct_at e]

include e in
/-- After the last point the three sums are over all rows. -/
theorem sums_last (h31 : 31 < cfg0.N) (j : Fin 1024) :
    (outsAt0 m c 31 h31).2.2.1 (ix2 0 j) = ∑ i : Fin 8192, dg x0 x1 x4 x5 x6 x7 i j
    ∧ (outsAt0 m c 31 h31).2.2.2.1 (ix2 0 j) = ∑ i : Fin 8192, ct x4 x5 x6 x7 i j
    ∧ (outsAt0 m c 31 h31).2.2.2.2.1 (ix2 0 j) = ∑ i : Fin 8192, dr x0 x1 x4 x5 x6 x7 x2 i j := by
  refine ⟨?_, ?_, ?_⟩
  · refine gathered32 rfl (fun n h (j : Fin 1024) => (outsAt0 m c n h).2.2.1 (ix2 0 j)) (fun i j => dg x0 x1 x4 x5 x6 x7 i j)
      (fun t h0 j => (sums_first m c t h0 j).1.trans ?_) (fun t h0 j => (sums_next m c t h0 j).1.trans ?_) h31 j
    all_goals exact congrArg _ (Finset.sum_congr rfl fun i _ => dg_of e t i j)
  · refine gathered32 rfl (fun n h (j : Fin 1024) => (outsAt0 m c n h).2.2.2.1 (ix2 0 j)) (fun i j => ct x4 x5 x6 x7 i j)
      (fun t h0 j => (sums_first m c t h0 j).2.1.trans ?_) (fun t h0 j => (sums_next m c t h0 j).2.1.trans ?_) h31 j
    all_goals exact congrArg _ (Finset.sum_congr rfl fun i _ => congrFun (ct_at e t i) j)
  · refine gathered32 rfl (fun n h (j : Fin 1024) => (outsAt0 m c n h).2.2.2.2.1 (ix2 0 j)) (fun i j => dr x0 x1 x4 x5 x6 x7 x2 i j)
      (fun t h0 j => (sums_first m c t h0 j).2.2.trans ?_) (fun t h0 j => (sums_next m c t h0 j).2.2.trans ?_) h31 j
    all_goals exact congrArg _ (Finset.sum_congr rfl fun i _ => dr_of e t i j)

/-! Where a block's entry lies in its array. -/

/-- The place of a block's entry. -/
theorem emb_8 (t : Fin cfg0.N) (i : Fin 256) (j : Fin 1024) : ((cfg0.win 8).blk t).view.emb (ix2 i j) = (ix2 (place t i) j : S8192x1024.Idx) := by
  blk_ext [index_8 t, place]

/-- The place of a block's entry. -/
theorem emb_9 (t : Fin cfg0.N) (i : Fin 256) (j : Fin 1024) : ((cfg0.win 9).blk t).view.emb (ix2 i j) = (ix2 (place t i) j : S8192x1024.Idx) := by
  blk_ext [index_9 t, place]

/-- The place of a block's entry. -/
theorem emb_10 (t : Fin cfg0.N) (j : Fin 1024) : ((cfg0.win 10).blk t).view.emb (ix2 0 j) = (ix2 0 j : S1x1024.Idx) := by
  blk_ext [index_10 t]

/-- The place of a block's entry. -/
theorem emb_11 (t : Fin cfg0.N) (j : Fin 1024) : ((cfg0.win 11).blk t).view.emb (ix2 0 j) = (ix2 0 j : S1x1024.Idx) := by
  blk_ext [index_11 t]

/-- The place of a block's entry. -/
theorem emb_12 (t : Fin cfg0.N) (j : Fin 1024) : ((cfg0.win 12).blk t).view.emb (ix2 0 j) = (ix2 0 j : S1x1024.Idx) := by
  blk_ext [index_12 t]

/-- The three sums are written back after the last point alone. -/
theorem last_10 : ∀ t : Fin cfg0.N, (cfg0.win 10).flush t = true → t = ⟨31, by decide⟩ :=
  (by decide +kernel : ∀ t : Fin cfg0.N, (cfg0.win 10).flush t = true → t = ⟨31, by decide⟩)

/-- A sum is written back after the last point. -/
theorem last_11 : ∀ t : Fin cfg0.N, (cfg0.win 11).flush t = true → t = ⟨31, by decide⟩ :=
  (by decide +kernel : ∀ t : Fin cfg0.N, (cfg0.win 11).flush t = true → t = ⟨31, by decide⟩)

/-- A sum is written back after the last point. -/
theorem last_12 : ∀ t : Fin cfg0.N, (cfg0.win 12).flush t = true → t = ⟨31, by decide⟩ :=
  (by decide +kernel : ∀ t : Fin cfg0.N, (cfg0.win 12).flush t = true → t = ⟨31, by decide⟩)

variable (x0 x1 x4 x2 x5 x6 x7) in
/-- The reference's gradient of a row is the launch's. -/
def Agree : Prop := ∀ (i : Fin 8192) (j : Fin 1024), chain (row x0 x1 i) (act x4 x2 x5 x6 x7 i) j = dr x0 x1 x4 x5 x6 x7 x2 i j

variable (r : Agree x0 x1 x4 x2 x5 x6 x7)

include e r in
/-- The gradient is the reference's. -/
theorem dr_array : (dats m 0 c).arrAt 8 cfg0.N = val_main_v62 (F := Ideal) x0 x1 x2 x4 x5 x6 x7 := by
  refine (dats m 0 c).arrAt_eq_of_covers 8 _ (by decide +kernel) fun t hf y => ?_
  refine (show _ = (dats m 0 c).flushed 8 t y from rfl).trans ((congrFun (Value.flushed8 m c t) y).trans ?_)
  obtain ⟨i, j, rfl⟩ := eta2 (a := 256) (b := 1024) y
  refine (show _ = (outsAt0 m c t.val t.isLt).1 (ix2 i j) from rfl).trans ((dr_at m c t i j).trans ?_)
  rw [emb_8 t i j, ref_chain, r, dr_of e]

include e r in
/-- So is its narrowed copy. -/
theorem drb_array : (dats m 0 c).arrAt 9 cfg0.N = val_main_v63 (F := Ideal) x0 x1 x2 x4 x5 x6 x7 := by
  refine (dats m 0 c).arrAt_eq_of_covers 9 _ (by decide +kernel) fun t hf y => ?_
  refine (show _ = (dats m 0 c).flushed 9 t y from rfl).trans ((congrFun (Value.flushed9 m c t) y).trans ?_)
  obtain ⟨i, j, rfl⟩ := eta2 (a := 256) (b := 1024) y
  refine (show _ = (outsAt0 m c t.val t.isLt).2.1 (ix2 i j) from rfl).trans ((drb_at m c t i j).trans ?_)
  rw [emb_9 t i j, val_main_v63_apply, ref_chain, r, dr_of e]
  rfl

include e in
/-- The gradient of the norm's factor is the reference's. -/
theorem dg_array : (dats m 0 c).arrAt 10 cfg0.N = val_main_v38 (F := Ideal) x0 x1 x4 x5 x6 x7 := by
  refine (dats m 0 c).arrAt_eq_of_covers 10 _ (by decide +kernel) fun t hf y => ?_
  obtain rfl := last_10 t hf
  refine (show _ = (dats m 0 c).flushed 10 _ y from rfl).trans ((congrFun (Value.flushed10 m c _) y).trans ?_)
  obtain ⟨j, rfl⟩ := eta_row (b := 1024) y
  refine (show _ = (outsAt0 m c 31 (by decide)).2.2.1 (ix2 0 j) from rfl).trans ((sums_last e _ j).1.trans ?_)
  rw [emb_10 _ j, ref_dg]

include e in
/-- The gradient of its shift is the reference's. -/
theorem db_array : (dats m 0 c).arrAt 11 cfg0.N = val_main_v35 (F := Ideal) x4 x5 x6 x7 := by
  refine (dats m 0 c).arrAt_eq_of_covers 11 _ (by decide +kernel) fun t hf y => ?_
  obtain rfl := last_11 t hf
  refine (show _ = (dats m 0 c).flushed 11 _ y from rfl).trans ((congrFun (Value.flushed11 m c _) y).trans ?_)
  obtain ⟨j, rfl⟩ := eta_row (b := 1024) y
  refine (show _ = (outsAt0 m c 31 (by decide)).2.2.2.1 (ix2 0 j) from rfl).trans ((sums_last e _ j).2.1.trans ?_)
  rw [emb_11 _ j, ref_db]

include e r in
/-- The gradient's column sums are the reference's. -/
theorem ds_array : (dats m 0 c).arrAt 12 cfg0.N = val_main_v65 (F := Ideal) x0 x1 x2 x4 x5 x6 x7 := by
  refine (dats m 0 c).arrAt_eq_of_covers 12 _ (by decide +kernel) fun t hf y => ?_
  obtain rfl := last_12 t hf
  refine (show _ = (dats m 0 c).flushed 12 _ y from rfl).trans ((congrFun (Value.flushed12 m c _) y).trans ?_)
  obtain ⟨j, rfl⟩ := eta_row (b := 1024) y
  refine (show _ = (outsAt0 m c 31 (by decide)).2.2.2.2.1 (ix2 0 j) from rfl).trans ((sums_last e _ j).2.2.trans ?_)
  rw [emb_12 _ j, ref_ds]
  exact Finset.sum_congr rfl fun i _ => (r i j).symm

end

open Cert.Window in
/-- With real gradients arriving the two agree. -/
theorem agree_of_real (x0 x1 : Vec Ideal S8192x1024 .f32) (a4 : S8192x1024.Idx → ℝ) (a2 : S1x1024.Idx → ℝ) (a5 a6 : S8192x2816.Idx → ℝ)
    (a7 : S1024x5632.Idx → ℝ) : Agree x0 x1 (up a4) (up a2) (up a5) (up a6) (up a7) := by
  obtain ⟨α, hα⟩ := word_real 0x3F9837F0#32 (by decide)
  intro i j
  have hs : ∀ k, side (up a5) (up a6) i k
      = ((if h : k.val < 2816 then a5 (ix2 i ⟨k.val, h⟩) else a6 (ix2 i ⟨k.val - 2816, by omega⟩) : ℝ) : EReal) := by
    intro k
    unfold side
    split <;> rfl
  have h2 : (act (up a4) (up a2) (up a5) (up a6) (up a7) i) = fun k => (((α * a4 (ix2 i k)
      + ∑ l : Fin 5632, (if h : l.val < 2816 then a5 (ix2 i ⟨l.val, h⟩) else a6 (ix2 i ⟨l.val - 2816, by omega⟩)) * a7 (ix2 k l)) * a2 (ix2 0 k) : ℝ) : EReal) := by
    funext k
    simp only [act, ct, alpha, hα, hs, up_apply]
    simp only [EReal.coe_add, EReal.coe_mul, ← coe_sum]
  show _ = grad (row x0 x1 i) (act (up a4) (up a2) (up a5) (up a6) (up a7) i) j
  rw [h2]
  exact chain_eq_grad _ _ j

open Cert.Window in
/-- The precondition, read: the norm's factor, the gradients that arrive and the weight are real everywhere, so the two agree. -/
theorem agree_of_finite (x0 x1 : FVec Ideal S8192x1024 .f32) (x2 x3 : FVec Ideal S1x1024 .f32) (x4 : FVec Ideal S8192x1024 .f32)
    (x5 x6 : FVec Ideal S8192x2816 .f32) (x7 : FVec Ideal S1024x5632 .f32)
    (h : Cert.Pre_finite_norm.fn (F := Ideal) x0 x1 x2 x3 x4 x5 x6 x7 = fun _ => 1#1) :
    Agree x0 x1 x4 x2 x5 x6 x7 := by
  have h' := congrFun h (fun a => a.elim0)
  dsimp only [Cert.Pre_finite_norm.fn, Cert.Pre_finite_norm.fn_part1] at h'
  simp only [andi, IntOp.andi_eq_one] at h'
  obtain ⟨⟨⟨⟨h2, h4⟩, h5⟩, h6⟩, h7⟩ := h'
  haveI : Subsingleton Cert.Pre_finite_norm.S_.Idx := ⟨fun a b => funext fun k => k.elim0⟩
  obtain ⟨a2, rfl⟩ := real_of_absf _ _ (fun _ => rfl) (Host.reduce_andi_all _ _ _ _ _ h2)
  obtain ⟨a4, rfl⟩ := real_of_absf _ _ (fun _ => rfl) (Host.reduce_andi_all _ _ _ _ _ h4)
  obtain ⟨a5, rfl⟩ := real_of_absf _ _ (fun _ => rfl) (Host.reduce_andi_all _ _ _ _ _ h5)
  obtain ⟨a6, rfl⟩ := real_of_absf _ _ (fun _ => rfl) (Host.reduce_andi_all _ _ _ _ _ h6)
  obtain ⟨a7, rfl⟩ := real_of_absf _ _ (fun _ => rfl) (Host.reduce_andi_all _ _ _ _ _ h7)
  exact agree_of_real x0 x1 a4 a2 a5 a6 a7

/-- The launch ends with its arguments as it found them. -/
theorem frame_kernel : Cert.quiescent_Kernel21 := fun m ρ _ => Cert.Kernel21.Gen.frame m ρ

/-- So does the launch read over the extended reals. -/
theorem frame_ideal : Cert.quiescent_Kernel21Ideal := fun m ρ _ => Cert.Kernel21Ideal.Gen.frame m ρ

/-- Also under the precondition. -/
theorem frame_ideal_finite : Cert.quiescent_Kernel21Ideal_pre_finite_norm := fun m ρ _ => Cert.Kernel21Ideal.Gen.frame m ρ

/-- So does its reference. -/
theorem frame_reference : Cert.quiescent_Reference21Ideal := fun m ρ _ =>
  (θ_run Cert.Reference21Ideal.defs _ _).mono (fun r h => ⟨fun c => (h c).2.2.2.2.2, sem_eq_zero_of_no_sems (by decide) r.2⟩)
    (Cert.Reference21Ideal.Value.run (F := Ideal) m ρ)

/-- Also under the precondition. -/
theorem frame_reference_finite : Cert.quiescent_Reference21Ideal_pre_finite_norm := fun m ρ _ => frame_reference m ρ trivial

/-- On finite arguments the launch's five gradients are the reference's. -/
theorem algebraic : Cert.algebraic_Kernel21Ideal_Reference21Ideal_pre_finite_norm := by
  intro m ρ m' ρ' hp hm
  refine ⟨fun c => Cert.Reference21Ideal.Value.res_main_v62 m' c, fun c => Cert.Reference21Ideal.Value.res_main_v63 m' c,
    fun c => val_main_v38 (F := Ideal) (m' ((c.tc : Thread _ _).loc Cert.Reference21Ideal.main_arg0))
      (m' ((c.tc : Thread _ _).loc Cert.Reference21Ideal.main_arg1)) (m' ((c.tc : Thread _ _).loc Cert.Reference21Ideal.main_arg4))
      (m' ((c.tc : Thread _ _).loc Cert.Reference21Ideal.main_arg5)) (m' ((c.tc : Thread _ _).loc Cert.Reference21Ideal.main_arg6))
      (m' ((c.tc : Thread _ _).loc Cert.Reference21Ideal.main_arg7)),
    fun c => val_main_v35 (F := Ideal) (m' ((c.tc : Thread _ _).loc Cert.Reference21Ideal.main_arg4))
      (m' ((c.tc : Thread _ _).loc Cert.Reference21Ideal.main_arg5)) (m' ((c.tc : Thread _ _).loc Cert.Reference21Ideal.main_arg6))
      (m' ((c.tc : Thread _ _).loc Cert.Reference21Ideal.main_arg7)),
    fun c => Cert.Reference21Ideal.Value.res_main_v65 m' c, ?_,
    (θ_run Cert.Reference21Ideal.defs _ _).mono (fun r h c => ⟨(h c).1, (h c).2.1, (h c).2.2.1.trans (val_main_v38_eq _ _ _ _ _ _),
      (h c).2.2.2.1.trans (val_main_v35_eq _ _ _ _), (h c).2.2.2.2⟩)
      (Cert.Reference21Ideal.Value.run (F := Ideal) m' ρ')⟩
  refine (θ_run Cert.Kernel21Ideal.defs _ _).mono (fun r h c => ?_) (Cert.Kernel21Ideal.Value.run_blocks (F := Ideal) m ρ)
  obtain ⟨e0, e1, e2, e3, e4, -, k⟩ := h c
  obtain ⟨m0, m1, m2, m3, m4, m5, m6, m7⟩ := hm c
  have e : Given m c _ _ _ _ _ _ _ := ⟨m0.symm, m1.symm, m2.symm, m4.symm, m5.symm, m6.symm, m7.symm⟩
  have r := agree_of_finite _ _ _ _ _ _ _ _ (hp c)
  rw [← m0, ← m1, ← m2, ← m4, ← m5, ← m6, ← m7] at r
  exact ⟨e0.trans ((dr_array e r).trans (val_main_v62_eq m' c).symm), e1.trans ((drb_array e r).trans (val_main_v63_eq m' c).symm),
    e2.trans (dg_array e), e3.trans (db_array e), e4.trans ((ds_array e r).trans (val_main_v65_eq m' c).symm), k⟩

end Cert.Kernel21Ideal.Norm
end
-- ==== Proof.Ffn.lean ====
module

public import proofs.«01_k».proof.Defs
public import proofs.«01_k».proof.Proof.Gen.Kernel20.Frame
public import proofs.«01_k».proof.Proof.Gen.Kernel20Ideal.Value
public import proofs.«01_k».proof.Proof.Gen.Reference20Ideal.Read
public import proofs.«01_k».proof.Proof.Rows
public import Idealize.ShloMosaic.PureOps.Ideal.Laws

@[expose] public section

set_option maxRecDepth 16384

noncomputable section

/-! # The launch `ffn_up_conv_f`: the feed-forward's first product, its convolution over the rows and its gate -/

namespace Cert.Kernel20Ideal.Ffn

open Idealize.ShloMosaic Idealize.ShloMosaic.TcCoe Idealize.SL.Sem
open Cert.Kernel20Ideal Cert.Kernel20Ideal.Gen Cert.Reference20Ideal.Read Cert.Rows

variable (m : (ℓ : Loc nD τ sig) → Buf (Elt Ideal) ℓ) (c : Dev nD)

/-- A chunk of the product on a tile's rows and the sixteen before and after, zero outside of the array. -/
def wide (i : grid0.Coords) (p : Vec Ideal S16x1024 .bf16) (x : Vec Ideal S256x1024 .bf16) (n : Vec Ideal S16x1024 .bf16)
    (w : Vec Ideal S1024x256 .bf16) (b : Vec Ideal S1x256 .f32) : FVec Ideal S288x256 .f32 :=
  k0_pay8 (F := Ideal) (k0_pay5 (F := Ideal) i p n x w b) (k0_pay6 i) (k0_pay7 (F := Ideal))

/-- A chunk of the result: the convolution's nonlinearity times the gate. -/
def act (i : grid0.Coords) (p : Vec Ideal S16x1024 .bf16) (x : Vec Ideal S256x1024 .bf16) (n : Vec Ideal S16x1024 .bf16)
    (w : Vec Ideal S1024x256 .bf16) (b : Vec Ideal S1x256 .f32) (w' : Vec Ideal S1024x256 .bf16) (b' c0 c1 c2 cb : Vec Ideal S1x256 .f32) :
    FVec Ideal S256x256 .bf16 :=
  k0_pay12 (F := Ideal) (k0_pay11 (F := Ideal) (k0_pay3 (F := Ideal) x) (k0_pay5 (F := Ideal) i p n x w b) (k0_pay6 i) (k0_pay7 (F := Ideal)) w' b' c0 c1 c2 cb)

/-- The nonlinearity. -/
def gelu (x : Ideal .f32) : Ideal .f32 :=
  Ideal.ofBits .f32 0x3F000000#32 * x * (1 + FloatOps.erf (F := Ideal) (φ := .f32) (x * Ideal.ofBits .f32 0x3F3504F3#32))

/-- A chunk of the gates' product. -/
theorem gate_apply (x : Vec Ideal S256x1024 .bf16) (w : Vec Ideal S1024x256 .bf16) (b : Vec Ideal S1x256 .f32) (i j : Fin 256) :
    k0_pay9 (F := Ideal) (k0_pay3 (F := Ideal) x) w b (ix2 i j) = (∑ k : Fin 1024, x (ix2 i k) * w (ix2 k j)) + b (ix2 0 j) := by
  pointwise [k0_pay9, k0_pay3]

/-- The result's chunk, entry by entry, from three rows of the product. -/
theorem act_apply (i : grid0.Coords) (p : Vec Ideal S16x1024 .bf16) (x : Vec Ideal S256x1024 .bf16) (n : Vec Ideal S16x1024 .bf16)
    (w : Vec Ideal S1024x256 .bf16) (b : Vec Ideal S1x256 .f32) (w' : Vec Ideal S1024x256 .bf16) (b' c0 c1 c2 cb : Vec Ideal S1x256 .f32) (r j : Fin 256) :
    act i p x n w b w' b' c0 c1 c2 cb (ix2 r j)
      = gelu (wide i p x n w b (ix2 (⟨15 + r.val, by omega⟩ : Fin 288) j) * c0 (ix2 0 j)
          + wide i p x n w b (ix2 (⟨16 + r.val, by omega⟩ : Fin 288) j) * c1 (ix2 0 j)
          + wide i p x n w b (ix2 (⟨17 + r.val, by omega⟩ : Fin 288) j) * c2 (ix2 0 j) + cb (ix2 0 j))
        * ((∑ k : Fin 1024, x (ix2 r k) * w' (ix2 k j)) + b' (ix2 0 j)) := by
  rw [← gate_apply]
  unfold act k0_pay12 k0_pay11
  rw [show k0_pay8 (F := Ideal) (k0_pay5 (F := Ideal) i p n x w b) (k0_pay6 i) (k0_pay7 (F := Ideal)) = wide i p x n w b from rfl]
  generalize wide i p x n w b = e
  generalize k0_pay9 (F := Ideal) (k0_pay3 (F := Ideal) x) w' b' = g
  pointwise [gelu]
  have e1 : ((16 + r.val + 288 - 1) % 288) = 15 + r.val := by omega
  have e2 : ((16 + r.val + 288 - 287) % 288) = 17 + r.val := by omega
  simp only [e1, e2]

/-- The mask of the rows of the whole array, over all tiles and rows. -/
theorem mask : ∀ (t : Fin 32) (r : Fin 288),
    (Scalar.cmpi .sge (Scalar.addi (Scalar.subi (Scalar.muli (BitVec.ofNat 32 t.val) 256#32) 16#32) (BitVec.ofNat 32 r.val)) 0#32
      &&& Scalar.cmpi .slt (Scalar.addi (Scalar.subi (Scalar.muli (BitVec.ofNat 32 t.val) 256#32) 16#32) (BitVec.ofNat 32 r.val)) 8192#32)
      = if 16 ≤ 256 * t.val + r.val ∧ 256 * t.val + r.val < 8208 then 1#1 else 0#1 := by
  decide +kernel

/-- The mask's entry. -/
theorem inside_apply (i : grid0.Coords) (r : Fin 288) (j : Fin 256) :
    k0_pay6 i (ix2 r j) = if 16 ≤ 256 * (i 0).val + r.val ∧ 256 * (i 0).val + r.val < 8208 then 1#1 else 0#1 := by
  rw [← mask (i 0) r]
  pointwise [k0_pay6, k0_pay4]
  rfl

/-- A row of the product on a tile's rows and the sixteen before and after, zero outside of the array. -/
def line (i : grid0.Coords) (p : Vec Ideal S16x1024 .bf16) (x : Vec Ideal S256x1024 .bf16) (n : Vec Ideal S16x1024 .bf16)
    (w : Vec Ideal S1024x5632 .bf16) (b : Vec Ideal S1x5632 .f32) (r : Fin 288) (j : Fin 5632) : Ideal .f32 :=
  if 16 ≤ 256 * (i 0).val + r.val ∧ 256 * (i 0).val + r.val < 8208 then
    (∑ k : Fin 1024, k0_pay2 (F := Ideal) i p n x (ix2 r k) * w (ix2 k j)) + b (ix2 0 j) else 0

/-- A chunk's entry is the row's. -/
theorem wide_apply (i : grid0.Coords) (p : Vec Ideal S16x1024 .bf16) (x : Vec Ideal S256x1024 .bf16) (n : Vec Ideal S16x1024 .bf16)
    (w : Vec Ideal S1024x5632 .bf16) (b : Vec Ideal S1x5632 .f32) (o : ℕ) (b1 b2) (r : Fin 288) (l : Fin 256) (j : Fin 5632) (hj : j.val = o + l.val) :
    wide i p x n (View.ld w (Rect.unit (s := S1024x5632) ![0, o] S1024x256.size b1)) (View.ld b (Rect.unit (s := S1x5632) ![0, o] S1x256.size b2)) (ix2 r l)
      = line i p x n w b r j := by
  have hw (k : Fin 1024) : View.ld w (Rect.unit (s := S1024x5632) ![0, o] S1024x256.size b1) (ix2 k l) = w (ix2 k j) :=
    ld_at _ _ _ _ _ _ _ _ (Nat.zero_add _).symm hj
  have hb : View.ld b (Rect.unit (s := S1x5632) ![0, o] S1x256.size b2) (ix2 0 l) = b (ix2 0 j) :=
    ld_at _ _ _ _ _ _ _ _ (Nat.zero_add _).symm hj
  generalize View.ld w (Rect.unit (s := S1024x5632) ![0, o] S1024x256.size b1) = w' at hw ⊢
  generalize View.ld b (Rect.unit (s := S1x5632) ![0, o] S1x256.size b2) = b' at hb ⊢
  have hi := inside_apply i r l
  unfold wide line
  generalize k0_pay6 i = q at hi ⊢
  simp only [k0_pay5]
  generalize k0_pay2 (F := Ideal) i p n x = y
  pointwise [k0_pay8, k0_pay7]
  rw [hi]
  simp only [hw, hb]
  split_ifs <;> rfl

/-- The result's entry at a point, of the blocks. -/
def entry (i : grid0.Coords) (p : Vec Ideal S16x1024 .bf16) (x : Vec Ideal S256x1024 .bf16) (n : Vec Ideal S16x1024 .bf16)
    (w : Vec Ideal S1024x5632 .bf16) (b : Vec Ideal S1x5632 .f32) (cw : Vec Ideal S3x2816 .f32) (cb : Vec Ideal S1x2816 .f32)
    (r : Fin 256) (j : Fin 2816) : Ideal .bf16 :=
  gelu (line i p x n w b (⟨15 + r.val, by omega⟩ : Fin 288) (⟨j.val, by omega⟩ : Fin 5632) * cw (ix2 0 j)
      + line i p x n w b (⟨16 + r.val, by omega⟩ : Fin 288) (⟨j.val, by omega⟩ : Fin 5632) * cw (ix2 1 j)
      + line i p x n w b (⟨17 + r.val, by omega⟩ : Fin 288) (⟨j.val, by omega⟩ : Fin 5632) * cw (ix2 2 j) + cb (ix2 0 j))
    * ((∑ k : Fin 1024, x (ix2 r k) * w (ix2 k (⟨2816 + j.val, by omega⟩ : Fin 5632))) + b (ix2 0 (⟨2816 + j.val, by omega⟩ : Fin 5632)))

/-- A chunk of the result, read off the blocks. -/
theorem piece (i : grid0.Coords) (p : Vec Ideal S16x1024 .bf16) (x : Vec Ideal S256x1024 .bf16) (n : Vec Ideal S16x1024 .bf16)
    (w : Vec Ideal S1024x5632 .bf16) (b : Vec Ideal S1x5632 .f32) (cw : Vec Ideal S3x2816 .f32) (cb : Vec Ideal S1x2816 .f32)
    (o o' : ℕ) (b1 b2 b3 b4 b5 b6 b7 b8) (r l : Fin 256) (j : Fin 2816) (hj : j.val = o + l.val) (ho : o' = 2816 + o) :
    act i (View.ld p r0_0) (View.ld x r0_1) (View.ld n r0_0)
        (View.ld w (Rect.unit (s := S1024x5632) ![0, o] S1024x256.size b1)) (View.ld b (Rect.unit (s := S1x5632) ![0, o] S1x256.size b2))
        (View.ld w (Rect.unit (s := S1024x5632) ![0, o'] S1024x256.size b3)) (View.ld b (Rect.unit (s := S1x5632) ![0, o'] S1x256.size b4))
        (View.ld cw (Rect.unit (s := S3x2816) ![0, o] S1x256.size b5)) (View.ld cw (Rect.unit (s := S3x2816) ![1, o] S1x256.size b6))
        (View.ld cw (Rect.unit (s := S3x2816) ![2, o] S1x256.size b7)) (View.ld cb (Rect.unit (s := S1x2816) ![0, o] S1x256.size b8)) (ix2 r l)
      = entry i p x n w b cw cb r j := by
  rw [show View.ld p r0_0 = p from ld_all _ _, show View.ld x r0_1 = x from ld_all _ _, show View.ld n r0_0 = n from ld_all _ _, act_apply]
  have hl : (⟨2816 + j.val, by omega⟩ : Fin 5632).val = o' + l.val := by show 2816 + j.val = _; omega
  rw [wide_apply i p x n w b o b1 b2 _ l (⟨j.val, by omega⟩ : Fin 5632) hj, wide_apply i p x n w b o b1 b2 _ l (⟨j.val, by omega⟩ : Fin 5632) hj,
    wide_apply i p x n w b o b1 b2 _ l (⟨j.val, by omega⟩ : Fin 5632) hj]
  refine congrArg₂ (· * ·) (congrArg gelu (congrArg₂ (· + ·) (congrArg₂ (· + ·) (congrArg₂ (· + ·) (congrArg₂ (· * ·) rfl ?_) (congrArg₂ (· * ·) rfl ?_))
    (congrArg₂ (· * ·) rfl ?_)) ?_)) (congrArg₂ (· + ·) (Finset.sum_congr rfl fun k _ => congrArg₂ (· * ·) rfl ?_) ?_)
  · exact ld_at _ _ _ _ _ _ _ _ rfl hj
  · exact ld_at _ _ _ _ _ _ _ _ rfl hj
  · exact ld_at _ _ _ _ _ _ _ _ rfl hj
  · exact ld_at _ _ _ _ _ _ _ _ rfl hj
  · exact ld_at _ _ _ _ _ _ _ _ (Nat.zero_add _).symm hl
  · exact ld_at _ _ _ _ _ _ _ _ rfl hl

/-- Eleven chunks of 256 columns side by side. -/
theorem chunks8 (p0 p1 p2 p3 p4 p5 p6 p7 p8 p9 p10 : Vec Ideal S256x256 .bf16) (g : Fin 256 → Fin 2816 → Ideal .bf16)
    (q0 : ∀ (a l : Fin 256) (j : Fin 2816), j.val = 2560 + l.val → p0 (ix2 a l) = g a j)
    (q1 : ∀ (a l : Fin 256) (j : Fin 2816), j.val = 2304 + l.val → p1 (ix2 a l) = g a j)
    (q2 : ∀ (a l : Fin 256) (j : Fin 2816), j.val = 2048 + l.val → p2 (ix2 a l) = g a j)
    (q3 : ∀ (a l : Fin 256) (j : Fin 2816), j.val = 1792 + l.val → p3 (ix2 a l) = g a j)
    (q4 : ∀ (a l : Fin 256) (j : Fin 2816), j.val = 1536 + l.val → p4 (ix2 a l) = g a j)
    (q5 : ∀ (a l : Fin 256) (j : Fin 2816), j.val = 1280 + l.val → p5 (ix2 a l) = g a j)
    (q6 : ∀ (a l : Fin 256) (j : Fin 2816), j.val = 1024 + l.val → p6 (ix2 a l) = g a j)
    (q7 : ∀ (a l : Fin 256) (j : Fin 2816), j.val = 768 + l.val → p7 (ix2 a l) = g a j)
    (q8 : ∀ (a l : Fin 256) (j : Fin 2816), j.val = 512 + l.val → p8 (ix2 a l) = g a j)
    (q9 : ∀ (a l : Fin 256) (j : Fin 2816), j.val = 256 + l.val → p9 (ix2 a l) = g a j)
    (q10 : ∀ (a l : Fin 256) (j : Fin 2816), j.val = 0 + l.val → p10 (ix2 a l) = g a j)
    (r : Fin 256) (j : Fin 2816) :
    View.canon ([⟨r0_122, p0⟩, ⟨r0_111, p1⟩, ⟨r0_100, p2⟩, ⟨r0_89, p3⟩, ⟨r0_78, p4⟩, ⟨r0_67, p5⟩, ⟨r0_56, p6⟩, ⟨r0_45, p7⟩, ⟨r0_34, p8⟩, ⟨r0_23, p9⟩, ⟨r0_12, p10⟩]
      : List (View.Piece (Elt Ideal) S256x2816 .bf16)) (ix2 r j) = g r j := by
  canon_tiles y h
  all_goals
    obtain ⟨a, l, rfl⟩ := eta2 y
    refine Eq.trans (b := g a j) ?_ (congrArg (g · j) (Fin.ext h0.symm))
    first
    | exact q0 a l j h1
    | exact q1 a l j h1
    | exact q2 a l j h1
    | exact q3 a l j h1
    | exact q4 a l j h1
    | exact q5 a l j h1
    | exact q6 a l j h1
    | exact q7 a l j h1
    | exact q8 a l j h1
    | exact q9 a l j h1
    | exact q10 a l j (h1.trans (Nat.zero_add _).symm)

/-- The result at a point. -/
theorem out8_apply (i : grid0.Coords) (p : Vec Ideal S16x1024 .bf16) (x : Vec Ideal S256x1024 .bf16) (n : Vec Ideal S16x1024 .bf16)
    (w : Vec Ideal S1024x5632 .bf16) (b : Vec Ideal S1x5632 .f32) (cw : Vec Ideal S3x2816 .f32) (cb : Vec Ideal S1x2816 .f32) (r : Fin 256) (j : Fin 2816) :
    out0_8 (F := Ideal) i p x n w b cw cb (ix2 r j) = entry i p x n w b cw cb r j := by
  refine chunks8 _ _ _ _ _ _ _ _ _ _ _ (entry i p x n w b cw cb) ?_ ?_ ?_ ?_ ?_ ?_ ?_ ?_ ?_ ?_ ?_ r j
  all_goals
    intro a l j h
    exact (show _ = act i (View.ld p r0_0) (View.ld x r0_1) (View.ld n r0_0) _ _ _ _ _ _ _ _ (ix2 a l) from rfl).trans
      (piece i p x n w b cw cb _ _ _ _ _ _ _ _ _ _ a l j h rfl)

/-- Twenty-two chunks of 256 columns side by side. -/
theorem chunks7 (p0 p1 p2 p3 p4 p5 p6 p7 p8 p9 p10 p11 p12 p13 p14 p15 p16 p17 p18 p19 p20 p21 : Vec Ideal S256x256 .f32)
    (g : Fin 256 → Fin 5632 → Ideal .f32)
    (q0 : ∀ (a l : Fin 256) (j : Fin 5632), j.val = 5376 + l.val → p0 (ix2 a l) = g a j)
    (q1 : ∀ (a l : Fin 256) (j : Fin 5632), j.val = 2560 + l.val → p1 (ix2 a l) = g a j)
    (q2 : ∀ (a l : Fin 256) (j : Fin 5632), j.val = 5120 + l.val → p2 (ix2 a l) = g a j)
    (q3 : ∀ (a l : Fin 256) (j : Fin 5632), j.val = 2304 + l.val → p3 (ix2 a l) = g a j)
    (q4 : ∀ (a l : Fin 256) (j : Fin 5632), j.val = 4864 + l.val → p4 (ix2 a l) = g a j)
    (q5 : ∀ (a l : Fin 256) (j : Fin 5632), j.val = 2048 + l.val → p5 (ix2 a l) = g a j)
    (q6 : ∀ (a l : Fin 256) (j : Fin 5632), j.val = 4608 + l.val → p6 (ix2 a l) = g a j)
    (q7 : ∀ (a l : Fin 256) (j : Fin 5632), j.val = 1792 + l.val → p7 (ix2 a l) = g a j)
    (q8 : ∀ (a l : Fin 256) (j : Fin 5632), j.val = 4352 + l.val → p8 (ix2 a l) = g a j)
    (q9 : ∀ (a l : Fin 256) (j : Fin 5632), j.val = 1536 + l.val → p9 (ix2 a l) = g a j)
    (q10 : ∀ (a l : Fin 256) (j : Fin 5632), j.val = 4096 + l.val → p10 (ix2 a l) = g a j)
    (q11 : ∀ (a l : Fin 256) (j : Fin 5632), j.val = 1280 + l.val → p11 (ix2 a l) = g a j)
    (q12 : ∀ (a l : Fin 256) (j : Fin 5632), j.val = 3840 + l.val → p12 (ix2 a l) = g a j)
    (q13 : ∀ (a l : Fin 256) (j : Fin 5632), j.val = 1024 + l.val → p13 (ix2 a l) = g a j)
    (q14 : ∀ (a l : Fin 256) (j : Fin 5632), j.val = 3584 + l.val → p14 (ix2 a l) = g a j)
    (q15 : ∀ (a l : Fin 256) (j : Fin 5632), j.val = 768 + l.val → p15 (ix2 a l) = g a j)
    (q16 : ∀ (a l : Fin 256) (j : Fin 5632), j.val = 3328 + l.val → p16 (ix2 a l) = g a j)
    (q17 : ∀ (a l : Fin 256) (j : Fin 5632), j.val = 512 + l.val → p17 (ix2 a l) = g a j)
    (q18 : ∀ (a l : Fin 256) (j : Fin 5632), j.val = 3072 + l.val → p18 (ix2 a l) = g a j)
    (q19 : ∀ (a l : Fin 256) (j : Fin 5632), j.val = 256 + l.val → p19 (ix2 a l) = g a j)
    (q20 : ∀ (a l : Fin 256) (j : Fin 5632), j.val = 2816 + l.val → p20 (ix2 a l) = g a j)
    (q21 : ∀ (a l : Fin 256) (j : Fin 5632), j.val = 0 + l.val → p21 (ix2 a l) = g a j)
    (r : Fin 256) (j : Fin 5632) :
    View.canon ([⟨r0_117, p0⟩, ⟨r0_116, p1⟩, ⟨r0_106, p2⟩, ⟨r0_105, p3⟩, ⟨r0_95, p4⟩, ⟨r0_94, p5⟩, ⟨r0_84, p6⟩, ⟨r0_83, p7⟩, ⟨r0_73, p8⟩, ⟨r0_72, p9⟩, ⟨r0_62, p10⟩, ⟨r0_61, p11⟩, ⟨r0_51, p12⟩, ⟨r0_50, p13⟩, ⟨r0_40, p14⟩, ⟨r0_39, p15⟩, ⟨r0_29, p16⟩, ⟨r0_28, p17⟩, ⟨r0_18, p18⟩, ⟨r0_17, p19⟩, ⟨r0_7, p20⟩, ⟨r0_6, p21⟩]
      : List (View.Piece (Elt Ideal) S256x5632 .f32)) (ix2 r j) = g r j := by
  canon_tiles y h
  all_goals
    obtain ⟨a, l, rfl⟩ := eta2 y
    refine Eq.trans (b := g a j) ?_ (congrArg (g · j) (Fin.ext h0.symm))
    first
    | exact q0 a l j h1
    | exact q1 a l j h1
    | exact q2 a l j h1
    | exact q3 a l j h1
    | exact q4 a l j h1
    | exact q5 a l j h1
    | exact q6 a l j h1
    | exact q7 a l j h1
    | exact q8 a l j h1
    | exact q9 a l j h1
    | exact q10 a l j h1
    | exact q11 a l j h1
    | exact q12 a l j h1
    | exact q13 a l j h1
    | exact q14 a l j h1
    | exact q15 a l j h1
    | exact q16 a l j h1
    | exact q17 a l j h1
    | exact q18 a l j h1
    | exact q19 a l j h1
    | exact q20 a l j h1
    | exact q21 a l j (h1.trans (Nat.zero_add _).symm)

/-- A chunk of the first half of the product. -/
def left (i : grid0.Coords) (p : Vec Ideal S16x1024 .bf16) (x : Vec Ideal S256x1024 .bf16) (n : Vec Ideal S16x1024 .bf16)
    (w : Vec Ideal S1024x256 .bf16) (b : Vec Ideal S1x256 .f32) : FVec Ideal S256x256 .f32 :=
  k0_pay10 (F := Ideal) (k0_pay5 (F := Ideal) i p n x w b) (k0_pay6 i) (k0_pay7 (F := Ideal))

/-- It is the rows of the wider chunk that are the tile's own. -/
theorem left_apply (i : grid0.Coords) (p : Vec Ideal S16x1024 .bf16) (x : Vec Ideal S256x1024 .bf16) (n : Vec Ideal S16x1024 .bf16)
    (w : Vec Ideal S1024x256 .bf16) (b : Vec Ideal S1x256 .f32) (r l : Fin 256) :
    left i p x n w b (ix2 r l) = wide i p x n w b (ix2 (⟨16 + r.val, by omega⟩ : Fin 288) l) := by
  unfold left k0_pay10
  rw [show k0_pay8 (F := Ideal) (k0_pay5 (F := Ideal) i p n x w b) (k0_pay6 i) (k0_pay7 (F := Ideal)) = wide i p x n w b from rfl]
  generalize wide i p x n w b = e
  pointwise []

/-- The first result's entry at a point, of the blocks. -/
def entry7 (i : grid0.Coords) (p : Vec Ideal S16x1024 .bf16) (x : Vec Ideal S256x1024 .bf16) (n : Vec Ideal S16x1024 .bf16)
    (w : Vec Ideal S1024x5632 .bf16) (b : Vec Ideal S1x5632 .f32) (r : Fin 256) (j : Fin 5632) : Ideal .f32 :=
  if j.val < 2816 then line i p x n w b (⟨16 + r.val, by omega⟩ : Fin 288) j else (∑ k : Fin 1024, x (ix2 r k) * w (ix2 k j)) + b (ix2 0 j)

/-- A chunk of the first half, read off the blocks. -/
theorem piece_left (i : grid0.Coords) (p : Vec Ideal S16x1024 .bf16) (x : Vec Ideal S256x1024 .bf16) (n : Vec Ideal S16x1024 .bf16)
    (w : Vec Ideal S1024x5632 .bf16) (b : Vec Ideal S1x5632 .f32) (o : ℕ) (b1 b2) (r l : Fin 256) (j : Fin 5632) (hj : j.val = o + l.val) (ho : o + 256 ≤ 2816) :
    left i (View.ld p r0_0) (View.ld x r0_1) (View.ld n r0_0)
        (View.ld w (Rect.unit (s := S1024x5632) ![0, o] S1024x256.size b1)) (View.ld b (Rect.unit (s := S1x5632) ![0, o] S1x256.size b2)) (ix2 r l)
      = entry7 i p x n w b r j := by
  rw [show View.ld p r0_0 = p from ld_all _ _, show View.ld x r0_1 = x from ld_all _ _, show View.ld n r0_0 = n from ld_all _ _, left_apply,
    wide_apply i p x n w b o b1 b2 _ l j hj]
  exact (if_pos (by omega)).symm

/-- A chunk of the gates, read off the blocks. -/
theorem piece_gate (i : grid0.Coords) (p : Vec Ideal S16x1024 .bf16) (x : Vec Ideal S256x1024 .bf16) (n : Vec Ideal S16x1024 .bf16)
    (w : Vec Ideal S1024x5632 .bf16) (b : Vec Ideal S1x5632 .f32) (o : ℕ) (b1 b2) (r l : Fin 256) (j : Fin 5632) (hj : j.val = o + l.val) (ho : 2816 ≤ o) :
    k0_pay9 (F := Ideal) (k0_pay3 (F := Ideal) (View.ld x r0_1)) (View.ld w (Rect.unit (s := S1024x5632) ![0, o] S1024x256.size b1))
        (View.ld b (Rect.unit (s := S1x5632) ![0, o] S1x256.size b2)) (ix2 r l)
      = entry7 i p x n w b r j := by
  rw [show View.ld x r0_1 = x from ld_all _ _, gate_apply]
  refine Eq.trans ?_ (if_neg (by omega)).symm
  refine congrArg₂ (· + ·) (Finset.sum_congr rfl fun k _ => congrArg₂ (· * ·) rfl ?_) ?_
  all_goals exact ld_at _ _ _ _ _ _ _ _ (Nat.zero_add _).symm hj

/-- The first result at a point. -/
theorem out7_apply (i : grid0.Coords) (p : Vec Ideal S16x1024 .bf16) (x : Vec Ideal S256x1024 .bf16) (n : Vec Ideal S16x1024 .bf16)
    (w : Vec Ideal S1024x5632 .bf16) (b : Vec Ideal S1x5632 .f32) (cw : Vec Ideal S3x2816 .f32) (cb : Vec Ideal S1x2816 .f32) (r : Fin 256) (j : Fin 5632) :
    out0_7 (F := Ideal) i p x n w b cw cb (ix2 r j) = entry7 i p x n w b r j := by
  refine chunks7 _ _ _ _ _ _ _ _ _ _ _ _ _ _ _ _ _ _ _ _ _ _ (entry7 i p x n w b) ?_ ?_ ?_ ?_ ?_ ?_ ?_ ?_ ?_ ?_ ?_ ?_ ?_ ?_ ?_ ?_ ?_ ?_ ?_ ?_ ?_ ?_ r j
  all_goals
    intro a l j h
    first
    | exact (show _ = k0_pay9 (F := Ideal) (k0_pay3 (F := Ideal) (View.ld x r0_1)) _ _ (ix2 a l) from rfl).trans
        (piece_gate i p x n w b _ _ _ a l j h (by decide))
    | exact (show _ = left i (View.ld p r0_0) (View.ld x r0_1) (View.ld n r0_0) _ _ (ix2 a l) from rfl).trans
        (piece_left i p x n w b _ _ _ a l j h (by decide))

/-- The tile's own rows in the wider block. -/
theorem ext_mid (i : grid0.Coords) (p : Vec Ideal S16x1024 .bf16) (x : Vec Ideal S256x1024 .bf16) (n : Vec Ideal S16x1024 .bf16)
    (r : Fin 288) (a : Fin 256) (h : r.val = 16 + a.val) (k : Fin 1024) : k0_pay2 (F := Ideal) i p n x (ix2 r k) = x (ix2 a k) := by
  pointwise [k0_pay2]
  rw [dif_neg (show ¬ r.val < 16 by omega), dif_pos (show r.val - 16 < 256 by omega)]
  exact congrArg (fun a : Fin 256 => x (ix2 a k)) (Fin.ext (by show r.val - 16 = _; omega))

/-- The row before them. -/
theorem ext_before (i : grid0.Coords) (p : Vec Ideal S16x1024 .bf16) (x : Vec Ideal S256x1024 .bf16) (n : Vec Ideal S16x1024 .bf16)
    (r : Fin 288) (a : Fin 16) (h : r.val = a.val) (hi : (i 0).val ≠ 0) (k : Fin 1024) : k0_pay2 (F := Ideal) i p n x (ix2 r k) = p (ix2 a k) := by
  have e : Scalar.cmpi .eq (BitVec.ofNat 32 (i 0).val) 0#32 = 0#1 :=
    (by decide +kernel : ∀ t : Fin 32, t.val ≠ 0 → Scalar.cmpi .eq (BitVec.ofNat 32 t.val) 0#32 = 0#1) (i 0) hi
  pointwise [k0_pay2]
  rw [dif_pos (show r.val < 16 by omega), e]
  exact congrArg (fun a : Fin 16 => p (ix2 a k)) (Fin.ext h)

/-- The row after them. -/
theorem ext_after (i : grid0.Coords) (p : Vec Ideal S16x1024 .bf16) (x : Vec Ideal S256x1024 .bf16) (n : Vec Ideal S16x1024 .bf16)
    (r : Fin 288) (a : Fin 16) (h : r.val = 272 + a.val) (hi : (i 0).val ≠ 31) (k : Fin 1024) : k0_pay2 (F := Ideal) i p n x (ix2 r k) = n (ix2 a k) := by
  have e : Scalar.cmpi .eq (BitVec.ofNat 32 (i 0).val) 31#32 = 0#1 :=
    (by decide +kernel : ∀ t : Fin 32, t.val ≠ 31 → Scalar.cmpi .eq (BitVec.ofNat 32 t.val) 31#32 = 0#1) (i 0) hi
  pointwise [k0_pay2]
  rw [dif_neg (show ¬ r.val < 16 by omega), dif_neg (show ¬ r.val - 16 < 256 by omega), e]
  exact congrArg (fun a : Fin 16 => n (ix2 a k)) (Fin.ext (by show r.val - 16 - 256 = _; omega))

/-- The sixteen rows before a tile. -/
def pBlk (t : Fin cfg0.N) : Vec Ideal S16x1024 .bf16 := iblk m c 0 t

/-- A tile's rows. -/
def xBlk (t : Fin cfg0.N) : Vec Ideal S256x1024 .bf16 := iblk m c 1 t

/-- The sixteen rows after. -/
def nBlk (t : Fin cfg0.N) : Vec Ideal S16x1024 .bf16 := iblk m c 2 t

/-- The weight as every grid point has it. -/
def wBlk (t : Fin cfg0.N) : Vec Ideal S1024x5632 .bf16 := iblk m c 3 t

/-- The bias. -/
def bBlk (t : Fin cfg0.N) : Vec Ideal S1x5632 .f32 := iblk m c 4 t

/-- The convolution's weights. -/
def uBlk (t : Fin cfg0.N) : Vec Ideal S3x2816 .f32 := iblk m c 5 t

/-- The convolution's bias. -/
def vBlk (t : Fin cfg0.N) : Vec Ideal S1x2816 .f32 := iblk m c 6 t

/-- The rows before are the last of sixteen times a point's number. -/
theorem index_0 : ∀ t : Fin cfg0.N, (cfg0.win 0).index t = ![16 * t.val - 1, 0] :=
  (by decide +kernel : ∀ t : Fin cfg0.N, (cfg0.win 0).index t = ![16 * t.val - 1, 0])

/-- A point takes the rows of its own number. -/
theorem index_1 : ∀ t : Fin cfg0.N, (cfg0.win 1).index t = ![t.val, 0] :=
  (by decide +kernel : ∀ t : Fin cfg0.N, (cfg0.win 1).index t = ![t.val, 0])

/-- The rows after begin at sixteen times the number of the next point. -/
theorem index_2 : ∀ t : Fin cfg0.N, (cfg0.win 2).index t = ![min (16 * t.val + 16) 511, 0] :=
  (by decide +kernel : ∀ t : Fin cfg0.N, (cfg0.win 2).index t = ![min (16 * t.val + 16) 511, 0])

/-- It takes the whole weight. -/
theorem index_3 : ∀ t : Fin cfg0.N, (cfg0.win 3).index t = ![0, 0] :=
  (by decide +kernel : ∀ t : Fin cfg0.N, (cfg0.win 3).index t = ![0, 0])

/-- The whole bias. -/
theorem index_4 : ∀ t : Fin cfg0.N, (cfg0.win 4).index t = ![0, 0] :=
  (by decide +kernel : ∀ t : Fin cfg0.N, (cfg0.win 4).index t = ![0, 0])

/-- The convolution's weights. -/
theorem index_5 : ∀ t : Fin cfg0.N, (cfg0.win 5).index t = ![0, 0] :=
  (by decide +kernel : ∀ t : Fin cfg0.N, (cfg0.win 5).index t = ![0, 0])

/-- The convolution's bias. -/
theorem index_6 : ∀ t : Fin cfg0.N, (cfg0.win 6).index t = ![0, 0] :=
  (by decide +kernel : ∀ t : Fin cfg0.N, (cfg0.win 6).index t = ![0, 0])

/-- It writes the rows of its own number of the product. -/
theorem index_7 : ∀ t : Fin cfg0.N, (cfg0.win 7).index t = ![t.val, 0] :=
  (by decide +kernel : ∀ t : Fin cfg0.N, (cfg0.win 7).index t = ![t.val, 0])

/-- Those of the second result. -/
theorem index_8 : ∀ t : Fin cfg0.N, (cfg0.win 8).index t = ![t.val, 0] :=
  (by decide +kernel : ∀ t : Fin cfg0.N, (cfg0.win 8).index t = ![t.val, 0])

/-- A point's first coordinate is its number. -/
theorem coords_0 : ∀ t : Fin cfg0.N, (grid0.coords t 0).val = t.val :=
  (by decide +kernel : ∀ t : Fin cfg0.N, (grid0.coords t 0).val = t.val)

/-- The launch finds the rows as the caller gave them. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- And the bias. -/
theorem V_b : V m c main_arg2 = (m ((c : Thread nD τ).loc main_arg2)) := by
  show StableHlo.after hostOps0 (fun b => m (c, b)) _ = _
  simp only [hostOps0]
  after_results_simp

/-- And the convolution's weights. -/
theorem V_u : V m c main_arg3 = (m ((c : Thread nD τ).loc main_arg3)) := by
  show StableHlo.after hostOps0 (fun b => m (c, b)) _ = _
  simp only [hostOps0]
  after_results_simp

/-- And its bias. -/
theorem V_v : V m c main_arg4 = (m ((c : Thread nD τ).loc main_arg4)) := by
  show StableHlo.after hostOps0 (fun b => m (c, b)) _ = _
  simp only [hostOps0]
  after_results_simp

section
variable (x : Vec Ideal S8192x1024 .f32) (w : Vec Ideal S1024x5632 .f32) (b : Vec Ideal S1x5632 .f32) (u : Vec Ideal S3x2816 .f32) (v : Vec Ideal S1x2816 .f32)
  (hx : m ((c : Thread nD τ).loc main_arg0) = x) (hw : m ((c : Thread nD τ).loc main_arg1) = w)
  (hb : m ((c : Thread nD τ).loc main_arg2) = b) (hu : m ((c : Thread nD τ).loc main_arg3) = u)
  (hv : m ((c : Thread nD τ).loc main_arg4) = v)

include hx in
/-- A tile's rows, entry by entry. -/
theorem xBlk_eq (t : Fin cfg0.N) (i : Fin 256) (k : Fin 1024) :
    xBlk m c t (ix2 i k) = x (ix2 ⟨256 * t.val + i.val, by have : t.val < 32 := t.isLt; omega⟩ k) := by
  rw [← hx, ← V_x m c]
  blk_ext [xBlk, iblk, index_1 t]

include hx in
/-- The last of the rows before. -/
theorem pBlk_eq (t : Fin cfg0.N) (h : t.val ≠ 0) (k : Fin 1024) :
    pBlk m c t (ix2 15 k) = x (ix2 ⟨256 * t.val - 1, by have : t.val < 32 := t.isLt; omega⟩ k) := by
  rw [← hx, ← V_x m c]
  blk_ext [pBlk, iblk, index_0 t]

include hx in
/-- The first of the rows after. -/
theorem nBlk_eq (t : Fin cfg0.N) (h : t.val < 31) (k : Fin 1024) :
    nBlk m c t (ix2 0 k) = x (ix2 ⟨256 * t.val + 256, by omega⟩ k) := by
  rw [← hx, ← V_x m c]
  blk_ext [nBlk, iblk, index_2 t]

include hw in
/-- The weight, entry by entry. -/
theorem wBlk_eq (t : Fin cfg0.N) (k : Fin 1024) (j : Fin 5632) : wBlk m c t (ix2 k j) = w (ix2 k j) := by
  rw [← hw, ← V_w m c]
  blk_ext [wBlk, iblk, index_3 t]

include hb in
/-- The bias, entry by entry. -/
theorem bBlk_eq (t : Fin cfg0.N) (j : Fin 5632) : bBlk m c t (ix2 0 j) = b (ix2 0 j) := by
  rw [← hb, ← V_b m c]
  blk_ext [bBlk, iblk, index_4 t]

include hu in
/-- The convolution's weights, entry by entry. -/
theorem uBlk_eq (t : Fin cfg0.N) (i : Fin 3) (j : Fin 2816) : uBlk m c t (ix2 i j) = u (ix2 i j) := by
  rw [← hu, ← V_u m c]
  blk_ext [uBlk, iblk, index_5 t]

include hv in
/-- Its bias, entry by entry. -/
theorem vBlk_eq (t : Fin cfg0.N) (j : Fin 2816) : vBlk m c t (ix2 0 j) = v (ix2 0 j) := by
  rw [← hv, ← V_v m c]
  blk_ext [vBlk, iblk, index_6 t]

/-- The place of a block's entry in the product. -/
theorem emb_7 (t : Fin cfg0.N) (i : Fin 256) (j : Fin 5632) :
    ((cfg0.win 7).blk t).view.emb (ix2 i j) = (ix2 ⟨256 * t.val + i.val, by have : t.val < 32 := t.isLt; omega⟩ j : S8192x5632.Idx) := by
  blk_ext [index_7 t]

/-- The place of a block's entry in the second result. -/
theorem emb_8 (t : Fin cfg0.N) (i : Fin 256) (j : Fin 2816) :
    ((cfg0.win 8).blk t).view.emb (ix2 i j) = (ix2 ⟨256 * t.val + i.val, by have : t.val < 32 := t.isLt; omega⟩ j : S8192x2816.Idx) := by
  blk_ext [index_8 t]

/-- The product with its bias, at an entry. -/
def up (i : Fin 8192) (j : Fin 5632) : Ideal .f32 := (∑ k : Fin 1024, x (ix2 i k) * w (ix2 k j)) + b (ix2 0 j)

/-- The product with a row of zeros before and after. -/
def padded (i : ℕ) (j : Fin 5632) : Ideal .f32 := if h : 1 ≤ i ∧ i < 8193 then up x w b ⟨i - 1, by omega⟩ j else 0

include hx hw hb in
/-- A tile's rows of the product, with the one before and the one after. -/
theorem line_eq (t : Fin cfg0.N) (r : Fin 288) (hr : 15 ≤ r.val) (hr' : r.val ≤ 272) (j : Fin 5632) :
    line (grid0.coords t) (pBlk m c t) (xBlk m c t) (nBlk m c t) (wBlk m c t) (bBlk m c t) r j = padded x w b (256 * t.val + r.val - 15) j := by
  unfold line padded
  have e := coords_0 t
  have ht : t.val < 32 := t.isLt
  by_cases h : 16 ≤ 256 * (grid0.coords t 0).val + r.val ∧ 256 * (grid0.coords t 0).val + r.val < 8208
  · rw [if_pos h, dif_pos (by omega)]
    refine congrArg₂ (· + ·) (Finset.sum_congr rfl fun k _ => congrArg₂ (· * ·) ?_ (wBlk_eq m c w hw t k j)) (bBlk_eq m c b hb t j)
    obtain h1 | h1 | h1 : r.val = 15 ∨ (16 ≤ r.val ∧ r.val < 272) ∨ r.val = 272 := by omega
    · refine (ext_before _ _ _ _ r 15 h1 (by omega) k).trans ((pBlk_eq m c x hx t (by omega) k).trans ?_)
      exact congrArg (fun i : Fin 8192 => x (ix2 i k)) (Fin.ext (by show 256 * t.val - 1 = 256 * t.val + r.val - 15 - 1; omega))
    · refine (ext_mid _ _ _ _ r ⟨r.val - 16, by omega⟩ (by show r.val = 16 + (r.val - 16); omega) k).trans ((xBlk_eq m c x hx t _ k).trans ?_)
      exact congrArg (fun i : Fin 8192 => x (ix2 i k)) (Fin.ext (by show 256 * t.val + (r.val - 16) = 256 * t.val + r.val - 15 - 1; omega))
    · refine (ext_after _ _ _ _ r 0 h1 (by omega) k).trans ((nBlk_eq m c x hx t (by omega) k).trans ?_)
      exact congrArg (fun i : Fin 8192 => x (ix2 i k)) (Fin.ext (by show 256 * t.val + 256 = 256 * t.val + r.val - 15 - 1; omega))
  · rw [if_neg h, dif_neg (by omega)]

/-- The reference's product. -/
theorem ref_up (i : Fin 8192) (j : Fin 5632) : val_main_v2 (F := Ideal) x w b (ix2 i j) = up x w b i j := by
  unfold up
  pointwise [val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

/-- The reference's product with a row of zeros before and after. -/
theorem ref_padded (i : Fin 8194) (j : Fin 2816) : val_main_v6 (F := Ideal) x w b (ix2 i j) = padded x w b i.val ⟨j.val, by omega⟩ := by
  have e (i : Fin 8192) : val_main_v3 (F := Ideal) x w b (ix2 i j) = up x w b i ⟨j.val, by omega⟩ := by
    rw [← ref_up, val_main_v3_apply]
    refine congrArg (val_main_v2 (F := Ideal) x w b) ?_
    funext a
    fin_cases a <;> rfl
  pointwise [val_main_v6, val_main_v5_apply, val_main_cst_apply]
  unfold padded
  by_cases h : 1 ≤ i.val ∧ i.val < 8193
  · rw [dif_neg (show ¬ i.val < 1 by omega), dif_pos (show i.val - 1 < 8192 by omega), dif_pos h, e]
  · rw [dif_neg h]
    by_cases h' : i.val < 1
    · rw [dif_pos h']
    · rw [dif_neg h', dif_neg (show ¬ i.val - 1 < 8192 by omega)]

/-- The reference's second result. -/
theorem ref_out (i : Fin 8192) (j : Fin 2816) :
    val_main_v37 (F := Ideal) x w b u v (ix2 i j)
      = gelu (padded x w b i.val ⟨j.val, by omega⟩ * u (ix2 0 j) + padded x w b (i.val + 1) ⟨j.val, by omega⟩ * u (ix2 1 j)
          + padded x w b (i.val + 2) ⟨j.val, by omega⟩ * u (ix2 2 j) + v (ix2 0 j)) * up x w b i ⟨2816 + j.val, by omega⟩ := by
  have e (i : Fin 8192) (j) : val_main_v37 (F := Ideal) x w b u v (ix2 i j)
    = gelu (val_main_v28 (F := Ideal) x w b u v (ix2 i j)) * val_main_v4 (F := Ideal) x w b (ix2 i j) := by
    pointwise [val_main_v37_apply, val_main_v36_apply, val_main_v35_apply, val_main_v34_apply, val_main_v33_apply, val_main_v32_apply,
      val_main_v31_apply, val_main_v30_apply, val_main_v29_apply, val_main_cst_0_apply, val_main_cst_1_apply]
    generalize val_main_v28 (F := Ideal) x w b u v (ix2 i j) = y
    unfold gelu
    rw [neg_mul, Ideal.erfc_neg, Ideal.erf_def]
  rw [e]
  refine congrArg₂ (· * ·) (congrArg gelu ?_) ?_
  · pointwise [val_main_v28_apply, val_main_v27_apply, val_main_v26_apply, val_main_v25_apply, val_main_v24_apply, val_main_v23_apply, val_main_v22_apply,
      val_main_v21_apply, val_main_v20_apply, val_main_v19_apply, val_main_v18_apply, val_main_v17_apply, val_main_v16_apply, val_main_v15_apply,
      val_main_v14_apply, val_main_v13_apply, val_main_v12_apply, val_main_v11_apply, val_main_v10_apply, val_main_v9_apply, val_main_v8_apply, val_main_v7_apply]
    rw [show idx_main_v7 (ix2 i j) = ix2 (⟨i.val, by omega⟩ : Fin 8194) j from by funext a; fin_cases a <;> rfl,
      show idx_main_v13 (ix2 i j) = ix2 (⟨i.val + 1, by omega⟩ : Fin 8194) j from by
        funext a; fin_cases a; exacts [Fin.ext (Nat.add_comm _ _), rfl],
      show idx_main_v20 (ix2 i j) = ix2 (⟨i.val + 2, by omega⟩ : Fin 8194) j from by
        funext a; fin_cases a; exacts [Fin.ext (Nat.add_comm _ _), rfl],
      show idx_main_v8 (idx_main_v9 (idx_main_v10 (idx_main_v11 (ix2 i j)))) = ix2 0 j from by
        funext a; fin_cases a; exacts [rfl, Fin.ext (Nat.mod_eq_of_lt j.isLt)],
      show idx_main_v14 (idx_main_v15 (idx_main_v16 (idx_main_v17 (ix2 i j)))) = ix2 1 j from by
        funext a; fin_cases a; exacts [rfl, Fin.ext (Nat.mod_eq_of_lt j.isLt)],
      show idx_main_v21 (idx_main_v22 (idx_main_v23 (idx_main_v24 (ix2 i j)))) = ix2 2 j from by
        funext a; fin_cases a; exacts [rfl, Fin.ext (Nat.mod_eq_of_lt j.isLt)],
      show idx_main_v27 (ix2 i j) = ix2 0 j from by funext a; fin_cases a <;> rfl, ref_padded, ref_padded, ref_padded]
  · rw [← ref_up, val_main_v4_apply]
    refine congrArg (val_main_v2 (F := Ideal) x w b) ?_
    funext a
    fin_cases a <;> rfl

include hx hw hb in
/-- The product on a tile's own rows. -/
theorem own_eq (t : Fin cfg0.N) (i : Fin 256) (j : Fin 5632) :
    (∑ k : Fin 1024, xBlk m c t (ix2 i k) * wBlk m c t (ix2 k j)) + bBlk m c t (ix2 0 j)
      = up x w b ⟨256 * t.val + i.val, by have : t.val < 32 := t.isLt; omega⟩ j :=
  congrArg₂ (· + ·) (Finset.sum_congr rfl fun k _ => congrArg₂ (· * ·) (xBlk_eq m c x hx t i k) (wBlk_eq m c w hw t k j)) (bBlk_eq m c b hb t j)

/-- Inside of the array the padded product is the product. -/
theorem padded_inside (i : Fin 8192) (n : ℕ) (h : n = i.val + 1) (j : Fin 5632) : padded x w b n j = up x w b i j := by
  subst h
  unfold padded
  rw [dif_pos (by omega)]
  rfl

include hx hw hb in
/-- The launch's product is the reference's. -/
theorem up_array : (dats m 0 c).arrAt 7 cfg0.N = (val_main_v2 (F := Ideal) x w b : (⟨S8192x5632, .f32⟩ : BufTy).Contents (Elt Ideal)) := by
  refine (dats m 0 c).arrAt_eq_of_covers 7 _ (by decide +kernel) fun t hf y => ?_
  refine (show _ = (dats m 0 c).flushed 7 t y from rfl).trans ((congrFun (Value.flushed7 m c t) y).trans ?_)
  obtain ⟨i, j, rfl⟩ := eta2 (a := 256) (b := 5632) y
  refine (show _ = out0_7 (F := Ideal) (grid0.coords t) (pBlk m c t) (xBlk m c t) (nBlk m c t) (wBlk m c t) (bBlk m c t) (uBlk m c t) (vBlk m c t) (ix2 i j)
    from rfl).trans ((out7_apply _ _ _ _ _ _ _ _ i j).trans ?_)
  rw [emb_7 t i j, ref_up]
  unfold entry7
  split
  · rw [line_eq m c x w b hx hw hb t _ (by show 15 ≤ 16 + i.val; omega) (by show 16 + i.val ≤ 272; omega)]
    exact padded_inside x w b _ _ (by show 256 * t.val + (16 + i.val) - 15 = 256 * t.val + i.val + 1; omega) j
  · exact own_eq m c x w b hx hw hb t i j

include hx hw hb hu hv in
/-- The launch's gated activation is the reference's. -/
theorem out_array : (dats m 0 c).arrAt 8 cfg0.N = (val_main_v37 (F := Ideal) x w b u v : (⟨S8192x2816, .bf16⟩ : BufTy).Contents (Elt Ideal)) := by
  refine (dats m 0 c).arrAt_eq_of_covers 8 _ (by decide +kernel) fun t hf y => ?_
  refine (show _ = (dats m 0 c).flushed 8 t y from rfl).trans ((congrFun (Value.flushed8 m c t) y).trans ?_)
  obtain ⟨i, j, rfl⟩ := eta2 (a := 256) (b := 2816) y
  refine (show _ = out0_8 (F := Ideal) (grid0.coords t) (pBlk m c t) (xBlk m c t) (nBlk m c t) (wBlk m c t) (bBlk m c t) (uBlk m c t) (vBlk m c t) (ix2 i j)
    from rfl).trans ((out8_apply _ _ _ _ _ _ _ _ i j).trans ?_)
  rw [emb_8 t i j, ref_out]
  unfold entry
  rw [line_eq m c x w b hx hw hb t _ (by show 15 ≤ 15 + i.val; omega) (by show 15 + i.val ≤ 272; omega),
    line_eq m c x w b hx hw hb t _ (by show 15 ≤ 16 + i.val; omega) (by show 16 + i.val ≤ 272; omega),
    line_eq m c x w b hx hw hb t _ (by show 15 ≤ 17 + i.val; omega) (by show 17 + i.val ≤ 272; omega),
    own_eq m c x w b hx hw hb t i, uBlk_eq m c u hu, uBlk_eq m c u hu, uBlk_eq m c u hu, vBlk_eq m c v hv,
    show 256 * t.val + (15 + i.val) - 15 = 256 * t.val + i.val by omega,
    show 256 * t.val + (16 + i.val) - 15 = 256 * t.val + i.val + 1 by omega,
    show 256 * t.val + (17 + i.val) - 15 = 256 * t.val + i.val + 2 by omega]

end

/-- The launch ends with its arguments as it found them. -/
theorem frame_kernel : Cert.quiescent_Kernel20 := fun m ρ _ => Cert.Kernel20.Gen.frame m ρ

/-- So does the launch read over the extended reals. -/
theorem frame_ideal : Cert.quiescent_Kernel20Ideal := fun m ρ _ => Cert.Kernel20Ideal.Gen.frame m ρ

/-- So does its reference. -/
theorem frame_reference : Cert.quiescent_Reference20Ideal := fun m ρ _ =>
  (θ_run Cert.Reference20Ideal.defs _ _).mono (fun r h => ⟨fun c => (h c).2.2, sem_eq_zero_of_no_sems (by decide) r.2⟩)
    (Cert.Reference20Ideal.Value.run (F := Ideal) m ρ)

/-- The launch's product and gated activation are the reference's. -/
theorem algebraic : Cert.algebraic_Kernel20Ideal_Reference20Ideal := by
  intro m ρ m' ρ' _ hm
  refine ⟨fun c => val_main_v2 (F := Ideal) (m' ((c.tc : Thread _ _).loc Cert.Reference20Ideal.main_arg0))
      (m' ((c.tc : Thread _ _).loc Cert.Reference20Ideal.main_arg1)) (m' ((c.tc : Thread _ _).loc Cert.Reference20Ideal.main_arg2)),
    fun c => val_main_v37 (F := Ideal) (m' ((c.tc : Thread _ _).loc Cert.Reference20Ideal.main_arg0))
      (m' ((c.tc : Thread _ _).loc Cert.Reference20Ideal.main_arg1)) (m' ((c.tc : Thread _ _).loc Cert.Reference20Ideal.main_arg2))
      (m' ((c.tc : Thread _ _).loc Cert.Reference20Ideal.main_arg3)) (m' ((c.tc : Thread _ _).loc Cert.Reference20Ideal.main_arg4)), ?_,
    (θ_run Cert.Reference20Ideal.defs _ _).mono (fun r h c => ⟨(h c).1.trans (val_main_v2_eq _ _ _),
      (h c).2.1.trans (val_main_v37_eq _ _), (h c).2.2⟩)
      (Cert.Reference20Ideal.Value.run (F := Ideal) m' ρ')⟩
  refine (θ_run Cert.Kernel20Ideal.defs _ _).mono (fun r h c => ?_) (Cert.Kernel20Ideal.Value.run_blocks (F := Ideal) m ρ)
  obtain ⟨e0, e1, k⟩ := h c
  obtain ⟨m0, m1, m2, m3, m4⟩ := hm c
  exact ⟨e0.trans (up_array m c _ _ _ m0.symm m1.symm m2.symm), e1.trans (out_array m c _ _ _ _ _ m0.symm m1.symm m2.symm m3.symm m4.symm), k⟩

end Cert.Kernel20Ideal.Ffn
end
-- ==== Proof.Adam.lean ====
module

public import proofs.«01_k».proof.Defs
public import proofs.«01_k».proof.Proof.Gen.Kernel19.Frame
public import proofs.«01_k».proof.Proof.Gen.Kernel19Ideal.Value
public import proofs.«01_k».proof.Proof.Gen.Reference19Ideal.Read
public import proofs.«01_k».proof.Proof.Rows

@[expose] public section

set_option maxRecDepth 16384

noncomputable section

/-! # The launch `adamw_small`: one AdamW step of the packed small weights -/

namespace Cert.Kernel19Ideal.Adam

open Idealize.ShloMosaic Idealize.ShloMosaic.TcCoe Idealize.SL.Sem
open Cert.Kernel19Ideal Cert.Kernel19Ideal.Gen Cert.Reference19Ideal.Read

variable (w g a b : Vec Ideal S224x128 .f32)

/-- What the weights change by is the reference's. -/
theorem delta_eq : Value.G4 (F := Ideal) w g a b = val_main_v23 (F := Ideal) w g a b := rfl

/-- So is the new first moment. -/
theorem first_eq : Value.G5 (F := Ideal) g a = val_main_v4 (F := Ideal) g a := rfl

/-- So is the new second moment. -/
theorem second_eq : Value.G6 (F := Ideal) g b = val_main_v10 (F := Ideal) g b := rfl

/-- The launch ends with its arguments as it found them. -/
theorem frame_kernel : Cert.quiescent_Kernel19 := fun m ρ _ => Cert.Kernel19.Gen.frame m ρ

/-- So does the launch read over the extended reals. -/
theorem frame_ideal : Cert.quiescent_Kernel19Ideal := fun m ρ _ => Cert.Kernel19Ideal.Gen.frame m ρ

/-- So does its reference. -/
theorem frame_reference : Cert.quiescent_Reference19Ideal := fun m ρ _ =>
  (θ_run Cert.Reference19Ideal.defs _ _).mono (fun r h => ⟨fun c => (h c).2.2.2, sem_eq_zero_of_no_sems (by decide) r.2⟩)
    (Cert.Reference19Ideal.Value.run (F := Ideal) m ρ)

/-- The launch's three results are the reference's. -/
theorem algebraic : Cert.algebraic_Kernel19Ideal_Reference19Ideal := by
  intro m ρ m' ρ' _ hm
  refine ⟨fun c => val_main_v23 (F := Ideal) (m' ((c.tc : Thread _ _).loc Cert.Reference19Ideal.main_arg0))
      (m' ((c.tc : Thread _ _).loc Cert.Reference19Ideal.main_arg1)) (m' ((c.tc : Thread _ _).loc Cert.Reference19Ideal.main_arg2))
      (m' ((c.tc : Thread _ _).loc Cert.Reference19Ideal.main_arg3)),
    fun c => val_main_v4 (F := Ideal) (m' ((c.tc : Thread _ _).loc Cert.Reference19Ideal.main_arg1))
      (m' ((c.tc : Thread _ _).loc Cert.Reference19Ideal.main_arg2)),
    fun c => val_main_v10 (F := Ideal) (m' ((c.tc : Thread _ _).loc Cert.Reference19Ideal.main_arg1))
      (m' ((c.tc : Thread _ _).loc Cert.Reference19Ideal.main_arg3)), ?_,
    (θ_run Cert.Reference19Ideal.defs _ _).mono (fun r h c => ⟨(h c).1.trans (val_main_v23_eq _ _ _ _),
      (h c).2.1.trans (val_main_v4_eq _ _), (h c).2.2.1.trans (val_main_v10_eq _ _), (h c).2.2.2⟩)
      (Cert.Reference19Ideal.Value.run (F := Ideal) m' ρ')⟩
  refine (θ_run Cert.Kernel19Ideal.defs _ _).mono (fun r h c => ?_) (Cert.Kernel19Ideal.Value.run (F := Ideal) m ρ)
  obtain ⟨e0, e1, e2, k⟩ := h c
  obtain ⟨m0, m1, m2, m3⟩ := hm c
  refine ⟨e0.trans ?_, e1.trans ?_, e2.trans ?_, k⟩
  · rw [← m0, ← m1, ← m2, ← m3]
    exact delta_eq _ _ _ _
  · rw [← m1, ← m2]
    exact first_eq _ _
  · rw [← m1, ← m3]
    exact second_eq _ _

end Cert.Kernel19Ideal.Adam
end
-- ==== Proof.Gate.lean ====
module

public import proofs.«01_k».proof.Defs
public import proofs.«01_k».proof.Proof.Gen.Kernel18.Frame
public import proofs.«01_k».proof.Proof.Gen.Kernel18Ideal.Value
public import proofs.«01_k».proof.Proof.Gen.Reference18Ideal.Read
public import proofs.«01_k».proof.Proof.Rows

@[expose] public section

set_option maxRecDepth 16384

noncomputable section

/-! # The launch `d_z_gate_bwd`: the gradients of the gated merge of the two branches -/

namespace Cert.Kernel18Ideal.Gate

open Idealize.ShloMosaic Idealize.ShloMosaic.TcCoe Idealize.SL.Sem
open Cert.Kernel18Ideal Cert.Kernel18Ideal.Gen Cert.Reference18Ideal.Read Cert.Rows

variable (m : (ℓ : Loc nD τ sig) → Buf (Elt Ideal) ℓ) (c : Dev nD)

/-- A gate at an entry. -/
def gate (x : Ideal .f32) : Ideal .f32 := FloatOps.logistic x

/-- The gradient of what enters the merge's product. -/
theorem pay2_apply (z : Vec Ideal S512x1024 .bf16) (w : Vec Ideal S1024x1024 .bf16) (i : Fin 512) (j : Fin 1024) :
    k0_pay2 (F := Ideal) z w (ix2 i j) = ∑ k : Fin 1024, z (ix2 i k) * w (ix2 j k) := by
  pointwise [k0_pay2]

/-- The gradient of a branch, as a payload. -/
theorem pay5_apply (z : Vec Ideal S512x1024 .bf16) (w : Vec Ideal S1024x1024 .bf16) (g : Vec Ideal S512x1024 .bf16) (i : Fin 512) (j : Fin 1024) :
    k0_pay5 (F := Ideal) z w g (ix2 i j) = (∑ k : Fin 1024, z (ix2 i k) * w (ix2 j k)) * gate (g (ix2 i j)) := by
  rw [← pay2_apply]
  generalize hg : gate (g (ix2 i j)) = s
  pointwise [k0_pay5, k0_pay3]
  rw [← hg]
  rfl

/-- The gradient of what enters a gate, as a payload. -/
theorem pay7_apply (z : Vec Ideal S512x1024 .bf16) (w : Vec Ideal S1024x1024 .bf16) (g y : Vec Ideal S512x1024 .bf16) (i : Fin 512) (j : Fin 1024) :
    k0_pay7 (F := Ideal) z w g y (ix2 i j) =
      (∑ k : Fin 1024, z (ix2 i k) * w (ix2 j k)) * y (ix2 i j) * (gate (g (ix2 i j)) * (1 - gate (g (ix2 i j)))) := by
  rw [← pay2_apply]
  generalize hg : gate (g (ix2 i j)) = s
  pointwise [k0_pay7, k0_pay3]
  rw [← hg]
  rfl

/-- The gradient of the first branch at a point. -/
theorem out5_apply (z : Vec Ideal S512x1024 .bf16) (w : Vec Ideal S1024x1024 .bf16) (g : Vec Ideal S512x2048 .bf16) (p q : Vec Ideal S512x1024 .bf16)
    (i : Fin 512) (j : Fin 1024) :
    out0_5 (F := Ideal) z w g p q (ix2 i j)
      = (∑ k : Fin 1024, z (ix2 i k) * w (ix2 j k)) * gate (g (ix2 i (⟨j.val, by omega⟩ : Fin 2048))) := by
  unfold out0_5
  canon_tiles x h
  all_goals
    obtain ⟨a, b, rfl⟩ := eta2 x
    refine (pay5_apply _ _ _ a b).trans (congrArg₂ (· * ·) (Finset.sum_congr rfl fun k _ =>
      congrArg₂ (· * ·) (ld_at _ _ _ _ _ _ _ _ ?_ ?_) (ld_at _ _ _ _ _ _ _ _ ?_ ?_)) (congrArg gate (ld_at _ _ _ _ _ _ _ _ ?_ ?_)))
    all_goals first | exact h0.trans (Nat.zero_add _).symm | exact h1.trans (Nat.zero_add _).symm | exact h1 | exact (Nat.zero_add _).symm

/-- The gradient of the second branch at a point. -/
theorem out6_apply (z : Vec Ideal S512x1024 .bf16) (w : Vec Ideal S1024x1024 .bf16) (g : Vec Ideal S512x2048 .bf16) (p q : Vec Ideal S512x1024 .bf16)
    (i : Fin 512) (j : Fin 1024) :
    out0_6 (F := Ideal) z w g p q (ix2 i j)
      = (∑ k : Fin 1024, z (ix2 i k) * w (ix2 j k)) * gate (g (ix2 i (⟨1024 + j.val, by omega⟩ : Fin 2048))) := by
  unfold out0_6
  canon_tiles x h
  all_goals
    obtain ⟨a, b, rfl⟩ := eta2 x
    refine (show _ = k0_pay5 (F := Ideal) _ _ _ (ix2 a b) from rfl).trans ((pay5_apply _ _ _ a b).trans (congrArg₂ (· * ·) (Finset.sum_congr rfl fun k _ =>
      congrArg₂ (· * ·) (ld_at _ _ _ _ _ _ _ _ ?_ ?_) (ld_at _ _ _ _ _ _ _ _ ?_ ?_)) (congrArg gate (ld_at _ _ _ _ _ _ _ _ ?_ ?_))))
    all_goals first | exact h0.trans (Nat.zero_add _).symm | exact h1.trans (Nat.zero_add _).symm | exact h1 | exact (Nat.zero_add _).symm | exact congrArg (1024 + ·) h1

/-- One half of the gradient of what enters the gates, read off the blocks. -/
theorem half (z : Vec Ideal S512x1024 .bf16) (w : Vec Ideal S1024x1024 .bf16) (g : Vec Ideal S512x2048 .bf16) (y : Vec Ideal S512x1024 .bf16)
    (o : ℕ) (bd) (i : Fin 512) (l : Fin 1024) (j : Fin 2048) (hj : j.val = o + l.val) :
    k0_pay7 (F := Ideal) (View.ld z r0_0) (View.ld w r0_1) (View.ld g (Rect.unit (s := S512x2048) ![0, o] S512x1024.size bd)) (View.ld y r0_0) (ix2 i l)
      = (∑ k : Fin 1024, z (ix2 i k) * w (ix2 l k)) * y (ix2 i l) * (gate (g (ix2 i j)) * (1 - gate (g (ix2 i j)))) := by
  have hg : View.ld g (Rect.unit (s := S512x2048) ![0, o] S512x1024.size bd) (ix2 i l) = g (ix2 i j) :=
    ld_at _ _ _ _ _ _ _ _ (Nat.zero_add _).symm hj
  refine (pay7_apply _ _ _ _ i l).trans ?_
  rw [hg]
  refine congrArg₂ (· * ·) (congrArg₂ (· * ·) (Finset.sum_congr rfl fun k _ => congrArg₂ (· * ·) ?_ ?_) ?_) rfl
  all_goals exact ld_at _ _ _ _ _ _ _ _ (Nat.zero_add _).symm (Nat.zero_add _).symm

/-- The gradient of what enters the gates at a point: the first half of the columns of the first branch, the second of the second. -/
theorem out7_apply (z : Vec Ideal S512x1024 .bf16) (w : Vec Ideal S1024x1024 .bf16) (g : Vec Ideal S512x2048 .bf16) (p q : Vec Ideal S512x1024 .bf16)
    (i : Fin 512) (j : Fin 2048) (l : Fin 1024) (y : Vec Ideal S512x1024 .bf16) (hl : (j.val = l.val ∧ y = p) ∨ (j.val = 1024 + l.val ∧ y = q)) :
    out0_7 (F := Ideal) z w g p q (ix2 i j)
      = (∑ k : Fin 1024, z (ix2 i k) * w (ix2 l k)) * y (ix2 i l) * (gate (g (ix2 i j)) * (1 - gate (g (ix2 i j)))) := by
  unfold out0_7
  canon_tiles x h
  · obtain ⟨a, b, rfl⟩ := eta2 x
    replace h0 : i.val = a.val := h0
    replace h1 : j.val = 1024 + b.val := h1
    obtain rfl : i = a := Fin.ext h0
    obtain ⟨h, rfl⟩ | ⟨h, rfl⟩ := hl
    · omega
    · obtain rfl : l = b := Fin.ext (by omega)
      exact (show _ = k0_pay7 (F := Ideal) (View.ld z r0_0) (View.ld w r0_1) (View.ld g r0_3) (View.ld y r0_0) (ix2 i l) from rfl).trans
        (half z w g y 1024 _ i l j h)
  · obtain ⟨a, b, rfl⟩ := eta2 x
    replace h0 : i.val = a.val := h0
    replace h1 : j.val = b.val := h1
    obtain rfl : i = a := Fin.ext h0
    obtain ⟨h, rfl⟩ | ⟨h, rfl⟩ := hl
    · obtain rfl : l = b := Fin.ext (by omega)
      exact half z w g y 0 _ i l j (by omega)
    · omega

/-- The block of the incoming gradient at a grid point. -/
def zBlk (t : Fin cfg0.N) : Vec Ideal S512x1024 .bf16 := iblk m c 0 t

/-- The weight as every grid point has it. -/
def wBlk (t : Fin cfg0.N) : Vec Ideal S1024x1024 .bf16 := iblk m c 1 t

/-- The block of what enters the gates. -/
def gBlk (t : Fin cfg0.N) : Vec Ideal S512x2048 .bf16 := iblk m c 2 t

/-- The block of the first branch. -/
def aBlk (t : Fin cfg0.N) : Vec Ideal S512x1024 .bf16 := iblk m c 3 t

/-- The block of the second branch. -/
def bBlk (t : Fin cfg0.N) : Vec Ideal S512x1024 .bf16 := iblk m c 4 t

/-- A point takes the rows of its own number of the incoming gradient. -/
theorem index_0 : ∀ t : Fin cfg0.N, (cfg0.win 0).index t = ![t.val, 0] :=
  (by decide +kernel : ∀ t : Fin cfg0.N, (cfg0.win 0).index t = ![t.val, 0])

/-- It takes those of what enters the gates. -/
theorem index_2 : ∀ t : Fin cfg0.N, (cfg0.win 2).index t = ![t.val, 0] :=
  (by decide +kernel : ∀ t : Fin cfg0.N, (cfg0.win 2).index t = ![t.val, 0])

/-- Those of the first branch. -/
theorem index_3 : ∀ t : Fin cfg0.N, (cfg0.win 3).index t = ![t.val, 0] :=
  (by decide +kernel : ∀ t : Fin cfg0.N, (cfg0.win 3).index t = ![t.val, 0])

/-- Those of the second. -/
theorem index_4 : ∀ t : Fin cfg0.N, (cfg0.win 4).index t = ![t.val, 0] :=
  (by decide +kernel : ∀ t : Fin cfg0.N, (cfg0.win 4).index t = ![t.val, 0])

/-- It writes those of the first branch's gradient. -/
theorem index_5 : ∀ t : Fin cfg0.N, (cfg0.win 5).index t = ![t.val, 0] :=
  (by decide +kernel : ∀ t : Fin cfg0.N, (cfg0.win 5).index t = ![t.val, 0])

/-- Those of the second's. -/
theorem index_6 : ∀ t : Fin cfg0.N, (cfg0.win 6).index t = ![t.val, 0] :=
  (by decide +kernel : ∀ t : Fin cfg0.N, (cfg0.win 6).index t = ![t.val, 0])

/-- Those of the gates'. -/
theorem index_7 : ∀ t : Fin cfg0.N, (cfg0.win 7).index t = ![t.val, 0] :=
  (by decide +kernel : ∀ t : Fin cfg0.N, (cfg0.win 7).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- The launch finds the incoming gradient as the caller gave it. -/
theorem V_z : V m c main_v0 = (m ((c : Thread nD τ).loc main_arg4)) := by
  show StableHlo.after hostOps0 (fun b => m (c, b)) _ = _
  simp only [hostOps0]
  after_results_simp
  rfl

/-- It finds the weight so too. -/
theorem V_w : V m c main_v1 = (m ((c : Thread nD τ).loc main_arg3)) := by
  show StableHlo.after hostOps0 (fun b => m (c, b)) _ = _
  simp only [hostOps0]
  after_results_simp
  rfl

/-- And what enters the gates. -/
theorem V_g : V m c main_v2 = (m ((c : Thread nD τ).loc main_arg2)) := by
  show StableHlo.after hostOps0 (fun b => m (c, b)) _ = _
  simp only [hostOps0]
  after_results_simp
  rfl

/-- And the first branch. -/
theorem V_a : V m c main_v3 = (m ((c : Thread nD τ).loc main_arg0)) := by
  show StableHlo.after hostOps0 (fun b => m (c, b)) _ = _
  simp only [hostOps0]
  after_results_simp
  rfl

/-- And the second. -/
theorem V_b : V m c main_v4 = (m ((c : Thread nD τ).loc main_arg1)) := by
  show StableHlo.after hostOps0 (fun b => m (c, b)) _ = _
  simp only [hostOps0]
  after_results_simp
  rfl

/-- The row of a block's entry in the whole array. -/
def row (t : Fin cfg0.N) (i : Fin 512) : Fin 8192 := ⟨512 * t.val + i.val, by have : t.val < 16 := t.isLt; omega⟩

section
variable (a b : Vec Ideal S8192x1024 .f32) (g : Vec Ideal S8192x2048 .f32) (w : Vec Ideal S1024x1024 .f32) (z : Vec Ideal S8192x1024 .f32)
  (ha : m ((c : Thread nD τ).loc main_arg0) = a) (hb : m ((c : Thread nD τ).loc main_arg1) = b)
  (hg : m ((c : Thread nD τ).loc main_arg2) = g) (hw : m ((c : Thread nD τ).loc main_arg3) = w)
  (hz : m ((c : Thread nD τ).loc main_arg4) = z)

include hz in
/-- A point's block of the incoming gradient, entry by entry. -/
theorem zBlk_eq (t : Fin cfg0.N) (i : Fin 512) (k : Fin 1024) : zBlk m c t (ix2 i k) = z (ix2 (row t i) k) := by
  rw [← hz, ← V_z m c]
  blk_ext [zBlk, iblk, index_0 t, row]

include hw in
/-- The weight, entry by entry. -/
theorem wBlk_eq (t : Fin cfg0.N) (j k : Fin 1024) : wBlk m c t (ix2 j k) = w (ix2 j k) := by
  rw [← hw, ← V_w m c]
  blk_ext [wBlk, iblk, index_1 t]

include hg in
/-- A point's block of what enters the gates. -/
theorem gBlk_eq (t : Fin cfg0.N) (i : Fin 512) (k : Fin 2048) : gBlk m c t (ix2 i k) = g (ix2 (row t i) k) := by
  rw [← hg, ← V_g m c]
  blk_ext [gBlk, iblk, index_2 t, row]

include ha in
/-- A point's block of the first branch. -/
theorem aBlk_eq (t : Fin cfg0.N) (i : Fin 512) (k : Fin 1024) : aBlk m c t (ix2 i k) = a (ix2 (row t i) k) := by
  rw [← ha, ← V_a m c]
  blk_ext [aBlk, iblk, index_3 t, row]

include hb in
/-- A point's block of the second branch. -/
theorem bBlk_eq (t : Fin cfg0.N) (i : Fin 512) (k : Fin 1024) : bBlk m c t (ix2 i k) = b (ix2 (row t i) k) := by
  rw [← hb, ← V_b m c]
  blk_ext [bBlk, iblk, index_4 t, row]

/-- The place of an entry of the first branch's gradient. -/
theorem emb_5 (t : Fin cfg0.N) (i : Fin 512) (j : Fin 1024) :
    ((cfg0.win 5).blk t).view.emb (ix2 i j) = (ix2 (row t i) j : S8192x1024.Idx) := by
  blk_ext [index_5 t, row]

/-- Of the second's. -/
theorem emb_6 (t : Fin cfg0.N) (i : Fin 512) (j : Fin 1024) :
    ((cfg0.win 6).blk t).view.emb (ix2 i j) = (ix2 (row t i) j : S8192x1024.Idx) := by
  blk_ext [index_6 t, row]

/-- Of the gates'. -/
theorem emb_7 (t : Fin cfg0.N) (i : Fin 512) (j : Fin 2048) :
    ((cfg0.win 7).blk t).view.emb (ix2 i j) = (ix2 (row t i) j : S8192x2048.Idx) := by
  blk_ext [index_7 t, row]

/-- The reference's gradient of what enters the merge's product. -/
theorem ref_dz (i : Fin 8192) (j : Fin 1024) :
    val_main_v24 (F := Ideal) w z (ix2 i j) = ∑ k : Fin 1024, z (ix2 i k) * w (ix2 j k) := by
  pointwise [val_main_v24_apply]
  refine Finset.sum_congr rfl fun k _ => congrArg₂ (· * ·) (congrArg z ?_) (congrArg w ?_)
  all_goals
    funext a
    fin_cases a <;> rfl

/-- The reference's first gate. -/
theorem ref_gate_a (i : Fin 8192) (j : Fin 1024) :
    val_main_v7 (F := Ideal) g (ix2 i j) = gate (g (ix2 i (⟨j.val, by omega⟩ : Fin 2048))) := by
  have e : idx_main_v0 (ix2 i j) = ix2 i (⟨j.val, by omega⟩ : Fin 2048) := by
    funext a
    fin_cases a <;> rfl
  pointwise [val_main_v7_apply, val_main_v6_apply, val_main_v5_apply, val_main_v4_apply, val_main_v3_apply, val_main_v2_apply, val_main_v0_apply,
    val_main_cst_apply, val_main_cst_0_apply]
  rw [e]
  rfl

/-- The reference's second gate. -/
theorem ref_gate_b (i : Fin 8192) (j : Fin 1024) :
    val_main_v17 (F := Ideal) g (ix2 i j) = gate (g (ix2 i (⟨1024 + j.val, by omega⟩ : Fin 2048))) := by
  have e : idx_main_v1 (ix2 i j) = ix2 i (⟨1024 + j.val, by omega⟩ : Fin 2048) := by
    funext a
    fin_cases a <;> rfl
  pointwise [val_main_v17_apply, val_main_v16_apply, val_main_v15_apply, val_main_v14_apply, val_main_v13_apply, val_main_v12_apply, val_main_v1_apply,
    val_main_cst_2_apply, val_main_cst_3_apply]
  rw [e]
  rfl

/-- The reference's gradient of the first branch. -/
theorem ref_a (i : Fin 8192) (j : Fin 1024) :
    val_main_v31 (F := Ideal) g w z (ix2 i j)
      = (∑ k : Fin 1024, z (ix2 i k) * w (ix2 j k)) * gate (g (ix2 i (⟨j.val, by omega⟩ : Fin 2048))) := by
  rw [← ref_dz w z i j, ← ref_gate_a g i j]
  exact mul_comm _ _

/-- The reference's gradient of the second branch. -/
theorem ref_b (i : Fin 8192) (j : Fin 1024) :
    val_main_v32 (F := Ideal) g w z (ix2 i j)
      = (∑ k : Fin 1024, z (ix2 i k) * w (ix2 j k)) * gate (g (ix2 i (⟨1024 + j.val, by omega⟩ : Fin 2048))) := by
  rw [← ref_dz w z i j, ← ref_gate_b g i j]
  exact mul_comm _ _

/-- The reference's gradient of what enters the first gate. -/
theorem ref_ga (i : Fin 8192) (j : Fin 1024) :
    val_main_v30 (F := Ideal) a g w z (ix2 i j) = (∑ k : Fin 1024, z (ix2 i k) * w (ix2 j k)) * a (ix2 i j)
      * (gate (g (ix2 i (⟨j.val, by omega⟩ : Fin 2048))) * (1 - gate (g (ix2 i (⟨j.val, by omega⟩ : Fin 2048))))) := by
  rw [← ref_dz w z i j, ← ref_gate_a g i j]
  pointwise [val_main_v30_apply, val_main_v29_apply, val_main_v10_apply, val_main_v9_apply, val_main_v8_apply, val_main_cst_1_apply]

/-- The reference's gradient of what enters the second gate. -/
theorem ref_gb (i : Fin 8192) (j : Fin 1024) :
    val_main_v27 (F := Ideal) b g w z (ix2 i j) = (∑ k : Fin 1024, z (ix2 i k) * w (ix2 j k)) * b (ix2 i j)
      * (gate (g (ix2 i (⟨1024 + j.val, by omega⟩ : Fin 2048))) * (1 - gate (g (ix2 i (⟨1024 + j.val, by omega⟩ : Fin 2048))))) := by
  rw [← ref_dz w z i j, ← ref_gate_b g i j]
  pointwise [val_main_v27_apply, val_main_v26_apply, val_main_v20_apply, val_main_v19_apply, val_main_v18_apply, val_main_cst_4_apply]

/-- The two side by side: the first half of the columns. -/
theorem ref_left (i : Fin 8192) (j : Fin 2048) (l : Fin 1024) (h : j.val = l.val) :
    val_main_v34 (F := Ideal) a b g w z (ix2 i j) = val_main_v30 (F := Ideal) a g w z (ix2 i l) := by
  rw [val_main_v34_apply]
  pointwise [val_main_v33]
  rw [dif_pos (show j.val < 1024 by omega)]
  exact congrArg (val_main_v30 (F := Ideal) a g w z) (congrArg (ix2 i) (Fin.ext h))

/-- The second half. -/
theorem ref_right (i : Fin 8192) (j : Fin 2048) (l : Fin 1024) (h : j.val = 1024 + l.val) :
    val_main_v34 (F := Ideal) a b g w z (ix2 i j) = val_main_v27 (F := Ideal) b g w z (ix2 i l) := by
  rw [val_main_v34_apply]
  pointwise [val_main_v33]
  rw [dif_neg (show ¬ j.val < 1024 by omega)]
  exact congrArg (val_main_v27 (F := Ideal) b g w z) (congrArg (ix2 i) (Fin.ext (by show j.val - 1024 = l.val; omega)))

include hz hw in
/-- The entry of the product a point forms, in the whole arrays. -/
theorem dz_eq (t : Fin cfg0.N) (i : Fin 512) (j : Fin 1024) :
    ∑ k : Fin 1024, zBlk m c t (ix2 i k) * wBlk m c t (ix2 j k) = ∑ k : Fin 1024, z (ix2 (row t i) k) * w (ix2 j k) :=
  Finset.sum_congr rfl fun k _ => congrArg₂ (· * ·) (zBlk_eq m c z hz t i k) (wBlk_eq m c w hw t j k)

include hz hw hg in
/-- The first branch's gradient is the reference's. -/
theorem a_array : (dats m 0 c).arrAt 5 cfg0.N = (val_main_v31 (F := Ideal) g w z : (⟨S8192x1024, .bf16⟩ : BufTy).Contents (Elt Ideal)) := by
  refine (dats m 0 c).arrAt_eq_of_covers 5 _ (by decide +kernel) fun t hf y => ?_
  refine (show _ = (dats m 0 c).flushed 5 t y from rfl).trans ((congrFun (Value.flushed5 m c t) y).trans ?_)
  obtain ⟨i, j, rfl⟩ := eta2 (a := 512) (b := 1024) y
  refine (show _ = out0_5 (F := Ideal) (zBlk m c t) (wBlk m c t) (gBlk m c t) (aBlk m c t) (bBlk m c t) (ix2 i j) from rfl).trans
    ((out5_apply _ _ _ _ _ i j).trans ?_)
  rw [emb_5 t i j, ref_a, dz_eq m c w z hw hz, gBlk_eq m c g hg]

include hz hw hg in
/-- The second branch's gradient is the reference's. -/
theorem b_array : (dats m 0 c).arrAt 6 cfg0.N = (val_main_v32 (F := Ideal) g w z : (⟨S8192x1024, .bf16⟩ : BufTy).Contents (Elt Ideal)) := by
  refine (dats m 0 c).arrAt_eq_of_covers 6 _ (by decide +kernel) fun t hf y => ?_
  refine (show _ = (dats m 0 c).flushed 6 t y from rfl).trans ((congrFun (Value.flushed6 m c t) y).trans ?_)
  obtain ⟨i, j, rfl⟩ := eta2 (a := 512) (b := 1024) y
  refine (show _ = out0_6 (F := Ideal) (zBlk m c t) (wBlk m c t) (gBlk m c t) (aBlk m c t) (bBlk m c t) (ix2 i j) from rfl).trans
    ((out6_apply _ _ _ _ _ i j).trans ?_)
  rw [emb_6 t i j, ref_b, dz_eq m c w z hw hz, gBlk_eq m c g hg]

include hz hw hg ha hb in
/-- The gradient of what enters the gates is the reference's. -/
theorem g_array : (dats m 0 c).arrAt 7 cfg0.N = (val_main_v34 (F := Ideal) a b g w z : (⟨S8192x2048, .bf16⟩ : BufTy).Contents (Elt Ideal)) := by
  refine (dats m 0 c).arrAt_eq_of_covers 7 _ (by decide +kernel) fun t hf y => ?_
  refine (show _ = (dats m 0 c).flushed 7 t y from rfl).trans ((congrFun (Value.flushed7 m c t) y).trans ?_)
  obtain ⟨i, j, rfl⟩ := eta2 (a := 512) (b := 2048) y
  refine (show _ = out0_7 (F := Ideal) (zBlk m c t) (wBlk m c t) (gBlk m c t) (aBlk m c t) (bBlk m c t) (ix2 i j) from rfl).trans ?_
  rw [emb_7 t i j]
  obtain h | h := Nat.lt_or_ge j.val 1024
  · obtain ⟨l, hl⟩ : ∃ l : Fin 1024, j.val = l.val := ⟨⟨j.val, h⟩, rfl⟩
    obtain rfl : j = (⟨l.val, by clear hl h; omega⟩ : Fin 2048) := Fin.ext hl
    rw [out7_apply _ _ _ _ _ i _ l (aBlk m c t) (Or.inl ⟨rfl, rfl⟩), ref_left _ _ _ _ _ _ _ l rfl, ref_ga, dz_eq m c w z hw hz, gBlk_eq m c g hg,
      aBlk_eq m c a ha]
  · obtain ⟨l, hl⟩ : ∃ l : Fin 1024, j.val = 1024 + l.val := ⟨⟨j.val - 1024, by omega⟩, by show _ = 1024 + (_ - 1024); omega⟩
    obtain rfl : j = (⟨1024 + l.val, by clear hl h; omega⟩ : Fin 2048) := Fin.ext hl
    rw [out7_apply _ _ _ _ _ i _ l (bBlk m c t) (Or.inr ⟨rfl, rfl⟩), ref_right _ _ _ _ _ _ _ l rfl, ref_gb, dz_eq m c w z hw hz, gBlk_eq m c g hg,
      bBlk_eq m c b hb]

end

/-- The launch ends with its arguments as it found them. -/
theorem frame_kernel : Cert.quiescent_Kernel18 := fun m ρ _ => Cert.Kernel18.Gen.frame m ρ

/-- So does the launch read over the extended reals. -/
theorem frame_ideal : Cert.quiescent_Kernel18Ideal := fun m ρ _ => Cert.Kernel18Ideal.Gen.frame m ρ

/-- So does its reference. -/
theorem frame_reference : Cert.quiescent_Reference18Ideal := fun m ρ _ =>
  (θ_run Cert.Reference18Ideal.defs _ _).mono (fun r h => ⟨fun c => (h c).2.2.2, sem_eq_zero_of_no_sems (by decide) r.2⟩)
    (Cert.Reference18Ideal.Value.run (F := Ideal) m ρ)

/-- The launch's three gradients are the reference's. -/
theorem algebraic : Cert.algebraic_Kernel18Ideal_Reference18Ideal := by
  intro m ρ m' ρ' _ hm
  refine ⟨fun c => val_main_v31 (F := Ideal) (m' ((c.tc : Thread _ _).loc Cert.Reference18Ideal.main_arg2))
      (m' ((c.tc : Thread _ _).loc Cert.Reference18Ideal.main_arg3)) (m' ((c.tc : Thread _ _).loc Cert.Reference18Ideal.main_arg4)),
    fun c => val_main_v32 (F := Ideal) (m' ((c.tc : Thread _ _).loc Cert.Reference18Ideal.main_arg2))
      (m' ((c.tc : Thread _ _).loc Cert.Reference18Ideal.main_arg3)) (m' ((c.tc : Thread _ _).loc Cert.Reference18Ideal.main_arg4)),
    fun c => val_main_v34 (F := Ideal) (m' ((c.tc : Thread _ _).loc Cert.Reference18Ideal.main_arg0))
      (m' ((c.tc : Thread _ _).loc Cert.Reference18Ideal.main_arg1)) (m' ((c.tc : Thread _ _).loc Cert.Reference18Ideal.main_arg2))
      (m' ((c.tc : Thread _ _).loc Cert.Reference18Ideal.main_arg3)) (m' ((c.tc : Thread _ _).loc Cert.Reference18Ideal.main_arg4)), ?_,
    (θ_run Cert.Reference18Ideal.defs _ _).mono (fun r h c => ⟨(h c).1.trans (val_main_v31_eq _ _ _),
      (h c).2.1.trans (val_main_v32_eq _ _ _), (h c).2.2.1.trans (val_main_v34_eq _ _ _ _ _), (h c).2.2.2⟩)
      (Cert.Reference18Ideal.Value.run (F := Ideal) m' ρ')⟩
  refine (θ_run Cert.Kernel18Ideal.defs _ _).mono (fun r h c => ?_) (Cert.Kernel18Ideal.Value.run_blocks (F := Ideal) m ρ)
  obtain ⟨e0, e1, e2, k⟩ := h c
  obtain ⟨m0, m1, m2, m3, m4⟩ := hm c
  exact ⟨e0.trans (a_array m c _ _ _ m2.symm m3.symm m4.symm), e1.trans (b_array m c _ _ _ m2.symm m3.symm m4.symm),
    e2.trans (g_array m c _ _ _ _ _ m0.symm m1.symm m2.symm m3.symm m4.symm), k⟩

end Cert.Kernel18Ideal.Gate
end
-- ==== Proof.DwB.lean ====
module

public import proofs.«01_k».proof.Defs
public import proofs.«01_k».proof.Proof.Gen.Kernel17.Frame
public import proofs.«01_k».proof.Proof.Gen.Kernel17Ideal.Value
public import proofs.«01_k».proof.Proof.Gen.Reference17Ideal.Read
public import proofs.«01_k».proof.Proof.Rows

@[expose] public section

set_option maxRecDepth 16384

noncomputable section

/-! # The launch `dw_b`: the gradients of a weight of 512 rows and 1024 columns, and of its bias -/

namespace Cert.Kernel17Ideal.Dw

open Idealize.ShloMosaic Idealize.ShloMosaic.TcCoe Idealize.SL.Sem
open Cert.Kernel17Ideal Cert.Kernel17Ideal.Gen Cert.Reference17Ideal.Read Cert.Rows

variable (m : (ℓ : Loc nD τ sig) → Buf (Elt Ideal) ℓ) (c : Dev nD)

/-- A chunk's payload: the chunk before, plus the sum over the block's rows. -/
theorem chunk_apply (g : Vec Ideal S1024x1024 .bf16) (s : Vec Ideal S256x1024 .f32) (h : Vec Ideal S1024x256 .bf16) (i : Fin 256) (j : Fin 1024) :
    k0_pay6 (F := Ideal) g s h (ix2 i j) = s (ix2 i j) + ∑ k : Fin 1024, h (ix2 k i) * g (ix2 k j) := by
  pointwise [k0_pay6, k0_pay4]

/-- The column sums' payload: the row before, plus the sum of the block's column. -/
theorem pay7_apply (v3 : Vec Ideal S1024x1024 .bf16) (v5 : Vec Ideal S1x1024 .f32) (i : Fin 1) (j : Fin 1024) :
    k0_pay5 (F := Ideal) v3 v5 (ix2 i j) = v5 (ix2 i j) + ∑ k : Fin 1024, v3 (ix2 k j) := by
  pointwise [k0_pay5, k0_pay4]

/-- The accumulator starts at zero. -/
theorem pay4_eq (i : S512x1024.Idx) : k0_pay2 (F := Ideal) i = 0 := by
  obtain ⟨a, b, rfl⟩ := eta2 i
  pointwise [k0_pay2]

/-- So do the column sums. -/
theorem pay5_apply (i : Fin 1) (j : Fin 1024) : k0_pay3 (F := Ideal) (ix2 i j) = 0 := by
  pointwise [k0_pay3]

/-- Over the extended reals the narrowing cast changes nothing. -/
theorem pay3_eq (v : Vec Ideal S512x1024 .f32) : k0_pay1 (F := Ideal) v = v := rfl

/-- The block of the first factor at a grid point. -/
def hBlk (t : Fin cfg0.N) : Vec Ideal S1024x512 .bf16 := iblk m c 0 t

/-- The block of the second factor at a grid point. -/
def gBlk (t : Fin cfg0.N) : Vec Ideal S1024x1024 .bf16 := iblk m c 1 t

/-- After the first point the accumulator is the product of the point's blocks. -/
theorem acc_first (t : Fin cfg0.N) (h0 : t.val % 8 = 0) (r : Fin 512) (l : Fin 1024) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over2 _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 512) (l : Fin 1024) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 512) (l : Fin 1024) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 1024) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 1024) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x512 .f32) (y : Vec Ideal S8192x1024 .f32)
  (hx : m ((c : Thread nD τ).loc main_arg0) = x) (hy : m ((c : Thread nD τ).loc main_arg3) = y)
include hx in
/-- A point's block of the first factor, entry by entry. -/
theorem hBlk_eq (t : Fin cfg0.N) (k : Fin 1024) (r : Fin 512) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 1024) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 512) (l : Fin 1024) :
    ((dats m 0 c).arrAt 2 cfg0.N : Vec Ideal S512x1024 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 512 × Fin 1024) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 1024) :
    ((dats m 0 c).arrAt 3 cfg0.N : Vec Ideal S1x1024 .f32) (ix2 0 l) = ∑ k : Fin 8192, y (ix2 k l) := by
  have h7 : 7 < cfg0.N := by decide
  rw [Value.final3, Value.G3_last, ← Value.outsAt0_sweep m c 7 h7]
  refine gathered rfl (fun n h (i : Fin 1024) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 512) (l : Fin 1024) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 1024 + l.val) / 1024 = k.val by omega)
    · exact Fin.ext (show (k.val * 1024 + l.val) % 1024 = l.val by omega)

/-- The reference's bias gradient is the same sum. -/
theorem ref_db (l : Fin 1024) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 1024 + l.val = l.val by omega)

include hx hy in
/-- The weight's gradient is the reference's. -/
theorem dw_array : (dats m 0 c).arrAt 2 cfg0.N = val_main_v8 (F := Ideal) x y := by
  funext i
  obtain ⟨a, b, rfl⟩ := eta2 (a := 512) (b := 1024) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 1024) i
  exact (db_eq m c y hy b).trans (ref_db y b).symm

end

/-- The launch ends with its arguments as it found them. -/
theorem frame_kernel : Cert.quiescent_Kernel17 := fun m ρ _ => Cert.Kernel17.Gen.frame m ρ

/-- So does the launch read over the extended reals. -/
theorem frame_ideal : Cert.quiescent_Kernel17Ideal := fun m ρ _ => Cert.Kernel17Ideal.Gen.frame m ρ

/-- So does its reference. -/
theorem frame_reference : Cert.quiescent_Reference17Ideal := fun m ρ _ =>
  (θ_run Cert.Reference17Ideal.defs _ _).mono (fun r h => ⟨fun c => (h c).2.2, sem_eq_zero_of_no_sems (by decide) r.2⟩)
    (Cert.Reference17Ideal.Value.run (F := Ideal) m ρ)

/-- The launch's two gradients are the reference's. -/
theorem algebraic : Cert.algebraic_Kernel17Ideal_Reference17Ideal := by
  intro m ρ m' ρ' _ hm
  refine ⟨fun c => val_main_v8 (F := Ideal) (m' ((c.tc : Thread _ _).loc Cert.Reference17Ideal.main_arg0))
      (m' ((c.tc : Thread _ _).loc Cert.Reference17Ideal.main_arg3)),
    fun c => val_main_v5 (F := Ideal) (m' ((c.tc : Thread _ _).loc Cert.Reference17Ideal.main_arg3)), ?_,
    (θ_run Cert.Reference17Ideal.defs _ _).mono (fun r h c => ⟨(h c).1.trans (val_main_v8_eq _ _), (h c).2.1.trans (val_main_v5_eq _), (h c).2.2⟩)
      (Cert.Reference17Ideal.Value.run (F := Ideal) m' ρ')⟩
  refine (θ_run Cert.Kernel17Ideal.defs _ _).mono (fun r h c => ?_) (Cert.Kernel17Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel17Ideal.Dw
end
-- ==== Proof.BranchB.lean ====
module

public import proofs.«01_k».proof.Defs
public import proofs.«01_k».proof.Proof.Gen.Kernel16.Frame
public import proofs.«01_k».proof.Proof.Gen.Kernel16Ideal.Value
public import proofs.«01_k».proof.Proof.Gen.Reference16Ideal.Read
public import proofs.«01_k».proof.Proof.Rows

@[expose] public section

set_option maxRecDepth 16384

noncomputable section

/-! # The launch `branch_b_out`: a product of 512 by 1024, with its bias -/

namespace Cert.Kernel16Ideal.Prod

open Idealize.ShloMosaic Idealize.ShloMosaic.TcCoe Idealize.SL.Sem
open Cert.Kernel16Ideal Cert.Kernel16Ideal.Gen Cert.Reference16Ideal.Read Cert.Rows

variable (m : (ℓ : Loc nD τ sig) → Buf (Elt Ideal) ℓ) (c : Dev nD)

/-- A tile's payload: the products of the block's rows with the columns of the weight, and the bias. -/
theorem tile_apply (x : Vec Ideal S1024x512 .bf16) (w : Vec Ideal S512x512 .bf16) (b : Vec Ideal S1x512 .f32) (i : Fin 1024) (j : Fin 512) :
    k0_pay2 (F := Ideal) x w b (ix2 i j) = (∑ k : Fin 512, x (ix2 i k) * w (ix2 k j)) + b (ix2 0 j) := by
  pointwise [k0_pay2, k0_pay1]

/-- A point's result. -/
theorem out_apply (x : Vec Ideal S1024x512 .bf16) (w : Vec Ideal S512x1024 .bf16) (b : Vec Ideal S1x1024 .f32) (i : Fin 1024) (j : Fin 1024) :
    out0_3 (F := Ideal) x w b (ix2 i j) = (∑ k : Fin 512, x (ix2 i k) * w (ix2 k j)) + b (ix2 0 j) := by
  unfold out0_3
  canon_tiles z h
  all_goals
    obtain ⟨p, q, rfl⟩ := eta2 z
    refine (tile_apply (View.ld x r0_0) _ _ p q).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the first factor at a grid point. -/
def xBlk (t : Fin cfg0.N) : Vec Ideal S1024x512 .bf16 := iblk m c 0 t

/-- The weight as every grid point has it. -/
def wBlk (t : Fin cfg0.N) : Vec Ideal S512x1024 .bf16 := iblk m c 1 t

/-- The bias as every grid point has it. -/
def bBlk (t : Fin cfg0.N) : Vec Ideal S1x1024 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the whole bias. -/
theorem index_2 : ∀ t : Fin cfg0.N, (cfg0.win 2).index t = ![0, 0] :=
  (by decide +kernel : ∀ t : Fin cfg0.N, (cfg0.win 2).index t = ![0, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the bias so too. -/
theorem V_b : V m c main_arg2 = (m ((c : Thread nD τ).loc main_arg2)) := by
  show StableHlo.after hostOps0 (fun b => m (c, b)) _ = _
  simp only [hostOps0]
  after_results_simp

section
variable (x : Vec Ideal S8192x512 .f32) (w : Vec Ideal S512x1024 .f32) (b : Vec Ideal S1x1024 .f32)
  (hx : m ((c : Thread nD τ).loc main_arg0) = x) (hw : m ((c : Thread nD τ).loc main_arg1) = w)
  (hb : m ((c : Thread nD τ).loc main_arg2) = b)

include hx in
/-- A point's block of the first factor, entry by entry. -/
theorem xBlk_eq (t : Fin cfg0.N) (i : Fin 1024) (k : Fin 512) :
    xBlk m c t (ix2 i k) = x (ix2 ⟨1024 * t.val + i.val, by have : t.val < 8 := t.isLt; omega⟩ k) := by
  rw [← hx, ← V_x m c]
  blk_ext [xBlk, iblk, index_0 t]

include hw in
/-- The weight, entry by entry. -/
theorem wBlk_eq (t : Fin cfg0.N) (k : Fin 512) (j : Fin 1024) : wBlk m c t (ix2 k j) = w (ix2 k j) := by
  rw [← hw, ← V_w m c]
  blk_ext [wBlk, iblk, index_1 t]

include hb in
/-- The bias, entry by entry. -/
theorem bBlk_eq (t : Fin cfg0.N) (j : Fin 1024) : bBlk m c t (ix2 0 j) = b (ix2 0 j) := by
  rw [← hb, ← V_b m c]
  blk_ext [bBlk, iblk, index_2 t]

/-- The place of a block's entry in the result. -/
theorem emb_3 (t : Fin cfg0.N) (i : Fin 1024) (j : Fin 1024) :
    ((cfg0.win 3).blk t).view.emb (ix2 i j) = (ix2 ⟨1024 * t.val + i.val, by have : t.val < 8 := t.isLt; omega⟩ j : S8192x1024.Idx) := by
  blk_ext [index_3 t]

/-- The reference's product is the same sum. -/
theorem ref_product (i : Fin 8192) (j : Fin 1024) :
    val_main_v3 (F := Ideal) x w b (ix2 i j) = (∑ k : Fin 512, x (ix2 i k) * w (ix2 k j)) + b (ix2 0 j) := by
  pointwise [val_main_v3_apply, val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

include hx hw hb in
/-- The product is the reference's. -/
theorem product_array : (dats m 0 c).arrAt 3 cfg0.N = (val_main_v3 (F := Ideal) x w b : (⟨S8192x1024, .bf16⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 1024) z
  refine (show _ = out0_3 (F := Ideal) (xBlk m c t) (wBlk m c t) (bBlk m c t) (ix2 i j) from rfl).trans ((out_apply _ _ _ i j).trans ?_)
  rw [emb_3 t i j, ref_product]
  exact congrArg₂ (· + ·) (Finset.sum_congr rfl fun k _ => congrArg₂ (· * ·) (xBlk_eq m c x hx t i k) (wBlk_eq m c w hw t k j)) (bBlk_eq m c b hb t j)

end

/-- The launch ends with its arguments as it found them. -/
theorem frame_kernel : Cert.quiescent_Kernel16 := fun m ρ _ => Cert.Kernel16.Gen.frame m ρ

/-- So does the launch read over the extended reals. -/
theorem frame_ideal : Cert.quiescent_Kernel16Ideal := fun m ρ _ => Cert.Kernel16Ideal.Gen.frame m ρ

/-- So does its reference. -/
theorem frame_reference : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The launch's product is the reference's. -/
theorem algebraic : Cert.algebraic_Kernel16Ideal_Reference16Ideal := by
  intro m ρ m' ρ' _ hm
  refine ⟨fun c => val_main_v3 (F := Ideal) (m' ((c.tc : Thread _ _).loc Cert.Reference16Ideal.main_arg0))
      (m' ((c.tc : Thread _ _).loc Cert.Reference16Ideal.main_arg1)) (m' ((c.tc : Thread _ _).loc Cert.Reference16Ideal.main_arg2)), ?_,
    (θ_run Cert.Reference16Ideal.defs _ _).mono (fun r h c => ⟨(h c).1.trans (val_main_v3_eq _ _ _), (h c).2⟩)
      (Cert.Reference16Ideal.Value.run (F := Ideal) m' ρ')⟩
  refine (θ_run Cert.Kernel16Ideal.defs _ _).mono (fun r h c => ?_) (Cert.Kernel16Ideal.Value.run_blocks (F := Ideal) m ρ)
  obtain ⟨e0, k⟩ := h c
  obtain ⟨m0, m1, m2⟩ := hm c
  exact ⟨e0.trans (product_array m c _ _ _ m0.symm m1.symm m2.symm), k⟩

end Cert.Kernel16Ideal.Prod
end
-- ==== Proof.DComb.lean ====
module

public import proofs.«01_k».proof.Defs
public import proofs.«01_k».proof.Proof.Gen.Kernel15.Frame
public import proofs.«01_k».proof.Proof.Gen.Kernel15Ideal.Value
public import proofs.«01_k».proof.Proof.Gen.Reference15Ideal.Read
public import proofs.«01_k».proof.Proof.Rows

@[expose] public section

set_option maxRecDepth 16384

noncomputable section

/-! # The launch `d_comb`: the gradient of what enters a product with 1024 columns -/

namespace Cert.Kernel15Ideal.Dx

open Idealize.ShloMosaic Idealize.ShloMosaic.TcCoe Idealize.SL.Sem
open Cert.Kernel15Ideal Cert.Kernel15Ideal.Gen Cert.Reference15Ideal.Read Cert.Rows

variable (m : (ℓ : Loc nD τ sig) → Buf (Elt Ideal) ℓ) (c : Dev nD)

/-- A tile's payload: the products of the block's rows with the rows of the weight. -/
theorem tile_apply (g : Vec Ideal S1024x1024 .bf16) (w : Vec Ideal S512x1024 .bf16) (i : Fin 1024) (j : Fin 512) :
    k0_pay1 (F := Ideal) g w (ix2 i j) = ∑ k : Fin 1024, g (ix2 i k) * w (ix2 j k) := by
  pointwise [k0_pay1]

/-- A point's result. -/
theorem out_apply (g : Vec Ideal S1024x1024 .bf16) (w : Vec Ideal S512x1024 .bf16) (i : Fin 1024) (j : Fin 512) :
    out0_2 (F := Ideal) g w (ix2 i j) = ∑ k : Fin 1024, g (ix2 i k) * w (ix2 j k) := by
  unfold out0_2
  canon_tiles x h
  all_goals
    obtain ⟨a, b, rfl⟩ := eta2 x
    refine (tile_apply _ _ a b).trans (Finset.sum_congr rfl fun k _ => congrArg₂ (· * ·) (ld_at _ _ _ _ _ _ _ _ ?_ ?_) (ld_at _ _ _ _ _ _ _ _ ?_ ?_))
    all_goals first | exact h0.trans (Nat.zero_add _).symm | exact h1.trans (Nat.zero_add _).symm | exact h1 | exact (Nat.zero_add _).symm

/-- The block of the gradient at a grid point. -/
def gBlk (t : Fin cfg0.N) : Vec Ideal S1024x1024 .bf16 := iblk m c 0 t

/-- The weight as every grid point has it. -/
def wBlk (t : Fin cfg0.N) : Vec Ideal S512x1024 .bf16 := iblk m c 1 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It writes the rows of its own number. -/
theorem index_2 : ∀ t : Fin cfg0.N, (cfg0.win 2).index t = ![t.val, 0] :=
  (by decide +kernel : ∀ t : Fin cfg0.N, (cfg0.win 2).index t = ![t.val, 0])

/-- The launch finds the gradient as the caller gave it. -/
theorem V_g : V m c main_v0 = (m ((c : Thread nD τ).loc main_arg2)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

section
variable (w : Vec Ideal S512x1024 .f32) (y : Vec Ideal S8192x1024 .f32)
  (hw : m ((c : Thread nD τ).loc main_arg1) = w) (hy : m ((c : Thread nD τ).loc main_arg2) = y)

include hy in
/-- A point's block of the gradient, entry by entry. -/
theorem gBlk_eq (t : Fin cfg0.N) (i : Fin 1024) (k : Fin 1024) :
    gBlk m c t (ix2 i k) = y (ix2 ⟨1024 * t.val + i.val, by have : t.val < 8 := t.isLt; omega⟩ k) := by
  rw [← hy, ← V_g m c]
  blk_ext [gBlk, iblk, index_0 t]

include hw in
/-- The weight, entry by entry. -/
theorem wBlk_eq (t : Fin cfg0.N) (j : Fin 512) (k : Fin 1024) : wBlk m c t (ix2 j k) = w (ix2 j k) := by
  rw [← hw, ← V_w m c]
  blk_ext [wBlk, iblk, index_1 t]

/-- The place of a block's entry in the result. -/
theorem emb_2 (t : Fin cfg0.N) (i : Fin 1024) (j : Fin 512) :
    ((cfg0.win 2).blk t).view.emb (ix2 i j) = (ix2 ⟨1024 * t.val + i.val, by have : t.val < 8 := t.isLt; omega⟩ j : S8192x512.Idx) := by
  blk_ext [index_2 t]

/-- The reference's gradient is the same sum. -/
theorem ref_dx (i : Fin 8192) (j : Fin 512) :
    val_main_v2 (F := Ideal) w y (ix2 i j) = ∑ k : Fin 1024, y (ix2 i k) * w (ix2 j k) := by
  pointwise [val_main_v2_apply, val_main_v1_apply]
  refine Finset.sum_congr rfl fun k _ => congrArg₂ (· * ·) (congrArg y ?_) (congrArg w ?_)
  all_goals
    funext a
    fin_cases a <;> rfl

include hw hy in
/-- The gradient is the reference's. -/
theorem dx_array : (dats m 0 c).arrAt 2 cfg0.N = (val_main_v2 (F := Ideal) w y : (⟨S8192x512, .bf16⟩ : BufTy).Contents (Elt Ideal)) := by
  refine (dats m 0 c).arrAt_eq_of_covers 2 _ (by decide +kernel) fun t hf z => ?_
  refine (show _ = (dats m 0 c).flushed 2 t z from rfl).trans ((congrFun (Value.flushed2 m c t) z).trans ?_)
  obtain ⟨i, j, rfl⟩ := eta2 (a := 1024) (b := 512) z
  refine (show _ = out0_2 (F := Ideal) (gBlk m c t) (wBlk m c t) (ix2 i j) from rfl).trans ((out_apply _ _ i j).trans ?_)
  rw [emb_2 t i j, ref_dx]
  exact Finset.sum_congr rfl fun k _ => congrArg₂ (· * ·) (gBlk_eq m c y hy t i k) (wBlk_eq m c w hw t j k)

end

/-- The launch ends with its arguments as it found them. -/
theorem frame_kernel : Cert.quiescent_Kernel15 := fun m ρ _ => Cert.Kernel15.Gen.frame m ρ

/-- So does the launch read over the extended reals. -/
theorem frame_ideal : Cert.quiescent_Kernel15Ideal := fun m ρ _ => Cert.Kernel15Ideal.Gen.frame m ρ

/-- So does its reference. -/
theorem frame_reference : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The launch's gradient is the reference's. -/
theorem algebraic : Cert.algebraic_Kernel15Ideal_Reference15Ideal := by
  intro m ρ m' ρ' _ hm
  refine ⟨fun c => val_main_v2 (F := Ideal) (m' ((c.tc : Thread _ _).loc Cert.Reference15Ideal.main_arg1))
      (m' ((c.tc : Thread _ _).loc Cert.Reference15Ideal.main_arg2)), ?_,
    (θ_run Cert.Reference15Ideal.defs _ _).mono (fun r h c => ⟨(h c).1.trans (val_main_v2_eq _ _), (h c).2⟩)
      (Cert.Reference15Ideal.Value.run (F := Ideal) m' ρ')⟩
  refine (θ_run Cert.Kernel15Ideal.defs _ _).mono (fun r h c => ?_) (Cert.Kernel15Ideal.Value.run_blocks (F := Ideal) m ρ)
  obtain ⟨e0, k⟩ := h c
  obtain ⟨m0, m1, m2⟩ := hm c
  exact ⟨e0.trans (dx_array m c _ _ m1.symm m2.symm), k⟩

end Cert.Kernel15Ideal.Dx
end
-- ==== Proof.BranchA.lean ====
module

public import proofs.«01_k».proof.Defs
public import proofs.«01_k».proof.Proof.Gen.Kernel14.Frame
public import proofs.«01_k».proof.Proof.Gen.Kernel14Ideal.Value
public import proofs.«01_k».proof.Proof.Gen.Reference14Ideal.Read
public import proofs.«01_k».proof.Proof.Rows

@[expose] public section

set_option maxRecDepth 16384

noncomputable section

/-! # The launch `branch_a_out`: a product of 1024 by 1024, with its bias -/

namespace Cert.Kernel14Ideal.Prod

open Idealize.ShloMosaic Idealize.ShloMosaic.TcCoe Idealize.SL.Sem
open Cert.Kernel14Ideal Cert.Kernel14Ideal.Gen Cert.Reference14Ideal.Read Cert.Rows

variable (m : (ℓ : Loc nD τ sig) → Buf (Elt Ideal) ℓ) (c : Dev nD)

/-- A tile's payload: the products of the block's rows with the columns of the weight, and the bias. -/
theorem tile_apply (x : Vec Ideal S1024x1024 .bf16) (w : Vec Ideal S1024x512 .bf16) (b : Vec Ideal S1x512 .f32) (i : Fin 1024) (j : Fin 512) :
    k0_pay2 (F := Ideal) x w b (ix2 i j) = (∑ k : Fin 1024, x (ix2 i k) * w (ix2 k j)) + b (ix2 0 j) := by
  pointwise [k0_pay2, k0_pay1]

/-- A point's result. -/
theorem out_apply (x : Vec Ideal S1024x1024 .bf16) (w : Vec Ideal S1024x1024 .bf16) (b : Vec Ideal S1x1024 .f32) (i : Fin 1024) (j : Fin 1024) :
    out0_3 (F := Ideal) x w b (ix2 i j) = (∑ k : Fin 1024, x (ix2 i k) * w (ix2 k j)) + b (ix2 0 j) := by
  unfold out0_3
  canon_tiles z h
  all_goals
    obtain ⟨p, q, rfl⟩ := eta2 z
    refine (tile_apply (View.ld x r0_0) _ _ p q).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the first factor at a grid point. -/
def xBlk (t : Fin cfg0.N) : Vec Ideal S1024x1024 .bf16 := iblk m c 0 t

/-- The weight as every grid point has it. -/
def wBlk (t : Fin cfg0.N) : Vec Ideal S1024x1024 .bf16 := iblk m c 1 t

/-- The bias as every grid point has it. -/
def bBlk (t : Fin cfg0.N) : Vec Ideal S1x1024 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the whole bias. -/
theorem index_2 : ∀ t : Fin cfg0.N, (cfg0.win 2).index t = ![0, 0] :=
  (by decide +kernel : ∀ t : Fin cfg0.N, (cfg0.win 2).index t = ![0, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the bias so too. -/
theorem V_b : V m c main_arg2 = (m ((c : Thread nD τ).loc main_arg2)) := by
  show StableHlo.after hostOps0 (fun b => m (c, b)) _ = _
  simp only [hostOps0]
  after_results_simp

section
variable (x : Vec Ideal S8192x1024 .f32) (w : Vec Ideal S1024x1024 .f32) (b : Vec Ideal S1x1024 .f32)
  (hx : m ((c : Thread nD τ).loc main_arg0) = x) (hw : m ((c : Thread nD τ).loc main_arg1) = w)
  (hb : m ((c : Thread nD τ).loc main_arg2) = b)

include hx in
/-- A point's block of the first factor, entry by entry. -/
theorem xBlk_eq (t : Fin cfg0.N) (i k : Fin 1024) :
    xBlk m c t (ix2 i k) = x (ix2 ⟨1024 * t.val + i.val, by have : t.val < 8 := t.isLt; omega⟩ k) := by
  rw [← hx, ← V_x m c]
  blk_ext [xBlk, iblk, index_0 t]

include hw in
/-- The weight, entry by entry. -/
theorem wBlk_eq (t : Fin cfg0.N) (k : Fin 1024) (j : Fin 1024) : wBlk m c t (ix2 k j) = w (ix2 k j) := by
  rw [← hw, ← V_w m c]
  blk_ext [wBlk, iblk, index_1 t]

include hb in
/-- The bias, entry by entry. -/
theorem bBlk_eq (t : Fin cfg0.N) (j : Fin 1024) : bBlk m c t (ix2 0 j) = b (ix2 0 j) := by
  rw [← hb, ← V_b m c]
  blk_ext [bBlk, iblk, index_2 t]

/-- The place of a block's entry in the result. -/
theorem emb_3 (t : Fin cfg0.N) (i : Fin 1024) (j : Fin 1024) :
    ((cfg0.win 3).blk t).view.emb (ix2 i j) = (ix2 ⟨1024 * t.val + i.val, by have : t.val < 8 := t.isLt; omega⟩ j : S8192x1024.Idx) := by
  blk_ext [index_3 t]

/-- The reference's product is the same sum. -/
theorem ref_product (i : Fin 8192) (j : Fin 1024) :
    val_main_v3 (F := Ideal) x w b (ix2 i j) = (∑ k : Fin 1024, x (ix2 i k) * w (ix2 k j)) + b (ix2 0 j) := by
  pointwise [val_main_v3_apply, val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

include hx hw hb in
/-- The product is the reference's. -/
theorem product_array : (dats m 0 c).arrAt 3 cfg0.N = (val_main_v3 (F := Ideal) x w b : (⟨S8192x1024, .bf16⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 1024) z
  refine (show _ = out0_3 (F := Ideal) (xBlk m c t) (wBlk m c t) (bBlk m c t) (ix2 i j) from rfl).trans ((out_apply _ _ _ i j).trans ?_)
  rw [emb_3 t i j, ref_product]
  exact congrArg₂ (· + ·) (Finset.sum_congr rfl fun k _ => congrArg₂ (· * ·) (xBlk_eq m c x hx t i k) (wBlk_eq m c w hw t k j)) (bBlk_eq m c b hb t j)

end

/-- The launch ends with its arguments as it found them. -/
theorem frame_kernel : Cert.quiescent_Kernel14 := fun m ρ _ => Cert.Kernel14.Gen.frame m ρ

/-- So does the launch read over the extended reals. -/
theorem frame_ideal : Cert.quiescent_Kernel14Ideal := fun m ρ _ => Cert.Kernel14Ideal.Gen.frame m ρ

/-- So does its reference. -/
theorem frame_reference : Cert.quiescent_Reference14Ideal := fun m ρ _ =>
  (θ_run Cert.Reference14Ideal.defs _ _).mono (fun r h => ⟨fun c => (h c).2, sem_eq_zero_of_no_sems (by decide) r.2⟩)
    (Cert.Reference14Ideal.Value.run (F := Ideal) m ρ)

/-- The launch's product is the reference's. -/
theorem algebraic : Cert.algebraic_Kernel14Ideal_Reference14Ideal := by
  intro m ρ m' ρ' _ hm
  refine ⟨fun c => val_main_v3 (F := Ideal) (m' ((c.tc : Thread _ _).loc Cert.Reference14Ideal.main_arg0))
      (m' ((c.tc : Thread _ _).loc Cert.Reference14Ideal.main_arg1)) (m' ((c.tc : Thread _ _).loc Cert.Reference14Ideal.main_arg2)), ?_,
    (θ_run Cert.Reference14Ideal.defs _ _).mono (fun r h c => ⟨(h c).1.trans (val_main_v3_eq _ _ _), (h c).2⟩)
      (Cert.Reference14Ideal.Value.run (F := Ideal) m' ρ')⟩
  refine (θ_run Cert.Kernel14Ideal.defs _ _).mono (fun r h c => ?_) (Cert.Kernel14Ideal.Value.run_blocks (F := Ideal) m ρ)
  obtain ⟨e0, k⟩ := h c
  obtain ⟨m0, m1, m2⟩ := hm c
  exact ⟨e0.trans (product_array m c _ _ _ m0.symm m1.symm m2.symm), k⟩

end Cert.Kernel14Ideal.Prod
end
-- ==== Proof.ProjQkv.lean ====
module

public import proofs.«01_k».proof.Defs
public import proofs.«01_k».proof.Proof.Gen.Kernel13.Frame
public import proofs.«01_k».proof.Proof.Gen.Kernel13Ideal.Value
public import proofs.«01_k».proof.Proof.Gen.Reference13Ideal.Read
public import proofs.«01_k».proof.Proof.Rows

@[expose] public section

set_option maxRecDepth 16384

noncomputable section

/-! # The launch `proj_qkv`: a product of 1024 by 1536, with its bias -/

namespace Cert.Kernel13Ideal.Prod

open Idealize.ShloMosaic Idealize.ShloMosaic.TcCoe Idealize.SL.Sem
open Cert.Kernel13Ideal Cert.Kernel13Ideal.Gen Cert.Reference13Ideal.Read Cert.Rows

variable (m : (ℓ : Loc nD τ sig) → Buf (Elt Ideal) ℓ) (c : Dev nD)

/-- A tile's payload: the products of the block's rows with the columns of the weight, and the bias. -/
theorem tile_apply (x : Vec Ideal S1024x1024 .bf16) (w : Vec Ideal S1024x512 .bf16) (b : Vec Ideal S1x512 .f32) (i : Fin 1024) (j : Fin 512) :
    k0_pay2 (F := Ideal) x w b (ix2 i j) = (∑ k : Fin 1024, x (ix2 i k) * w (ix2 k j)) + b (ix2 0 j) := by
  pointwise [k0_pay2, k0_pay1]

/-- A point's result. -/
theorem out_apply (x : Vec Ideal S1024x1024 .bf16) (w : Vec Ideal S1024x1536 .bf16) (b : Vec Ideal S1x1536 .f32) (i : Fin 1024) (j : Fin 1536) :
    out0_3 (F := Ideal) x w b (ix2 i j) = (∑ k : Fin 1024, x (ix2 i k) * w (ix2 k j)) + b (ix2 0 j) := by
  unfold out0_3
  canon_tiles z h
  all_goals
    obtain ⟨p, q, rfl⟩ := eta2 z
    refine (tile_apply (View.ld x r0_0) _ _ p q).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the first factor at a grid point. -/
def xBlk (t : Fin cfg0.N) : Vec Ideal S1024x1024 .bf16 := iblk m c 0 t

/-- The weight as every grid point has it. -/
def wBlk (t : Fin cfg0.N) : Vec Ideal S1024x1536 .bf16 := iblk m c 1 t

/-- The bias as every grid point has it. -/
def bBlk (t : Fin cfg0.N) : Vec Ideal S1x1536 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the whole bias. -/
theorem index_2 : ∀ t : Fin cfg0.N, (cfg0.win 2).index t = ![0, 0] :=
  (by decide +kernel : ∀ t : Fin cfg0.N, (cfg0.win 2).index t = ![0, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the bias so too. -/
theorem V_b : V m c main_arg2 = (m ((c : Thread nD τ).loc main_arg2)) := by
  show StableHlo.after hostOps0 (fun b => m (c, b)) _ = _
  simp only [hostOps0]
  after_results_simp

section
variable (x : Vec Ideal S8192x1024 .f32) (w : Vec Ideal S1024x1536 .f32) (b : Vec Ideal S1x1536 .f32)
  (hx : m ((c : Thread nD τ).loc main_arg0) = x) (hw : m ((c : Thread nD τ).loc main_arg1) = w)
  (hb : m ((c : Thread nD τ).loc main_arg2) = b)

include hx in
/-- A point's block of the first factor, entry by entry. -/
theorem xBlk_eq (t : Fin cfg0.N) (i k : Fin 1024) :
    xBlk m c t (ix2 i k) = x (ix2 ⟨1024 * t.val + i.val, by have : t.val < 8 := t.isLt; omega⟩ k) := by
  rw [← hx, ← V_x m c]
  blk_ext [xBlk, iblk, index_0 t]

include hw in
/-- The weight, entry by entry. -/
theorem wBlk_eq (t : Fin cfg0.N) (k : Fin 1024) (j : Fin 1536) : wBlk m c t (ix2 k j) = w (ix2 k j) := by
  rw [← hw, ← V_w m c]
  blk_ext [wBlk, iblk, index_1 t]

include hb in
/-- The bias, entry by entry. -/
theorem bBlk_eq (t : Fin cfg0.N) (j : Fin 1536) : bBlk m c t (ix2 0 j) = b (ix2 0 j) := by
  rw [← hb, ← V_b m c]
  blk_ext [bBlk, iblk, index_2 t]

/-- The place of a block's entry in the result. -/
theorem emb_3 (t : Fin cfg0.N) (i : Fin 1024) (j : Fin 1536) :
    ((cfg0.win 3).blk t).view.emb (ix2 i j) = (ix2 ⟨1024 * t.val + i.val, by have : t.val < 8 := t.isLt; omega⟩ j : S8192x1536.Idx) := by
  blk_ext [index_3 t]

/-- The reference's product is the same sum. -/
theorem ref_product (i : Fin 8192) (j : Fin 1536) :
    val_main_v3 (F := Ideal) x w b (ix2 i j) = (∑ k : Fin 1024, x (ix2 i k) * w (ix2 k j)) + b (ix2 0 j) := by
  pointwise [val_main_v3_apply, val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

include hx hw hb in
/-- The product is the reference's. -/
theorem product_array : (dats m 0 c).arrAt 3 cfg0.N = (val_main_v3 (F := Ideal) x w b : (⟨S8192x1536, .bf16⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 1536) z
  refine (show _ = out0_3 (F := Ideal) (xBlk m c t) (wBlk m c t) (bBlk m c t) (ix2 i j) from rfl).trans ((out_apply _ _ _ i j).trans ?_)
  rw [emb_3 t i j, ref_product]
  exact congrArg₂ (· + ·) (Finset.sum_congr rfl fun k _ => congrArg₂ (· * ·) (xBlk_eq m c x hx t i k) (wBlk_eq m c w hw t k j)) (bBlk_eq m c b hb t j)

end

/-- The launch ends with its arguments as it found them. -/
theorem frame_kernel : Cert.quiescent_Kernel13 := fun m ρ _ => Cert.Kernel13.Gen.frame m ρ

/-- So does the launch read over the extended reals. -/
theorem frame_ideal : Cert.quiescent_Kernel13Ideal := fun m ρ _ => Cert.Kernel13Ideal.Gen.frame m ρ

/-- So does its reference. -/
theorem frame_reference : Cert.quiescent_Reference13Ideal := fun m ρ _ =>
  (θ_run Cert.Reference13Ideal.defs _ _).mono (fun r h => ⟨fun c => (h c).2, sem_eq_zero_of_no_sems (by decide) r.2⟩)
    (Cert.Reference13Ideal.Value.run (F := Ideal) m ρ)

/-- The launch's product is the reference's. -/
theorem algebraic : Cert.algebraic_Kernel13Ideal_Reference13Ideal := by
  intro m ρ m' ρ' _ hm
  refine ⟨fun c => val_main_v3 (F := Ideal) (m' ((c.tc : Thread _ _).loc Cert.Reference13Ideal.main_arg0))
      (m' ((c.tc : Thread _ _).loc Cert.Reference13Ideal.main_arg1)) (m' ((c.tc : Thread _ _).loc Cert.Reference13Ideal.main_arg2)), ?_,
    (θ_run Cert.Reference13Ideal.defs _ _).mono (fun r h c => ⟨(h c).1.trans (val_main_v3_eq _ _ _), (h c).2⟩)
      (Cert.Reference13Ideal.Value.run (F := Ideal) m' ρ')⟩
  refine (θ_run Cert.Kernel13Ideal.defs _ _).mono (fun r h c => ?_) (Cert.Kernel13Ideal.Value.run_blocks (F := Ideal) m ρ)
  obtain ⟨e0, k⟩ := h c
  obtain ⟨m0, m1, m2⟩ := hm c
  exact ⟨e0.trans (product_array m c _ _ _ m0.symm m1.symm m2.symm), k⟩

end Cert.Kernel13Ideal.Prod
end
-- ==== Proof.ProjGates.lean ====
module

public import proofs.«01_k».proof.Defs
public import proofs.«01_k».proof.Proof.Gen.Kernel12.Frame
public import proofs.«01_k».proof.Proof.Gen.Kernel12Ideal.Value
public import proofs.«01_k».proof.Proof.Gen.Reference12Ideal.Read
public import proofs.«01_k».proof.Proof.Rows

@[expose] public section

set_option maxRecDepth 16384

noncomputable section

/-! # The launch `proj_gates`: a product of 1024 by 2048, with its bias -/

namespace Cert.Kernel12Ideal.Prod

open Idealize.ShloMosaic Idealize.ShloMosaic.TcCoe Idealize.SL.Sem
open Cert.Kernel12Ideal Cert.Kernel12Ideal.Gen Cert.Reference12Ideal.Read Cert.Rows

variable (m : (ℓ : Loc nD τ sig) → Buf (Elt Ideal) ℓ) (c : Dev nD)

/-- A tile's payload: the products of the block's rows with the columns of the weight, and the bias. -/
theorem tile_apply (x : Vec Ideal S1024x1024 .bf16) (w : Vec Ideal S1024x512 .bf16) (b : Vec Ideal S1x512 .f32) (i : Fin 1024) (j : Fin 512) :
    k0_pay3 (F := Ideal) x w b (ix2 i j) = (∑ k : Fin 1024, x (ix2 i k) * w (ix2 k j)) + b (ix2 0 j) := by
  pointwise [k0_pay3, k0_pay2]

/-- A point's result. -/
theorem out_apply (x : Vec Ideal S1024x1024 .bf16) (w : Vec Ideal S1024x2048 .bf16) (b : Vec Ideal S1x2048 .f32) (i : Fin 1024) (j : Fin 2048) :
    out0_3 (F := Ideal) x w b (ix2 i j) = (∑ k : Fin 1024, x (ix2 i k) * w (ix2 k j)) + b (ix2 0 j) := by
  unfold out0_3
  canon_tiles z h
  all_goals
    obtain ⟨p, q, rfl⟩ := eta2 z
    refine (tile_apply (View.ld x r0_0) _ _ p q).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the first factor at a grid point. -/
def xBlk (t : Fin cfg0.N) : Vec Ideal S1024x1024 .bf16 := iblk m c 0 t

/-- The weight as every grid point has it. -/
def wBlk (t : Fin cfg0.N) : Vec Ideal S1024x2048 .bf16 := iblk m c 1 t

/-- The bias as every grid point has it. -/
def bBlk (t : Fin cfg0.N) : Vec Ideal S1x2048 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the whole bias. -/
theorem index_2 : ∀ t : Fin cfg0.N, (cfg0.win 2).index t = ![0, 0] :=
  (by decide +kernel : ∀ t : Fin cfg0.N, (cfg0.win 2).index t = ![0, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the bias so too. -/
theorem V_b : V m c main_arg2 = (m ((c : Thread nD τ).loc main_arg2)) := by
  show StableHlo.after hostOps0 (fun b => m (c, b)) _ = _
  simp only [hostOps0]
  after_results_simp

section
variable (x : Vec Ideal S8192x1024 .f32) (w : Vec Ideal S1024x2048 .f32) (b : Vec Ideal S1x2048 .f32)
  (hx : m ((c : Thread nD τ).loc main_arg0) = x) (hw : m ((c : Thread nD τ).loc main_arg1) = w)
  (hb : m ((c : Thread nD τ).loc main_arg2) = b)

include hx in
/-- A point's block of the first factor, entry by entry. -/
theorem xBlk_eq (t : Fin cfg0.N) (i k : Fin 1024) :
    xBlk m c t (ix2 i k) = x (ix2 ⟨1024 * t.val + i.val, by have : t.val < 8 := t.isLt; omega⟩ k) := by
  rw [← hx, ← V_x m c]
  blk_ext [xBlk, iblk, index_0 t]

include hw in
/-- The weight, entry by entry. -/
theorem wBlk_eq (t : Fin cfg0.N) (k : Fin 1024) (j : Fin 2048) : wBlk m c t (ix2 k j) = w (ix2 k j) := by
  rw [← hw, ← V_w m c]
  blk_ext [wBlk, iblk, index_1 t]

include hb in
/-- The bias, entry by entry. -/
theorem bBlk_eq (t : Fin cfg0.N) (j : Fin 2048) : bBlk m c t (ix2 0 j) = b (ix2 0 j) := by
  rw [← hb, ← V_b m c]
  blk_ext [bBlk, iblk, index_2 t]

/-- The place of a block's entry in the result. -/
theorem emb_3 (t : Fin cfg0.N) (i : Fin 1024) (j : Fin 2048) :
    ((cfg0.win 3).blk t).view.emb (ix2 i j) = (ix2 ⟨1024 * t.val + i.val, by have : t.val < 8 := t.isLt; omega⟩ j : S8192x2048.Idx) := by
  blk_ext [index_3 t]

/-- The reference's product is the same sum. -/
theorem ref_product (i : Fin 8192) (j : Fin 2048) :
    val_main_v3 (F := Ideal) x w b (ix2 i j) = (∑ k : Fin 1024, x (ix2 i k) * w (ix2 k j)) + b (ix2 0 j) := by
  pointwise [val_main_v3_apply, val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

include hx hw hb in
/-- The product is the reference's. -/
theorem product_array : (dats m 0 c).arrAt 3 cfg0.N = (val_main_v3 (F := Ideal) x w b : (⟨S8192x2048, .bf16⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 2048) z
  refine (show _ = out0_3 (F := Ideal) (xBlk m c t) (wBlk m c t) (bBlk m c t) (ix2 i j) from rfl).trans ((out_apply _ _ _ i j).trans ?_)
  rw [emb_3 t i j, ref_product]
  exact congrArg₂ (· + ·) (Finset.sum_congr rfl fun k _ => congrArg₂ (· * ·) (xBlk_eq m c x hx t i k) (wBlk_eq m c w hw t k j)) (bBlk_eq m c b hb t j)

end

/-- The launch ends with its arguments as it found them. -/
theorem frame_kernel : Cert.quiescent_Kernel12 := fun m ρ _ => Cert.Kernel12.Gen.frame m ρ

/-- So does the launch read over the extended reals. -/
theorem frame_ideal : Cert.quiescent_Kernel12Ideal := fun m ρ _ => Cert.Kernel12Ideal.Gen.frame m ρ

/-- So does its reference. -/
theorem frame_reference : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

/-- The launch's product is the reference's. -/
theorem algebraic : Cert.algebraic_Kernel12Ideal_Reference12Ideal := by
  intro m ρ m' ρ' _ hm
  refine ⟨fun c => val_main_v3 (F := Ideal) (m' ((c.tc : Thread _ _).loc Cert.Reference12Ideal.main_arg0))
      (m' ((c.tc : Thread _ _).loc Cert.Reference12Ideal.main_arg1)) (m' ((c.tc : Thread _ _).loc Cert.Reference12Ideal.main_arg2)), ?_,
    (θ_run Cert.Reference12Ideal.defs _ _).mono (fun r h c => ⟨(h c).1.trans (val_main_v3_eq _ _ _), (h c).2⟩)
      (Cert.Reference12Ideal.Value.run (F := Ideal) m' ρ')⟩
  refine (θ_run Cert.Kernel12Ideal.defs _ _).mono (fun r h c => ?_) (Cert.Kernel12Ideal.Value.run_blocks (F := Ideal) m ρ)
  obtain ⟨e0, k⟩ := h c
  obtain ⟨m0, m1, m2⟩ := hm c
  exact ⟨e0.trans (product_array m c _ _ _ m0.symm m1.symm m2.symm), k⟩

end Cert.Kernel12Ideal.Prod
end
-- ==== Proof.ProjConv.lean ====
module

public import proofs.«01_k».proof.Defs
public import proofs.«01_k».proof.Proof.Gen.Kernel11.Frame
public import proofs.«01_k».proof.Proof.Gen.Kernel11Ideal.Value
public import proofs.«01_k».proof.Proof.Gen.Reference11Ideal.Read
public import proofs.«01_k».proof.Proof.Rows

@[expose] public section

set_option maxRecDepth 16384

noncomputable section

/-! # The launch `proj_conv`: a product of 1024 by 3072, with its bias -/

namespace Cert.Kernel11Ideal.Prod

open Idealize.ShloMosaic Idealize.ShloMosaic.TcCoe Idealize.SL.Sem
open Cert.Kernel11Ideal Cert.Kernel11Ideal.Gen Cert.Reference11Ideal.Read Cert.Rows

variable (m : (ℓ : Loc nD τ sig) → Buf (Elt Ideal) ℓ) (c : Dev nD)

/-- A tile's payload: the products of the block's rows with the columns of the weight, and the bias. -/
theorem tile_apply (x : Vec Ideal S1024x1024 .bf16) (w : Vec Ideal S1024x512 .bf16) (b : Vec Ideal S1x512 .f32) (i : Fin 1024) (j : Fin 512) :
    k0_pay5 (F := Ideal) x w b (ix2 i j) = (∑ k : Fin 1024, x (ix2 i k) * w (ix2 k j)) + b (ix2 0 j) := by
  pointwise [k0_pay5, k0_pay4]

/-- A point's result. -/
theorem out_apply (x : Vec Ideal S1024x1024 .bf16) (w : Vec Ideal S1024x3072 .bf16) (b : Vec Ideal S1x3072 .f32) (i : Fin 1024) (j : Fin 3072) :
    out0_3 (F := Ideal) x w b (ix2 i j) = (∑ k : Fin 1024, x (ix2 i k) * w (ix2 k j)) + b (ix2 0 j) := by
  unfold out0_3
  canon_tiles z h
  all_goals
    obtain ⟨p, q, rfl⟩ := eta2 z
    refine (tile_apply (View.ld x r0_0) _ _ p q).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the first factor at a grid point. -/
def xBlk (t : Fin cfg0.N) : Vec Ideal S1024x1024 .bf16 := iblk m c 0 t

/-- The weight as every grid point has it. -/
def wBlk (t : Fin cfg0.N) : Vec Ideal S1024x3072 .bf16 := iblk m c 1 t

/-- The bias as every grid point has it. -/
def bBlk (t : Fin cfg0.N) : Vec Ideal S1x3072 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the whole bias. -/
theorem index_2 : ∀ t : Fin cfg0.N, (cfg0.win 2).index t = ![0, 0] :=
  (by decide +kernel : ∀ t : Fin cfg0.N, (cfg0.win 2).index t = ![0, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_x : V m c main_v0 = (m ((c : Thread nD τ).loc main_arg0)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the bias so too. -/
theorem V_b : V m c main_arg2 = (m ((c : Thread nD τ).loc main_arg2)) := by
  show StableHlo.after hostOps0 (fun b => m (c, b)) _ = _
  simp only [hostOps0]
  after_results_simp

section
variable (x : Vec Ideal S8192x1024 .f32) (w : Vec Ideal S1024x3072 .f32) (b : Vec Ideal S1x3072 .f32)
  (hx : m ((c : Thread nD τ).loc main_arg0) = x) (hw : m ((c : Thread nD τ).loc main_arg1) = w)
  (hb : m ((c : Thread nD τ).loc main_arg2) = b)

include hx in
/-- A point's block of the first factor, entry by entry. -/
theorem xBlk_eq (t : Fin cfg0.N) (i k : Fin 1024) :
    xBlk m c t (ix2 i k) = x (ix2 ⟨1024 * t.val + i.val, by have : t.val < 8 := t.isLt; omega⟩ k) := by
  rw [← hx, ← V_x m c]
  blk_ext [xBlk, iblk, index_0 t]

include hw in
/-- The weight, entry by entry. -/
theorem wBlk_eq (t : Fin cfg0.N) (k : Fin 1024) (j : Fin 3072) : wBlk m c t (ix2 k j) = w (ix2 k j) := by
  rw [← hw, ← V_w m c]
  blk_ext [wBlk, iblk, index_1 t]

include hb in
/-- The bias, entry by entry. -/
theorem bBlk_eq (t : Fin cfg0.N) (j : Fin 3072) : bBlk m c t (ix2 0 j) = b (ix2 0 j) := by
  rw [← hb, ← V_b m c]
  blk_ext [bBlk, iblk, index_2 t]

/-- The place of a block's entry in the result. -/
theorem emb_3 (t : Fin cfg0.N) (i : Fin 1024) (j : Fin 3072) :
    ((cfg0.win 3).blk t).view.emb (ix2 i j) = (ix2 ⟨1024 * t.val + i.val, by have : t.val < 8 := t.isLt; omega⟩ j : S8192x3072.Idx) := by
  blk_ext [index_3 t]

/-- The reference's product is the same sum. -/
theorem ref_product (i : Fin 8192) (j : Fin 3072) :
    val_main_v3 (F := Ideal) x w b (ix2 i j) = (∑ k : Fin 1024, x (ix2 i k) * w (ix2 k j)) + b (ix2 0 j) := by
  pointwise [val_main_v3_apply, val_main_v2_apply, val_main_v1_apply, val_main_v0_apply]
  refine congrArg₂ (· + ·) (Finset.sum_congr rfl fun k _ => congrArg₂ (· * ·) (congrArg x ?_) (congrArg w ?_)) (congrArg b ?_)
  all_goals
    funext a
    fin_cases a <;> rfl

include hx hw hb in
/-- The product is the reference's. -/
theorem product_array : (dats m 0 c).arrAt 3 cfg0.N = (val_main_v3 (F := Ideal) x w b : (⟨S8192x3072, .bf16⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 3072) z
  refine (show _ = out0_3 (F := Ideal) (xBlk m c t) (wBlk m c t) (bBlk m c t) (ix2 i j) from rfl).trans ((out_apply _ _ _ i j).trans ?_)
  rw [emb_3 t i j, ref_product]
  exact congrArg₂ (· + ·) (Finset.sum_congr rfl fun k _ => congrArg₂ (· * ·) (xBlk_eq m c x hx t i k) (wBlk_eq m c w hw t k j)) (bBlk_eq m c b hb t j)

end

/-- The launch ends with its arguments as it found them. -/
theorem frame_kernel : Cert.quiescent_Kernel11 := fun m ρ _ => Cert.Kernel11.Gen.frame m ρ

/-- So does the launch read over the extended reals. -/
theorem frame_ideal : Cert.quiescent_Kernel11Ideal := fun m ρ _ => Cert.Kernel11Ideal.Gen.frame m ρ

/-- So does its reference. -/
theorem frame_reference : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The launch's product is the reference's. -/
theorem algebraic : Cert.algebraic_Kernel11Ideal_Reference11Ideal := by
  intro m ρ m' ρ' _ hm
  refine ⟨fun c => val_main_v3 (F := Ideal) (m' ((c.tc : Thread _ _).loc Cert.Reference11Ideal.main_arg0))
      (m' ((c.tc : Thread _ _).loc Cert.Reference11Ideal.main_arg1)) (m' ((c.tc : Thread _ _).loc Cert.Reference11Ideal.main_arg2)), ?_,
    (θ_run Cert.Reference11Ideal.defs _ _).mono (fun r h c => ⟨(h c).1.trans (val_main_v3_eq _ _ _), (h c).2⟩)
      (Cert.Reference11Ideal.Value.run (F := Ideal) m' ρ')⟩
  refine (θ_run Cert.Kernel11Ideal.defs _ _).mono (fun r h c => ?_) (Cert.Kernel11Ideal.Value.run_blocks (F := Ideal) m ρ)
  obtain ⟨e0, k⟩ := h c
  obtain ⟨m0, m1, m2⟩ := hm c
  exact ⟨e0.trans (product_array m c _ _ _ m0.symm m1.symm m2.symm), k⟩

end Cert.Kernel11Ideal.Prod
end
-- ==== Proof.DxQkv.lean ====
module

public import proofs.«01_k».proof.Defs
public import proofs.«01_k».proof.Proof.Gen.Kernel10.Frame
public import proofs.«01_k».proof.Proof.Gen.Kernel10Ideal.Value
public import proofs.«01_k».proof.Proof.Gen.Reference10Ideal.Read
public import proofs.«01_k».proof.Proof.Rows

@[expose] public section

set_option maxRecDepth 16384

noncomputable section

/-! # The launch `d_h0_qkv`: the gradient of what enters a product with 1536 columns

The gradient of the product comes in three pieces of 512 columns, which the launch lays side by side. -/

namespace Cert.Kernel10Ideal.Dx

open Idealize.ShloMosaic Idealize.ShloMosaic.TcCoe Idealize.SL.Sem
open Cert.Kernel10Ideal Cert.Kernel10Ideal.Gen Cert.Reference10Ideal.Read Cert.Rows

variable (m : (ℓ : Loc nD τ sig) → Buf (Elt Ideal) ℓ) (c : Dev nD)

/-- A tile's payload: the products of the block's rows with the rows of the weight. -/
theorem tile_apply (q k v : Vec Ideal S1024x512 .bf16) (w : Vec Ideal S512x1536 .bf16) (i : Fin 1024) (j : Fin 512) :
    k0_pay2 (F := Ideal) q k v w (ix2 i j) = ∑ n : Fin 1536, k0_pay1 (F := Ideal) q k v (ix2 i n) * w (ix2 j n) := by
  unfold k0_pay2
  generalize k0_pay1 (F := Ideal) q k v = g
  pointwise []

/-- A point's result. -/
theorem out_apply (q k v : Vec Ideal S1024x512 .bf16) (w : Vec Ideal S1024x1536 .bf16) (i j : Fin 1024) :
    out0_4 (F := Ideal) q k v w (ix2 i j) = ∑ n : Fin 1536, k0_pay1 (F := Ideal) q k v (ix2 i n) * w (ix2 j n) := by
  unfold out0_4
  canon_tiles x h
  all_goals
    obtain ⟨a, b, rfl⟩ := eta2 x
    refine (tile_apply _ _ _ _ a b).trans (Finset.sum_congr rfl fun n _ =>
      congrArg₂ (· * ·) ((congrFun (congr (congrArg₂ (k0_pay1 (F := Ideal)) (ld_all _ _) (ld_all _ _)) (ld_all _ _)) _).trans (congrArg _ ?_)) (ld_at _ _ _ _ _ _ _ _ ?_ ?_))
    · exact congrArg (ix2 · n) (Fin.ext h0.symm)
    all_goals first | exact h0.trans (Nat.zero_add _).symm | exact h1.trans (Nat.zero_add _).symm | exact h1 | exact (Nat.zero_add _).symm

/-- The first piece of the gradient's block at a grid point. -/
def qBlk (t : Fin cfg0.N) : Vec Ideal S1024x512 .bf16 := iblk m c 0 t

/-- Its second piece. -/
def kBlk (t : Fin cfg0.N) : Vec Ideal S1024x512 .bf16 := iblk m c 1 t

/-- Its third piece. -/
def vBlk (t : Fin cfg0.N) : Vec Ideal S1024x512 .bf16 := iblk m c 2 t

/-- The weight as every grid point has it. -/
def wBlk (t : Fin cfg0.N) : Vec Ideal S1024x1536 .bf16 := iblk m c 3 t

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second piece. -/
theorem index_1 : ∀ t : Fin cfg0.N, (cfg0.win 1).index t = ![t.val, 0] :=
  (by decide +kernel : ∀ t : Fin cfg0.N, (cfg0.win 1).index t = ![t.val, 0])

/-- And of the third piece. -/
theorem index_2 : ∀ t : Fin cfg0.N, (cfg0.win 2).index t = ![t.val, 0] :=
  (by decide +kernel : ∀ t : Fin cfg0.N, (cfg0.win 2).index t = ![t.val, 0])

/-- It takes the whole weight. -/
theorem index_3 : ∀ t : Fin cfg0.N, (cfg0.win 3).index t = ![0, 0] :=
  (by decide +kernel : ∀ t : Fin cfg0.N, (cfg0.win 3).index t = ![0, 0])

/-- It writes the rows of its own number. -/
theorem index_4 : ∀ t : Fin cfg0.N, (cfg0.win 4).index t = ![t.val, 0] :=
  (by decide +kernel : ∀ t : Fin cfg0.N, (cfg0.win 4).index t = ![t.val, 0])

/-- The launch finds the first piece as the caller gave it. -/
theorem V_q : V m c main_v0 = (m ((c : Thread nD τ).loc main_arg2)) := by
  show StableHlo.after hostOps0 (fun b => m (c, b)) _ = _
  simp only [hostOps0]
  after_results_simp
  rfl

/-- It finds the second piece so too. -/
theorem V_k : V m c main_v1 = (m ((c : Thread nD τ).loc main_arg3)) := by
  show StableHlo.after hostOps0 (fun b => m (c, b)) _ = _
  simp only [hostOps0]
  after_results_simp
  rfl

/-- It finds the third piece so too. -/
theorem V_v : V m c main_v2 = (m ((c : Thread nD τ).loc main_arg4)) := by
  show StableHlo.after hostOps0 (fun b => m (c, b)) _ = _
  simp only [hostOps0]
  after_results_simp
  rfl

/-- It finds the weight so too. -/
theorem V_w : V m c main_v3 = (m ((c : Thread nD τ).loc main_arg1)) := by
  show StableHlo.after hostOps0 (fun b => m (c, b)) _ = _
  simp only [hostOps0]
  after_results_simp
  rfl

section
variable (w : Vec Ideal S1024x1536 .f32) (q k v : Vec Ideal S8192x512 .f32)
  (hw : m ((c : Thread nD τ).loc main_arg1) = w) (hq : m ((c : Thread nD τ).loc main_arg2) = q)
  (hk : m ((c : Thread nD τ).loc main_arg3) = k) (hv : m ((c : Thread nD τ).loc main_arg4) = v)

include hq in
/-- A point's block of the first piece, entry by entry. -/
theorem qBlk_eq (t : Fin cfg0.N) (i : Fin 1024) (l : Fin 512) :
    qBlk m c t (ix2 i l) = q (ix2 ⟨1024 * t.val + i.val, by have : t.val < 8 := t.isLt; omega⟩ l) := by
  rw [← hq, ← V_q m c]
  blk_ext [qBlk, iblk, index_0 t]

include hk in
/-- The second piece. -/
theorem kBlk_eq (t : Fin cfg0.N) (i : Fin 1024) (l : Fin 512) :
    kBlk m c t (ix2 i l) = k (ix2 ⟨1024 * t.val + i.val, by have : t.val < 8 := t.isLt; omega⟩ l) := by
  rw [← hk, ← V_k m c]
  blk_ext [kBlk, iblk, index_1 t]

include hv in
/-- The third piece. -/
theorem vBlk_eq (t : Fin cfg0.N) (i : Fin 1024) (l : Fin 512) :
    vBlk m c t (ix2 i l) = v (ix2 ⟨1024 * t.val + i.val, by have : t.val < 8 := t.isLt; omega⟩ l) := by
  rw [← hv, ← V_v m c]
  blk_ext [vBlk, iblk, index_2 t]

include hq hk hv in
/-- The pieces side by side are the rows of the arrays side by side. -/
theorem gBlk_eq (t : Fin cfg0.N) (i : Fin 1024) (n : Fin 1536) :
    k0_pay1 (F := Ideal) (qBlk m c t) (kBlk m c t) (vBlk m c t) (ix2 i n)
      = val_main_v0 (F := Ideal) q k v (ix2 ⟨1024 * t.val + i.val, by have : t.val < 8 := t.isLt; omega⟩ n) := by
  pointwise [k0_pay1, val_main_v0]
  simp only [qBlk_eq m c q hq, kBlk_eq m c k hk, vBlk_eq m c v hv]

include hw in
/-- The weight, entry by entry. -/
theorem wBlk_eq (t : Fin cfg0.N) (j : Fin 1024) (n : Fin 1536) : wBlk m c t (ix2 j n) = w (ix2 j n) := by
  rw [← hw, ← V_w m c]
  blk_ext [wBlk, iblk, index_3 t]

/-- The place of a block's entry in the result. -/
theorem emb_4 (t : Fin cfg0.N) (i j : Fin 1024) :
    ((cfg0.win 4).blk t).view.emb (ix2 i j) = (ix2 ⟨1024 * t.val + i.val, by have : t.val < 8 := t.isLt; omega⟩ j : S8192x1024.Idx) := by
  blk_ext [index_4 t]

/-- The reference's gradient is the same sum. -/
theorem ref_dx (i : Fin 8192) (j : Fin 1024) :
    val_main_v2 (F := Ideal) w q k v (ix2 i j) = ∑ n : Fin 1536, val_main_v0 (F := Ideal) q k v (ix2 i n) * w (ix2 j n) := by
  pointwise [val_main_v2_apply]
  refine Finset.sum_congr rfl fun n _ => congrArg₂ (· * ·) (congrArg (val_main_v0 (F := Ideal) q k v) ?_) (congrArg w ?_)
  all_goals
    funext a
    fin_cases a <;> rfl

include hw hq hk hv in
/-- The gradient is the reference's. -/
theorem dx_array : (dats m 0 c).arrAt 4 cfg0.N = (val_main_v2 (F := Ideal) w q k v : (⟨S8192x1024, .f32⟩ : BufTy).Contents (Elt Ideal)) := by
  refine (dats m 0 c).arrAt_eq_of_covers 4 _ (by decide +kernel) fun t hf z => ?_
  refine (show _ = (dats m 0 c).flushed 4 t z from rfl).trans ((congrFun (Value.flushed4 m c t) z).trans ?_)
  obtain ⟨i, j, rfl⟩ := eta2 (a := 1024) (b := 1024) z
  refine (show _ = out0_4 (F := Ideal) (qBlk m c t) (kBlk m c t) (vBlk m c t) (wBlk m c t) (ix2 i j) from rfl).trans ((out_apply _ _ _ _ i j).trans ?_)
  rw [emb_4 t i j, ref_dx]
  exact Finset.sum_congr rfl fun n _ => congrArg₂ (· * ·) (gBlk_eq m c q k v hq hk hv t i n) (wBlk_eq m c w hw t j n)

end

/-- The launch ends with its arguments as it found them. -/
theorem frame_kernel : Cert.quiescent_Kernel10 := fun m ρ _ => Cert.Kernel10.Gen.frame m ρ

/-- So does the launch read over the extended reals. -/
theorem frame_ideal : Cert.quiescent_Kernel10Ideal := fun m ρ _ => Cert.Kernel10Ideal.Gen.frame m ρ

/-- So does its reference. -/
theorem frame_reference : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The launch's gradient is the reference's. -/
theorem algebraic : Cert.algebraic_Kernel10Ideal_Reference10Ideal := by
  intro m ρ m' ρ' _ hm
  refine ⟨fun c => val_main_v2 (F := Ideal) (m' ((c.tc : Thread _ _).loc Cert.Reference10Ideal.main_arg1))
      (m' ((c.tc : Thread _ _).loc Cert.Reference10Ideal.main_arg2)) (m' ((c.tc : Thread _ _).loc Cert.Reference10Ideal.main_arg3))
      (m' ((c.tc : Thread _ _).loc Cert.Reference10Ideal.main_arg4)), ?_,
    (θ_run Cert.Reference10Ideal.defs _ _).mono (fun r h c => ⟨(h c).1.trans (val_main_v2_eq _ _ _ _), (h c).2⟩)
      (Cert.Reference10Ideal.Value.run (F := Ideal) m' ρ')⟩
  refine (θ_run Cert.Kernel10Ideal.defs _ _).mono (fun r h c => ?_) (Cert.Kernel10Ideal.Value.run_blocks (F := Ideal) m ρ)
  obtain ⟨e0, k⟩ := h c
  obtain ⟨m0, m1, m2, m3, m4⟩ := hm c
  exact ⟨e0.trans (dx_array m c _ _ _ _ m1.symm m2.symm m3.symm m4.symm), k⟩

end Cert.Kernel10Ideal.Dx
end
-- ==== Proof.DxGates.lean ====
module

public import proofs.«01_k».proof.Defs
public import proofs.«01_k».proof.Proof.Gen.Kernel9.Frame
public import proofs.«01_k».proof.Proof.Gen.Kernel9Ideal.Value
public import proofs.«01_k».proof.Proof.Gen.Reference9Ideal.Read
public import proofs.«01_k».proof.Proof.Rows

@[expose] public section

set_option maxRecDepth 16384

noncomputable section

/-! # The launch `d_h0_gates`: the gradient of what enters a product with 2048 columns, added to another gradient -/

namespace Cert.Kernel9Ideal.Dx

open Idealize.ShloMosaic Idealize.ShloMosaic.TcCoe Idealize.SL.Sem
open Cert.Kernel9Ideal Cert.Kernel9Ideal.Gen Cert.Reference9Ideal.Read Cert.Rows

variable (m : (ℓ : Loc nD τ sig) → Buf (Elt Ideal) ℓ) (c : Dev nD)

/-- A tile's payload: the products of the block's rows with the rows of the weight, and what is added. -/
theorem tile_apply (g : Vec Ideal S1024x2048 .bf16) (w : Vec Ideal S512x2048 .bf16) (p : Vec Ideal S1024x512 .f32) (i : Fin 1024) (j : Fin 512) :
    k0_pay2 (F := Ideal) g w p (ix2 i j) = (∑ k : Fin 2048, g (ix2 i k) * w (ix2 j k)) + p (ix2 i j) := by
  pointwise [k0_pay2, k0_pay1]

/-- A point's result. -/
theorem out_apply (g : Vec Ideal S1024x2048 .bf16) (w : Vec Ideal S1024x2048 .bf16) (p : Vec Ideal S1024x1024 .f32) (i j : Fin 1024) :
    out0_3 (F := Ideal) g w p (ix2 i j) = (∑ k : Fin 2048, g (ix2 i k) * w (ix2 j k)) + p (ix2 i j) := by
  unfold out0_3
  canon_tiles x h
  all_goals
    obtain ⟨a, b, rfl⟩ := eta2 x
    refine (tile_apply _ _ _ a b).trans (congrArg₂ (· + ·) (Finset.sum_congr rfl fun k _ =>
      congrArg₂ (· * ·) (ld_at _ _ _ _ _ _ _ _ ?_ ?_) (ld_at _ _ _ _ _ _ _ _ ?_ ?_)) (ld_at _ _ _ _ _ _ _ _ ?_ ?_))
    all_goals first | exact h0.trans (Nat.zero_add _).symm | exact h1.trans (Nat.zero_add _).symm | exact h1 | exact (Nat.zero_add _).symm

/-- The block of the gradient at a grid point. -/
def gBlk (t : Fin cfg0.N) : Vec Ideal S1024x2048 .bf16 := iblk m c 0 t

/-- The weight as every grid point has it. -/
def wBlk (t : Fin cfg0.N) : Vec Ideal S1024x2048 .bf16 := iblk m c 1 t

/-- The block of the other gradient at a grid point. -/
def pBlk (t : Fin cfg0.N) : Vec Ideal S1024x1024 .f32 := iblk m c 2 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It takes the rows of its own number of the other gradient. -/
theorem index_2 : ∀ t : Fin cfg0.N, (cfg0.win 2).index t = ![t.val, 0] :=
  (by decide +kernel : ∀ t : Fin cfg0.N, (cfg0.win 2).index t = ![t.val, 0])

/-- It writes the rows of its own number. -/
theorem index_3 : ∀ t : Fin cfg0.N, (cfg0.win 3).index t = ![t.val, 0] :=
  (by decide +kernel : ∀ t : Fin cfg0.N, (cfg0.win 3).index t = ![t.val, 0])

/-- The launch finds the gradient as the caller gave it. -/
theorem V_g : V m c main_v0 = (m ((c : Thread nD τ).loc main_arg2)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

/-- It finds the other gradient so too. -/
theorem V_p : V m c main_arg3 = (m ((c : Thread nD τ).loc main_arg3)) := by
  show StableHlo.after hostOps0 (fun b => m (c, b)) _ = _
  simp only [hostOps0]
  after_results_simp

section
variable (w : Vec Ideal S1024x2048 .f32) (y : Vec Ideal S8192x2048 .f32) (p : Vec Ideal S8192x1024 .f32)
  (hw : m ((c : Thread nD τ).loc main_arg1) = w) (hy : m ((c : Thread nD τ).loc main_arg2) = y)
  (hp : m ((c : Thread nD τ).loc main_arg3) = p)

include hy in
/-- A point's block of the gradient, entry by entry. -/
theorem gBlk_eq (t : Fin cfg0.N) (i : Fin 1024) (k : Fin 2048) :
    gBlk m c t (ix2 i k) = y (ix2 ⟨1024 * t.val + i.val, by have : t.val < 8 := t.isLt; omega⟩ k) := by
  rw [← hy, ← V_g m c]
  blk_ext [gBlk, iblk, index_0 t]

include hw in
/-- The weight, entry by entry. -/
theorem wBlk_eq (t : Fin cfg0.N) (j : Fin 1024) (k : Fin 2048) : wBlk m c t (ix2 j k) = w (ix2 j k) := by
  rw [← hw, ← V_w m c]
  blk_ext [wBlk, iblk, index_1 t]

include hp in
/-- A point's block of the other gradient, entry by entry. -/
theorem pBlk_eq (t : Fin cfg0.N) (i j : Fin 1024) :
    pBlk m c t (ix2 i j) = p (ix2 ⟨1024 * t.val + i.val, by have : t.val < 8 := t.isLt; omega⟩ j) := by
  rw [← hp, ← V_p m c]
  blk_ext [pBlk, iblk, index_2 t]

/-- The place of a block's entry in the result. -/
theorem emb_3 (t : Fin cfg0.N) (i j : Fin 1024) :
    ((cfg0.win 3).blk t).view.emb (ix2 i j) = (ix2 ⟨1024 * t.val + i.val, by have : t.val < 8 := t.isLt; omega⟩ j : S8192x1024.Idx) := by
  blk_ext [index_3 t]

/-- The reference's gradient is the same sum. -/
theorem ref_dx (i : Fin 8192) (j : Fin 1024) :
    val_main_v2 (F := Ideal) w y p (ix2 i j) = (∑ k : Fin 2048, y (ix2 i k) * w (ix2 j k)) + p (ix2 i j) := by
  pointwise [val_main_v2_apply, val_main_v1_apply]
  refine (add_comm _ _).trans (congrArg (· + _) ?_)
  refine Finset.sum_congr rfl fun k _ => congrArg₂ (· * ·) (congrArg y ?_) (congrArg w ?_)
  all_goals
    funext a
    fin_cases a <;> rfl

include hw hy hp in
/-- The gradient is the reference's. -/
theorem dx_array : (dats m 0 c).arrAt 3 cfg0.N = (val_main_v2 (F := Ideal) w y p : (⟨S8192x1024, .f32⟩ : BufTy).Contents (Elt Ideal)) := by
  refine (dats m 0 c).arrAt_eq_of_covers 3 _ (by decide +kernel) fun t hf z => ?_
  refine (show _ = (dats m 0 c).flushed 3 t z from rfl).trans ((congrFun (Value.flushed3 m c t) z).trans ?_)
  obtain ⟨i, j, rfl⟩ := eta2 (a := 1024) (b := 1024) z
  refine (show _ = out0_3 (F := Ideal) (gBlk m c t) (wBlk m c t) (pBlk m c t) (ix2 i j) from rfl).trans ((out_apply _ _ _ i j).trans ?_)
  rw [emb_3 t i j, ref_dx]
  exact congrArg₂ (· + ·) (Finset.sum_congr rfl fun k _ => congrArg₂ (· * ·) (gBlk_eq m c y hy t i k) (wBlk_eq m c w hw t j k)) (pBlk_eq m c p hp t i j)

end

/-- The launch ends with its arguments as it found them. -/
theorem frame_kernel : Cert.quiescent_Kernel9 := fun m ρ _ => Cert.Kernel9.Gen.frame m ρ

/-- So does the launch read over the extended reals. -/
theorem frame_ideal : Cert.quiescent_Kernel9Ideal := fun m ρ _ => Cert.Kernel9Ideal.Gen.frame m ρ

/-- So does its reference. -/
theorem frame_reference : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

/-- The launch's gradient is the reference's. -/
theorem algebraic : Cert.algebraic_Kernel9Ideal_Reference9Ideal := by
  intro m ρ m' ρ' _ hm
  refine ⟨fun c => val_main_v2 (F := Ideal) (m' ((c.tc : Thread _ _).loc Cert.Reference9Ideal.main_arg1))
      (m' ((c.tc : Thread _ _).loc Cert.Reference9Ideal.main_arg2)) (m' ((c.tc : Thread _ _).loc Cert.Reference9Ideal.main_arg3)), ?_,
    (θ_run Cert.Reference9Ideal.defs _ _).mono (fun r h c => ⟨(h c).1.trans (val_main_v2_eq _ _ _), (h c).2⟩)
      (Cert.Reference9Ideal.Value.run (F := Ideal) m' ρ')⟩
  refine (θ_run Cert.Kernel9Ideal.defs _ _).mono (fun r h c => ?_) (Cert.Kernel9Ideal.Value.run_blocks (F := Ideal) m ρ)
  obtain ⟨e0, k⟩ := h c
  obtain ⟨m0, m1, m2, m3⟩ := hm c
  exact ⟨e0.trans (dx_array m c _ _ _ m1.symm m2.symm m3.symm), k⟩

end Cert.Kernel9Ideal.Dx
end
-- ==== Proof.DxConv.lean ====
module

public import proofs.«01_k».proof.Defs
public import proofs.«01_k».proof.Proof.Gen.Kernel8.Frame
public import proofs.«01_k».proof.Proof.Gen.Kernel8Ideal.Value
public import proofs.«01_k».proof.Proof.Gen.Reference8Ideal.Read
public import proofs.«01_k».proof.Proof.Rows

@[expose] public section

set_option maxRecDepth 16384

noncomputable section

/-! # The launch `d_h0_conv`: the gradient of what enters a product with 3072 columns -/

namespace Cert.Kernel8Ideal.Dx

open Idealize.ShloMosaic Idealize.ShloMosaic.TcCoe Idealize.SL.Sem
open Cert.Kernel8Ideal Cert.Kernel8Ideal.Gen Cert.Reference8Ideal.Read Cert.Rows

variable (m : (ℓ : Loc nD τ sig) → Buf (Elt Ideal) ℓ) (c : Dev nD)

/-- A tile's payload: the products of the block's rows with the rows of the weight. -/
theorem tile_apply (g : Vec Ideal S1024x3072 .bf16) (w : Vec Ideal S512x3072 .bf16) (i : Fin 1024) (j : Fin 512) :
    k0_pay2 (F := Ideal) g w (ix2 i j) = ∑ k : Fin 3072, g (ix2 i k) * w (ix2 j k) := by
  pointwise [k0_pay2, k0_pay1]

/-- A point's result. -/
theorem out_apply (g : Vec Ideal S1024x3072 .bf16) (w : Vec Ideal S1024x3072 .bf16) (i j : Fin 1024) :
    out0_2 (F := Ideal) g w (ix2 i j) = ∑ k : Fin 3072, g (ix2 i k) * w (ix2 j k) := by
  unfold out0_2
  canon_tiles x h
  all_goals
    obtain ⟨a, b, rfl⟩ := eta2 x
    refine (tile_apply _ _ a b).trans (Finset.sum_congr rfl fun k _ => congrArg₂ (· * ·) (ld_at _ _ _ _ _ _ _ _ ?_ ?_) (ld_at _ _ _ _ _ _ _ _ ?_ ?_))
    all_goals first | exact h0.trans (Nat.zero_add _).symm | exact h1.trans (Nat.zero_add _).symm | exact h1 | exact (Nat.zero_add _).symm

/-- The block of the gradient at a grid point. -/
def gBlk (t : Fin cfg0.N) : Vec Ideal S1024x3072 .bf16 := iblk m c 0 t

/-- The weight as every grid point has it. -/
def wBlk (t : Fin cfg0.N) : Vec Ideal S1024x3072 .bf16 := iblk m c 1 t

/-- A point takes the rows of its own number. -/
theorem index_0 : ∀ t : Fin cfg0.N, (cfg0.win 0).index t = ![t.val, 0] :=
  (by decide +kernel : ∀ t : Fin cfg0.N, (cfg0.win 0).index t = ![t.val, 0])

/-- It takes the whole weight. -/
theorem index_1 : ∀ t : Fin cfg0.N, (cfg0.win 1).index t = ![0, 0] :=
  (by decide +kernel : ∀ t : Fin cfg0.N, (cfg0.win 1).index t = ![0, 0])

/-- It writes the rows of its own number. -/
theorem index_2 : ∀ t : Fin cfg0.N, (cfg0.win 2).index t = ![t.val, 0] :=
  (by decide +kernel : ∀ t : Fin cfg0.N, (cfg0.win 2).index t = ![t.val, 0])

/-- The launch finds the gradient as the caller gave it. -/
theorem V_g : V m c main_v0 = (m ((c : Thread nD τ).loc main_arg2)) := by
  show StableHlo.after hostOps0 (fun b => m (c, b)) _ = _
  simp only [hostOps0]
  after_results_simp
  rfl

/-- It finds the weight so too. -/
theorem V_w : V m c main_v1 = (m ((c : Thread nD τ).loc main_arg1)) := by
  show StableHlo.after hostOps0 (fun b => m (c, b)) _ = _
  simp only [hostOps0]
  after_results_simp
  rfl

section
variable (w : Vec Ideal S1024x3072 .f32) (y : Vec Ideal S8192x3072 .f32)
  (hw : m ((c : Thread nD τ).loc main_arg1) = w) (hy : m ((c : Thread nD τ).loc main_arg2) = y)

include hy in
/-- A point's block of the gradient, entry by entry. -/
theorem gBlk_eq (t : Fin cfg0.N) (i : Fin 1024) (k : Fin 3072) :
    gBlk m c t (ix2 i k) = y (ix2 ⟨1024 * t.val + i.val, by have : t.val < 8 := t.isLt; omega⟩ k) := by
  rw [← hy, ← V_g m c]
  blk_ext [gBlk, iblk, index_0 t]

include hw in
/-- The weight, entry by entry. -/
theorem wBlk_eq (t : Fin cfg0.N) (j : Fin 1024) (k : Fin 3072) : wBlk m c t (ix2 j k) = w (ix2 j k) := by
  rw [← hw, ← V_w m c]
  blk_ext [wBlk, iblk, index_1 t]

/-- The place of a block's entry in the result. -/
theorem emb_2 (t : Fin cfg0.N) (i j : Fin 1024) :
    ((cfg0.win 2).blk t).view.emb (ix2 i j) = (ix2 ⟨1024 * t.val + i.val, by have : t.val < 8 := t.isLt; omega⟩ j : S8192x1024.Idx) := by
  blk_ext [index_2 t]

/-- The reference's gradient is the same sum. -/
theorem ref_dx (i : Fin 8192) (j : Fin 1024) :
    val_main_v1 (F := Ideal) w y (ix2 i j) = ∑ k : Fin 3072, y (ix2 i k) * w (ix2 j k) := by
  pointwise [val_main_v1_apply]
  refine Finset.sum_congr rfl fun k _ => congrArg₂ (· * ·) (congrArg y ?_) (congrArg w ?_)
  all_goals
    funext a
    fin_cases a <;> rfl

include hw hy in
/-- The gradient is the reference's. -/
theorem dx_array : (dats m 0 c).arrAt 2 cfg0.N = (val_main_v1 (F := Ideal) w y : (⟨S8192x1024, .f32⟩ : BufTy).Contents (Elt Ideal)) := by
  refine (dats m 0 c).arrAt_eq_of_covers 2 _ (by decide +kernel) fun t hf z => ?_
  refine (show _ = (dats m 0 c).flushed 2 t z from rfl).trans ((congrFun (Value.flushed2 m c t) z).trans ?_)
  obtain ⟨i, j, rfl⟩ := eta2 (a := 1024) (b := 1024) z
  refine (show _ = out0_2 (F := Ideal) (gBlk m c t) (wBlk m c t) (ix2 i j) from rfl).trans ((out_apply _ _ i j).trans ?_)
  rw [emb_2 t i j, ref_dx]
  exact Finset.sum_congr rfl fun k _ => congrArg₂ (· * ·) (gBlk_eq m c y hy t i k) (wBlk_eq m c w hw t j k)

end

/-- The launch ends with its arguments as it found them. -/
theorem frame_kernel : Cert.quiescent_Kernel8 := fun m ρ _ => Cert.Kernel8.Gen.frame m ρ

/-- So does the launch read over the extended reals. -/
theorem frame_ideal : Cert.quiescent_Kernel8Ideal := fun m ρ _ => Cert.Kernel8Ideal.Gen.frame m ρ

/-- So does its reference. -/
theorem frame_reference : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The launch's gradient is the reference's. -/
theorem algebraic : Cert.algebraic_Kernel8Ideal_Reference8Ideal := by
  intro m ρ m' ρ' _ hm
  refine ⟨fun c => val_main_v1 (F := Ideal) (m' ((c.tc : Thread _ _).loc Cert.Reference8Ideal.main_arg1))
      (m' ((c.tc : Thread _ _).loc Cert.Reference8Ideal.main_arg2)), ?_,
    (θ_run Cert.Reference8Ideal.defs _ _).mono (fun r h c => ⟨(h c).1.trans (val_main_v1_eq _ _), (h c).2⟩)
      (Cert.Reference8Ideal.Value.run (F := Ideal) m' ρ')⟩
  refine (θ_run Cert.Kernel8Ideal.defs _ _).mono (fun r h c => ?_) (Cert.Kernel8Ideal.Value.run_blocks (F := Ideal) m ρ)
  obtain ⟨e0, k⟩ := h c
  obtain ⟨m0, m1, m2⟩ := hm c
  exact ⟨e0.trans (dx_array m c _ _ m1.symm m2.symm), k⟩

end Cert.Kernel8Ideal.Dx
end
-- ==== Proof.DwConv.lean ====
module

public import proofs.«01_k».proof.Defs
public import proofs.«01_k».proof.Proof.Gen.Kernel2.Frame
public import proofs.«01_k».proof.Proof.Gen.Kernel2Ideal.Value
public import proofs.«01_k».proof.Proof.Gen.Reference2Ideal.Read
public import proofs.«01_k».proof.Proof.Rows

@[expose] public section

set_option maxRecDepth 16384

noncomputable section

/-! # The launch `dw_in_conv`: the gradients of a weight of 1024 rows and 3072 columns, and of its bias -/

namespace Cert.Kernel2Ideal.Dw

open Idealize.ShloMosaic Idealize.ShloMosaic.TcCoe Idealize.SL.Sem
open Cert.Kernel2Ideal Cert.Kernel2Ideal.Gen Cert.Reference2Ideal.Read Cert.Rows

variable (m : (ℓ : Loc nD τ sig) → Buf (Elt Ideal) ℓ) (c : Dev nD)

/-- A chunk's payload: the chunk before, plus the sum over the block's rows. -/
theorem chunk_apply (g : Vec Ideal S1024x3072 .bf16) (s : Vec Ideal S256x3072 .f32) (h : Vec Ideal S1024x256 .bf16) (i : Fin 256) (j : Fin 3072) :
    k0_pay2 (F := Ideal) (k0_pay6 g) s h (ix2 i j) = s (ix2 i j) + ∑ k : Fin 1024, h (ix2 k i) * g (ix2 k j) := by
  pointwise [k0_pay2, k0_pay6]

/-- The column sums' payload: the row before, plus the sum of the block's column. -/
theorem pay7_apply (v3 : Vec Ideal S1024x3072 .bf16) (v5 : Vec Ideal S1x3072 .f32) (i : Fin 1) (j : Fin 3072) :
    k0_pay7 (F := Ideal) v3 v5 (ix2 i j) = v5 (ix2 i j) + ∑ k : Fin 1024, v3 (ix2 k j) := by
  pointwise [k0_pay7, k0_pay6]

/-- The accumulator starts at zero. -/
theorem pay4_eq (i : S1024x3072.Idx) : k0_pay4 (F := Ideal) i = 0 := by
  obtain ⟨a, b, rfl⟩ := eta2 i
  pointwise [k0_pay4]

/-- So do the column sums. -/
theorem pay5_apply (i : Fin 1) (j : Fin 3072) : k0_pay5 (F := Ideal) (ix2 i j) = 0 := by
  pointwise [k0_pay5]

/-- Over the extended reals the narrowing cast changes nothing. -/
theorem pay3_eq (v : Vec Ideal S1024x3072 .f32) : k0_pay3 (F := Ideal) v = v := rfl

/-- The block of the first factor at a grid point. -/
def hBlk (t : Fin cfg0.N) : Vec Ideal S1024x1024 .bf16 := iblk m c 0 t

/-- The block of the second factor at a grid point. -/
def gBlk (t : Fin cfg0.N) : Vec Ideal S1024x3072 .bf16 := iblk m c 1 t

/-- After the first point the accumulator is the product of the point's blocks. -/
theorem acc_first (t : Fin cfg0.N) (h0 : t.val % 8 = 0) (r : Fin 1024) (l : Fin 3072) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over4 _ _ _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 1024) (l : Fin 3072) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 1024) (l : Fin 3072) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 3072) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 3072) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x1024 .f32) (y : Vec Ideal S8192x3072 .f32)
  (hx : m ((c : Thread nD τ).loc main_arg0) = x) (hy : m ((c : Thread nD τ).loc main_arg3) = y)
include hx in
/-- A point's block of the first factor, entry by entry. -/
theorem hBlk_eq (t : Fin cfg0.N) (k : Fin 1024) (r : Fin 1024) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 3072) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 1024) (l : Fin 3072) :
    ((dats m 0 c).arrAt 2 cfg0.N : Vec Ideal S1024x3072 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 1024 × Fin 3072) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 3072) :
    ((dats m 0 c).arrAt 3 cfg0.N : Vec Ideal S1x3072 .f32) (ix2 0 l) = ∑ k : Fin 8192, y (ix2 k l) := by
  have h7 : 7 < cfg0.N := by decide
  rw [Value.final3, Value.G3_last, ← Value.outsAt0_sweep m c 7 h7]
  refine gathered rfl (fun n h (i : Fin 3072) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 1024) (l : Fin 3072) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 3072 + l.val) / 3072 = k.val by omega)
    · exact Fin.ext (show (k.val * 3072 + l.val) % 3072 = l.val by omega)

/-- The reference's bias gradient is the same sum. -/
theorem ref_db (l : Fin 3072) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 3072 + l.val = l.val by omega)

include hx hy in
/-- The weight's gradient is the reference's. -/
theorem dw_array : (dats m 0 c).arrAt 2 cfg0.N = val_main_v8 (F := Ideal) x y := by
  funext i
  obtain ⟨a, b, rfl⟩ := eta2 (a := 1024) (b := 3072) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 3072) i
  exact (db_eq m c y hy b).trans (ref_db y b).symm

end

/-- The launch ends with its arguments as it found them. -/
theorem frame_kernel : Cert.quiescent_Kernel2 := fun m ρ _ => Cert.Kernel2.Gen.frame m ρ

/-- So does the launch read over the extended reals. -/
theorem frame_ideal : Cert.quiescent_Kernel2Ideal := fun m ρ _ => Cert.Kernel2Ideal.Gen.frame m ρ

/-- So does its reference. -/
theorem frame_reference : Cert.quiescent_Reference2Ideal := fun m ρ _ =>
  (θ_run Cert.Reference2Ideal.defs _ _).mono (fun r h => ⟨fun c => (h c).2.2, sem_eq_zero_of_no_sems (by decide) r.2⟩)
    (Cert.Reference2Ideal.Value.run (F := Ideal) m ρ)

/-- The launch's two gradients are the reference's. -/
theorem algebraic : Cert.algebraic_Kernel2Ideal_Reference2Ideal := by
  intro m ρ m' ρ' _ hm
  refine ⟨fun c => val_main_v8 (F := Ideal) (m' ((c.tc : Thread _ _).loc Cert.Reference2Ideal.main_arg0))
      (m' ((c.tc : Thread _ _).loc Cert.Reference2Ideal.main_arg3)),
    fun c => val_main_v5 (F := Ideal) (m' ((c.tc : Thread _ _).loc Cert.Reference2Ideal.main_arg3)), ?_,
    (θ_run Cert.Reference2Ideal.defs _ _).mono (fun r h c => ⟨(h c).1.trans (val_main_v8_eq _ _), (h c).2.1.trans (val_main_v5_eq _), (h c).2.2⟩)
      (Cert.Reference2Ideal.Value.run (F := Ideal) m' ρ')⟩
  refine (θ_run Cert.Kernel2Ideal.defs _ _).mono (fun r h c => ?_) (Cert.Kernel2Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel2Ideal.Dw
end
-- ==== Proof.DwUp.lean ====
module

public import proofs.«01_k».proof.Defs
public import proofs.«01_k».proof.Proof.Gen.Kernel3.Frame
public import proofs.«01_k».proof.Proof.Gen.Kernel3Ideal.Value
public import proofs.«01_k».proof.Proof.Gen.Reference3Ideal.Read
public import proofs.«01_k».proof.Proof.Rows

@[expose] public section

set_option maxRecDepth 16384

noncomputable section

/-! # The launch `dw_up`: the gradients of a weight of 1024 rows and 2816 columns, and of its bias -/

namespace Cert.Kernel3Ideal.Dw

open Idealize.ShloMosaic Idealize.ShloMosaic.TcCoe Idealize.SL.Sem
open Cert.Kernel3Ideal Cert.Kernel3Ideal.Gen Cert.Reference3Ideal.Read Cert.Rows

variable (m : (ℓ : Loc nD τ sig) → Buf (Elt Ideal) ℓ) (c : Dev nD)

/-- A chunk's payload: the chunk before, plus the sum over the block's rows. -/
theorem chunk_apply (g : Vec Ideal S1024x2816 .bf16) (s : Vec Ideal S256x2816 .f32) (h : Vec Ideal S1024x256 .bf16) (i : Fin 256) (j : Fin 2816) :
    k0_pay2 (F := Ideal) (k0_pay6 g) s h (ix2 i j) = s (ix2 i j) + ∑ k : Fin 1024, h (ix2 k i) * g (ix2 k j) := by
  pointwise [k0_pay2, k0_pay6]

/-- The column sums' payload: the row before, plus the sum of the block's column. -/
theorem pay7_apply (v3 : Vec Ideal S1024x2816 .bf16) (v5 : Vec Ideal S1x2816 .f32) (i : Fin 1) (j : Fin 2816) :
    k0_pay7 (F := Ideal) v3 v5 (ix2 i j) = v5 (ix2 i j) + ∑ k : Fin 1024, v3 (ix2 k j) := by
  pointwise [k0_pay7, k0_pay6]

/-- The accumulator starts at zero. -/
theorem pay4_eq (i : S1024x2816.Idx) : k0_pay4 (F := Ideal) i = 0 := by
  obtain ⟨a, b, rfl⟩ := eta2 i
  pointwise [k0_pay4]

/-- So do the column sums. -/
theorem pay5_apply (i : Fin 1) (j : Fin 2816) : k0_pay5 (F := Ideal) (ix2 i j) = 0 := by
  pointwise [k0_pay5]

/-- Over the extended reals the narrowing cast changes nothing. -/
theorem pay3_eq (v : Vec Ideal S1024x2816 .f32) : k0_pay3 (F := Ideal) v = v := rfl

/-- The block of the first factor at a grid point. -/
def hBlk (t : Fin cfg0.N) : Vec Ideal S1024x1024 .bf16 := iblk m c 0 t

/-- The block of the second factor at a grid point. -/
def gBlk (t : Fin cfg0.N) : Vec Ideal S1024x2816 .bf16 := iblk m c 1 t

/-- After the first point the accumulator is the product of the point's blocks. -/
theorem acc_first (t : Fin cfg0.N) (h0 : t.val % 8 = 0) (r : Fin 1024) (l : Fin 2816) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over4 _ _ _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 1024) (l : Fin 2816) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 1024) (l : Fin 2816) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 2816) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 2816) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x1024 .f32) (y : Vec Ideal S8192x2816 .f32)
  (hx : m ((c : Thread nD τ).loc main_arg0) = x) (hy : m ((c : Thread nD τ).loc main_arg3) = y)
include hx in
/-- A point's block of the first factor, entry by entry. -/
theorem hBlk_eq (t : Fin cfg0.N) (k r : Fin 1024) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 2816) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 1024) (l : Fin 2816) :
    ((dats m 0 c).arrAt 2 cfg0.N : Vec Ideal S1024x2816 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 1024 × Fin 2816) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 2816) :
    ((dats m 0 c).arrAt 3 cfg0.N : Vec Ideal S1x2816 .f32) (ix2 0 l) = ∑ k : Fin 8192, y (ix2 k l) := by
  have h7 : 7 < cfg0.N := by decide
  rw [Value.final3, Value.G3_last, ← Value.outsAt0_sweep m c 7 h7]
  refine gathered rfl (fun n h (i : Fin 2816) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 1024) (l : Fin 2816) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 2816 + l.val) / 2816 = k.val by omega)
    · exact Fin.ext (show (k.val * 2816 + l.val) % 2816 = l.val by omega)

/-- The reference's bias gradient is the same sum. -/
theorem ref_db (l : Fin 2816) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 2816 + l.val = l.val by omega)

include hx hy in
/-- The weight's gradient is the reference's. -/
theorem dw_array : (dats m 0 c).arrAt 2 cfg0.N = val_main_v8 (F := Ideal) x y := by
  funext i
  obtain ⟨a, b, rfl⟩ := eta2 (a := 1024) (b := 2816) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 2816) i
  exact (db_eq m c y hy b).trans (ref_db y b).symm

end

/-- The launch ends with its arguments as it found them. -/
theorem frame_kernel : Cert.quiescent_Kernel3 := fun m ρ _ => Cert.Kernel3.Gen.frame m ρ

/-- So does the launch read over the extended reals. -/
theorem frame_ideal : Cert.quiescent_Kernel3Ideal := fun m ρ _ => Cert.Kernel3Ideal.Gen.frame m ρ

/-- So does its reference. -/
theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

/-- The launch's two gradients are the reference's. -/
theorem algebraic : Cert.algebraic_Kernel3Ideal_Reference3Ideal := by
  intro m ρ m' ρ' _ hm
  refine ⟨fun c => val_main_v8 (F := Ideal) (m' ((c.tc : Thread _ _).loc Cert.Reference3Ideal.main_arg0))
      (m' ((c.tc : Thread _ _).loc Cert.Reference3Ideal.main_arg3)),
    fun c => val_main_v5 (F := Ideal) (m' ((c.tc : Thread _ _).loc Cert.Reference3Ideal.main_arg3)), ?_,
    (θ_run Cert.Reference3Ideal.defs _ _).mono (fun r h c => ⟨(h c).1.trans (val_main_v8_eq _ _), (h c).2.1.trans (val_main_v5_eq _), (h c).2.2⟩)
      (Cert.Reference3Ideal.Value.run (F := Ideal) m' ρ')⟩
  refine (θ_run Cert.Kernel3Ideal.defs _ _).mono (fun r h c => ?_) (Cert.Kernel3Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel3Ideal.Dw
end
-- ==== Proof.DwDown.lean ====
module

public import proofs.«01_k».proof.Defs
public import proofs.«01_k».proof.Proof.Gen.Kernel4.Frame
public import proofs.«01_k».proof.Proof.Gen.Kernel4Ideal.Value
public import proofs.«01_k».proof.Proof.Gen.Reference4Ideal.Read
public import proofs.«01_k».proof.Proof.Rows

@[expose] public section

set_option maxRecDepth 16384

noncomputable section

/-! # The launch `dw_down`: the gradients of a weight of 1024 rows and 1024 columns, and of its bias -/

namespace Cert.Kernel4Ideal.Dw

open Idealize.ShloMosaic Idealize.ShloMosaic.TcCoe Idealize.SL.Sem
open Cert.Kernel4Ideal Cert.Kernel4Ideal.Gen Cert.Reference4Ideal.Read Cert.Rows

variable (m : (ℓ : Loc nD τ sig) → Buf (Elt Ideal) ℓ) (c : Dev nD)

/-- A chunk's payload: the chunk before, plus the sum over the block's rows. -/
theorem chunk_apply (g : Vec Ideal S1024x1024 .bf16) (s : Vec Ideal S256x1024 .f32) (h : Vec Ideal S1024x256 .bf16) (i : Fin 256) (j : Fin 1024) :
    k0_pay2 (F := Ideal) (k0_pay6 g) s h (ix2 i j) = s (ix2 i j) + ∑ k : Fin 1024, h (ix2 k i) * g (ix2 k j) := by
  pointwise [k0_pay2, k0_pay6]

/-- The column sums' payload: the row before, plus the sum of the block's column. -/
theorem pay7_apply (v3 : Vec Ideal S1024x1024 .bf16) (v5 : Vec Ideal S1x1024 .f32) (i : Fin 1) (j : Fin 1024) :
    k0_pay7 (F := Ideal) v3 v5 (ix2 i j) = v5 (ix2 i j) + ∑ k : Fin 1024, v3 (ix2 k j) := by
  pointwise [k0_pay7, k0_pay6]

/-- The accumulator starts at zero. -/
theorem pay4_eq (i : S2816x1024.Idx) : k0_pay4 (F := Ideal) i = 0 := by
  obtain ⟨a, b, rfl⟩ := eta2 i
  pointwise [k0_pay4]

/-- So do the column sums. -/
theorem pay5_apply (i : Fin 1) (j : Fin 1024) : k0_pay5 (F := Ideal) (ix2 i j) = 0 := by
  pointwise [k0_pay5]

/-- Over the extended reals the narrowing cast changes nothing. -/
theorem pay3_eq (v : Vec Ideal S2816x1024 .f32) : k0_pay3 (F := Ideal) v = v := rfl

/-- The block of the first factor at a grid point. -/
def hBlk (t : Fin cfg0.N) : Vec Ideal S1024x2816 .bf16 := iblk m c 0 t

/-- The block of the second factor at a grid point. -/
def gBlk (t : Fin cfg0.N) : Vec Ideal S1024x1024 .bf16 := iblk m c 1 t

/-- After the first point the accumulator is the product of the point's blocks. -/
theorem acc_first (t : Fin cfg0.N) (h0 : t.val % 8 = 0) (r : Fin 2816) (l : Fin 1024) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over11 _ _ _ _ _ _ _ _ _ _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 2816) (l : Fin 1024) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 2816) (l : Fin 1024) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 1024) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 1024) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x2816 .f32) (y : Vec Ideal S8192x1024 .f32)
  (hx : m ((c : Thread nD τ).loc main_arg0) = x) (hy : m ((c : Thread nD τ).loc main_arg3) = y)
include hx in
/-- A point's block of the first factor, entry by entry. -/
theorem hBlk_eq (t : Fin cfg0.N) (k : Fin 1024) (r : Fin 2816) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 1024) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 2816) (l : Fin 1024) :
    ((dats m 0 c).arrAt 2 cfg0.N : Vec Ideal S2816x1024 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 2816 × Fin 1024) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 1024) :
    ((dats m 0 c).arrAt 3 cfg0.N : Vec Ideal S1x1024 .f32) (ix2 0 l) = ∑ k : Fin 8192, y (ix2 k l) := by
  have h7 : 7 < cfg0.N := by decide
  rw [Value.final3, Value.G3_last, ← Value.outsAt0_sweep m c 7 h7]
  refine gathered rfl (fun n h (i : Fin 1024) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 2816) (l : Fin 1024) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 1024 + l.val) / 1024 = k.val by omega)
    · exact Fin.ext (show (k.val * 1024 + l.val) % 1024 = l.val by omega)

/-- The reference's bias gradient is the same sum. -/
theorem ref_db (l : Fin 1024) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 1024 + l.val = l.val by omega)

include hx hy in
/-- The weight's gradient is the reference's. -/
theorem dw_array : (dats m 0 c).arrAt 2 cfg0.N = val_main_v8 (F := Ideal) x y := by
  funext i
  obtain ⟨a, b, rfl⟩ := eta2 (a := 2816) (b := 1024) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 1024) i
  exact (db_eq m c y hy b).trans (ref_db y b).symm

end

/-- The launch ends with its arguments as it found them. -/
theorem frame_kernel : Cert.quiescent_Kernel4 := fun m ρ _ => Cert.Kernel4.Gen.frame m ρ

/-- So does the launch read over the extended reals. -/
theorem frame_ideal : Cert.quiescent_Kernel4Ideal := fun m ρ _ => Cert.Kernel4Ideal.Gen.frame m ρ

/-- So does its reference. -/
theorem frame_reference : Cert.quiescent_Reference4Ideal := fun m ρ _ =>
  (θ_run Cert.Reference4Ideal.defs _ _).mono (fun r h => ⟨fun c => (h c).2.2, sem_eq_zero_of_no_sems (by decide) r.2⟩)
    (Cert.Reference4Ideal.Value.run (F := Ideal) m ρ)

/-- The launch's two gradients are the reference's. -/
theorem algebraic : Cert.algebraic_Kernel4Ideal_Reference4Ideal := by
  intro m ρ m' ρ' _ hm
  refine ⟨fun c => val_main_v8 (F := Ideal) (m' ((c.tc : Thread _ _).loc Cert.Reference4Ideal.main_arg0))
      (m' ((c.tc : Thread _ _).loc Cert.Reference4Ideal.main_arg3)),
    fun c => val_main_v5 (F := Ideal) (m' ((c.tc : Thread _ _).loc Cert.Reference4Ideal.main_arg3)), ?_,
    (θ_run Cert.Reference4Ideal.defs _ _).mono (fun r h c => ⟨(h c).1.trans (val_main_v8_eq _ _), (h c).2.1.trans (val_main_v5_eq _), (h c).2.2⟩)
      (Cert.Reference4Ideal.Value.run (F := Ideal) m' ρ')⟩
  refine (θ_run Cert.Kernel4Ideal.defs _ _).mono (fun r h c => ?_) (Cert.Kernel4Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel4Ideal.Dw
end
-- ==== Proof.DwGates.lean ====
module

public import proofs.«01_k».proof.Defs
public import proofs.«01_k».proof.Proof.Gen.Kernel5.Frame
public import proofs.«01_k».proof.Proof.Gen.Kernel5Ideal.Value
public import proofs.«01_k».proof.Proof.Gen.Reference5Ideal.Read
public import proofs.«01_k».proof.Proof.Rows

@[expose] public section

set_option maxRecDepth 16384

noncomputable section

/-! # The launch `dw_in_gates`: the gradients of a weight of 1024 rows and 2048 columns, and of its bias -/

namespace Cert.Kernel5Ideal.Dw

open Idealize.ShloMosaic Idealize.ShloMosaic.TcCoe Idealize.SL.Sem
open Cert.Kernel5Ideal Cert.Kernel5Ideal.Gen Cert.Reference5Ideal.Read Cert.Rows

variable (m : (ℓ : Loc nD τ sig) → Buf (Elt Ideal) ℓ) (c : Dev nD)

/-- A chunk's payload: the chunk before, plus the sum over the block's rows. -/
theorem chunk_apply (g : Vec Ideal S1024x2048 .bf16) (s : Vec Ideal S256x2048 .f32) (h : Vec Ideal S1024x256 .bf16) (i : Fin 256) (j : Fin 2048) :
    k0_pay2 (F := Ideal) (k0_pay6 g) s h (ix2 i j) = s (ix2 i j) + ∑ k : Fin 1024, h (ix2 k i) * g (ix2 k j) := by
  pointwise [k0_pay2, k0_pay6]

/-- The column sums' payload: the row before, plus the sum of the block's column. -/
theorem pay7_apply (v3 : Vec Ideal S1024x2048 .bf16) (v5 : Vec Ideal S1x2048 .f32) (i : Fin 1) (j : Fin 2048) :
    k0_pay7 (F := Ideal) v3 v5 (ix2 i j) = v5 (ix2 i j) + ∑ k : Fin 1024, v3 (ix2 k j) := by
  pointwise [k0_pay7, k0_pay6]

/-- The accumulator starts at zero. -/
theorem pay4_eq (i : S1024x2048.Idx) : k0_pay4 (F := Ideal) i = 0 := by
  obtain ⟨a, b, rfl⟩ := eta2 i
  pointwise [k0_pay4]

/-- So do the column sums. -/
theorem pay5_apply (i : Fin 1) (j : Fin 2048) : k0_pay5 (F := Ideal) (ix2 i j) = 0 := by
  pointwise [k0_pay5]

/-- Over the extended reals the narrowing cast changes nothing. -/
theorem pay3_eq (v : Vec Ideal S1024x2048 .f32) : k0_pay3 (F := Ideal) v = v := rfl

/-- The block of the first factor at a grid point. -/
def hBlk (t : Fin cfg0.N) : Vec Ideal S1024x1024 .bf16 := iblk m c 0 t

/-- The block of the second factor at a grid point. -/
def gBlk (t : Fin cfg0.N) : Vec Ideal S1024x2048 .bf16 := iblk m c 1 t

/-- After the first point the accumulator is the product of the point's blocks. -/
theorem acc_first (t : Fin cfg0.N) (h0 : t.val % 8 = 0) (r : Fin 1024) (l : Fin 2048) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over4 _ _ _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 1024) (l : Fin 2048) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 1024) (l : Fin 2048) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 2048) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 2048) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x1024 .f32) (y : Vec Ideal S8192x2048 .f32)
  (hx : m ((c : Thread nD τ).loc main_arg0) = x) (hy : m ((c : Thread nD τ).loc main_arg3) = y)
include hx in
/-- A point's block of the first factor, entry by entry. -/
theorem hBlk_eq (t : Fin cfg0.N) (k : Fin 1024) (r : Fin 1024) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 2048) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 1024) (l : Fin 2048) :
    ((dats m 0 c).arrAt 2 cfg0.N : Vec Ideal S1024x2048 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 1024 × Fin 2048) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 2048) :
    ((dats m 0 c).arrAt 3 cfg0.N : Vec Ideal S1x2048 .f32) (ix2 0 l) = ∑ k : Fin 8192, y (ix2 k l) := by
  have h7 : 7 < cfg0.N := by decide
  rw [Value.final3, Value.G3_last, ← Value.outsAt0_sweep m c 7 h7]
  refine gathered rfl (fun n h (i : Fin 2048) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 1024) (l : Fin 2048) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 2048 + l.val) / 2048 = k.val by omega)
    · exact Fin.ext (show (k.val * 2048 + l.val) % 2048 = l.val by omega)

/-- The reference's bias gradient is the same sum. -/
theorem ref_db (l : Fin 2048) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 2048 + l.val = l.val by omega)

include hx hy in
/-- The weight's gradient is the reference's. -/
theorem dw_array : (dats m 0 c).arrAt 2 cfg0.N = val_main_v8 (F := Ideal) x y := by
  funext i
  obtain ⟨a, b, rfl⟩ := eta2 (a := 1024) (b := 2048) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 2048) i
  exact (db_eq m c y hy b).trans (ref_db y b).symm

end

/-- The launch ends with its arguments as it found them. -/
theorem frame_kernel : Cert.quiescent_Kernel5 := fun m ρ _ => Cert.Kernel5.Gen.frame m ρ

/-- So does the launch read over the extended reals. -/
theorem frame_ideal : Cert.quiescent_Kernel5Ideal := fun m ρ _ => Cert.Kernel5Ideal.Gen.frame m ρ

/-- So does its reference. -/
theorem frame_reference : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)

/-- The launch's two gradients are the reference's. -/
theorem algebraic : Cert.algebraic_Kernel5Ideal_Reference5Ideal := by
  intro m ρ m' ρ' _ hm
  refine ⟨fun c => val_main_v8 (F := Ideal) (m' ((c.tc : Thread _ _).loc Cert.Reference5Ideal.main_arg0))
      (m' ((c.tc : Thread _ _).loc Cert.Reference5Ideal.main_arg3)),
    fun c => val_main_v5 (F := Ideal) (m' ((c.tc : Thread _ _).loc Cert.Reference5Ideal.main_arg3)), ?_,
    (θ_run Cert.Reference5Ideal.defs _ _).mono (fun r h c => ⟨(h c).1.trans (val_main_v8_eq _ _), (h c).2.1.trans (val_main_v5_eq _), (h c).2.2⟩)
      (Cert.Reference5Ideal.Value.run (F := Ideal) m' ρ')⟩
  refine (θ_run Cert.Kernel5Ideal.defs _ _).mono (fun r h c => ?_) (Cert.Kernel5Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel5Ideal.Dw
end
-- ==== Proof.DwQkv.lean ====
module

public import proofs.«01_k».proof.Defs
public import proofs.«01_k».proof.Proof.Gen.Kernel6.Frame
public import proofs.«01_k».proof.Proof.Gen.Kernel6Ideal.Value
public import proofs.«01_k».proof.Proof.Gen.Reference6Ideal.Read
public import proofs.«01_k».proof.Proof.Rows

@[expose] public section

set_option maxRecDepth 16384

noncomputable section

/-! # The launch `dw_in_qkv`: the gradients of a weight of 1024 rows and 1536 columns, and of its bias

The second factor comes in three pieces of 512 columns, which the launch lays side by side. -/

namespace Cert.Kernel6Ideal.Dw

open Idealize.ShloMosaic Idealize.ShloMosaic.TcCoe Idealize.SL.Sem
open Cert.Kernel6Ideal Cert.Kernel6Ideal.Gen Cert.Reference6Ideal.Read Cert.Rows

variable (m : (ℓ : Loc nD τ sig) → Buf (Elt Ideal) ℓ) (c : Dev nD)

/-- A chunk's payload: the chunk before, plus the sum over the block's rows. -/
theorem chunk_apply (g : Vec Ideal S1024x1536 .bf16) (s : Vec Ideal S256x1536 .f32) (h : Vec Ideal S1024x256 .bf16) (i : Fin 256) (j : Fin 1536) :
    k0_pay2 (F := Ideal) g s h (ix2 i j) = s (ix2 i j) + ∑ k : Fin 1024, h (ix2 k i) * g (ix2 k j) := by
  pointwise [k0_pay2]

/-- The column sums' payload: the row before, plus the sum of the block's column. -/
theorem pay8_apply (q k v : Vec Ideal S1024x512 .bf16) (s : Vec Ideal S1x1536 .f32) (i : Fin 1) (j : Fin 1536) :
    k0_pay8 (F := Ideal) q k v s (ix2 i j) = s (ix2 i j) + ∑ n : Fin 1024, k0_pay7 (F := Ideal) q k v (ix2 n j) := by
  unfold k0_pay8
  generalize k0_pay7 (F := Ideal) q k v = g
  pointwise []

/-- The accumulator starts at zero. -/
theorem acc0_eq (i : S1024x1536.Idx) : k0_pay5 (F := Ideal) i = 0 := by
  obtain ⟨a, b, rfl⟩ := eta2 i
  pointwise [k0_pay5]

/-- So do the column sums. -/
theorem col0_apply (i : Fin 1) (j : Fin 1536) : k0_pay6 (F := Ideal) (ix2 i j) = 0 := by
  pointwise [k0_pay6]

/-- Over the extended reals the narrowing cast changes nothing. -/
theorem narrow_eq (v : Vec Ideal S1024x1536 .f32) : k0_pay4 (F := Ideal) v = v := rfl

/-- The block of the first factor at a grid point. -/
def hBlk (t : Fin cfg0.N) : Vec Ideal S1024x1024 .bf16 := iblk m c 0 t

/-- The first piece of the second factor's block at a grid point. -/
def qBlk (t : Fin cfg0.N) : Vec Ideal S1024x512 .bf16 := iblk m c 1 t

/-- Its second piece. -/
def kBlk (t : Fin cfg0.N) : Vec Ideal S1024x512 .bf16 := iblk m c 2 t

/-- Its third piece. -/
def vBlk (t : Fin cfg0.N) : Vec Ideal S1024x512 .bf16 := iblk m c 3 t

/-- The block of the second factor at a grid point. -/
def gBlk (t : Fin cfg0.N) : Vec Ideal S1024x1536 .bf16 := k0_pay7 (F := Ideal) (qBlk m c t) (kBlk m c t) (vBlk m c t)

/-- After the first point the accumulator is the product of the point's blocks. -/
theorem acc_first (t : Fin cfg0.N) (h0 : t.val % 8 = 0) (r : Fin 1024) (l : Fin 1536) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over4 _ _ _ _ _ _ (View.cover_of_tiled_head _ _ _ (by rfl) _), ← acc0_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 1024) (l : Fin 1536) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 1024) (l : Fin 1536) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [narrow_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 1536) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← col0_apply 0 l]
  exact pay8_apply (qBlk m c t) (kBlk m c t) (vBlk m c t) _ 0 l

/-- After a later point they have grown by them. -/
theorem col_next (t : Fin cfg0.N) (h0 : ¬t.val % 8 = 0) (l : Fin 1536) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay8_apply (qBlk m c t) (kBlk m c t) (vBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor's pieces. -/
theorem index_1 : ∀ t : Fin cfg0.N, (cfg0.win 1).index t = ![t.val, 0] :=
  (by decide +kernel : ∀ t : Fin cfg0.N, (cfg0.win 1).index t = ![t.val, 0])

/-- The second piece. -/
theorem index_2 : ∀ t : Fin cfg0.N, (cfg0.win 2).index t = ![t.val, 0] :=
  (by decide +kernel : ∀ t : Fin cfg0.N, (cfg0.win 2).index t = ![t.val, 0])

/-- The third piece. -/
theorem index_3 : ∀ t : Fin cfg0.N, (cfg0.win 3).index t = ![t.val, 0] :=
  (by decide +kernel : ∀ t : Fin cfg0.N, (cfg0.win 3).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor's pieces so too. -/
theorem V_q : V m c main_v1 = (m ((c : Thread nD τ).loc main_arg3)) := by
  show StableHlo.after hostOps0 (fun b => m (c, b)) _ = _
  simp only [hostOps0]
  after_results_simp
  rfl

/-- The second piece. -/
theorem V_k : V m c main_v2 = (m ((c : Thread nD τ).loc main_arg4)) := by
  show StableHlo.after hostOps0 (fun b => m (c, b)) _ = _
  simp only [hostOps0]
  after_results_simp
  rfl

/-- The third piece. -/
theorem V_v : V m c main_v3 = (m ((c : Thread nD τ).loc main_arg5)) := by
  show StableHlo.after hostOps0 (fun b => m (c, b)) _ = _
  simp only [hostOps0]
  after_results_simp
  rfl

section
variable (x : Vec Ideal S8192x1024 .f32) (q k v : Vec Ideal S8192x512 .f32)
  (hx : m ((c : Thread nD τ).loc main_arg0) = x) (hq : m ((c : Thread nD τ).loc main_arg3) = q)
  (hk : m ((c : Thread nD τ).loc main_arg4) = k) (hv : m ((c : Thread nD τ).loc main_arg5) = v)
include hx in
/-- A point's block of the first factor, entry by entry. -/
theorem hBlk_eq (t : Fin cfg0.N) (k : Fin 1024) (r : Fin 1024) :
    hBlk m c t (ix2 k r) = x (ix2 ⟨1024 * t.val + k.val, by have : t.val < 8 := t.isLt; omega⟩ r) := by
  rw [← hx, ← V_h m c]
  blk_ext [hBlk, iblk, index_0 t]

include hq in
/-- A point's block of the first piece, entry by entry. -/
theorem qBlk_eq (t : Fin cfg0.N) (n : Fin 1024) (l : Fin 512) :
    qBlk m c t (ix2 n l) = q (ix2 ⟨1024 * t.val + n.val, by have : t.val < 8 := t.isLt; omega⟩ l) := by
  rw [← hq, ← V_q m c]
  blk_ext [qBlk, iblk, index_1 t]

include hk in
/-- The second piece. -/
theorem kBlk_eq (t : Fin cfg0.N) (n : Fin 1024) (l : Fin 512) :
    kBlk m c t (ix2 n l) = k (ix2 ⟨1024 * t.val + n.val, by have : t.val < 8 := t.isLt; omega⟩ l) := by
  rw [← hk, ← V_k m c]
  blk_ext [kBlk, iblk, index_2 t]

include hv in
/-- The third piece. -/
theorem vBlk_eq (t : Fin cfg0.N) (n : Fin 1024) (l : Fin 512) :
    vBlk m c t (ix2 n l) = v (ix2 ⟨1024 * t.val + n.val, by have : t.val < 8 := t.isLt; omega⟩ l) := by
  rw [← hv, ← V_v m c]
  blk_ext [vBlk, iblk, index_3 t]

include hq hk hv in
/-- The pieces side by side are the rows of the arrays side by side. -/
theorem gBlk_eq (t : Fin cfg0.N) (n : Fin 1024) (l : Fin 1536) :
    gBlk m c t (ix2 n l) = val_main_v0 (F := Ideal) q k v (ix2 ⟨1024 * t.val + n.val, by have : t.val < 8 := t.isLt; omega⟩ l) := by
  pointwise [gBlk, k0_pay7, val_main_v0]
  simp only [qBlk_eq m c q hq, kBlk_eq m c k hk, vBlk_eq m c v hv]

include hx hq hk hv in
/-- The weight's gradient sums the products over all rows. -/
theorem dw_eq (r : Fin 1024) (l : Fin 1536) :
    ((dats m 0 c).arrAt 4 cfg0.N : Vec Ideal S1024x1536 .bf16) (ix2 r l) = ∑ n : Fin 8192, x (ix2 n r) * val_main_v0 (F := Ideal) q k v (ix2 n l) := by
  have h7 : 7 < cfg0.N := by decide
  rw [Value.final4, Value.G4_last, ← Value.outsAt0_sweep m c 7 h7, out_last m c ⟨7, h7⟩ (by show ¬7 % 8 = 0; omega) (by show 7 % 8 = 7; omega)]
  refine gathered rfl (fun n h (i : Fin 1024 × Fin 1536) => (outsAt0 m c n h).2.2 (ix2 i.1 i.2)) (fun n i => x (ix2 n i.1) * val_main_v0 (F := Ideal) q k v (ix2 n i.2))
    (fun t h0 i => (acc_first m c t h0 i.1 i.2).trans ?_) (fun t h0 i => (acc_next m c t h0 i.1 i.2).trans ?_) h7 (r, l)
  all_goals exact congrArg _ (Finset.sum_congr rfl fun n _ => congrArg₂ (· * ·) (hBlk_eq m c x hx t n i.1) (gBlk_eq m c q k v hq hk hv t n i.2))

include hq hk hv in
/-- The bias's gradient sums the columns. -/
theorem db_eq (l : Fin 1536) :
    ((dats m 0 c).arrAt 5 cfg0.N : Vec Ideal S1x1536 .f32) (ix2 0 l) = ∑ n : Fin 8192, val_main_v0 (F := Ideal) q k v (ix2 n l) := by
  have h7 : 7 < cfg0.N := by decide
  rw [Value.final5, Value.G5_last, ← Value.outsAt0_sweep m c 7 h7]
  refine gathered rfl (fun n h (i : Fin 1536) => (outsAt0 m c n h).2.1 (ix2 0 i)) (fun n i => val_main_v0 (F := Ideal) q k v (ix2 n i))
    (fun t h0 i => (col_first m c t h0 i).trans ?_) (fun t h0 i => (col_next m c t h0 i).trans ?_) h7 l
  all_goals exact congrArg _ (Finset.sum_congr rfl fun n _ => gBlk_eq m c q k v hq hk hv t n i)

/-- The reference's weight gradient is the same sum. -/
theorem ref_dw (r : Fin 1024) (l : Fin 1536) :
    val_main_v8 (F := Ideal) x q k v (ix2 r l) = ∑ n : Fin 8192, x (ix2 n r) * val_main_v0 (F := Ideal) q k v (ix2 n l) := by
  pointwise [val_main_v8_apply, val_main_v7_apply, val_main_v6_apply]
  refine Finset.sum_congr rfl fun n _ => (mul_comm _ _).trans (congrArg₂ (· * ·) (congrArg x ?_) (congrArg (val_main_v0 (F := Ideal) q k v) ?_))
  · funext a
    fin_cases a <;> rfl
  · funext a
    fin_cases a <;> rfl

/-- The reference's bias gradient is the same sum. -/
theorem ref_db (l : Fin 1536) :
    val_main_v5 (F := Ideal) q k v (ix2 0 l) = ∑ n : Fin 8192, val_main_v0 (F := Ideal) q k v (ix2 n l) := by
  rw [val_main_v5_apply, val_main_v4_apply]
  pointwise [val_main_cst_apply]
  refine Finset.sum_congr rfl fun n _ => congrArg (val_main_v0 (F := Ideal) q k v) ?_
  funext a
  fin_cases a
  · rfl
  · exact Fin.ext (show 0 * 1536 + l.val = l.val by omega)

include hx hq hk hv in
/-- The weight's gradient is the reference's. -/
theorem dw_array : (dats m 0 c).arrAt 4 cfg0.N = val_main_v8 (F := Ideal) x q k v := by
  funext i
  obtain ⟨a, b, rfl⟩ := eta2 (a := 1024) (b := 1536) i
  exact (dw_eq m c x q k v hx hq hk hv a b).trans (ref_dw x q k v a b).symm

include hq hk hv in
/-- The bias's gradient is the reference's. -/
theorem db_array : (dats m 0 c).arrAt 5 cfg0.N = val_main_v5 (F := Ideal) q k v := by
  funext i
  obtain ⟨b, rfl⟩ := eta_row (b := 1536) i
  exact (db_eq m c q k v hq hk hv b).trans (ref_db q k v b).symm

end

/-- The launch ends with its arguments as it found them. -/
theorem frame_kernel : Cert.quiescent_Kernel6 := fun m ρ _ => Cert.Kernel6.Gen.frame m ρ

/-- So does the launch read over the extended reals. -/
theorem frame_ideal : Cert.quiescent_Kernel6Ideal := fun m ρ _ => Cert.Kernel6Ideal.Gen.frame m ρ

/-- So does its reference. -/
theorem frame_reference : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The launch's two gradients are the reference's. -/
theorem algebraic : Cert.algebraic_Kernel6Ideal_Reference6Ideal := by
  intro m ρ m' ρ' _ hm
  refine ⟨fun c => val_main_v8 (F := Ideal) (m' ((c.tc : Thread _ _).loc Cert.Reference6Ideal.main_arg0))
      (m' ((c.tc : Thread _ _).loc Cert.Reference6Ideal.main_arg3)) (m' ((c.tc : Thread _ _).loc Cert.Reference6Ideal.main_arg4))
      (m' ((c.tc : Thread _ _).loc Cert.Reference6Ideal.main_arg5)),
    fun c => val_main_v5 (F := Ideal) (m' ((c.tc : Thread _ _).loc Cert.Reference6Ideal.main_arg3)) (m' ((c.tc : Thread _ _).loc Cert.Reference6Ideal.main_arg4))
      (m' ((c.tc : Thread _ _).loc Cert.Reference6Ideal.main_arg5)), ?_,
    (θ_run Cert.Reference6Ideal.defs _ _).mono (fun r h c => ⟨(h c).1.trans (val_main_v8_eq _ _ _ _), (h c).2.1.trans (val_main_v5_eq _ _ _), (h c).2.2⟩)
      (Cert.Reference6Ideal.Value.run (F := Ideal) m' ρ')⟩
  refine (θ_run Cert.Kernel6Ideal.defs _ _).mono (fun r h c => ?_) (Cert.Kernel6Ideal.Value.run_blocks (F := Ideal) m ρ)
  obtain ⟨e0, e1, k⟩ := h c
  obtain ⟨m0, m1, m2, m3, m4, m5⟩ := hm c
  exact ⟨e0.trans (dw_array m c _ _ _ _ m0.symm m3.symm m4.symm m5.symm), e1.trans (db_array m c _ _ _ m3.symm m4.symm m5.symm), k⟩

end Cert.Kernel6Ideal.Dw
end
-- ==== Proof.DwO.lean ====
module

public import proofs.«01_k».proof.Defs
public import proofs.«01_k».proof.Proof.Gen.Kernel7.Frame
public import proofs.«01_k».proof.Proof.Gen.Kernel7Ideal.Value
public import proofs.«01_k».proof.Proof.Gen.Reference7Ideal.Read
public import proofs.«01_k».proof.Proof.Rows

@[expose] public section

set_option maxRecDepth 16384

noncomputable section

/-! # The launch `dw_o`: the gradients of a weight of 1024 rows and 1024 columns, and of its bias -/

namespace Cert.Kernel7Ideal.Dw

open Idealize.ShloMosaic Idealize.ShloMosaic.TcCoe Idealize.SL.Sem
open Cert.Kernel7Ideal Cert.Kernel7Ideal.Gen Cert.Reference7Ideal.Read Cert.Rows

variable (m : (ℓ : Loc nD τ sig) → Buf (Elt Ideal) ℓ) (c : Dev nD)

/-- A chunk's payload: the chunk before, plus the sum over the block's rows. -/
theorem chunk_apply (g : Vec Ideal S1024x1024 .bf16) (s : Vec Ideal S256x1024 .f32) (h : Vec Ideal S1024x256 .bf16) (i : Fin 256) (j : Fin 1024) :
    k0_pay2 (F := Ideal) (k0_pay6 g) s h (ix2 i j) = s (ix2 i j) + ∑ k : Fin 1024, h (ix2 k i) * g (ix2 k j) := by
  pointwise [k0_pay2, k0_pay6]

/-- The column sums' payload: the row before, plus the sum of the block's column. -/
theorem pay7_apply (v3 : Vec Ideal S1024x1024 .bf16) (v5 : Vec Ideal S1x1024 .f32) (i : Fin 1) (j : Fin 1024) :
    k0_pay7 (F := Ideal) v3 v5 (ix2 i j) = v5 (ix2 i j) + ∑ k : Fin 1024, v3 (ix2 k j) := by
  pointwise [k0_pay7, k0_pay6]

/-- The accumulator starts at zero. -/
theorem pay4_eq (i : S1024x1024.Idx) : k0_pay4 (F := Ideal) i = 0 := by
  obtain ⟨a, b, rfl⟩ := eta2 i
  pointwise [k0_pay4]

/-- So do the column sums. -/
theorem pay5_apply (i : Fin 1) (j : Fin 1024) : k0_pay5 (F := Ideal) (ix2 i j) = 0 := by
  pointwise [k0_pay5]

/-- Over the extended reals the narrowing cast changes nothing. -/
theorem pay3_eq (v : Vec Ideal S1024x1024 .f32) : k0_pay3 (F := Ideal) v = v := rfl

/-- The block of the first factor at a grid point. -/
def hBlk (t : Fin cfg0.N) : Vec Ideal S1024x1024 .bf16 := iblk m c 0 t

/-- The block of the second factor at a grid point. -/
def gBlk (t : Fin cfg0.N) : Vec Ideal S1024x1024 .bf16 := iblk m c 1 t

/-- After the first point the accumulator is the product of the point's blocks. -/
theorem acc_first (t : Fin cfg0.N) (h0 : t.val % 8 = 0) (r : Fin 1024) (l : Fin 1024) :
    (outsAt0 m c t.val t.isLt).2.2 (ix2 r l) = 0 + ∑ k : Fin 1024, hBlk m c t (ix2 k r) * gBlk m c t (ix2 k l) := by
  rw [outsAt0_A m c t h0 (by omega)]
  frame_open
  simp (disch := decide) only [↓ View.readCov_skip, ↓ View.readCov_cons_toLoadRect, ↓ View.readCov_fill]
  frame_out
  rw [canon_over4 _ _ _ _ _ _ (View.cover_of_tiled_head _ _ _ (by rfl) _), ← pay4_eq (ix2 r l)]
  canon_tiles x h
  all_goals exact chunk_at _ chunk_apply (gBlk m c t) _ (hBlk m c t) _ _ _ x r l (by omega) h1

/-- After a later point it has grown by that product. -/
theorem acc_next (t : Fin cfg0.N) (h0 : ¬t.val % 8 = 0) (r : Fin 1024) (l : Fin 1024) :
    (outsAt0 m c t.val t.isLt).2.2 (ix2 r l) =
     (outsAt0 m c (t.val - 1) (Nat.lt_of_le_of_lt (Nat.sub_le _ _) t.isLt)).2.2 (ix2 r l) + ∑ k : Fin 1024, hBlk m c t (ix2 k r) * gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    simp only [read_unread_whole]
    canon_tiles x h
    all_goals exact chunk_at _ chunk_apply (gBlk m c t) _ (hBlk m c t) _ _ _ x r l (by omega) h1

/-- At the last point the accumulator is written out. -/
theorem out_last (t : Fin cfg0.N) (h0 : ¬t.val % 8 = 0) (h7 : t.val % 8 = 7) (r : Fin 1024) (l : Fin 1024) :
    (outsAt0 m c t.val t.isLt).1 (ix2 r l) = (outsAt0 m c t.val t.isLt).2.2 (ix2 r l) := by
  rw [outsAt0_C m c t h0 h7]
  frame_open
  simp (disch := decide) only [↓ View.readCov_skip, ↓ View.readCov_cons_toLoadRect, ↓ View.readCov_fill]
  frame_out
  rw [pay3_eq, View.readCov_eq_canon']
  refine congrArg _ (funext fun a => Fin.ext ?_)
  fin_cases a <;> exact (Rect.idx_unit_val _ _ _ _ _).trans (Nat.zero_add _)

/-- After the first point the column sums are those of the point's block. -/
theorem col_first (t : Fin cfg0.N) (h0 : t.val % 8 = 0) (l : Fin 1024) :
    (outsAt0 m c t.val t.isLt).2.1 (ix2 0 l) = 0 + ∑ k : Fin 1024, gBlk m c t (ix2 k l) := by
  rw [outsAt0_A m c t h0 (by omega)]
  frame_open
  simp (disch := decide) only [↓ View.readCov_skip, ↓ View.readCov_cons_toLoadRect, ↓ View.readCov_fill]
  frame_out
  rw [← pay5_apply 0 l]
  exact pay7_apply (gBlk m c t) _ 0 l

/-- After a later point they have grown by them. -/
theorem col_next (t : Fin cfg0.N) (h0 : ¬t.val % 8 = 0) (l : Fin 1024) :
    (outsAt0 m c t.val t.isLt).2.1 (ix2 0 l) =
     (outsAt0 m c (t.val - 1) (Nat.lt_of_le_of_lt (Nat.sub_le _ _) t.isLt)).2.1 (ix2 0 l) + ∑ k : Fin 1024, gBlk m c t (ix2 k l) := by
  by_cases h7 : t.val % 8 = 7
  on_goal 1 => rw [outsAt0_C m c t h0 h7]
  on_goal 2 => rw [outsAt0_B m c t h0 h7]
  all_goals
    frame_open
    simp (disch := decide) only [↓ View.readCov_skip, ↓ View.readCov_cons_toLoadRect, ↓ View.readCov_fill]
    frame_out
    exact pay7_apply (gBlk m c t) _ 0 l

/-- A point takes the rows of its own number. -/
theorem index_0 : ∀ t : Fin cfg0.N, (cfg0.win 0).index t = ![t.val, 0] :=
  (by decide +kernel : ∀ t : Fin cfg0.N, (cfg0.win 0).index t = ![t.val, 0])

/-- So it does of the second factor. -/
theorem index_1 : ∀ t : Fin cfg0.N, (cfg0.win 1).index t = ![t.val, 0] :=
  (by decide +kernel : ∀ t : Fin cfg0.N, (cfg0.win 1).index t = ![t.val, 0])

/-- The launch finds the first factor as the caller gave it. -/
theorem V_h : V m c main_v0 = (m ((c : Thread nD τ).loc main_arg0)) := by
  show StableHlo.after hostOps0 (fun b => m (c, b)) _ = _
  simp only [hostOps0]
  after_results_simp
  rfl

/-- It finds the second factor so too. -/
theorem V_g : V m c main_v1 = (m ((c : Thread nD τ).loc main_arg3)) := by
  show StableHlo.after hostOps0 (fun b => m (c, b)) _ = _
  simp only [hostOps0]
  after_results_simp
  rfl

section
variable (x : Vec Ideal S8192x1024 .f32) (y : Vec Ideal S8192x1024 .f32)
  (hx : m ((c : Thread nD τ).loc main_arg0) = x) (hy : m ((c : Thread nD τ).loc main_arg3) = y)
include hx in
/-- A point's block of the first factor, entry by entry. -/
theorem hBlk_eq (t : Fin cfg0.N) (k : Fin 1024) (r : Fin 1024) :
    hBlk m c t (ix2 k r) = x (ix2 ⟨1024 * t.val + k.val, by have : t.val < 8 := t.isLt; omega⟩ r) := by
  rw [← hx, ← V_h m c]
  blk_ext [hBlk, iblk, index_0 t]

include hy in
/-- A point's block of the second factor, entry by entry. -/
theorem gBlk_eq (t : Fin cfg0.N) (k : Fin 1024) (l : Fin 1024) :
    gBlk m c t (ix2 k l) = y (ix2 ⟨1024 * t.val + k.val, by have : t.val < 8 := t.isLt; omega⟩ l) := by
  rw [← hy, ← V_g m c]
  blk_ext [gBlk, iblk, index_1 t]

include hx hy in
/-- The weight's gradient sums the products over all rows. -/
theorem dw_eq (r : Fin 1024) (l : Fin 1024) :
    ((dats m 0 c).arrAt 2 cfg0.N : Vec Ideal S1024x1024 .bf16) (ix2 r l) = ∑ k : Fin 8192, x (ix2 k r) * y (ix2 k l) := by
  have h7 : 7 < cfg0.N := by decide
  rw [Value.final2, Value.G2_last, ← Value.outsAt0_sweep m c 7 h7, out_last m c ⟨7, h7⟩ (by show ¬7 % 8 = 0; omega) (by show 7 % 8 = 7; omega)]
  refine gathered rfl (fun n h (i : Fin 1024 × Fin 1024) => (outsAt0 m c n h).2.2 (ix2 i.1 i.2)) (fun k i => x (ix2 k i.1) * y (ix2 k i.2))
    (fun t h0 i => (acc_first m c t h0 i.1 i.2).trans ?_) (fun t h0 i => (acc_next m c t h0 i.1 i.2).trans ?_) h7 (r, l)
  all_goals exact congrArg _ (Finset.sum_congr rfl fun k _ => congrArg₂ (· * ·) (hBlk_eq m c x hx t k i.1) (gBlk_eq m c y hy t k i.2))

include hy in
/-- The bias's gradient sums the columns. -/
theorem db_eq (l : Fin 1024) :
    ((dats m 0 c).arrAt 3 cfg0.N : Vec Ideal S1x1024 .f32) (ix2 0 l) = ∑ k : Fin 8192, y (ix2 k l) := by
  have h7 : 7 < cfg0.N := by decide
  rw [Value.final3, Value.G3_last, ← Value.outsAt0_sweep m c 7 h7]
  refine gathered rfl (fun n h (i : Fin 1024) => (outsAt0 m c n h).2.1 (ix2 0 i)) (fun k i => y (ix2 k i))
    (fun t h0 i => (col_first m c t h0 i).trans ?_) (fun t h0 i => (col_next m c t h0 i).trans ?_) h7 l
  all_goals exact congrArg _ (Finset.sum_congr rfl fun k _ => gBlk_eq m c y hy t k i)

/-- The reference's weight gradient is the same sum. -/
theorem ref_dw (r : Fin 1024) (l : Fin 1024) :
    val_main_v8 (F := Ideal) x y (ix2 r l) = ∑ k : Fin 8192, x (ix2 k r) * y (ix2 k l) := by
  pointwise [val_main_v8_apply, val_main_v7_apply, val_main_v6_apply, val_main_v3_apply]
  refine Finset.sum_congr rfl fun k _ => (mul_comm _ _).trans (congrArg₂ (· * ·) (congrArg x ?_) (congrArg y ?_))
  · funext a
    fin_cases a <;> rfl
  · funext a
    fin_cases a
    · exact Fin.ext (show (k.val * 1024 + l.val) / 1024 = k.val by omega)
    · exact Fin.ext (show (k.val * 1024 + l.val) % 1024 = l.val by omega)

/-- The reference's bias gradient is the same sum. -/
theorem ref_db (l : Fin 1024) :
    val_main_v5 (F := Ideal) y (ix2 0 l) = ∑ k : Fin 8192, y (ix2 k l) := by
  rw [val_main_v5_apply, val_main_v4_apply]
  pointwise [val_main_cst_apply]
  refine Finset.sum_congr rfl fun k _ => congrArg y ?_
  funext a
  fin_cases a
  · rfl
  · exact Fin.ext (show 0 * 1024 + l.val = l.val by omega)

include hx hy in
/-- The weight's gradient is the reference's. -/
theorem dw_array : (dats m 0 c).arrAt 2 cfg0.N = val_main_v8 (F := Ideal) x y := by
  funext i
  obtain ⟨a, b, rfl⟩ := eta2 (a := 1024) (b := 1024) i
  exact (dw_eq m c x y hx hy a b).trans (ref_dw x y a b).symm

include hy in
/-- The bias's gradient is the reference's. -/
theorem db_array : (dats m 0 c).arrAt 3 cfg0.N = val_main_v5 (F := Ideal) y := by
  funext i
  obtain ⟨b, rfl⟩ := eta_row (b := 1024) i
  exact (db_eq m c y hy b).trans (ref_db y b).symm

end

/-- The launch ends with its arguments as it found them. -/
theorem frame_kernel : Cert.quiescent_Kernel7 := fun m ρ _ => Cert.Kernel7.Gen.frame m ρ

/-- So does the launch read over the extended reals. -/
theorem frame_ideal : Cert.quiescent_Kernel7Ideal := fun m ρ _ => Cert.Kernel7Ideal.Gen.frame m ρ

/-- So does its reference. -/
theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The launch's two gradients are the reference's. -/
theorem algebraic : Cert.algebraic_Kernel7Ideal_Reference7Ideal := by
  intro m ρ m' ρ' _ hm
  refine ⟨fun c => val_main_v8 (F := Ideal) (m' ((c.tc : Thread _ _).loc Cert.Reference7Ideal.main_arg0))
      (m' ((c.tc : Thread _ _).loc Cert.Reference7Ideal.main_arg3)),
    fun c => val_main_v5 (F := Ideal) (m' ((c.tc : Thread _ _).loc Cert.Reference7Ideal.main_arg3)), ?_,
    (θ_run Cert.Reference7Ideal.defs _ _).mono (fun r h c => ⟨(h c).1.trans (val_main_v8_eq _ _), (h c).2.1.trans (val_main_v5_eq _), (h c).2.2⟩)
      (Cert.Reference7Ideal.Value.run (F := Ideal) m' ρ')⟩
  refine (θ_run Cert.Kernel7Ideal.defs _ _).mono (fun r h c => ?_) (Cert.Kernel7Ideal.Value.run_blocks (F := Ideal) m ρ)
  obtain ⟨e0, e1, k⟩ := h c
  obtain ⟨m0, m1, m2, m3⟩ := hm c
  exact ⟨e0.trans (dw_array m c _ _ m0.symm m3.symm), e1.trans (db_array m c _ m3.symm), k⟩

end Cert.Kernel7Ideal.Dw
end
-- ==== Proof.Reading.lean ====
module

public import proofs.«01_k».proof.Proof.Numbers
public import proofs.«01_k».proof.Proof.Gen.ReferenceIdeal.Read

@[expose] public section

set_option maxRecDepth 16384

noncomputable section

/-! # What the reference computes

Each array of the reference, on arguments that are real everywhere, read at residue class `r`, head `h` and positions
`i`, `j`, in terms of the window attention of that head. -/

namespace Cert.Window

open Finset Idealize.ShloMosaic Idealize.ShloMosaic.ValueIdx Cert.ReferenceIdeal Cert.ReferenceIdeal.Gen Cert.ReferenceIdeal.Read

variable (a0 a1 a2 a3 : S16x512x512.Idx → ℝ) (a4 : S16x512x8.Idx → ℝ)
variable (r : Fin 16) (h : Fin 8) (i j : Fin 512) (d : Fin 64)

/-- The only entry of a kept axis. -/
theorem ix4_3_zero {a b c : ℕ} (x : Fin a) (y : Fin b) (z : Fin c) : ((ix4 x y z (0 : Fin 1)) 3 : ℕ) = 0 := rfl

/-! ## Forward -/

theorem ref_v0 (a : S16x512x512.Idx → ℝ) : val_main_v0 (F := Ideal) (up a) (ix4 r i h d) = ((rows a r h i d : ℝ) : EReal) := by
  rw [val_main_v0_apply, at3 (up a) _ r i (lane h d)]
  · rfl
  all_goals
    have h0 := r.isLt; have h1 := h.isLt; have h2 := i.isLt; have h3 := d.isLt
    simp only [lane, ix4_0, ix4_1, ix4_2, ix4_3]; omega

theorem ref_v1 (a : S16x512x512.Idx → ℝ) : val_main_v1 (F := Ideal) (up a) (ix4 r i h d) = ((rows a r h i d : ℝ) : EReal) := ref_v0 r h i d a

theorem ref_v2 (a : S16x512x512.Idx → ℝ) : val_main_v2 (F := Ideal) (up a) (ix4 r i h d) = ((rows a r h i d : ℝ) : EReal) := ref_v0 r h i d a

theorem ref_v62 (a : S16x512x512.Idx → ℝ) : val_main_v62 (F := Ideal) (up a) (ix4 r i h d) = ((rows a r h i d : ℝ) : EReal) := ref_v0 r h i d a

theorem ref_v11 : val_main_v11 (F := Ideal) (ix1 h) = ((slope h : ℝ) : EReal) := by
  rw [← slope_eq]
  unfold val_main_v11
  fin_cases h <;> rfl

theorem ref_v18 : val_main_v18 (F := Ideal) (ix2 i j) = BitVec.ofNat 32 (gap i j) := by
  rw [val_main_v18_apply, val_main_v17_apply, val_main_v15_apply, val_main_v16_apply, val_main_v13_apply, val_main_v14_apply,
    val_main_v12_apply, val_main_v12_apply, gap, Nat.add_comm]
  exact absi_sub j.val i.val (by omega) (by omega)

theorem gap_lt : gap i j < 512 := by unfold gap; omega

theorem ref_v20 : val_main_v20 (F := Ideal) (ix2 i j) = BitVec.ofBool (decide (gap i j ≤ 64)) := by
  have hg := gap_lt i j
  rw [val_main_v20_apply, ref_v18, val_main_v19_apply, val_main_c_apply]
  exact cmpi_sle_64 _ (by omega)

theorem ref_v24 : val_main_v24 (F := Ideal) (ix2 i j) = (((gap i j : ℝ) * 16 : ℝ) : EReal) := by
  have hg := gap_lt i j
  rw [val_main_v24_apply, val_main_v23_apply, val_main_v22_apply, val_main_c_7_apply]
  rw [show val_main_v21 (F := Ideal) (ix2 i j) = BitVec.ofNat 32 (gap i j) from ref_v18 i j]
  exact toInt_muli_16 _ (by omega)

theorem ref_v30 : val_main_v30 (F := Ideal) (ix3 h i j) = ((-slope h * ((gap i j : ℝ) * 16) : ℝ) : EReal) := by
  rw [val_main_v30_apply, val_main_v28_apply, val_main_v26_apply, val_main_v25_apply, val_main_v29_apply, val_main_v27_apply,
    at1 (val_main_v11 (F := Ideal)) _ h rfl, at2 (val_main_v24 (F := Ideal)) _ i j rfl rfl, ref_v11, ref_v24]
  rw [EReal.coe_mul (-slope h), EReal.coe_neg, Ideal.hostNegf_def, Ideal.negf_def, Ideal.mulf_def]

theorem ref_v31 : val_main_v31 (F := Ideal) (up a0) (up a1) (ix4 r h i j)
    = ((∑ d, rows a0 r h i d * rows a1 r h j d : ℝ) : EReal) := by
  rw [val_main_v31_apply, ← coe_sum]
  refine Finset.sum_congr rfl fun d _ => ?_
  rw [at4 (val_main_v0 (F := Ideal) (up a0)) _ r i h d rfl rfl rfl rfl, at4 (val_main_v1 (F := Ideal) (up a1)) _ r j h d rfl rfl rfl rfl,
    ref_v0, ref_v1, EReal.coe_mul]

theorem ref_v36 : val_main_v36 (F := Ideal) (up a0) (up a1) (ix4 r h i j)
    = ((score (slope h) (rows a0 r h) (rows a1 r h) i j : ℝ) : EReal) := by
  rw [val_main_v36_apply, val_main_v33_apply, ref_v31, val_main_v32_apply, val_main_cst_8_apply, val_main_v35_apply,
    val_main_v34_apply, at3 (val_main_v30 (F := Ideal)) _ h i j rfl rfl rfl, ref_v30, Ideal.ofBits_def, word_eighth, score,
    EReal.coe_add, EReal.coe_mul (∑ d, rows a0 r h i d * rows a1 r h j d)]
  rfl

theorem ref_v38_1 : val_main_v38_1 (F := Ideal) (ix4 r h i j) = BitVec.ofBool (decide (gap i j ≤ 64)) := by
  rw [val_main_v38_1_apply, val_main_v37_apply, at2 (val_main_v20 (F := Ideal)) _ i j rfl rfl, ref_v20]

theorem ref_v38_0 : val_main_v38_0 (F := Ideal) (up a0) (up a1) (ix4 r h i j)
    = masked (slope h) (rows a0 r h) (rows a1 r h) i j := by
  rw [val_main_v38_0_apply, ref_v38_1, ref_v36, val_main_call0_v2_apply, val_main_call0_v0_apply, val_main_cst_9_apply,
    Ideal.ofBits_def, word_neg_inf, select_ofBool, masked]

theorem ref_v39 : val_main_v39 (F := Ideal) (up a0) (up a1) (ix3 r h i)
    = ((top (slope h) (rows a0 r h) (rows a1 r h) i : ℝ) : EReal) := by
  unfold val_main_v39
  have hr : S16x8x512x512.Reduces [3] S16x8x512 := by decide
  haveI : Std.Commutative (FloatOps.maximumf (F := Ideal) (φ := .f32)) := ⟨fun x y => max_comm x y⟩
  haveI : Std.Associative (FloatOps.maximumf (F := Ideal) (φ := .f32)) := ⟨fun x y z => max_assoc x y z⟩
  rw [Host.reduce_eq_fold_single FloatOps.maximumf _ _ _ hr, ← fold_masked]
  rw [show val_main_cst_10 (F := Ideal) (Shape.Idx.first h_S_) = ⊥ from (val_main_cst_10_apply _).trans word_neg_inf]
  have hf : (val_main_v38_0 (F := Ideal) (up a0) (up a1)) ∘ hr.lift (ix3 r h i) = masked (slope h) (rows a0 r h) (rows a1 r h) i := by
    funext k
    refine (at4 (val_main_v38_0 (F := Ideal) (up a0) (up a1)) _ r h i k ?_ ?_ ?_ ?_).trans (ref_v38_0 a0 a1 r h i k)
    all_goals rfl
  rw [hf]
  rfl

theorem ref_v43 : val_main_v43 (F := Ideal) (up a0) (up a1) (ix4 r h i j)
    = (((if masked (slope h) (rows a0 r h) (rows a1 r h) i j = (top (slope h) (rows a0 r h) (rows a1 r h) i : EReal) then 1 else 0 : ℝ)) : EReal) := by
  rw [val_main_v43_apply, val_main_v42_apply, ref_v38_0, val_main_v41_apply, val_main_v40_apply,
    at3 (val_main_v39 (F := Ideal) (up a0) (up a1)) _ r h i, ref_v39]
  · have ht (b : BitVec 1) : FloatOps.uitofp (F := Ideal) .f32 b = ((b.toNat : ℝ) : EReal) := rfl
    rw [Ideal.cmpf_def, ht]
    simp only [Ideal.cmp]
    split
    · rename_i e; simp [e]
    · rename_i e; simp [e]
  all_goals
    have h0 := r.isLt; have h1 := h.isLt; have h2 := i.isLt
    show _ = _
    simp only [ix4_0, ix4_1, ix4_2, ix4_3_zero]; omega

/-- How many keys attain the row maximum: not none. -/
theorem ref_v44 : ∃ n : ℝ, n ≠ 0 ∧ val_main_v44 (F := Ideal) (up a0) (up a1) (ix3 r h i) = ((n : ℝ) : EReal) := by
  refine ⟨∑ k, if masked (slope h) (rows a0 r h) (rows a1 r h) i k = (top (slope h) (rows a0 r h) (rows a1 r h) i : EReal) then 1 else 0, ?_, ?_⟩
  · obtain ⟨k, hk⟩ := exists_top (slope h) (rows a0 r h) (rows a1 r h) i
    refine (Finset.sum_pos' (fun k _ => ?_) ⟨k, mem_univ k, ?_⟩).ne'
    · split <;> norm_num
    · rw [if_pos hk]; norm_num
  · rw [val_main_v44_apply, val_main_cst_11_apply, Ideal.ofBits_def, Ideal.ofBits_zero_f32, zero_add, ← coe_sum]
    refine Finset.sum_congr rfl fun k _ => ?_
    rw [at4 (val_main_v43 (F := Ideal) (up a0) (up a1)) _ r h i k rfl rfl rfl rfl, ref_v43]

theorem ref_v48 : val_main_v48 (F := Ideal) (up a0) (up a1) (ix4 r h i j)
    = ((ex (slope h) (rows a0 r h) (rows a1 r h) i j : ℝ) : EReal) := by
  rw [val_main_v48_apply, val_main_v47_apply, ref_v38_0, val_main_v46_apply, val_main_v45_apply,
    at3 (val_main_v39 (F := Ideal) (up a0) (up a1)) _ r h i rfl rfl rfl, ref_v39, ← exp_masked]
  rfl

theorem ref_v49 : val_main_v49 (F := Ideal) (up a0) (up a1) (ix3 r h i)
    = ((den (slope h) (rows a0 r h) (rows a1 r h) i : ℝ) : EReal) := by
  rw [val_main_v49_apply, val_main_cst_12_apply, Ideal.ofBits_def, Ideal.ofBits_zero_f32, zero_add, den, ← coe_sum]
  refine Finset.sum_congr rfl fun k _ => ?_
  rw [at4 (val_main_v48 (F := Ideal) (up a0) (up a1)) _ r h i k rfl rfl rfl rfl, ref_v48]

theorem ref_v50 : val_main_v50 (F := Ideal) (up a0) (up a1) (ix4 r h i (0 : Fin 1))
    = ((den (slope h) (rows a0 r h) (rows a1 r h) i : ℝ) : EReal) := by
  rw [val_main_v50_apply, at3 (val_main_v49 (F := Ideal) (up a0) (up a1)) _ r h i rfl rfl rfl, ref_v49]

theorem ref_v52 : val_main_v52 (F := Ideal) (up a0) (up a1) (ix4 r h i j)
    = ((prob (slope h) (rows a0 r h) (rows a1 r h) i j : ℝ) : EReal) := by
  rw [val_main_v52_apply, ref_v48, val_main_v51_apply, at4 (val_main_v50 (F := Ideal) (up a0) (up a1)) _ r h i (0 : Fin 1) rfl rfl rfl rfl,
    ref_v50, Ideal.hostDivf_def, div_real _ (den_pos _ _ _ i).ne', prob, ← div_eq_mul_one_div]

theorem ref_v57 : val_main_v57 (F := Ideal) (up a0) (up a1) (up a2) (ix4 r i h d)
    = ((out (slope h) (rows a0 r h) (rows a1 r h) (rows a2 r h) i d : ℝ) : EReal) := by
  rw [val_main_v57_apply, val_main_v56_apply, out, ← coe_sum]
  refine Finset.sum_congr rfl fun k _ => ?_
  rw [at4 (val_main_v2 (F := Ideal) (up a2)) _ r k h d rfl rfl rfl rfl, at4 (val_main_v52 (F := Ideal) (up a0) (up a1)) _ r h i k rfl rfl rfl rfl,
    ref_v2, ref_v52, EReal.coe_mul]

theorem ref_v61 : val_main_v61 (F := Ideal) (up a0) (up a1) (ix3 r i h)
    = ((lse (slope h) (rows a0 r h) (rows a1 r h) i : ℝ) : EReal) := by
  rw [val_main_v61_apply, val_main_v60_apply, at4 (val_main_v59 (F := Ideal) (up a0) (up a1)) _ r h i (0 : Fin 1)]
  · rw [val_main_v59_apply, val_main_v45_apply, at3 (val_main_v39 (F := Ideal) (up a0) (up a1)) _ r h i rfl rfl rfl, ref_v39,
      val_main_v58_apply, ref_v50, Ideal.hostUnary_log_def, log_real (den_pos _ _ _ i), lse, EReal.coe_add]
    rfl
  all_goals
    have h0 := r.isLt; have h1 := h.isLt; have h2 := i.isLt
    show _ = _
    simp only [ix3_0, ix3_1, ix3_2]; omega

/-! ## Backward -/

theorem ref_v64 : val_main_v64 (F := Ideal) (up a4) (ix4 r h i (0 : Fin 1)) = ((col a4 r h i : ℝ) : EReal) := by
  rw [val_main_v64_apply, val_main_v63_apply, at3 (up a4) _ r i h rfl rfl rfl]
  rfl

theorem ref_v66 : val_main_v66 (F := Ideal) (up a3) (ix4 r h d i) = ((rows a3 r h i d : ℝ) : EReal) := by
  rw [val_main_v66_apply, at4 (val_main_v62 (F := Ideal) (up a3)) _ r i h d rfl rfl rfl rfl, ref_v62]

theorem ref_v67 : val_main_v67 (F := Ideal) (up a2) (up a3) (ix4 r h i j)
    = ((dprob (rows a2 r h) (rows a3 r h) i j : ℝ) : EReal) := by
  rw [val_main_v67_apply, dprob, ← coe_sum]
  refine Finset.sum_congr rfl fun d _ => ?_
  rw [at4 (val_main_v66 (F := Ideal) (up a3)) _ r h d i rfl rfl rfl rfl, at4 (val_main_v2 (F := Ideal) (up a2)) _ r j h d rfl rfl rfl rfl,
    ref_v66, ref_v2, EReal.coe_mul]

theorem ref_v69 : val_main_v69 (F := Ideal) (up a0) (up a1) (up a3) (ix4 r j h d)
    = ((gradV (slope h) (rows a0 r h) (rows a1 r h) (rows a3 r h) j d : ℝ) : EReal) := by
  rw [val_main_v69_apply, val_main_v68_apply, gradV, ← coe_sum]
  refine Finset.sum_congr rfl fun k _ => ?_
  rw [at4 (val_main_v66 (F := Ideal) (up a3)) _ r h d k rfl rfl rfl rfl, at4 (val_main_v52 (F := Ideal) (up a0) (up a1)) _ r h k j rfl rfl rfl rfl,
    ref_v66, ref_v52, EReal.coe_mul]

theorem ref_v55 : val_main_v55 (F := Ideal) (up a0) (up a1) (ix4 r h i (0 : Fin 1))
    = ((1 * (1 / (den (slope h) (rows a0 r h) (rows a1 r h) i * den (slope h) (rows a0 r h) (rows a1 r h) i)) : ℝ) : EReal) := by
  have hd := (den_pos (slope h) (rows a0 r h) (rows a1 r h) i).ne'
  rw [val_main_v55_apply, val_main_v54_apply, val_main_cst_13_apply, Ideal.ofBits_def, word_one, val_main_v53_apply, ref_v50,
    Ideal.mulf_def, ← EReal.coe_mul, Ideal.hostDivf_def, div_real _ (mul_ne_zero hd hd)]

theorem ref_v73 : val_main_v73 (F := Ideal) (up a0) (up a1) (up a2) (up a3) (ix3 r h i)
    = ((∑ k, dprob (rows a2 r h) (rows a3 r h) i k
        * (1 * (1 / (den (slope h) (rows a0 r h) (rows a1 r h) i * den (slope h) (rows a0 r h) (rows a1 r h) i)))
        * ex (slope h) (rows a0 r h) (rows a1 r h) i k : ℝ) : EReal) := by
  rw [val_main_v73_apply, val_main_cst_14_apply, Ideal.ofBits_def, Ideal.ofBits_zero_f32, zero_add, ← coe_sum]
  refine Finset.sum_congr rfl fun k _ => ?_
  rw [at4 (val_main_v72 (F := Ideal) (up a0) (up a1) (up a2) (up a3)) _ r h i k rfl rfl rfl rfl, val_main_v72_apply, val_main_v71_apply,
    ref_v67, ref_v48, val_main_v70_apply, at4 (val_main_v55 (F := Ideal) (up a0) (up a1)) _ r h i (0 : Fin 1) rfl rfl rfl rfl, ref_v55,
    Ideal.mulf_def, Ideal.mulf_def, ← EReal.coe_mul, ← EReal.coe_mul]

theorem ref_v76 : val_main_v76 (F := Ideal) (up a0) (up a1) (up a2) (up a3) (up a4) (ix4 r h i (0 : Fin 1))
    = ((col a4 r h i * (1 / den (slope h) (rows a0 r h) (rows a1 r h) i) + -∑ k, dprob (rows a2 r h) (rows a3 r h) i k
        * (1 * (1 / (den (slope h) (rows a0 r h) (rows a1 r h) i * den (slope h) (rows a0 r h) (rows a1 r h) i)))
        * ex (slope h) (rows a0 r h) (rows a1 r h) i k : ℝ) : EReal) := by
  have hd := (den_pos (slope h) (rows a0 r h) (rows a1 r h) i).ne'
  rw [val_main_v76_apply, val_main_v65_apply, ref_v64, ref_v50, Ideal.hostDivf_def, div_real _ hd, val_main_v75_apply, val_main_v74_apply,
    at3 (val_main_v73 (F := Ideal) (up a0) (up a1) (up a2) (up a3)) _ r h i, ref_v73, Ideal.hostNegf_def, Ideal.negf_def, Ideal.addf_def,
    ← EReal.coe_neg, ← EReal.coe_add]
  all_goals
    have h0 := r.isLt; have h1 := h.isLt; have h2 := i.isLt
    show _ = _
    simp only [ix4_0, ix4_1, ix4_2, ix4_3_zero]; omega

theorem ref_v82 : val_main_v82 (F := Ideal) (up a0) (up a1) (up a2) (up a3) (up a4) (ix4 r h i j)
    = ((dscore (slope h) (rows a0 r h) (rows a1 r h) (rows a2 r h) (rows a3 r h) (col a4 r h) i j : ℝ) : EReal) := by
  have hd := (den_pos (slope h) (rows a0 r h) (rows a1 r h) i).ne'
  rw [val_main_v82_apply, val_main_v81_apply, val_main_v78_apply, ref_v67, val_main_v77_apply,
    at4 (val_main_v50 (F := Ideal) (up a0) (up a1)) _ r h i (0 : Fin 1) rfl rfl rfl rfl, ref_v50, Ideal.hostDivf_def, div_real _ hd,
    val_main_v80_apply, val_main_v79_apply, val_main_cst_15_apply, Ideal.ofBits_def, Ideal.ofBits_zero_f32, zero_add, Fin.sum_univ_one,
    at4 (val_main_v76 (F := Ideal) (up a0) (up a1) (up a2) (up a3) (up a4)) _ r h i (0 : Fin 1) rfl rfl rfl rfl, ref_v76, ref_v48,
    Ideal.mulf_def, Ideal.addf_def, ← EReal.coe_add, ← EReal.coe_mul, dscore_eq]

/-- Nothing passes through the row maximum. -/
theorem ref_v86 : val_main_v86 (F := Ideal) (up a0) (up a1) (up a2) (up a3) (up a4) (ix4 r h i (0 : Fin 1)) = ((0 : ℝ) : EReal) := by
  rw [val_main_v86_apply, ref_v64, val_main_v85_apply, at3 (val_main_v84 (F := Ideal) (up a0) (up a1) (up a2) (up a3) (up a4)) _ r h i,
    val_main_v84_apply, val_main_cst_16_apply, Ideal.ofBits_def, Ideal.ofBits_zero_f32, zero_add,
    ← sum_dscore (slope h) (rows a0 r h) (rows a1 r h) (rows a2 r h) (rows a3 r h) (col a4 r h) i, EReal.coe_add, ← coe_sum, Ideal.addf_def]
  · congr 1
    refine Finset.sum_congr rfl fun k _ => ?_
    rw [at4 (val_main_v83 (F := Ideal) (up a0) (up a1) (up a2) (up a3) (up a4)) _ r h i k rfl rfl rfl rfl, val_main_v83_apply, ref_v82,
      Ideal.hostNegf_def, Ideal.negf_def, EReal.coe_neg]
  all_goals
    have h0 := r.isLt; have h1 := h.isLt; have h2 := i.isLt
    show _ = _
    simp only [ix4_0, ix4_1, ix4_2, ix4_3_zero]; omega

theorem ref_v90 : val_main_v90 (F := Ideal) (up a0) (up a1) (up a2) (up a3) (up a4) (ix4 r h i j) = 0 := by
  obtain ⟨n, hn, hv⟩ := ref_v44 a0 a1 r h i
  rw [val_main_v90_apply, val_main_v89_apply, at3 (val_main_v88 (F := Ideal) (up a0) (up a1) (up a2) (up a3) (up a4)) _ r h i rfl rfl rfl,
    val_main_v88_apply, hv, val_main_v87_apply, val_main_cst_17_apply, Ideal.ofBits_def, Ideal.ofBits_zero_f32, zero_add, Fin.sum_univ_one,
    at4 (val_main_v86 (F := Ideal) (up a0) (up a1) (up a2) (up a3) (up a4)) _ r h i (0 : Fin 1) rfl rfl rfl rfl, ref_v86,
    Ideal.hostDivf_def, div_real _ hn, zero_mul, EReal.coe_zero, Ideal.mulf_def, zero_mul]

theorem ref_v94 : val_main_v94 (F := Ideal) (up a0) (up a1) (up a2) (up a3) (up a4) (ix4 r h i j)
    = ((dscore (slope h) (rows a0 r h) (rows a1 r h) (rows a2 r h) (rows a3 r h) (col a4 r h) i j * (1 / 8) : ℝ) : EReal) := by
  rw [val_main_v94_apply, val_main_v92_apply, ref_v38_1, val_main_v91_apply, ref_v82, ref_v90, val_main_call1_v0_apply,
    val_main_call1_cst_apply, val_main_v93_apply, val_main_cst_18_apply, Ideal.ofBits_def, Ideal.ofBits_def, Ideal.ofBits_zero_f32, word_eighth,
    Ideal.addf_def, add_zero, select_ofBool, EReal.coe_mul, Ideal.mulf_def]
  split
  · rfl
  · rw [dscore_far _ _ _ _ _ _ (by omega), EReal.coe_zero]

theorem ref_v96 : val_main_v96 (F := Ideal) (up a0) (up a1) (up a2) (up a3) (up a4) (ix4 r j h d)
    = ((gradK (slope h) (rows a0 r h) (rows a1 r h) (rows a2 r h) (rows a3 r h) (col a4 r h) j d : ℝ) : EReal) := by
  rw [val_main_v96_apply, val_main_v95_apply, gradK, ← coe_sum]
  refine Finset.sum_congr rfl fun k _ => ?_
  rw [at4 (val_main_v94 (F := Ideal) (up a0) (up a1) (up a2) (up a3) (up a4)) _ r h k j rfl rfl rfl rfl, ref_v94,
    at4 (val_main_v0 (F := Ideal) (up a0)) _ r k h d rfl rfl rfl rfl, ref_v0, EReal.coe_mul (_ * _)]

theorem ref_v98 : val_main_v98 (F := Ideal) (up a0) (up a1) (up a2) (up a3) (up a4) (ix4 r i h d)
    = ((gradQ (slope h) (rows a0 r h) (rows a1 r h) (rows a2 r h) (rows a3 r h) (col a4 r h) i d : ℝ) : EReal) := by
  rw [val_main_v98_apply, val_main_v97_apply, gradQ, ← coe_sum]
  refine Finset.sum_congr rfl fun k _ => ?_
  rw [at4 (val_main_v94 (F := Ideal) (up a0) (up a1) (up a2) (up a3) (up a4)) _ r h i k rfl rfl rfl rfl, ref_v94,
    at4 (val_main_v1 (F := Ideal) (up a1)) _ r k h d rfl rfl rfl rfl, ref_v1, EReal.coe_mul (_ * _)]

/-! ## The results -/

/-- The gradient at the queries. -/
theorem ref_dq : val_main_v100 (F := Ideal) (up a0) (up a1) (up a2) (up a3) (up a4) (ix3 r i (lane h d))
    = ((gradQ (slope h) (rows a0 r h) (rows a1 r h) (rows a2 r h) (rows a3 r h) (col a4 r h) i d : ℝ) : EReal) := by
  rw [val_main_v100_apply, val_main_v99_apply, Ideal.truncf_def, at4 (val_main_v98 (F := Ideal) (up a0) (up a1) (up a2) (up a3) (up a4)) _ r i h d, ref_v98]
  all_goals
    have h0 := r.isLt; have h1 := h.isLt; have h2 := i.isLt; have h3 := d.isLt
    show _ = _
    simp only [lane, ix3_0, ix3_1, ix3_2]; omega

/-- The gradient at the keys. -/
theorem ref_dk : val_main_v102 (F := Ideal) (up a0) (up a1) (up a2) (up a3) (up a4) (ix3 r j (lane h d))
    = ((gradK (slope h) (rows a0 r h) (rows a1 r h) (rows a2 r h) (rows a3 r h) (col a4 r h) j d : ℝ) : EReal) := by
  rw [val_main_v102_apply, val_main_v101_apply, Ideal.truncf_def, at4 (val_main_v96 (F := Ideal) (up a0) (up a1) (up a2) (up a3) (up a4)) _ r j h d, ref_v96]
  all_goals
    have h0 := r.isLt; have h1 := h.isLt; have h2 := j.isLt; have h3 := d.isLt
    show _ = _
    simp only [lane, ix3_0, ix3_1, ix3_2]; omega

/-- The gradient at the values. -/
theorem ref_dv : val_main_v104 (F := Ideal) (up a0) (up a1) (up a3) (ix3 r j (lane h d))
    = ((gradV (slope h) (rows a0 r h) (rows a1 r h) (rows a3 r h) j d : ℝ) : EReal) := by
  rw [val_main_v104_apply, val_main_v103_apply, Ideal.truncf_def, at4 (val_main_v69 (F := Ideal) (up a0) (up a1) (up a3)) _ r j h d, ref_v69]
  all_goals
    have h0 := r.isLt; have h1 := h.isLt; have h2 := j.isLt; have h3 := d.isLt
    show _ = _
    simp only [lane, ix3_0, ix3_1, ix3_2]; omega

end Cert.Window
-- ==== Proof.HostRead.lean ====
module

public import proofs.«01_k».proof.Proof.Reading
public import proofs.«01_k».proof.Proof.Gen.KernelIdeal.Launch
public import Idealize.ShloMosaic.Lib.StableHlo.Run

@[expose] public section

set_option maxRecDepth 16384

noncomputable section

/-! # The kernel's host lines

What the host lines before the launch leave in the buffers the launch reads. The forward pass is the reference's, line
for line, so its arrays are the reference's stages. -/

namespace Cert.KernelIdeal.HostRead

open Idealize.ShloMosaic Idealize.ShloMosaic.TcCoe Idealize.SL.Sem Idealize.ShloMosaic.StableHlo
open Cert.KernelIdeal Cert.KernelIdeal.Gen
open Cert.ReferenceIdeal.Read

variable {F : FTy → Type} [FloatOps F]
variable (X : Valuation τ sig (Elt F))

set_option maxHeartbeats 4000000 in
/-- The masked scores: the reference's. -/
theorem after_scores :
    after (List.flatten [hostOps0 (F := F), hostOps0_1]) X (main_v38 : DevRef τ sig)
      = val_main_v38_0 (F := F) (X (main_arg0 : DevRef τ sig)) (X (main_arg1 : DevRef τ sig)) := by
  simp only [hostOps0, hostOps0_1, List.flatten_cons, List.flatten_nil, List.append_nil, List.cons_append, List.nil_append]
  after_results_simp
  rfl

set_option maxHeartbeats 4000000 in
/-- The values by head, before the rest of the forward pass. -/
theorem after_values :
    after (List.flatten [hostOps0 (F := F), hostOps0_1]) X (main_v2 : DevRef τ sig)
      = val_main_v2 (F := F) (X (main_arg2 : DevRef τ sig)) := by
  simp only [hostOps0, hostOps0_1, List.flatten_cons, List.flatten_nil, List.append_nil, List.cons_append, List.nil_append]
  after_results_simp
  rfl

/-- The log-sum-exp of the window, spread over the lanes of its head. -/
def spread (x : (⟨S16x512x8, .f32⟩ : BufTy).Contents (Elt F)) : (⟨S16x512x512, .f32⟩ : BufTy).Contents (Elt F) :=
  shapeCast S16x512x512 (broadcastInDim S16x512x8x64 ![0, 1, 2, 3] bcast_S16x512x8x1_S16x512x8x64_0_1_2_3
    (broadcastInDim S16x512x8x1 ![0, 1, 2] bcast_S16x512x8_S16x512x8x1_0_1_2 x)) shapeCasts_S16x512x8x64_S16x512x512

set_option maxHeartbeats 4000000 in
theorem after_lse (x0 x1 : (⟨S16x512x512, .f32⟩ : BufTy).Contents (Elt F))
    (h : X (main_v38 : DevRef τ sig) = val_main_v38_0 (F := F) x0 x1) :
    after (hostOps0_2 (F := F)) X (main_v63 : DevRef τ sig) = spread (val_main_v61 (F := F) x0 x1) := by
  simp only [hostOps0_2]
  after_results_simp
  simp only [h]
  rfl

/-- The rows' product of the result's cotangent with the result, less the cotangent of the log-sum-exp. -/
def dmat (o : (⟨S16x512x8x64, .f32⟩ : BufTy).Contents (Elt F)) (x3 : (⟨S16x512x512, .f32⟩ : BufTy).Contents (Elt F))
    (x4 : (⟨S16x512x8, .f32⟩ : BufTy).Contents (Elt F)) : (⟨S16x512x8, .f32⟩ : BufTy).Contents (Elt F) :=
  subf (Host.reduceAdd (mulf (shapeCast S16x512x8x64 x3 shapeCasts_S16x512x512_S16x512x8x64) o) (constant S_ .f32 0x00000000#32)
    reducesTo_S16x512x8x64_S16x512x8_d3 h_S_) x4

set_option maxHeartbeats 4000000 in
theorem after_dmat (x0 x1 x2 : (⟨S16x512x512, .f32⟩ : BufTy).Contents (Elt F))
    (h : X (main_v38 : DevRef τ sig) = val_main_v38_0 (F := F) x0 x1) (h2 : X (main_v2 : DevRef τ sig) = val_main_v2 (F := F) x2) :
    after (hostOps0_2 (F := F)) X (main_v66 : DevRef τ sig)
      = spread (dmat (val_main_v57 (F := F) x0 x1 x2) (X (main_arg3 : DevRef τ sig)) (X (main_arg4 : DevRef τ sig))) := by
  simp only [hostOps0_2]
  after_results_simp
  simp only [h, h2]
  rfl

/-- The three inputs next to each other. -/
def joined (x0 x1 x2 : (⟨S16x512x512, .f32⟩ : BufTy).Contents (Elt F)) : (⟨S16x512x1536, .f32⟩ : BufTy).Contents (Elt F) :=
  concatenate S16x512x1536 2 [⟨S16x512x512, x0⟩, ⟨S16x512x512, x1⟩, ⟨S16x512x512, x2⟩] concatenates_S16x512x512_S16x512x512_S16x512x512_S16x512x1536_d2

set_option maxHeartbeats 4000000 in
theorem after_qkv :
    after (hostOps0_2 (F := F)) X (main_v59 : DevRef τ sig)
      = (truncf .bf16 (joined (X (main_arg0 : DevRef τ sig)) (X (main_arg1 : DevRef τ sig)) (X (main_arg2 : DevRef τ sig))) bitsLt_bf16_f32
          : (⟨S16x512x1536, .bf16⟩ : BufTy).Contents (Elt F)) := by
  simp only [hostOps0_2]
  after_results_simp
  rfl

set_option maxHeartbeats 4000000 in
theorem after_do :
    after (hostOps0_2 (F := F)) X (main_v60 : DevRef τ sig)
      = (truncf .bf16 (X (main_arg3 : DevRef τ sig) : (⟨S16x512x512, .f32⟩ : BufTy).Contents (Elt F)) bitsLt_bf16_f32
          : (⟨S16x512x512, .bf16⟩ : BufTy).Contents (Elt F)) := by
  simp only [hostOps0_2]
  after_results_simp

set_option maxHeartbeats 4000000 in
theorem after_slopes :
    after (List.flatten [hostOps0 (F := F), hostOps0_1, hostOps0_2]) X (main_cst : DevRef τ sig)
      = (fun i => FloatOps.ofBits .f32 (lit0 (S8.rowMajor i)) : (⟨S8, .f32⟩ : BufTy).Contents (Elt F)) := by
  simp only [hostOps0, hostOps0_1, hostOps0_2, List.flatten_cons, List.flatten_nil, List.append_nil, List.cons_append, List.nil_append]
  after_results_simp
  rfl

set_option maxHeartbeats 4000000 in
/-- The forward pass leaves the arguments. -/
theorem after_args :
    after (List.flatten [hostOps0 (F := F), hostOps0_1]) X (main_arg0 : DevRef τ sig) = X (main_arg0 : DevRef τ sig)
    ∧ after (List.flatten [hostOps0 (F := F), hostOps0_1]) X (main_arg1 : DevRef τ sig) = X (main_arg1 : DevRef τ sig)
    ∧ after (List.flatten [hostOps0 (F := F), hostOps0_1]) X (main_arg2 : DevRef τ sig) = X (main_arg2 : DevRef τ sig)
    ∧ after (List.flatten [hostOps0 (F := F), hostOps0_1]) X (main_arg3 : DevRef τ sig) = X (main_arg3 : DevRef τ sig)
    ∧ after (List.flatten [hostOps0 (F := F), hostOps0_1]) X (main_arg4 : DevRef τ sig) = X (main_arg4 : DevRef τ sig) := by
  simp only [hostOps0, hostOps0_1, List.flatten_cons, List.flatten_nil, List.append_nil, List.cons_append, List.nil_append]
  refine ⟨?_, ?_, ?_, ?_, ?_⟩ <;> after_results_simp

end Cert.KernelIdeal.HostRead
-- ==== Proof.Tile.lean ====
module

public import proofs.«01_k».proof.Proof.Gen.KernelIdeal.Value
public import Idealize.ShloMosaic.Lib.WritesUnit

@[expose] public section

set_option maxRecDepth 16384

noncomputable section

/-! # The kernel's sixteen tiles, in one vocabulary

A grid point works on sixteen tiles: tile `n` is a block of 128 query rows of residue class `n / 4` of the point, the
`n % 4`-th of that class, against a window of 256 key rows, for two heads stacked one above the other. Here every array
the point stores is written with one function of the tile number, and the arrays found by running the body are shown to
be these. -/

namespace Cert.KernelIdeal.Tile

open Idealize.ShloMosaic Idealize.ShloMosaic.TcCoe Cert.KernelIdeal Cert.KernelIdeal.Gen
open Idealize.ShloMosaic.View (Piece tilePieces)

variable {F : FTy → Type} [FloatOps F] [Named F]

/-! ## The arithmetic of one tile -/

/-- A lane mask, on every row of a tile. -/
def mask (b : IVec S1x128 1) : IVec S128x128 1 :=
  broadcastTo S128x128 (shapeCast S1x128 b shapeCasts_S1x128_S1x128) broadcasts_S1x128_S128x128

/-- A tile without its leading axis. -/
def flat {e : EltTy} (x : Vec F S1x128x128 e) : Vec F S128x128 e := shapeCast S128x128 x shapeCasts_S1x128x128_S128x128

/-- Two copies of a tile, one above the other, each with the other head's lanes cleared. -/
def stack (x : FVec F S128x128 .bf16) : FVec F S256x128 .bf16 :=
  concatenate S256x128 0 [⟨S128x128, select (mask k0_pay17) x (broadcast S128x128 (Scalar.ofBits .bf16 0x0000#16 : F .bf16))⟩,
    ⟨S128x128, select (mask k0_pay18) x (broadcast S128x128 (Scalar.ofBits .bf16 0x0000#16 : F .bf16))⟩]
    concatenates_S128x128_S128x128_S256x128_d0

/-- The queries of a tile times the scale. -/
def scaled (q : Vec F S1x128x128 .bf16) : FVec F S128x128 .bf16 :=
  mulf (flat q) (broadcast S128x128 (Scalar.ofBits .bf16 0x3E00#16 : F .bf16))

/-- A stacked tile against a window of keys. -/
def against (x : FVec F S256x128 .bf16) (k : Vec F S1x256x128 .bf16) : FVec F S256x256 .f32 :=
  matmul dot_S256x128_S256x128_S256x256_1_1_0_0_n_n none x (shapeCast S256x128 k shapeCasts_S1x256x128_S256x128)
    (constant S256x256 .f32 0x00000000#32)

/-- A square tile without its leading axis. -/
def square {e : EltTy} (x : Vec F S1x256x256 e) : Vec F S256x256 e := shapeCast S256x256 x shapeCasts_S1x256x256_S256x256

/-- A square tile with its leading axis. -/
def stored {e : EltTy} (x : Vec F S256x256 e) : Vec F S1x256x256 e := shapeCast S1x256x256 x shapeCasts_S256x256_S1x256x256

/-- The scores of a tile. -/
def scoreT (q : Vec F S1x128x128 .bf16) (k : Vec F S1x256x128 .bf16) (b : Vec F S1x256x256 .f32) : Vec F S1x256x256 .f32 :=
  stored (e := .f32) (subf (against (stack (scaled q)) k) (square (e := .f32) b))

/-- The gradient at the probabilities of a tile. -/
def dprobT (o : Vec F S1x128x128 .bf16) (v : Vec F S1x256x128 .bf16) : Vec F S1x256x256 .f32 :=
  stored (e := .f32) (against (stack (flat (e := .bf16) o)) v)

/-- The largest entry of each row among a head's lanes. -/
def headMax (b : IVec S1x128 1) (x : FVec F S128x128 .f32) : FVec F S128x1 .f32 :=
  shapeCast S128x1 (multiReduction .maximumf [1] S128 (select (mask b) x (broadcast S128x128 (Scalar.ofBits .f32 0xFF800000#32 : F .f32)))
    0xFF800000#32 reduces_S128x128_S128 (.inl rfl) rfl) shapeCasts_S128_S128x1

/-- A column for each head of the stack, from values that are equal along a head's lanes; on every key. -/
def headCols (x : Vec F S1x128x128 .f32) : FVec F S256x256 .f32 :=
  broadcastTo S256x256 (concatenate S256x1 0 [⟨S128x1, headMax k0_pay17 (flat (e := .f32) x)⟩, ⟨S128x1, headMax k0_pay18 (flat (e := .f32) x)⟩]
    concatenates_S128x1_S128x1_S256x1_d0) broadcasts_S256x1_S256x256

/-- The probabilities of a tile. -/
def probT (s : Vec F S1x256x256 .f32) (l : Vec F S1x128x128 .f32) : FVec F S256x256 .f32 :=
  exp (subf (square (e := .f32) s) (headCols l))

/-- The probabilities of a tile, as stored. -/
def probB (s : Vec F S1x256x256 .f32) (l : Vec F S1x128x128 .f32) : Vec F S1x256x256 .bf16 :=
  stored (e := .bf16) (truncf .bf16 (probT s l) bitsLt_bf16_f32)

/-- The gradient at the scores of a tile, as stored. -/
def dscoreB (s : Vec F S1x256x256 .f32) (l : Vec F S1x128x128 .f32) (g : Vec F S1x256x256 .f32) (d : Vec F S1x128x128 .f32) :
    Vec F S1x256x256 .bf16 :=
  stored (e := .bf16) (truncf .bf16 (mulf (probT s l) (subf (square (e := .f32) g) (headCols d))) bitsLt_bf16_f32)

/-- The gradient at the stacked queries of a tile. -/
def dstack (ds : Vec F S1x256x256 .bf16) (k : Vec F S1x256x128 .bf16) : FVec F S256x128 .f32 :=
  matmul dot_S256x256_S256x128_S256x128_1_0_0_1_n_n none (square (e := .bf16) ds) (shapeCast S256x128 k shapeCasts_S1x256x128_S256x128)
    (constant S256x128 .f32 0x00000000#32)

/-- The gradient at the queries of a tile. -/
def dqT (ds : Vec F S1x256x256 .bf16) (k : Vec F S1x256x128 .bf16) : Vec F S1x128x128 .bf16 :=
  shapeCast S1x128x128 (truncf .bf16 (mulf (select (mask k0_pay17) (extractStridedSlice S128x128 ![0, 0] (dstack ds k) slices_S256x128_o0_0_S128x128)
    (extractStridedSlice S128x128 ![128, 0] (dstack ds k) slices_S256x128_o128_0_S128x128))
    (broadcast S128x128 (Scalar.ofBits .f32 0x3E000000#32 : F .f32))) bitsLt_bf16_f32) shapeCasts_S128x128_S1x128x128

/-- What a tile adds to the window of an accumulator it loaded. -/
def accT (w : Vec F S1x256x256 .bf16) (x : FVec F S256x128 .bf16) (a : Vec F S1x256x128 .f32) : Vec F S1x256x128 .f32 :=
  shapeCast S1x256x128 (addf (shapeCast S256x128 a shapeCasts_S1x256x128_S256x128)
    (matmul dot_S256x256_S256x128_S256x128_0_0_1_1_n_n none (square (e := .bf16) w) x (constant S256x128 .f32 0x00000000#32)))
    shapeCasts_S256x128_S1x256x128

/-- One head's half of a row of the bias table: the slope times the dilated distance, near keys only. -/
def biasRow (w : BitVec 32) (x : Elt F .f32) : Vec F S1x128x256 .f32 :=
  shapeCast S1x128x256 (mulf (broadcast S128x256 x) (select
    (cmpi .sle (absi (subi k0_pay6 (broadcast S128x256 w))) (broadcast S128x256 64#32))
    (sitofp .f32 (muli (absi (subi k0_pay6 (broadcast S128x256 w))) (broadcast S128x256 16#32)))
    (broadcast S128x256 (Named.named κ "far" 0x749DC5AE#32 : F .f32)))) shapeCasts_S128x256_S1x128x256

/-! ## Where a tile lies -/

/-- The first row of a tile. -/
def rowOff (n : Fin 16) : Fin 3 → ℕ := ![n.val / 4, n.val % 4 * 128, 0]

theorem rowOff_inb : ∀ (n : Fin 16) (a : Fin 3), rowOff n a + S1x128x128.size a ≤ S4x512x128.size a := by decide +kernel

/-- The first key row of a tile's window, as the kernel computes it. -/
def keyOff (i : grid0.Coords) (n : Fin 16) : Fin 3 → ℕ :=
  (![k0_off3 i, k0_off5 i, k0_off6 i, k0_off7 i] : Fin 4 → BitVec 32 → Fin 3 → ℕ) ⟨n.val / 4, by omega⟩ (BitVec.ofNat 32 (n.val % 4 * 128))

/-- The first key row of the `t`-th window. -/
def start (t : ℕ) : ℕ := (![0, 64, 192, 256] : Fin 4 → ℕ) ⟨t % 4, by omega⟩

/-- The window's offsets, in numbers. -/
def winOff (n : Fin 16) : Fin 3 → ℕ := ![n.val / 4, start n.val, 0]

theorem keyOff_eq : ∀ (i : grid0.Coords) (n : Fin 16), keyOff i n = winOff n := by decide +kernel

theorem winOff_inb : ∀ (n : Fin 16) (a : Fin 3), winOff n a + S1x256x128.size a ≤ S4x512x128.size a := by decide +kernel

theorem keyOff_inb (i : grid0.Coords) (n : Fin 16) (a : Fin 3) : keyOff i n a + S1x256x128.size a ≤ S4x512x128.size a := by
  rw [keyOff_eq]; exact winOff_inb n a

/-- The row of the bias table a tile uses, as the kernel computes it. -/
def biasOff (i : grid0.Coords) (n : Fin 16) : Fin 3 → ℕ := k0_off4 i (BitVec.ofNat 32 (n.val % 4 * 128))

/-- The row of the bias table, in numbers. -/
def tabOff (n : Fin 16) : Fin 3 → ℕ := ![(![0, 1, 1, 2] : Fin 4 → ℕ) ⟨n.val % 4, by omega⟩, 0, 0]

theorem biasOff_eq : ∀ (i : grid0.Coords) (n : Fin 16), biasOff i n = tabOff n := by decide +kernel

theorem biasOff_inb (i : grid0.Coords) (n : Fin 16) (a : Fin 3) : biasOff i n a + S1x256x256.size a ≤ S3x256x256.size a := by
  rw [biasOff_eq]; revert n a; decide +kernel

/-- Where a tile's square arrays are kept. -/
def sqOff (n : Fin 16) : Fin 3 → ℕ := ![n.val, 0, 0]

theorem sqOff_inb : ∀ (n : Fin 16) (a : Fin 3), sqOff n a + S1x256x256.size a ≤ S16x256x256.size a := by decide +kernel

/-- Where the halves of the bias table are kept. -/
def halfOff (n : Fin 6) : Fin 3 → ℕ := ![n.val / 2, n.val % 2 * 128, 0]

theorem halfOff_inb : ∀ (n : Fin 6) (a : Fin 3), halfOff n a + S1x128x256.size a ≤ S3x256x256.size a := by decide +kernel

/-! ## Loads -/

/-- The rows of a tile. -/
def rowsT {e : EltTy} (a : Memref sig .tc .vmem S4x512x128 e) (h : a.IsWhole) (x : Vec F S4x512x128 e) (n : Fin 16) : Vec F S1x128x128 e :=
  View.readAt (Elt F) a.view (Rect.unit (rowOff n) S1x128x128.size (rowOff_inb n) : Rect S4x512x128).toLoadRect (h.unread x)

/-- The window of a tile. -/
def keysT (i : grid0.Coords) {e : EltTy} (a : Memref sig .tc .vmem S4x512x128 e) (h : a.IsWhole) (x : Vec F S4x512x128 e) (n : Fin 16) :
    Vec F S1x256x128 e :=
  View.readAt (Elt F) a.view (Rect.unit (keyOff i n) S1x256x128.size (keyOff_inb i n) : Rect S4x512x128).toLoadRect (h.unread x)

/-- A square array of a tile, loaded from what was stored. -/
def sqT {e : EltTy} (a : Memref sig .tc .vmem S16x256x256 e) (L : List (Piece (Elt F) S16x256x256 e)) (n : Fin 16) : Vec F S1x256x256 e :=
  a.view.readCov L (Rect.unit (sqOff n) S1x256x256.size (sqOff_inb n) : Rect S16x256x256).toLoadRect

/-- The bias of a tile, loaded from the table. -/
def biasT (i : grid0.Coords) (a : Memref sig .tc .vmem S3x256x256 .f32) (L : List (Piece (Elt F) S3x256x256 .f32)) (n : Fin 16) :
    Vec F S1x256x256 .f32 :=
  a.view.readCov L (Rect.unit (biasOff i n) S1x256x256.size (biasOff_inb i n) : Rect S3x256x256).toLoadRect

/-- The sixteen square arrays, stored one after the other. -/
def squares {e : EltTy} (P : Fin 16 → Vec F S1x256x256 e) : List (Piece (Elt F) S16x256x256 e) :=
  tilePieces S1x256x256.size sqOff sqOff_inb P 16 le_rfl

/-- The bias table, from the two slopes. -/
def table (x : Fin 2 → Elt F .f32) : List (Piece (Elt F) S3x256x256 .f32) :=
  tilePieces S1x128x256.size halfOff halfOff_inb
    (fun n => biasRow (BitVec.ofNat 32 (n.val / 2 * 64)) (x ⟨n.val % 2, by omega⟩) : Fin 6 → Vec F S1x128x256 .f32) 6 le_rfl

/-- An accumulator set to zero. -/
def cleared : List (Piece (Elt F) S4x512x128 .f32) :=
  [⟨(Rect.unit ![0, 0, 0] S4x512x128.size (by decide) : Rect S4x512x128), k0_pay4⟩]

/-- The whole accumulator, loaded. -/
def wholeT {e : EltTy} (a : Memref sig .tc .vmem S4x512x128 e) (L : List (Piece (Elt F) S4x512x128 e)) : Vec F S4x512x128 e :=
  a.view.readCov L (Rect.unit ![0, 0, 0] S4x512x128.size (by decide) : Rect S4x512x128).toLoadRect

/-- The accumulator after the first `j` tiles have added to it. -/
def accs (i : grid0.Coords) (a : Memref sig .tc .vmem S4x512x128 .f32) (L : List (Piece (Elt F) S4x512x128 .f32))
    (X : Fin 16 → Vec F S1x256x128 .f32 → Vec F S1x256x128 .f32) : (j : ℕ) → j ≤ 16 → List (Piece (Elt F) S4x512x128 .f32)
  | 0, _ => L
  | j + 1, hj =>
    ⟨(Rect.unit (winOff ⟨j, hj⟩) S1x256x128.size (winOff_inb ⟨j, hj⟩) : Rect S4x512x128),
      X ⟨j, hj⟩ (a.view.readCov (accs i a L X j (Nat.le_of_succ_le hj)) (Rect.unit (keyOff i ⟨j, hj⟩) S1x256x128.size (keyOff_inb i ⟨j, hj⟩) : Rect S4x512x128).toLoadRect)⟩
      :: accs i a L X j (Nat.le_of_succ_le hj)

/-! ## What the run found -/

variable (c : Dev nD) (i : grid0.Coords)
variable (arg3 : Memref sig .tc .smem S8 .f32) (harg3 : arg3.IsWhole) (arg4 : Memref sig .tc .vmem S4x512x128 .bf16) (harg4 : arg4.IsWhole)
variable (arg5 : Memref sig .tc .vmem S4x512x128 .bf16) (harg5 : arg5.IsWhole) (arg6 : Memref sig .tc .vmem S4x512x128 .bf16) (harg6 : arg6.IsWhole)
variable (arg7 : Memref sig .tc .vmem S4x512x128 .bf16) (harg7 : arg7.IsWhole) (arg8 : Memref sig .tc .vmem S4x512x128 .f32) (harg8 : arg8.IsWhole)
variable (arg9 : Memref sig .tc .vmem S4x512x128 .f32) (harg9 : arg9.IsWhole) (arg10 : Memref sig .tc .vmem S4x512x128 .bf16) (harg10 : arg10.IsWhole)
variable (arg11 : Memref sig .tc .vmem S4x512x128 .bf16) (harg11 : arg11.IsWhole) (arg12 : Memref sig .tc .vmem S4x512x128 .bf16) (harg12 : arg12.IsWhole)
variable (arg13 : Memref sig .tc .vmem S4x512x128 .f32) (harg13 : arg13.IsWhole) (arg14 : Memref sig .tc .vmem S4x512x128 .f32) (harg14 : arg14.IsWhole)
variable (arg15 : Memref sig .tc .vmem S3x256x256 .f32) (harg15 : arg15.IsWhole) (arg16 : Memref sig .tc .vmem S16x256x256 .f32) (harg16 : arg16.IsWhole)
variable (arg17 : Memref sig .tc .vmem S16x256x256 .f32) (harg17 : arg17.IsWhole) (arg18 : Memref sig .tc .vmem S16x256x256 .bf16) (harg18 : arg18.IsWhole)
variable (arg19 : Memref sig .tc .vmem S16x256x256 .bf16) (harg19 : arg19.IsWhole) (hc0 : cond0_0 i) (hc1 : cond0_1 i)
variable (x0 : Vec F S8 .f32) (x1 x2 x3 x4 : Vec F S4x512x128 .bf16) (x5 x6 : Vec F S4x512x128 .f32)

/-- The stored scores. -/
theorem scores_found : kernelRun0_A.sl.HS3_16 c i arg3 harg3 arg4 harg4 arg5 harg5 arg15 hc0 x0 x1 x2
    = squares fun n => scoreT (rowsT arg4 harg4 x1 n) (keysT i arg5 harg5 x2 n) (biasT i arg15 (kernelRun0_A.sl.HS2_6 c i arg3 harg3 hc0 x0) n) := rfl

/-- The stored gradient at the probabilities. -/
theorem dprobs_found : kernelRun0_A.sl.HS4_16 c i arg6 harg6 arg7 harg7 x3 x4
    = squares fun n => dprobT (rowsT arg7 harg7 x4 n) (keysT i arg6 harg6 x3 n) := rfl

/-- The two slopes of a point. -/
def slopes2 : Fin 2 → Elt F .f32 := ![kernelRun0_A.sl.r c i arg3 harg3 hc0 x0, kernelRun0_A.sl.r_1 c i arg3 harg3 hc0 x0]

/-- The stored bias table. -/
theorem table_found : kernelRun0_A.sl.HS2_6 c i arg3 harg3 hc0 x0 = table (slopes2 c i arg3 harg3 hc0 x0) := rfl

/-- The stored probabilities. -/
theorem probs_found : kernelRun0_A.sl.HS5_16 c i arg3 harg3 arg4 harg4 arg5 harg5 arg8 harg8 arg15 arg16 hc0 x0 x1 x2 x5
    = squares fun n => probB (sqT arg16 (kernelRun0_A.sl.HS3_16 c i arg3 harg3 arg4 harg4 arg5 harg5 arg15 hc0 x0 x1 x2) n)
        (rowsT arg8 harg8 x5 n) := rfl

/-- The stored gradient at the scores. -/
theorem dscores_found :
    kernelRun0_A.sl.HS6_16 c i arg3 harg3 arg4 harg4 arg5 harg5 arg6 harg6 arg7 harg7 arg8 harg8 arg9 harg9 arg15 arg16 arg17 hc0
        x0 x1 x2 x3 x4 x5 x6
      = squares fun n => dscoreB (sqT arg16 (kernelRun0_A.sl.HS3_16 c i arg3 harg3 arg4 harg4 arg5 harg5 arg15 hc0 x0 x1 x2) n)
        (rowsT arg8 harg8 x5 n) (sqT arg17 (kernelRun0_A.sl.HS4_16 c i arg6 harg6 arg7 harg7 x3 x4) n) (rowsT arg9 harg9 x6 n) := rfl

/-- The stored gradient at the scores, for short. -/
abbrev dscores := kernelRun0_A.sl.HS6_16 c i arg3 harg3 arg4 harg4 arg5 harg5 arg6 harg6 arg7 harg7 arg8 harg8 arg9 harg9 arg15 arg16 arg17 hc0
  x0 x1 x2 x3 x4 x5 x6

/-- The stored probabilities, for short. -/
abbrev probs := kernelRun0_A.sl.HS5_16 c i arg3 harg3 arg4 harg4 arg5 harg5 arg8 harg8 arg15 arg16 hc0 x0 x1 x2 x5

/-- The accumulated gradient at the keys. -/
theorem dk_found :
    kernelRun0_A.sl.HS0_17 c i arg3 harg3 arg4 harg4 arg5 harg5 arg6 harg6 arg7 harg7 arg8 harg8 arg9 harg9 arg13 arg15 arg16 arg17 arg19 hc0
        x0 x1 x2 x3 x4 x5 x6
      = accs i arg13 cleared (fun n => accT
          (sqT arg19 (dscores c i arg3 harg3 arg4 harg4 arg5 harg5 arg6 harg6 arg7 harg7 arg8 harg8 arg9 harg9 arg15 arg16 arg17 hc0 x0 x1 x2 x3 x4 x5 x6) n)
          (stack (scaled (rowsT arg4 harg4 x1 n)))) 16 le_rfl := by sl_kernel_rfl

/-- The accumulated gradient at the values. -/
theorem dv_found :
    kernelRun0_A.sl.HS1_17 c i arg3 harg3 arg4 harg4 arg5 harg5 arg7 harg7 arg8 harg8 arg14 arg15 arg16 arg18 hc0 x0 x1 x2 x4 x5
      = accs i arg14 cleared (fun n => accT
          (sqT arg18 (probs c i arg3 harg3 arg4 harg4 arg5 harg5 arg8 harg8 arg15 arg16 hc0 x0 x1 x2 x5) n)
          (stack (flat (e := .bf16) (rowsT arg7 harg7 x4 n)))) 16 le_rfl := by sl_kernel_rfl

/-- What is stored to the first result. -/
theorem out7_found : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).1
    = tilePieces (s := S4x512x128) S1x128x128.size rowOff rowOff_inb (fun n => dqT
          (sqT arg19 (dscores c i arg3 harg3 arg4 harg4 arg5 harg5 arg6 harg6 arg7 harg7 arg8 harg8 arg9 harg9 arg15 arg16 arg17 hc0 x0 x1 x2 x3 x4 x5 x6) n)
          (keysT i arg5 harg5 x2 n)) 16 le_rfl := rfl

/-- What is stored to the second result. -/
theorem out8_found : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.1
    = [⟨(Rect.unit ![0, 0, 0] S4x512x128.size (by decide) : Rect S4x512x128), k0_pay2 (wholeT arg13
        (kernelRun0_A.sl.HS0_17 c i arg3 harg3 arg4 harg4 arg5 harg5 arg6 harg6 arg7 harg7 arg8 harg8 arg9 harg9 arg13 arg15 arg16 arg17 arg19 hc0
        x0 x1 x2 x3 x4 x5 x6))⟩] := rfl

/-- What is stored to the third result. -/
theorem out9_found : (kernelRun0_A c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 hc0 hc1 x0 x1 x2 x3 x4 x5 x6).2.2.1
    = [⟨(Rect.unit ![0, 0, 0] S4x512x128.size (by decide) : Rect S4x512x128), k0_pay3 (wholeT arg14
        (kernelRun0_A.sl.HS1_17 c i arg3 harg3 arg4 harg4 arg5 harg5 arg7 harg7 arg8 harg8 arg14 arg15 arg16 arg18 hc0 x0 x1 x2 x4 x5))⟩] := rfl

end Cert.KernelIdeal.Tile
-- ==== Proof.TileMath.lean ====
module

public import proofs.«01_k».proof.Proof.Numbers
public import proofs.«01_k».proof.Proof.Tile
public import Idealize.ShloMosaic.Lib.Pointwise
public import Idealize.ShloMosaic.Lib.FinSumWindow

@[expose] public section

set_option maxRecDepth 16384

noncomputable section

/-! # The arithmetic of one tile, entry by entry, over the extended reals -/

namespace Cert.KernelIdeal.Tile

open Idealize.ShloMosaic Idealize.ShloMosaic.TcCoe Cert.KernelIdeal Cert.KernelIdeal.Gen Cert.Window

/-- The first mask holds the first head's lanes. -/
theorem mask_first (a l : Fin 128) : mask k0_pay17 (ix2 a l) = BitVec.ofBool (decide (l.val < 64)) := by
  pointwise [mask, k0_pay17]
  revert l; decide +kernel

/-- The second mask holds the second head's lanes. -/
theorem mask_second (a l : Fin 128) : mask k0_pay18 (ix2 a l) = BitVec.ofBool (decide (64 ≤ l.val)) := by
  pointwise [mask, k0_pay18]
  revert l; decide +kernel

/-- A choice by a decided condition. -/
theorem select_decide {α : Type} (q : Prop) [Decidable q] (x y : α) :
    Scalar.select (BitVec.ofBool (decide q)) x y = if q then x else y := select_ofBool q x y

/-- The constant zero of the kernel's words. -/
theorem word_zero_bf16 : Ideal.ofBits .bf16 0x0000#16 = 0 := by simp [Ideal.ofBits_def]

theorem word_zero : Ideal.ofBits .f32 0x00000000#32 = 0 := by simp [Ideal.ofBits_def]

/-- The stacked tile: row `R` is row `R % 128` of the tile on the lanes of head `R / 128`, and zero elsewhere. -/
theorem stack_apply (x : FVec Ideal S128x128 .bf16) (R : Fin 256) (l : Fin 128) :
    stack x (ix2 R l) = if l.val / 64 = R.val / 128 then x (ix2 ⟨R.val % 128, Nat.mod_lt _ (by decide)⟩ l) else 0 := by
  unfold stack
  pointwise []
  simp only [mask_first, mask_second, select_decide]
  by_cases hR : R.val < 128
  · have e : (⟨R.val % 128, Nat.mod_lt _ (by decide)⟩ : Fin 128) = ⟨R.val, hR⟩ := Fin.ext (Nat.mod_eq_of_lt hR)
    rw [dif_pos hR, e]
    exact if_congr (by omega) rfl rfl
  · have e : (⟨R.val % 128, Nat.mod_lt _ (by decide)⟩ : Fin 128) = ⟨R.val - 128, by omega⟩ := Fin.ext (by simp only; omega)
    rw [dif_neg hR, e]
    exact if_congr (by omega) rfl rfl

/-- A product against the keys of a window. -/
theorem against_apply (x : FVec Ideal S256x128 .bf16) (k : Vec Ideal S1x256x128 .bf16) (R p : Fin 256) :
    against x k (ix2 R p) = ∑ l : Fin 128, x (ix2 R l) * k (ix3 (0 : Fin 1) p l) := by
  unfold against
  pointwise []

/-- The gradient at the stacked queries. -/
theorem dstack_apply (ds : Vec Ideal S1x256x256 .bf16) (k : Vec Ideal S1x256x128 .bf16) (R : Fin 256) (l : Fin 128) :
    dstack ds k (ix2 R l) = ∑ p : Fin 256, ds (ix3 (0 : Fin 1) R p) * k (ix3 (0 : Fin 1) p l) := by
  pointwise [dstack, square]

/-- What a tile adds to an accumulator. -/
theorem accT_apply (w : Vec Ideal S1x256x256 .bf16) (x : FVec Ideal S256x128 .bf16) (a : Vec Ideal S1x256x128 .f32) (p : Fin 256) (l : Fin 128) :
    accT w x a (ix3 (0 : Fin 1) p l) = a (ix3 (0 : Fin 1) p l) + ∑ R : Fin 256, w (ix3 (0 : Fin 1) R p) * x (ix2 R l) := by
  pointwise [accT, square]

/-- The gradient at the queries: each lane from its own head's half of the stack. -/
theorem dqT_apply (ds : Vec Ideal S1x256x256 .bf16) (k : Vec Ideal S1x256x128 .bf16) (a l : Fin 128) :
    dqT ds k (ix3 (0 : Fin 1) a l) = dstack ds k (ix2 ⟨128 * (l.val / 64) + a.val, by omega⟩ l) * ((1 / 8 : ℝ) : EReal) := by
  unfold dqT
  generalize dstack ds k = z
  pointwise []
  rw [mask_first, select_decide, word_eighth]
  congr 1
  split <;> exact congrArg (fun b : Fin 256 => z (ix2 b l)) (Fin.ext (by simp only; omega))

/-- The largest entry among the lanes a mask holds. -/
theorem headMax_apply (b : IVec S1x128 1) (x : FVec Ideal S128x128 .f32) (a : Fin 128) :
    headMax b x (ix2 a (0 : Fin 1)) = Finset.univ.fold max ⊥ fun l : Fin 128 => Scalar.select (mask b (ix2 a l)) (x (ix2 a l)) ⊥ := by
  unfold headMax
  pointwise []
  rw [word_neg_inf]

/-- The largest of values that are all equal where a condition holds, and least elsewhere. -/
theorem fold_const (P : Fin 128 → Prop) [DecidablePred P] (f : Fin 128 → EReal) (c : EReal) (l : Fin 128) (hl : P l) (hf : ∀ l, P l → f l = c) :
    Finset.univ.fold max ⊥ (fun l => if P l then f l else ⊥) = c := by
  apply le_antisymm
  · rw [Finset.fold_max_le]
    refine ⟨bot_le, fun m _ => ?_⟩
    split
    · next h => exact le_of_eq (hf m h)
    · exact bot_le
  · rw [Finset.le_fold_max]
    exact Or.inr ⟨l, Finset.mem_univ _, by rw [if_pos hl, hf l hl]⟩

/-- The column of each head, from values equal along its lanes. -/
theorem headCols_apply (x : Vec Ideal S1x128x128 .f32) (R p : Fin 256) (c : EReal)
    (hx : ∀ l : Fin 128, l.val / 64 = R.val / 128 → x (ix3 (0 : Fin 1) ⟨R.val % 128, Nat.mod_lt _ (by decide)⟩ l) = c) :
    headCols x (ix2 R p) = c := by
  unfold headCols
  have e : ∀ a l : Fin 128, flat (F := Ideal) (e := .f32) x (ix2 a l) = x (ix3 (0 : Fin 1) a l) := fun a l => by pointwise [flat]
  by_cases hR : R.val < 128
  · have h1 : headMax (F := Ideal) k0_pay17 (flat (e := .f32) x) (ix2 ⟨R.val % 128, Nat.mod_lt _ (by decide)⟩ (0 : Fin 1)) = c := by
      rw [headMax_apply]
      simp only [mask_first, select_decide, e]
      exact fold_const (fun l => l.val < 64) _ c 0 (by decide) fun l hl => hx l (by omega)
    rw [← h1]
    generalize headMax (F := Ideal) k0_pay17 (flat (e := .f32) x) = y, headMax (F := Ideal) k0_pay18 (flat (e := .f32) x) = z
    pointwise []
    rw [dif_pos hR]
    exact congrArg (fun b : Fin 128 => y (ix2 b (0 : Fin 1))) (Fin.ext (by simp only; omega))
  · have h1 : headMax (F := Ideal) k0_pay18 (flat (e := .f32) x) (ix2 ⟨R.val % 128, Nat.mod_lt _ (by decide)⟩ (0 : Fin 1)) = c := by
      rw [headMax_apply]
      simp only [mask_second, select_decide, e]
      exact fold_const (fun l => 64 ≤ l.val) _ c 64 (by decide) fun l hl => hx l (by omega)
    rw [← h1]
    generalize headMax (F := Ideal) k0_pay17 (flat (e := .f32) x) = y, headMax (F := Ideal) k0_pay18 (flat (e := .f32) x) = z
    pointwise []
    rw [dif_neg hR]
    exact congrArg (fun b : Fin 128 => z (ix2 b (0 : Fin 1))) (Fin.ext (by simp only; omega))

/-- The bias: the slope times the dilated distance at near keys, and larger than everything at far ones. -/
theorem biasRow_apply (s : Fin 3) (x : ℝ) (hx : 0 < x) (a : Fin 128) (p : Fin 256) (g : ℕ) (hg : g = (p.val - (a.val + 64 * s.val)) + (a.val + 64 * s.val - p.val)) :
    biasRow (F := Ideal) (BitVec.ofNat 32 (s.val * 64)) (x : EReal) (ix3 (0 : Fin 1) a p)
      = if g ≤ 64 then ((x * ((g : ℝ) * 16) : ℝ) : EReal) else ⊤ := by
  have e : IntOp.absi (IntOp.subi (IntOp.subi (BitVec.ofNat 32 p.val) (BitVec.ofNat 32 a.val)) (BitVec.ofNat 32 (s.val * 64))) = BitVec.ofNat 32 g := by
    rw [hg, ← absi_sub p.val (a.val + 64 * s.val) (by omega) (by omega)]
    refine congrArg IntOp.absi ?_
    unfold IntOp.subi
    rw [BitVec.sub_sub, ← BitVec.ofNat_add, Nat.mul_comm]
  have hg' : g < 2048 := by omega
  pointwise [biasRow, k0_pay6]
  rw [e, cmpi_sle_64 g hg', select_decide]
  split
  · show (x : EReal) * (((IntOp.muli (BitVec.ofNat 32 g) 16#32).toInt : ℝ) : EReal) = _
    rw [toInt_muli_16 g hg', ← EReal.coe_mul]
  · show (x : EReal) * ⊤ = ⊤
    exact EReal.coe_mul_top_of_pos hx

end Cert.KernelIdeal.Tile
-- ==== Proof.TileLoads.lean ====
module

public import proofs.«01_k».proof.Proof.TileMath

@[expose] public section

set_option maxRecDepth 16384

noncomputable section

/-! # What a tile loads, entry by entry -/

namespace Cert.KernelIdeal.Tile

open Idealize.ShloMosaic Idealize.ShloMosaic.TcCoe Cert.KernelIdeal Cert.KernelIdeal.Gen Cert.Window
open Idealize.ShloMosaic.View (Piece tilePieces)

variable {F : FTy → Type} [FloatOps F] [Named F]

/-- Reading at an index whose coordinates are known. -/
theorem at3' {n0 n1 n2 : ℕ} {α : Type} (f : (⟨3, ![n0, n1, n2]⟩ : Shape).Idx → α) (i : (⟨3, ![n0, n1, n2]⟩ : Shape).Idx) (a : Fin n0) (b : Fin n1)
    (c : Fin n2) (h0 : (i 0).val = a.val) (h1 : (i 1).val = b.val) (h2 : (i 2).val = c.val) : f i = f (ix3 a b c) := at3 f i a b c h0 h1 h2

/-- A tile's residue class within its point. -/
def cls (n : Fin 16) : Fin 4 := ⟨n.val / 4, by omega⟩

/-- Row `a` of tile `n`, among its class's rows. -/
def qrow (n : Fin 16) (a : Fin 128) : Fin 512 := ⟨n.val % 4 * 128 + a.val, by omega⟩

theorem start_le (t : ℕ) : start t ≤ 256 := by
  have h : ∀ m : Fin 4, (![0, 64, 192, 256] : Fin 4 → ℕ) m ≤ 256 := by decide
  exact h _

/-- Column `p` of tile `n`'s window, among its class's rows. -/
def krow (n : Fin 16) (p : Fin 256) : Fin 512 := ⟨start n.val + p.val, by have := start_le n.val; omega⟩

theorem rowsT_apply {e : EltTy} (a : Memref sig .tc .vmem S4x512x128 e) (h : a.IsWhole) (x : Vec F S4x512x128 e) (n : Fin 16) (p l : Fin 128) :
    rowsT a h x n (ix3 (0 : Fin 1) p l) = x (ix3 (cls n) (qrow n p) l) := by
  unfold rowsT
  rw [View.readAt_apply, h.read_unread]
  refine at3' x _ _ _ _ ?_ ?_ ?_
  · show n.val / 4 + 1 * 0 = _
    rfl
  · show n.val % 4 * 128 + 1 * p.val = n.val % 4 * 128 + p.val
    omega
  · show 0 + 1 * l.val = l.val
    omega

theorem keysT_apply (i : grid0.Coords) {e : EltTy} (a : Memref sig .tc .vmem S4x512x128 e) (h : a.IsWhole) (x : Vec F S4x512x128 e) (n : Fin 16)
    (p : Fin 256) (l : Fin 128) : keysT i a h x n (ix3 (0 : Fin 1) p l) = x (ix3 (cls n) (krow n p) l) := by
  unfold keysT
  rw [View.readAt_apply, h.read_unread]
  have h0 : keyOff i n 0 = n.val / 4 := by rw [keyOff_eq]; rfl
  have h1 : keyOff i n 1 = start n.val := by rw [keyOff_eq]; rfl
  have h2 : keyOff i n 2 = 0 := by rw [keyOff_eq]; rfl
  refine at3' x _ _ _ _ ?_ ?_ ?_
  · show keyOff i n 0 + 1 * 0 = n.val / 4
    omega
  · show keyOff i n 1 + 1 * p.val = start n.val + p.val
    omega
  · show keyOff i n 2 + 1 * l.val = l.val
    omega

/-- A square array loads as it was stored. -/
theorem sqT_apply {e : EltTy} (a : Memref sig .tc .vmem S16x256x256 e) (P : Fin 16 → Vec F S1x256x256 e) (n : Fin 16) (R p : Fin 256) :
    sqT a (squares P) n (ix3 (0 : Fin 1) R p) = P n (ix3 (0 : Fin 1) R p) := by
  unfold sqT squares View.readCov
  rw [View.readAt_apply]
  refine View.read_tilePieces a.view _ _ _ _ P 16 le_rfl _ n n.isLt (ix3 (0 : Fin 1) R p) ?_ 0 ?_
  · intro c
    show sqOff n c + 1 * _ = sqOff n c + _
    omega
  · intro m hm
    show n.val + 1 * 0 < m.val ∨ m.val + 1 ≤ n.val + 1 * 0
    have : m.val ≠ n.val := fun h => hm (Fin.ext h)
    omega

/-- Reading through stores to disjoint places. -/
theorem read_tiles {sig : RefSig} {κ : Kind} {sp : Space} {s : Shape} {e : EltTy} {Val : EltTy → Type} {NT : ℕ} (v : View sig κ sp s e)
    (f : v.ty.Contents Val) (tsz : Fin s.rank → ℕ) (off : Fin NT → Fin s.rank → ℕ)
    (inb : ∀ i a, off i a + tsz a ≤ s.size a) (P : Fin NT → (⟨s.rank, tsz⟩ : Shape).Idx → Val e) (j : ℕ) (hj : j ≤ NT) (y : s.Idx) (i : Fin NT)
    (hi : i.val < j) (x : (⟨s.rank, tsz⟩ : Shape).Idx) (hx : ∀ a, (y a).val = off i a + (x a).val)
    (hdis : ∀ i' : Fin NT, i' ≠ i → ∃ ax, (y ax).val < off i' ax ∨ off i' ax + tsz ax ≤ (y ax).val) :
    v.read Val (v.writes Val f (tilePieces tsz off inb P j hj)) y = P i x := by
  induction j with
  | zero => exact absurd hi (Nat.not_lt_zero _)
  | succ j ih =>
    rw [View.tilePieces_succ]
    by_cases hn : (⟨j, hj⟩ : Fin NT) = i
    · subst hn
      exact View.read_writes_cons_unit_of_mem v f (inb ⟨j, hj⟩) (P ⟨j, hj⟩) _ y x rfl hx
    · obtain ⟨ax, hax⟩ := hdis ⟨j, hj⟩ hn
      rw [View.read_writes_cons_unit_of_not_mem v f (inb ⟨j, hj⟩) (P ⟨j, hj⟩) _ y rfl ax hax]
      exact ih (Nat.le_of_succ_le hj) (by
        have : i.val ≠ j := fun h => hn (Fin.ext h.symm)
        omega)

/-- The variant of the bias a tile uses. -/
def variant (n : Fin 16) : Fin 3 := (![0, 1, 1, 2] : Fin 4 → Fin 3) ⟨n.val % 4, by omega⟩

/-- The bias of a tile: the row of its variant, each head's half with its own slope. -/
theorem biasT_apply (i : grid0.Coords) (a : Memref sig .tc .vmem S3x256x256 .f32) (x : Fin 2 → Elt F .f32) (n : Fin 16) (R p : Fin 256) :
    biasT i a (table x) n (ix3 (0 : Fin 1) R p)
      = biasRow (BitVec.ofNat 32 ((variant n).val * 64)) (x ⟨R.val / 128, by omega⟩) (ix3 (0 : Fin 1) ⟨R.val % 128, Nat.mod_lt _ (by decide)⟩ p) := by
  unfold biasT table View.readCov
  rw [View.readAt_apply]
  have h0 : biasOff i n 0 = (variant n).val := by rw [biasOff_eq]; revert n; decide
  have h1 : biasOff i n 1 = 0 := by rw [biasOff_eq]; rfl
  have h2 : biasOff i n 2 = 0 := by rw [biasOff_eq]; rfl
  have hv := (variant n).isLt
  refine (read_tiles a.view _ _ _ _ _ 6 le_rfl _ ⟨2 * (variant n).val + R.val / 128, by omega⟩ (by simp only; omega)
    (ix3 (0 : Fin 1) ⟨R.val % 128, Nat.mod_lt _ (by decide)⟩ p) ?_ ?_).trans ?_
  · intro c
    match c with
    | ⟨0, _⟩ =>
      show biasOff i n 0 + 1 * 0 = (2 * (variant n).val + R.val / 128) / 2 + 0
      omega
    | ⟨1, _⟩ =>
      show biasOff i n 1 + 1 * R.val = (2 * (variant n).val + R.val / 128) % 2 * 128 + R.val % 128
      omega
    | ⟨2, _⟩ =>
      show biasOff i n 2 + 1 * p.val = 0 + p.val
      omega
  · intro m hm
    have hm' : m.val ≠ 2 * (variant n).val + R.val / 128 := fun h => hm (Fin.ext h)
    by_cases hc : m.val / 2 = (variant n).val
    · refine ⟨1, ?_⟩
      show biasOff i n 1 + 1 * R.val < m.val % 2 * 128 ∨ m.val % 2 * 128 + 128 ≤ biasOff i n 1 + 1 * R.val
      omega
    · refine ⟨0, ?_⟩
      show biasOff i n 0 + 1 * 0 < m.val / 2 ∨ m.val / 2 + 1 ≤ biasOff i n 0 + 1 * 0
      omega
  · have e1 : (2 * (variant n).val + R.val / 128) / 2 = (variant n).val := by omega
    have e2 : (⟨(2 * (variant n).val + R.val / 128) % 2, by omega⟩ : Fin 2) = ⟨R.val / 128, by omega⟩ := Fin.ext (by simp only; omega)
    simp only [e1, e2]

end Cert.KernelIdeal.Tile
-- ==== Proof.TileValue.lean ====
module

public import proofs.«01_k».proof.Proof.Softmax
public import proofs.«01_k».proof.Proof.TileLoads

@[expose] public section

set_option maxRecDepth 16384

noncomputable section

/-! # The value of one tile

A grid point's blocks are taken real everywhere; the saved log-denominators and row sums are those of the window
attention of each of its two heads. Each stored array of a tile is then the array of that attention, on the tile's rows
and the window's columns. -/

namespace Cert.KernelIdeal.Tile

open Idealize.ShloMosaic Idealize.ShloMosaic.TcCoe Cert.KernelIdeal Cert.KernelIdeal.Gen Cert.Window Finset
open Idealize.ShloMosaic.View (Piece tilePieces)

/-! ## Lanes and rows -/

/-- Lane `d` of head `g` among the two heads of a block. -/
def ln (g : Fin 2) (d : Fin 64) : Fin 128 := ⟨64 * g.val + d.val, by omega⟩

/-- The head a lane belongs to. -/
def hd (l : Fin 128) : Fin 2 := ⟨l.val / 64, by omega⟩

/-- The head a row of the stack belongs to. -/
def hr (R : Fin 256) : Fin 2 := ⟨R.val / 128, by omega⟩

/-- The row of the tile a row of the stack is. -/
def lo (R : Fin 256) : Fin 128 := ⟨R.val % 128, Nat.mod_lt _ (by decide)⟩

/-- Row `a` of head `g`'s half of the stack. -/
def rw' (g : Fin 2) (a : Fin 128) : Fin 256 := ⟨128 * g.val + a.val, by omega⟩

theorem hd_ln (g : Fin 2) (d : Fin 64) : hd (ln g d) = g := Fin.ext (by simp only [hd, ln]; omega)

theorem hr_rw (g : Fin 2) (a : Fin 128) : hr (rw' g a) = g := Fin.ext (by simp only [hr, rw']; omega)

theorem lo_rw (g : Fin 2) (a : Fin 128) : lo (rw' g a) = a := Fin.ext (by simp only [lo, rw']; omega)

/-- A head's columns of a block. -/
def headRows (x : S4x512x128.Idx → ℝ) (r : Fin 4) (g : Fin 2) (i : Fin 512) (d : Fin 64) : ℝ := x (ix3 r i (ln g d))

/-- A sum over the lanes of one head. -/
theorem sum_head (g : Fin 2) (f : Fin 128 → ℝ) : (∑ l : Fin 128, if l.val / 64 = g.val then f l else 0) = ∑ d : Fin 64, f (ln g d) := by
  rw [FinSumWindow.sum_window (W := 64) (64 * g.val) (by omega) _ fun l hl => if_neg (by omega)]
  exact sum_congr rfl fun d _ => if_pos (by simp only; omega)

/-- A sum over one head's half of the stack. -/
theorem sum_half (g : Fin 2) (f : Fin 256 → ℝ) : (∑ R : Fin 256, if g.val = R.val / 128 then f R else 0) = ∑ a : Fin 128, f (rw' g a) := by
  rw [FinSumWindow.sum_window (W := 128) (128 * g.val) (by omega) _ fun l hl => if_neg (by omega)]
  exact sum_congr rfl fun d _ => if_pos (by simp only; omega)

/-- A sum over all keys of what vanishes beyond the radius, over a tile's window. -/
theorem sum_near (n : Fin 16) (a : Fin 128) (f : Fin 512 → ℝ) (hf : ∀ j, 64 < gap (qrow n a) j → f j = 0) :
    ∑ j, f j = ∑ p : Fin 256, f (krow n p) := by
  have hs := start_le n.val
  refine FinSumWindow.sum_window (W := 256) (start n.val) (by omega) f fun j hj => hf j ?_
  have h : ∀ n : Fin 16, (start n.val = 0 ∨ start n.val + 64 ≤ n.val % 4 * 128) ∧ (start n.val = 256 ∨ n.val % 4 * 128 + 128 + 64 ≤ start n.val + 256) := by
    decide
  have := h n
  simp only [gap, qrow]
  omega

/-- The distance from a tile's row to a column of its window. -/
theorem gap_tile (n : Fin 16) (a : Fin 128) (p : Fin 256) :
    gap (qrow n a) (krow n p) = (p.val - (a.val + 64 * (variant n).val)) + (a.val + 64 * (variant n).val - p.val) := by
  have h : ∀ n : Fin 16, start n.val + 64 * (variant n).val = n.val % 4 * 128 := by decide
  have := h n
  simp only [gap, qrow, krow]
  omega

/-! ## The arrays of a tile -/

variable (i : grid0.Coords) (σ : Fin 2 → ℝ) (q k v o : S4x512x128.Idx → ℝ) (G : Fin 4 → Fin 2 → Fin 512 → ℝ)
variable (arg4 : Memref sig .tc .vmem S4x512x128 .bf16) (harg4 : arg4.IsWhole)
variable (arg5 : Memref sig .tc .vmem S4x512x128 .bf16) (harg5 : arg5.IsWhole) (arg6 : Memref sig .tc .vmem S4x512x128 .bf16) (harg6 : arg6.IsWhole)
variable (arg7 : Memref sig .tc .vmem S4x512x128 .bf16) (harg7 : arg7.IsWhole) (arg8 : Memref sig .tc .vmem S4x512x128 .f32) (harg8 : arg8.IsWhole)
variable (arg9 : Memref sig .tc .vmem S4x512x128 .f32) (harg9 : arg9.IsWhole)
variable (arg15 : Memref sig .tc .vmem S3x256x256 .f32)

/-- The stacked scaled queries. -/
theorem stack_scaled (n : Fin 16) (R : Fin 256) (l : Fin 128) :
    stack (scaled (rowsT (F := Ideal) arg4 harg4 (up q) n)) (ix2 R l)
      = ((if l.val / 64 = R.val / 128 then q (ix3 (cls n) (qrow n (lo R)) l) * (1 / 8) else 0 : ℝ) : EReal) := by
  rw [stack_apply]
  split
  · have e : ∀ x : Vec Ideal S1x128x128 .bf16, ∀ a l : Fin 128, scaled x (ix2 a l) = x (ix3 (0 : Fin 1) a l) * Ideal.ofBits .bf16 0x3E00#16 := by
      intro x a l
      pointwise [scaled, flat]
    rw [e, rowsT_apply, word_eighth_bf16, up_apply, ← EReal.coe_mul]
    rfl
  · rfl

/-- The stacked output gradients. -/
theorem stack_flat (n : Fin 16) (R : Fin 256) (l : Fin 128) :
    stack (flat (e := .bf16) (rowsT (F := Ideal) arg7 harg7 (up o) n)) (ix2 R l)
      = ((if l.val / 64 = R.val / 128 then o (ix3 (cls n) (qrow n (lo R)) l) else 0 : ℝ) : EReal) := by
  rw [stack_apply]
  split
  · have e : ∀ x : Vec Ideal S1x128x128 .bf16, ∀ a l : Fin 128, flat (F := Ideal) (e := .bf16) x (ix2 a l) = x (ix3 (0 : Fin 1) a l) := by
      intro x a l
      pointwise [flat]
    rw [e, rowsT_apply, up_apply]
    rfl
  · rfl

/-- The scores of a tile are the masked scores of the attention. -/
theorem score_value (hσ : ∀ g, 0 < σ g) (n : Fin 16) (R p : Fin 256) :
    scoreT (rowsT (F := Ideal) arg4 harg4 (up q) n) (keysT i arg5 harg5 (up k) n) (biasT i arg15 (table fun g => ((σ g : ℝ) : EReal)) n)
        (ix3 (0 : Fin 1) R p)
      = masked (σ (hr R)) (headRows q (cls n) (hr R)) (headRows k (cls n) (hr R)) (qrow n (lo R)) (krow n p) := by
  have e : ∀ (x : Vec Ideal S1x128x128 .bf16) (y : Vec Ideal S1x256x128 .bf16) (b : Vec Ideal S1x256x256 .f32),
      scoreT x y b (ix3 (0 : Fin 1) R p) = against (stack (scaled x)) y (ix2 R p) - b (ix3 (0 : Fin 1) R p) := by
    intro x y b
    unfold scoreT stored
    generalize against (stack (scaled x)) y = z
    pointwise [square]
  have b := (biasT_apply (F := Ideal) i arg15 (fun g => ((σ g : ℝ) : EReal)) n R p).trans
    (biasRow_apply (variant n) (σ (hr R)) (hσ _) (lo R) p _ (gap_tile n (lo R) p))
  rw [e, against_apply, b]
  simp only [stack_scaled, keysT_apply, up_apply, ← EReal.coe_mul, coe_sum]
  unfold masked score
  split
  · rw [← EReal.coe_sub]
    congr 1
    rw [sub_eq_add_neg, neg_mul]
    congr 1
    rw [sum_mul]
    simp only [ite_mul, zero_mul]
    rw [show (R.val / 128) = (hr R).val from rfl, sum_head]
    exact sum_congr rfl fun d _ => by simp only [headRows]; ring
  · rw [sub_eq_add_neg, EReal.neg_top, EReal.add_bot]

/-- The gradient at the probabilities. -/
theorem dprob_value (n : Fin 16) (R p : Fin 256) :
    dprobT (rowsT (F := Ideal) arg7 harg7 (up o) n) (keysT i arg6 harg6 (up v) n) (ix3 (0 : Fin 1) R p)
      = ((dprob (headRows v (cls n) (hr R)) (headRows o (cls n) (hr R)) (qrow n (lo R)) (krow n p) : ℝ) : EReal) := by
  have e : ∀ (x : Vec Ideal S1x128x128 .bf16) (y : Vec Ideal S1x256x128 .bf16),
      dprobT x y (ix3 (0 : Fin 1) R p) = against (stack (flat (e := .bf16) x)) y (ix2 R p) := by
    intro x y
    unfold dprobT stored
    generalize against (stack (flat (e := .bf16) x)) y = z
    pointwise []
  rw [e, against_apply]
  simp only [stack_flat, keysT_apply, up_apply, ← EReal.coe_mul, coe_sum]
  congr 1
  simp only [ite_mul, zero_mul]
  rw [show (R.val / 128) = (hr R).val from rfl, sum_head]
  rfl

/-- The exponential of a masked score less the log-denominator. -/
theorem exp_masked_lse (s : ℝ) (Q K : Fin 512 → Fin 64 → ℝ) (a b : Fin 512) :
    Ideal.exp (masked s Q K a b - ((lse s Q K a : ℝ) : EReal)) = ((prob s Q K a b : ℝ) : EReal) := by
  unfold masked
  split
  · next h => rw [← EReal.coe_sub, Ideal.exp_coe, exp_score_sub_lse s Q K h]
  · next h => rw [EReal.bot_sub, Ideal.exp_bot, prob_far s Q K (by omega)]; rfl

variable (S : Vec Ideal S1x256x256 .f32) (D : Vec Ideal S1x256x256 .f32)

/-- The probabilities of a tile, from its scores. -/
theorem prob_value (x5 : Vec Ideal S4x512x128 .f32)
    (h5 : ∀ r a l, x5 (ix3 r a l) = ((lse (σ (hd l)) (headRows q r (hd l)) (headRows k r (hd l)) a : ℝ) : EReal)) (n : Fin 16) (R p : Fin 256)
    (hS : S (ix3 (0 : Fin 1) R p) = masked (σ (hr R)) (headRows q (cls n) (hr R)) (headRows k (cls n) (hr R)) (qrow n (lo R)) (krow n p)) :
    probT S (rowsT arg8 harg8 x5 n) (ix2 R p)
      = ((prob (σ (hr R)) (headRows q (cls n) (hr R)) (headRows k (cls n) (hr R)) (qrow n (lo R)) (krow n p) : ℝ) : EReal) := by
  have c := headCols_apply (rowsT arg8 harg8 x5 n) R p ((lse (σ (hr R)) (headRows q (cls n) (hr R)) (headRows k (cls n) (hr R)) (qrow n (lo R)) : ℝ) : EReal)
    fun l hl => by
      have e : hd l = hr R := Fin.ext hl
      rw [rowsT_apply, h5, e]
      rfl
  unfold probT
  revert c
  generalize headCols (rowsT arg8 harg8 x5 n) = z
  intro c
  pointwise [square]
  rw [c, hS, exp_masked_lse]

/-- The stored probabilities of a tile. -/
theorem probB_value (x5 : Vec Ideal S4x512x128 .f32)
    (h5 : ∀ r a l, x5 (ix3 r a l) = ((lse (σ (hd l)) (headRows q r (hd l)) (headRows k r (hd l)) a : ℝ) : EReal)) (n : Fin 16) (R p : Fin 256)
    (hS : S (ix3 (0 : Fin 1) R p) = masked (σ (hr R)) (headRows q (cls n) (hr R)) (headRows k (cls n) (hr R)) (qrow n (lo R)) (krow n p)) :
    probB S (rowsT arg8 harg8 x5 n) (ix3 (0 : Fin 1) R p)
      = ((prob (σ (hr R)) (headRows q (cls n) (hr R)) (headRows k (cls n) (hr R)) (qrow n (lo R)) (krow n p) : ℝ) : EReal) := by
  rw [← prob_value σ q k arg8 harg8 S x5 h5 n R p hS]
  unfold probB stored
  generalize probT S (rowsT arg8 harg8 x5 n) = z
  pointwise []

/-- The stored gradient at the scores of a tile. -/
theorem dscoreB_value (x5 x6 : Vec Ideal S4x512x128 .f32)
    (h5 : ∀ r a l, x5 (ix3 r a l) = ((lse (σ (hd l)) (headRows q r (hd l)) (headRows k r (hd l)) a : ℝ) : EReal))
    (h6 : ∀ r a l, x6 (ix3 r a l)
      = ((delta (σ (hd l)) (headRows q r (hd l)) (headRows k r (hd l)) (headRows v r (hd l)) (headRows o r (hd l)) a - G r (hd l) a : ℝ) : EReal))
    (n : Fin 16) (R p : Fin 256)
    (hS : S (ix3 (0 : Fin 1) R p) = masked (σ (hr R)) (headRows q (cls n) (hr R)) (headRows k (cls n) (hr R)) (qrow n (lo R)) (krow n p))
    (hD : D (ix3 (0 : Fin 1) R p) = ((dprob (headRows v (cls n) (hr R)) (headRows o (cls n) (hr R)) (qrow n (lo R)) (krow n p) : ℝ) : EReal)) :
    dscoreB S (rowsT arg8 harg8 x5 n) D (rowsT arg9 harg9 x6 n) (ix3 (0 : Fin 1) R p)
      = ((dscore (σ (hr R)) (headRows q (cls n) (hr R)) (headRows k (cls n) (hr R)) (headRows v (cls n) (hr R)) (headRows o (cls n) (hr R))
          (G (cls n) (hr R)) (qrow n (lo R)) (krow n p) : ℝ) : EReal) := by
  have hP := prob_value σ q k arg8 harg8 S x5 h5 n R p hS
  have c := headCols_apply (rowsT arg9 harg9 x6 n) R p
    ((delta (σ (hr R)) (headRows q (cls n) (hr R)) (headRows k (cls n) (hr R)) (headRows v (cls n) (hr R)) (headRows o (cls n) (hr R)) (qrow n (lo R))
      - G (cls n) (hr R) (qrow n (lo R)) : ℝ) : EReal)
    fun l hl => by
      have e : hd l = hr R := Fin.ext hl
      rw [rowsT_apply, h6, e]
      rfl
  unfold dscoreB stored
  revert c hP
  generalize headCols (rowsT arg9 harg9 x6 n) = z, probT S (rowsT arg8 harg8 x5 n) = w
  intro hP c
  pointwise [square]
  rw [c, hP, hD, ← EReal.coe_sub, ← EReal.coe_mul]
  rfl

end Cert.KernelIdeal.Tile
-- ==== Proof.HostBuffers.lean ====
module

public import proofs.«01_k».proof.Proof.HostRead
public import proofs.«01_k».proof.Proof.TileValue
public import proofs.«01_k».proof.Proof.Gen.KernelIdeal.Value
public import Idealize.ShloMosaic.Lib.Pointwise

@[expose] public section

set_option maxRecDepth 16384

noncomputable section

/-! # The launch's operands

The arrays the launch reads, entry by entry, on arguments that are real everywhere. -/

namespace Cert.KernelIdeal.HostRead

open Idealize.ShloMosaic Idealize.ShloMosaic.TcCoe Idealize.SL.Sem Idealize.ShloMosaic.StableHlo
open Cert.KernelIdeal Cert.KernelIdeal.Gen
open Cert.ReferenceIdeal.Read Cert.Window

section Buffers

variable {F : FTy → Type} [FloatOps F]
variable (m : (ℓ : Loc nD τ sig) → Buf (Elt F) ℓ) (c : Dev nD)

/-- The launch's contents are the last lines' over the forward pass's. -/
theorem V_eq (b : Ref sig .tc) :
    V m c b = after (hostOps0_2 (F := F)) (after (List.flatten [hostOps0 (F := F), hostOps0_1]) (fun b => m (c, b))) (b : DevRef τ sig) := by
  show after (List.flatten [hostOps0, hostOps0_1, hostOps0_2]) (fun b => m (c, b)) _ = _
  rw [← StableHlo.after_append]
  rfl

theorem V_lse : V m c main_v63
    = spread (val_main_v61 (F := F) (m ((c : Thread nD τ).loc main_arg0)) (m ((c : Thread nD τ).loc main_arg1))) := by
  rw [V_eq]
  exact after_lse _ _ _ (after_scores _)

theorem V_dmat : V m c main_v66
    = spread (dmat (val_main_v57 (F := F) (m ((c : Thread nD τ).loc main_arg0)) (m ((c : Thread nD τ).loc main_arg1)) (m ((c : Thread nD τ).loc main_arg2)))
        (m ((c : Thread nD τ).loc main_arg3)) (m ((c : Thread nD τ).loc main_arg4))) := by
  rw [V_eq, after_dmat _ _ _ _ (after_scores _) (after_values _), (after_args _).2.2.2.1, (after_args _).2.2.2.2]

theorem V_qkv : V m c main_v59
    = (truncf .bf16 (joined (m ((c : Thread nD τ).loc main_arg0)) (m ((c : Thread nD τ).loc main_arg1)) (m ((c : Thread nD τ).loc main_arg2))) bitsLt_bf16_f32
          : (⟨S16x512x1536, .bf16⟩ : BufTy).Contents (Elt F)) := by
  rw [V_eq, after_qkv, (after_args _).1, (after_args _).2.1, (after_args _).2.2.1]

theorem V_do : V m c main_v60
    = (truncf .bf16 (m ((c : Thread nD τ).loc main_arg3) : (⟨S16x512x512, .f32⟩ : BufTy).Contents (Elt F)) bitsLt_bf16_f32
          : (⟨S16x512x512, .bf16⟩ : BufTy).Contents (Elt F)) := by
  rw [V_eq, after_do, (after_args _).2.2.2.1]

theorem V_slopes : V m c main_cst = (fun i => FloatOps.ofBits .f32 (lit0 (S8.rowMajor i)) : (⟨S8, .f32⟩ : BufTy).Contents (Elt F)) :=
  after_slopes _

end Buffers

/-! ## Entries -/

/-- The head of a lane of an array. -/
def headOf (L : Fin 512) : Fin 8 := ⟨L.val / 64, by omega⟩
/-- A lane's place in its head. -/
def placeOf (L : Fin 512) : Fin 64 := ⟨L.val % 64, Nat.mod_lt _ (by decide)⟩

theorem lane_of (L : Fin 512) : lane (headOf L) (placeOf L) = L := Fin.ext (by simp only [lane, headOf, placeOf]; omega)

/-- A spread array at a lane is the entry of the lane's head. -/
theorem spread_apply (x : (⟨S16x512x8, .f32⟩ : BufTy).Contents (Elt Ideal)) (r : Fin 16) (i : Fin 512) (L : Fin 512) :
    spread (F := Ideal) x (ix3 r i L) = x (ix3 r i (headOf L)) := by
  pointwise [spread]
  rfl

theorem dmat_apply (o : (⟨S16x512x8x64, .f32⟩ : BufTy).Contents (Elt Ideal)) (x3 : (⟨S16x512x512, .f32⟩ : BufTy).Contents (Elt Ideal))
    (x4 : (⟨S16x512x8, .f32⟩ : BufTy).Contents (Elt Ideal)) (r : Fin 16) (i : Fin 512) (h : Fin 8) :
    dmat (F := Ideal) o x3 x4 (ix3 r i h) = (∑ d : Fin 64, x3 (ix3 r i (lane h d)) * o (ix4 r i h d)) - x4 (ix3 r i h) := by
  pointwise [dmat]
  congr 1
  refine Finset.sum_congr rfl fun d _ => ?_
  rw [show (⟨h.val * 64 + d.val, by omega⟩ : Fin 512) = lane h d from Fin.ext (by simp only [lane]; omega)]

theorem joined_apply (x0 x1 x2 : (⟨S16x512x512, .f32⟩ : BufTy).Contents (Elt Ideal)) (r : Fin 16) (i : Fin 512) (L : Fin 1536) :
    joined (F := Ideal) x0 x1 x2 (ix3 r i L) = if h : L.val < 512 then x0 (ix3 r i ⟨L.val, h⟩) else
      if h' : L.val - 512 < 512 then x1 (ix3 r i ⟨L.val - 512, h'⟩) else x2 (ix3 r i ⟨L.val - 512 - 512, by omega⟩) := by
  pointwise [joined]

/-! ## The arrays on real arguments -/

section Real

variable (m : (ℓ : Loc nD τ sig) → Buf (Elt Ideal) ℓ) (c : Dev nD)
variable (a0 a1 a2 a3 : S16x512x512.Idx → ℝ) (a4 : S16x512x8.Idx → ℝ)

/-- The arguments' contents are real. -/
structure Reals : Prop where
  h0 : m ((c : Thread nD τ).loc main_arg0) = (up a0 : (⟨S16x512x512, .f32⟩ : BufTy).Contents (Elt Ideal))
  h1 : m ((c : Thread nD τ).loc main_arg1) = (up a1 : (⟨S16x512x512, .f32⟩ : BufTy).Contents (Elt Ideal))
  h2 : m ((c : Thread nD τ).loc main_arg2) = (up a2 : (⟨S16x512x512, .f32⟩ : BufTy).Contents (Elt Ideal))
  h3 : m ((c : Thread nD τ).loc main_arg3) = (up a3 : (⟨S16x512x512, .f32⟩ : BufTy).Contents (Elt Ideal))
  h4 : m ((c : Thread nD τ).loc main_arg4) = (up a4 : (⟨S16x512x8, .f32⟩ : BufTy).Contents (Elt Ideal))

variable {m c a0 a1 a2 a3 a4} (R : Reals m c a0 a1 a2 a3 a4)
include R

theorem lse_entry (r : Fin 16) (i L : Fin 512) : (V m c main_v63 : (⟨S16x512x512, .f32⟩ : BufTy).Contents (Elt Ideal)) (ix3 r i L)
    = ((lse (slope (headOf L)) (rows a0 r (headOf L)) (rows a1 r (headOf L)) i : ℝ) : EReal) := by
  rw [V_lse, R.h0, R.h1, spread_apply]
  exact ref_v61 a0 a1 r (headOf L) i

theorem dmat_entry (r : Fin 16) (i L : Fin 512) : (V m c main_v66 : (⟨S16x512x512, .f32⟩ : BufTy).Contents (Elt Ideal)) (ix3 r i L)
    = ((delta (slope (headOf L)) (rows a0 r (headOf L)) (rows a1 r (headOf L)) (rows a2 r (headOf L)) (rows a3 r (headOf L)) i
        - col a4 r (headOf L) i : ℝ) : EReal) := by
  rw [V_dmat, R.h0, R.h1, R.h2, R.h3, R.h4, spread_apply, dmat_apply, EReal.coe_sub, delta, ← coe_sum]
  congr 1
  refine Finset.sum_congr rfl fun d _ => ?_
  rw [EReal.coe_mul]
  exact congrArg _ (ref_v57 a0 a1 a2 r (headOf L) i d)

theorem q_entry (r : Fin 16) (i L : Fin 512) (L' : Fin 1536) (h : L'.val = L.val) :
    (V m c main_v59 : (⟨S16x512x1536, .bf16⟩ : BufTy).Contents (Elt Ideal)) (ix3 r i L') = ((a0 (ix3 r i L) : ℝ) : EReal) := by
  rw [V_qkv, R.h0, R.h1, R.h2]
  show joined (F := Ideal) _ _ _ (ix3 r i L') = _
  rw [joined_apply, dif_pos (by omega), show (⟨L'.val, by omega⟩ : Fin 512) = L from Fin.ext h]
  rfl

theorem k_entry (r : Fin 16) (i L : Fin 512) (L' : Fin 1536) (h : L'.val = 512 + L.val) :
    (V m c main_v59 : (⟨S16x512x1536, .bf16⟩ : BufTy).Contents (Elt Ideal)) (ix3 r i L') = ((a1 (ix3 r i L) : ℝ) : EReal) := by
  rw [V_qkv, R.h0, R.h1, R.h2]
  show joined (F := Ideal) _ _ _ (ix3 r i L') = _
  rw [joined_apply, dif_neg (by omega), dif_pos (by omega), show (⟨L'.val - 512, by omega⟩ : Fin 512) = L from Fin.ext (by simp only; omega)]
  rfl

theorem v_entry (r : Fin 16) (i L : Fin 512) (L' : Fin 1536) (h : L'.val = 1024 + L.val) :
    (V m c main_v59 : (⟨S16x512x1536, .bf16⟩ : BufTy).Contents (Elt Ideal)) (ix3 r i L') = ((a2 (ix3 r i L) : ℝ) : EReal) := by
  rw [V_qkv, R.h0, R.h1, R.h2]
  show joined (F := Ideal) _ _ _ (ix3 r i L') = _
  rw [joined_apply, dif_neg (by omega), dif_neg (by omega), show (⟨L'.val - 512 - 512, by omega⟩ : Fin 512) = L from Fin.ext (by simp only; omega)]
  rfl

theorem do_entry (r : Fin 16) (i L : Fin 512) :
    (V m c main_v60 : (⟨S16x512x512, .bf16⟩ : BufTy).Contents (Elt Ideal)) (ix3 r i L) = ((a3 (ix3 r i L) : ℝ) : EReal) := by
  rw [V_do, R.h3]
  rfl

omit R in
/-- The slopes' table holds the heads' slopes. -/
theorem slope_entry (h : Fin 8) :
    (V m c main_cst : (⟨S8, .f32⟩ : BufTy).Contents (Elt Ideal)) (ix1 h) = ((slope h : ℝ) : EReal) := by
  rw [V_slopes, ← slope_eq]
  show Ideal.ofBits .f32 (lit0 (S8.rowMajor (ix1 h))) = _
  congr 1
  exact (by decide +kernel : ∀ h : Fin 8, lit0 (S8.rowMajor (ix1 h)) = slopeWord h) h

end Real

end Cert.KernelIdeal.HostRead
-- ==== Proof.PointValue.lean ====
module

public import proofs.«01_k».proof.Proof.TileValue

@[expose] public section

set_option maxRecDepth 16384

noncomputable section

/-! # The value of one grid point

The three blocks a grid point leaves: the gradients of the window attention of its four residue classes and two heads. -/

namespace Cert.KernelIdeal.Tile

open Idealize.ShloMosaic Idealize.ShloMosaic.TcCoe Cert.KernelIdeal Cert.KernelIdeal.Gen Cert.Window Finset
open Idealize.ShloMosaic.View (Piece tilePieces)

/-! ## Sums over tiles -/

/-- A class's `t`-th tile. -/
def tile (r t : Fin 4) : Fin 16 := ⟨4 * r.val + t.val, by omega⟩

theorem cls_tile (r t : Fin 4) : cls (tile r t) = r := Fin.ext (by simp only [cls, tile]; omega)

/-- A sum over the tiles of one class. -/
theorem sum_class (r : Fin 4) (f : Fin 16 → ℝ) (hf : ∀ n, cls n ≠ r → f n = 0) : ∑ n, f n = ∑ t : Fin 4, f (tile r t) := by
  refine FinSumWindow.sum_window (W := 4) (4 * r.val) (by omega) f fun n hn => hf n fun e => hn ?_
  have := congrArg Fin.val e
  simp only [cls] at this
  omega

/-- A sum over all rows, tile by tile. -/
theorem sum_rows (r : Fin 4) (f : Fin 512 → ℝ) : ∑ i, f i = ∑ t : Fin 4, ∑ a : Fin 128, f (qrow (tile r t) a) := by
  rw [← (finProdFinEquiv (m := 4) (n := 128)).sum_comp, Fintype.sum_prod_type]
  refine sum_congr rfl fun t _ => sum_congr rfl fun a _ => congrArg f (Fin.ext ?_)
  show a.val + 128 * t.val = (4 * r.val + t.val) % 4 * 128 + a.val
  omega

/-! ## The accumulators -/

/-- Whether row `j` of class `r` lies in tile `n`'s window. -/
def within (n : Fin 16) (r : Fin 4) (j : Fin 512) : Prop := cls n = r ∧ start n.val ≤ j.val ∧ j.val < start n.val + 256

instance (n : Fin 16) (r : Fin 4) (j : Fin 512) : Decidable (within n r j) := by unfold within; infer_instance

/-- An accumulator holds, at each row, the sum of what the tiles whose window holds the row have added. -/
theorem accs_read (i : grid0.Coords) (a : Memref sig .tc .vmem S4x512x128 .f32) (L : List (Piece (Elt Ideal) S4x512x128 .f32))
    (X : Fin 16 → Vec Ideal S1x256x128 .f32 → Vec Ideal S1x256x128 .f32) (W : Fin 16 → Fin 512 → Fin 128 → ℝ)
    (hX : ∀ n f p l, X n f (ix3 (0 : Fin 1) p l) = f (ix3 (0 : Fin 1) p l) + ((W n (krow n p) l : ℝ) : EReal))
    (hL : ∀ r j l, a.view.read (Elt Ideal) (a.view.writes (Elt Ideal) a.view.junk L) (ix3 r j l) = 0) (r : Fin 4) (j : Fin 512) (l : Fin 128) :
    ∀ (m : ℕ) (hm : m ≤ 16), a.view.read (Elt Ideal) (a.view.writes (Elt Ideal) a.view.junk (accs i a L X m hm)) (ix3 r j l)
      = ((∑ n : Fin 16, if n.val < m ∧ within n r j then W n j l else 0 : ℝ) : EReal)
  | 0, _ => by
    rw [show (∑ n : Fin 16, if n.val < 0 ∧ within n r j then W n j l else 0) = 0 from sum_eq_zero fun n _ => if_neg (by omega)]
    exact hL r j l
  | m + 1, hm => by
    have ih := accs_read i a L X W hX hL r j l m (Nat.le_of_succ_le hm)
    have split : (∑ n : Fin 16, if n.val < m + 1 ∧ within n r j then W n j l else 0)
        = (∑ n : Fin 16, if n.val < m ∧ within n r j then W n j l else 0) + if within ⟨m, hm⟩ r j then W ⟨m, hm⟩ j l else 0 := by
      rw [show (if within ⟨m, hm⟩ r j then W ⟨m, hm⟩ j l else 0) = ∑ n : Fin 16, if n = ⟨m, hm⟩ then (if within n r j then W n j l else 0) else 0 by
        rw [sum_ite_eq' univ (⟨m, hm⟩ : Fin 16), if_pos (mem_univ _)], ← sum_add_distrib]
      refine sum_congr rfl fun n _ => ?_
      by_cases hw : within n r j
      · rcases lt_trichotomy n.val m with h | h | h
        · rw [if_pos ⟨by omega, hw⟩, if_pos ⟨h, hw⟩, if_neg (fun e => by rw [e] at h; exact absurd h (lt_irrefl _)), add_zero]
        · rw [if_pos ⟨by omega, hw⟩, if_neg (by omega), if_pos (Fin.ext h), if_pos hw, zero_add]
        · rw [if_neg (by omega), if_neg (by omega), if_neg (fun e => by rw [e] at h; exact absurd h (lt_irrefl _)), add_zero]
      · rw [if_neg (fun h => hw h.2), if_neg (fun h => hw h.2), if_neg hw]
        split <;> rw [add_zero]
    rw [split]
    show a.view.read (Elt Ideal) (a.view.writes (Elt Ideal) a.view.junk (_ :: _)) _ = _
    by_cases hw : within ⟨m, hm⟩ r j
    · obtain ⟨h0, h1, h2⟩ := hw
      have h0' := congrArg Fin.val h0
      simp only [cls] at h0'
      simp only at h1 h2
      rw [if_pos ⟨h0, h1, h2⟩]
      have hj : krow ⟨m, hm⟩ ⟨j.val - start m, by omega⟩ = j := Fin.ext (by simp only [krow]; omega)
      rw [View.read_writes_cons_unit_of_mem a.view _ (winOff_inb ⟨m, hm⟩) _ _ (ix3 r j l) (ix3 (0 : Fin 1) ⟨j.val - start m, by omega⟩ l) rfl (by
        intro c
        match c with
        | ⟨0, _⟩ =>
          show r.val = m / 4 + 0
          omega
        | ⟨1, _⟩ =>
          show j.val = start m + (j.val - start m)
          omega
        | ⟨2, _⟩ =>
          show l.val = 0 + l.val
          omega)]
      have e := hX ⟨m, hm⟩ (a.view.readCov (accs i a L X m (Nat.le_of_succ_le hm))
        (Rect.unit (keyOff i ⟨m, hm⟩) S1x256x128.size (keyOff_inb i ⟨m, hm⟩) : Rect S4x512x128).toLoadRect) ⟨j.val - start m, by omega⟩ l
      refine e.trans ?_
      rw [hj, EReal.coe_add, ← ih]
      congr 1
      unfold View.readCov
      rw [View.readAt_apply]
      have k0 : keyOff i ⟨m, hm⟩ 0 = m / 4 := by rw [keyOff_eq]; rfl
      have k1 : keyOff i ⟨m, hm⟩ 1 = start m := by rw [keyOff_eq]; rfl
      have k2 : keyOff i ⟨m, hm⟩ 2 = 0 := by rw [keyOff_eq]; rfl
      refine at3' _ _ _ _ _ ?_ ?_ ?_
      · show keyOff i ⟨m, hm⟩ 0 + 1 * 0 = r.val
        omega
      · show keyOff i ⟨m, hm⟩ 1 + 1 * (j.val - start m) = j.val
        omega
      · show keyOff i ⟨m, hm⟩ 2 + 1 * l.val = l.val
        omega
    · rw [if_neg hw, add_zero, ← ih]
      by_cases hc : m / 4 = r.val
      · refine View.read_writes_cons_unit_of_not_mem a.view _ (winOff_inb ⟨m, hm⟩) _ _ (ix3 r j l) rfl 1 ?_
        show j.val < start m ∨ start m + 256 ≤ j.val
        by_contra hcon
        exact hw ⟨Fin.ext hc, by simp only; omega, by simp only; omega⟩
      · refine View.read_writes_cons_unit_of_not_mem a.view _ (winOff_inb ⟨m, hm⟩) _ _ (ix3 r j l) rfl 0 ?_
        show r.val < m / 4 ∨ m / 4 + 1 ≤ r.val
        omega

/-- A cleared accumulator holds zero. -/
theorem cleared_read (a : Memref sig .tc .vmem S4x512x128 .f32) (r : Fin 4) (j : Fin 512) (l : Fin 128) :
    a.view.read (Elt Ideal) (a.view.writes (Elt Ideal) a.view.junk cleared) (ix3 r j l) = 0 := by
  unfold cleared
  refine (View.read_writes_cons_unit_of_mem (off' := ![0, 0, 0]) a.view _ _ _ _ (ix3 r j l) (ix3 r j l) rfl (by
    intro c
    match c with
    | ⟨0, _⟩ => exact (Nat.zero_add _).symm
    | ⟨1, _⟩ => exact (Nat.zero_add _).symm
    | ⟨2, _⟩ => exact (Nat.zero_add _).symm)).trans ?_
  pointwise [k0_pay4]

/-- Loading the whole array is reading it. -/
theorem wholeT_apply {e : EltTy} (a : Memref sig .tc .vmem S4x512x128 e) (L : List (Piece (Elt Ideal) S4x512x128 e)) (r : Fin 4) (j : Fin 512)
    (l : Fin 128) : wholeT a L (ix3 r j l) = a.view.read (Elt Ideal) (a.view.writes (Elt Ideal) a.view.junk L) (ix3 r j l) := by
  unfold wholeT View.readCov
  rw [View.readAt_apply]
  refine at3' _ _ _ _ _ ?_ ?_ ?_
  · show 0 + 1 * r.val = r.val
    omega
  · show 0 + 1 * j.val = j.val
    omega
  · show 0 + 1 * l.val = l.val
    omega

/-- The sum over a class's tiles of what vanishes beyond the radius is the sum over all its rows. -/
theorem sum_tiles (r : Fin 4) (j : Fin 512) (f : Fin 512 → ℝ) (hf : ∀ i, 64 < gap i j → f i = 0) :
    (∑ n : Fin 16, if n.val < 16 ∧ within n r j then ∑ a : Fin 128, f (qrow n a) else 0) = ∑ i, f i := by
  rw [sum_class r _ fun n hn => if_neg fun h => hn h.2.1, sum_rows r]
  refine sum_congr rfl fun t _ => ?_
  split
  · rfl
  · next h =>
    refine (sum_eq_zero fun a _ => hf _ ?_).symm
    have hk : ¬(start (tile r t).val ≤ j.val ∧ j.val < start (tile r t).val + 256) := fun e => h ⟨(tile r t).isLt, cls_tile r t, e⟩
    have hs : ∀ n : Fin 16, (start n.val = 0 ∨ start n.val + 64 ≤ n.val % 4 * 128) ∧ (start n.val = 256 ∨ n.val % 4 * 128 + 128 + 64 ≤ start n.val + 256) := by
      decide
    have := hs (tile r t)
    simp only [gap, qrow]
    omega

end Cert.KernelIdeal.Tile
-- ==== Proof.PointResult.lean ====
module

public import proofs.«01_k».proof.Proof.PointValue

@[expose] public section

set_option maxRecDepth 16384

noncomputable section

/-! # The three blocks of a grid point -/

namespace Cert.KernelIdeal.Tile

open Idealize.ShloMosaic Idealize.ShloMosaic.TcCoe Cert.KernelIdeal Cert.KernelIdeal.Gen Cert.Window Finset
open Idealize.ShloMosaic.View (Piece tilePieces)

/-- A lane's place within its head. -/
def dl (l : Fin 128) : Fin 64 := ⟨l.val % 64, Nat.mod_lt _ (by decide)⟩

theorem ln_hd (l : Fin 128) : ln (hd l) (dl l) = l := Fin.ext (by simp only [ln, hd, dl]; omega)

theorem headRows_self (x : S4x512x128.Idx → ℝ) (r : Fin 4) (l : Fin 128) (j : Fin 512) : headRows x r (hd l) j (dl l) = x (ix3 r j l) := by
  rw [headRows, ln_hd]

/-- A sum over the stack of what only one head's half of it contributes. -/
theorem sum_stack (l : Fin 128) (w : Fin 2 → Fin 128 → ℝ) (x : Fin 128 → ℝ) :
    (∑ R : Fin 256, w (hr R) (lo R) * if l.val / 64 = R.val / 128 then x (lo R) else 0) = ∑ a : Fin 128, w (hd l) a * x a := by
  simp only [mul_ite, mul_zero]
  rw [show l.val / 64 = (hd l).val from rfl, sum_half]
  exact sum_congr rfl fun a _ => by rw [hr_rw, lo_rw]

/-- The same of the kernel's products. -/
theorem sum_stack_up (l : Fin 128) (w : Fin 2 → Fin 128 → ℝ) (x : Fin 128 → ℝ) (A B : Fin 256 → EReal)
    (hA : ∀ R, A R = ((w (hr R) (lo R) : ℝ) : EReal))
    (hB : ∀ R, B R = ((if l.val / 64 = R.val / 128 then x (lo R) else 0 : ℝ) : EReal)) :
    ∑ R, A R * B R = ((∑ a : Fin 128, w (hd l) a * x a : ℝ) : EReal) := by
  rw [← sum_stack, ← coe_sum]
  exact sum_congr rfl fun R _ => by rw [hA, hB, ← EReal.coe_mul]

variable (c : Dev nD) (i : grid0.Coords)
variable (arg3 : Memref sig .tc .smem S8 .f32) (harg3 : arg3.IsWhole) (arg4 : Memref sig .tc .vmem S4x512x128 .bf16) (harg4 : arg4.IsWhole)
variable (arg5 : Memref sig .tc .vmem S4x512x128 .bf16) (harg5 : arg5.IsWhole) (arg6 : Memref sig .tc .vmem S4x512x128 .bf16) (harg6 : arg6.IsWhole)
variable (arg7 : Memref sig .tc .vmem S4x512x128 .bf16) (harg7 : arg7.IsWhole) (arg8 : Memref sig .tc .vmem S4x512x128 .f32) (harg8 : arg8.IsWhole)
variable (arg9 : Memref sig .tc .vmem S4x512x128 .f32) (harg9 : arg9.IsWhole) (arg10 : Memref sig .tc .vmem S4x512x128 .bf16) (harg10 : arg10.IsWhole)
variable (arg11 : Memref sig .tc .vmem S4x512x128 .bf16) (harg11 : arg11.IsWhole) (arg12 : Memref sig .tc .vmem S4x512x128 .bf16) (harg12 : arg12.IsWhole)
variable (arg13 : Memref sig .tc .vmem S4x512x128 .f32) (harg13 : arg13.IsWhole) (arg14 : Memref sig .tc .vmem S4x512x128 .f32) (harg14 : arg14.IsWhole)
variable (arg15 : Memref sig .tc .vmem S3x256x256 .f32) (harg15 : arg15.IsWhole) (arg16 : Memref sig .tc .vmem S16x256x256 .f32) (harg16 : arg16.IsWhole)
variable (arg17 : Memref sig .tc .vmem S16x256x256 .f32) (harg17 : arg17.IsWhole) (arg18 : Memref sig .tc .vmem S16x256x256 .bf16) (harg18 : arg18.IsWhole)
variable (arg19 : Memref sig .tc .vmem S16x256x256 .bf16) (harg19 : arg19.IsWhole) (hc0 : cond0_0 i) (hc1 : cond0_1 i)
variable (x0 : Vec Ideal S8 .f32) (x5 x6 : Vec Ideal S4x512x128 .f32)
variable (σ : Fin 2 → ℝ) (hσ : ∀ g, 0 < σ g) (q k v o : S4x512x128.Idx → ℝ) (G : Fin 4 → Fin 2 → Fin 512 → ℝ)
variable (h0 : slopes2 (F := Ideal) c i arg3 harg3 hc0 x0 = fun g => ((σ g : ℝ) : EReal))
variable (h5 : ∀ r a l, x5 (ix3 r a l) = ((lse (σ (hd l)) (headRows q r (hd l)) (headRows k r (hd l)) a : ℝ) : EReal))
variable (h6 : ∀ r a l, x6 (ix3 r a l)
  = ((delta (σ (hd l)) (headRows q r (hd l)) (headRows k r (hd l)) (headRows v r (hd l)) (headRows o r (hd l)) a - G r (hd l) a : ℝ) : EReal))

include hσ h0 in
/-- The stored scores. -/
theorem scores_value (n : Fin 16) (R p : Fin 256) :
    sqT arg16 (kernelRun0_A.sl.HS3_16 c i arg3 harg3 arg4 harg4 arg5 harg5 arg15 hc0 x0 (up q) (up k)) n (ix3 (0 : Fin 1) R p)
      = masked (σ (hr R)) (headRows q (cls n) (hr R)) (headRows k (cls n) (hr R)) (qrow n (lo R)) (krow n p) := by
  rw [scores_found, sqT_apply, table_found, h0, score_value i σ q k arg4 harg4 arg5 harg5 arg15 hσ]

include hσ h0 h5 in
/-- The stored probabilities. -/
theorem probs_value (n : Fin 16) (R p : Fin 256) :
    sqT arg18 (probs c i arg3 harg3 arg4 harg4 arg5 harg5 arg8 harg8 arg15 arg16 hc0 x0 (up q) (up k) x5) n (ix3 (0 : Fin 1) R p)
      = ((prob (σ (hr R)) (headRows q (cls n) (hr R)) (headRows k (cls n) (hr R)) (qrow n (lo R)) (krow n p) : ℝ) : EReal) := by
  unfold probs
  rw [probs_found, sqT_apply]
  exact probB_value σ q k arg8 harg8 _ x5 h5 n R p
    (scores_value c i arg3 harg3 arg4 harg4 arg5 harg5 arg15 arg16 hc0 x0 σ hσ q k h0 n R p)

include hσ h0 h5 h6 in
/-- The stored gradient at the scores. -/
theorem dscores_value (n : Fin 16) (R p : Fin 256) :
    sqT arg19 (dscores c i arg3 harg3 arg4 harg4 arg5 harg5 arg6 harg6 arg7 harg7 arg8 harg8 arg9 harg9 arg15 arg16 arg17 hc0
        x0 (up q) (up k) (up v) (up o) x5 x6) n (ix3 (0 : Fin 1) R p)
      = ((dscore (σ (hr R)) (headRows q (cls n) (hr R)) (headRows k (cls n) (hr R)) (headRows v (cls n) (hr R)) (headRows o (cls n) (hr R))
          (G (cls n) (hr R)) (qrow n (lo R)) (krow n p) : ℝ) : EReal) := by
  unfold dscores
  rw [dscores_found, sqT_apply]
  refine dscoreB_value σ q k v o G arg8 harg8 arg9 harg9 _ _ x5 x6 h5 h6 n R p
    (scores_value c i arg3 harg3 arg4 harg4 arg5 harg5 arg15 arg16 hc0 x0 σ hσ q k h0 n R p) ?_
  rw [dprobs_found, sqT_apply, dprob_value]

/-- Where a row lies among its class's tiles. -/
def tileOf (r : Fin 4) (a : Fin 512) : Fin 16 := tile r ⟨a.val / 128, by omega⟩

theorem qrow_tileOf (r : Fin 4) (a : Fin 512) : qrow (tileOf r a) ⟨a.val % 128, Nat.mod_lt _ (by decide)⟩ = a :=
  Fin.ext (by simp only [qrow, tileOf, tile]; omega)

include hσ h0 h5 h6 in
/-- What the run leaves as the gradient at the queries. -/
theorem dq_value (w : View sig .tc .vmem S4x512x128 .bf16) (r : Fin 4) (a : Fin 512) (l : Fin 128) :
    w.read (Elt Ideal) (w.writes (Elt Ideal) w.junk (kernelRun0_A c i arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18 arg19 harg19 hc0 hc1
        x0 (up q) (up k) (up v) (up o) x5 x6).1) (ix3 r a l)
      = ((gradQ (σ (hd l)) (headRows q r (hd l)) (headRows k r (hd l)) (headRows v r (hd l)) (headRows o r (hd l)) (G r (hd l)) a (dl l) : ℝ) : EReal) := by
  rw [out7_found]
  refine (read_tiles w _ _ _ _ _ 16 le_rfl _ (tileOf r a) (tileOf r a).isLt (ix3 (0 : Fin 1) ⟨a.val % 128, Nat.mod_lt _ (by decide)⟩ l) ?_ ?_).trans ?_
  · intro b
    match b with
    | ⟨0, _⟩ =>
      show r.val = (4 * r.val + a.val / 128) / 4 + 0
      omega
    | ⟨1, _⟩ =>
      show a.val = (4 * r.val + a.val / 128) % 4 * 128 + a.val % 128
      omega
    | ⟨2, _⟩ =>
      show l.val = 0 + l.val
      omega
  · intro m hm
    have hm' : m.val ≠ 4 * r.val + a.val / 128 := fun h => hm (Fin.ext h)
    by_cases hc : m.val / 4 = r.val
    · refine ⟨1, ?_⟩
      show a.val < m.val % 4 * 128 ∨ m.val % 4 * 128 + 128 ≤ a.val
      omega
    · refine ⟨0, ?_⟩
      show r.val < m.val / 4 ∨ m.val / 4 + 1 ≤ r.val
      omega
  · have hcls : cls (tileOf r a) = r := cls_tile r _
    have hq := qrow_tileOf r a
    rw [dqT_apply, dstack_apply]
    have e : ∀ p : Fin 256, _ := fun p => dscores_value c i arg3 harg3 arg4 harg4 arg5 harg5 arg6 harg6 arg7 harg7 arg8 harg8 arg9 harg9 arg15 arg16
      arg17 arg19 hc0 x0 x5 x6 σ hσ q k v o G h0 h5 h6 (tileOf r a) (rw' (hd l) ⟨a.val % 128, Nat.mod_lt _ (by decide)⟩) p
    rw [hcls] at e
    simp only [hr_rw, lo_rw, hq] at e
    simp only [keysT_apply, up_apply, hcls]
    refine (congrArg (· * _) (sum_congr rfl fun p _ => congrArg (· * _) (e p))).trans ?_
    simp only [← EReal.coe_mul, coe_sum]
    congr 1
    unfold gradQ
    rw [sum_near (tileOf r a) ⟨a.val % 128, Nat.mod_lt _ (by decide)⟩ _ fun j hj => by rw [hq] at hj; rw [dscore_far _ _ _ _ _ _ hj]; ring, sum_mul]
    exact sum_congr rfl fun p _ => by rw [headRows_self]; ring

/-- A store of the whole block leaves what was stored. -/
theorem read_whole {e : EltTy} (w : View sig .tc .vmem S4x512x128 e) (y : Vec Ideal S4x512x128 e)
    (inb : ∀ a, (![0, 0, 0] : Fin 3 → ℕ) a + S4x512x128.size a ≤ S4x512x128.size a) (r : Fin 4) (a : Fin 512) (l : Fin 128) :
    w.read (Elt Ideal) (w.writes (Elt Ideal) w.junk [⟨(Rect.unit ![0, 0, 0] S4x512x128.size inb : Rect S4x512x128), y⟩]) (ix3 r a l) = y (ix3 r a l) :=
  View.read_writes_cons_unit_of_mem (off' := ![0, 0, 0]) w _ _ _ _ (ix3 r a l) (ix3 r a l) rfl (by
    intro c
    match c with
    | ⟨0, _⟩ => exact (Nat.zero_add _).symm
    | ⟨1, _⟩ => exact (Nat.zero_add _).symm
    | ⟨2, _⟩ => exact (Nat.zero_add _).symm)

include hσ h0 h5 h6 in
/-- What the run leaves as the gradient at the keys. -/
theorem dk_value (w : View sig .tc .vmem S4x512x128 .bf16) (r : Fin 4) (j : Fin 512) (l : Fin 128) :
    w.read (Elt Ideal) (w.writes (Elt Ideal) w.junk (kernelRun0_A c i arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18 arg19 harg19 hc0 hc1
        x0 (up q) (up k) (up v) (up o) x5 x6).2.1) (ix3 r j l)
      = ((gradK (σ (hd l)) (headRows q r (hd l)) (headRows k r (hd l)) (headRows v r (hd l)) (headRows o r (hd l)) (G r (hd l)) j (dl l) : ℝ) : EReal) := by
  rw [out8_found, read_whole, dk_found]
  have e : ∀ y : Vec Ideal S4x512x128 .f32, k0_pay2 y (ix3 r j l) = y (ix3 r j l) := fun y => by pointwise [k0_pay2]
  rw [e, wholeT_apply]
  rw [accs_read i arg13 _ _ (fun n j l => ∑ a : Fin 128, dscore (σ (hd l)) (headRows q (cls n) (hd l)) (headRows k (cls n) (hd l))
      (headRows v (cls n) (hd l)) (headRows o (cls n) (hd l)) (G (cls n) (hd l)) (qrow n a) j * (q (ix3 (cls n) (qrow n a) l) * (1 / 8))) ?_ (cleared_read arg13)
      r j l 16 le_rfl]
  · congr 1
    unfold gradK
    rw [← sum_tiles r j _ fun a ha => by rw [dscore_far _ _ _ _ _ _ ha]; ring]
    refine sum_congr rfl fun n _ => if_ctx_congr Iff.rfl (fun hw => ?_) fun _ => rfl
    rw [hw.2.1]
    exact sum_congr rfl fun a _ => by rw [headRows_self]; ring
  · intro n f p l
    rw [accT_apply]
    congr 1
    exact sum_stack_up l (fun g a => dscore (σ g) (headRows q (cls n) g) (headRows k (cls n) g) (headRows v (cls n) g) (headRows o (cls n) g)
        (G (cls n) g) (qrow n a) (krow n p)) (fun a => q (ix3 (cls n) (qrow n a) l) * (1 / 8)) _ _
      (fun R => dscores_value c i arg3 harg3 arg4 harg4 arg5 harg5 arg6 harg6 arg7 harg7 arg8 harg8 arg9 harg9 arg15 arg16 arg17 arg19 hc0
        x0 x5 x6 σ hσ q k v o G h0 h5 h6 n R p)
      fun R => stack_scaled q arg4 harg4 n R l

include hσ h0 h5 in
/-- What the run leaves as the gradient at the values. -/
theorem dv_value (x3 : Vec Ideal S4x512x128 .bf16) (w : View sig .tc .vmem S4x512x128 .bf16) (r : Fin 4) (j : Fin 512) (l : Fin 128) :
    w.read (Elt Ideal) (w.writes (Elt Ideal) w.junk (kernelRun0_A c i arg3 harg3 arg4 harg4 arg5 harg5 arg6 harg6 arg7 harg7 arg8 harg8 arg9 harg9
        arg10 harg10 arg11 harg11 arg12 harg12 arg13 harg13 arg14 harg14 arg15 harg15 arg16 harg16 arg17 harg17 arg18 harg18 arg19 harg19 hc0 hc1
        x0 (up q) (up k) x3 (up o) x5 x6).2.2.1) (ix3 r j l)
      = ((gradV (σ (hd l)) (headRows q r (hd l)) (headRows k r (hd l)) (headRows o r (hd l)) j (dl l) : ℝ) : EReal) := by
  rw [out9_found, read_whole, dv_found]
  have e : ∀ y : Vec Ideal S4x512x128 .f32, k0_pay3 y (ix3 r j l) = y (ix3 r j l) := fun y => by pointwise [k0_pay3]
  rw [e, wholeT_apply]
  rw [accs_read i arg14 _ _ (fun n j l => ∑ a : Fin 128, prob (σ (hd l)) (headRows q (cls n) (hd l)) (headRows k (cls n) (hd l)) (qrow n a) j
      * o (ix3 (cls n) (qrow n a) l)) ?_ (cleared_read arg14) r j l 16 le_rfl]
  · congr 1
    unfold gradV
    rw [← sum_tiles r j _ fun a ha => by rw [prob_far _ _ _ ha]; ring]
    refine sum_congr rfl fun n _ => if_ctx_congr Iff.rfl (fun hw => ?_) fun _ => rfl
    rw [hw.2.1]
    exact sum_congr rfl fun a _ => by rw [headRows_self]; ring
  · intro n f p l
    rw [accT_apply]
    congr 1
    exact sum_stack_up l (fun g a => prob (σ g) (headRows q (cls n) g) (headRows k (cls n) g) (qrow n a) (krow n p))
        (fun a => o (ix3 (cls n) (qrow n a) l)) _ _
      (fun R => probs_value c i arg3 harg3 arg4 harg4 arg5 harg5 arg8 harg8 arg15 arg16 arg18 hc0 x0 x5 σ hσ q k h0 h5 n R p)
      fun R => stack_flat o arg7 harg7 n R l

end Cert.KernelIdeal.Tile
-- ==== Proof.Blocks.lean ====
module

public import proofs.«01_k».proof.Proof.HostBuffers
public import proofs.«01_k».proof.Proof.PointResult
public import Idealize.ShloMosaic.Lib.Pipeline.ValueKit

@[expose] public section

set_option maxRecDepth 16384

noncomputable section

/-! # The blocks of a grid point

A grid point takes four residue classes and a pair of heads: its blocks of the operands, and the three blocks that it
writes back. -/

namespace Cert.KernelIdeal.HostRead

open Idealize.ShloMosaic Idealize.ShloMosaic.TcCoe Idealize.SL.Sem Idealize.ShloMosaic.StableHlo
open Cert.KernelIdeal Cert.KernelIdeal.Gen Cert.KernelIdeal.Tile
open Cert.ReferenceIdeal.Read Cert.Window

/-- A point's block of residue classes. -/
def resBlk (t : Fin cfg0.N) : Fin 4 := (grid0.coords t) 0
/-- A point's pair of heads. -/
def pairOf (t : Fin cfg0.N) : Fin 4 := (grid0.coords t) 1

/-- A residue class of a point's block, among all. -/
def res (t : Fin cfg0.N) (r : Fin 4) : Fin 16 := ⟨4 * (resBlk t).val + r.val, by omega⟩
/-- A head of a point's pair, among all. -/
def headAt (t : Fin cfg0.N) (g : Fin 2) : Fin 8 := ⟨2 * (pairOf t).val + g.val, by omega⟩
/-- A lane of a point's block, among all. -/
def laneAt (t : Fin cfg0.N) (l : Fin 128) : Fin 512 := ⟨128 * (pairOf t).val + l.val, by omega⟩

theorem laneAt_ln (t : Fin cfg0.N) (g : Fin 2) (d : Fin 64) : laneAt t (ln g d) = lane (headAt t g) d :=
  Fin.ext (by simp only [laneAt, ln, lane, headAt]; omega)

theorem headOf_laneAt (t : Fin cfg0.N) (l : Fin 128) : headOf (laneAt t l) = headAt t (hd l) :=
  Fin.ext (by simp only [laneAt, headOf, hd, headAt]; omega)

/-- The block of an array of reals. -/
def piece (t : Fin cfg0.N) (a : S16x512x512.Idx → ℝ) : S4x512x128.Idx → ℝ := fun y => a (ix3 (res t (y 0)) (y 1) (laneAt t (y 2)))

theorem headRows_piece (t : Fin cfg0.N) (a : S16x512x512.Idx → ℝ) (r : Fin 4) (g : Fin 2) :
    headRows (piece t a) r g = rows a (res t r) (headAt t g) := by
  funext i d
  show a (ix3 (res t r) i (laneAt t (ln g d))) = _
  rw [laneAt_ln]
  rfl

theorem index_1 : ∀ t : Fin cfg0.N, (cfg0.win 1).index t = ![(resBlk t).val, 0, (pairOf t).val] :=
  (by decide +kernel : ∀ t : Fin cfg0.N, (cfg0.win 1).index t = ![(resBlk t).val, 0, (pairOf t).val])
theorem index_2 : ∀ t : Fin cfg0.N, (cfg0.win 2).index t = ![(resBlk t).val, 0, 4 + (pairOf t).val] :=
  (by decide +kernel : ∀ t : Fin cfg0.N, (cfg0.win 2).index t = ![(resBlk t).val, 0, 4 + (pairOf t).val])
theorem index_3 : ∀ t : Fin cfg0.N, (cfg0.win 3).index t = ![(resBlk t).val, 0, 8 + (pairOf t).val] :=
  (by decide +kernel : ∀ t : Fin cfg0.N, (cfg0.win 3).index t = ![(resBlk t).val, 0, 8 + (pairOf t).val])
theorem index_4 : ∀ t : Fin cfg0.N, (cfg0.win 4).index t = ![(resBlk t).val, 0, (pairOf t).val] :=
  (by decide +kernel : ∀ t : Fin cfg0.N, (cfg0.win 4).index t = ![(resBlk t).val, 0, (pairOf t).val])
theorem index_5 : ∀ t : Fin cfg0.N, (cfg0.win 5).index t = ![(resBlk t).val, 0, (pairOf t).val] :=
  (by decide +kernel : ∀ t : Fin cfg0.N, (cfg0.win 5).index t = ![(resBlk t).val, 0, (pairOf t).val])
theorem index_6 : ∀ t : Fin cfg0.N, (cfg0.win 6).index t = ![(resBlk t).val, 0, (pairOf t).val] :=
  (by decide +kernel : ∀ t : Fin cfg0.N, (cfg0.win 6).index t = ![(resBlk t).val, 0, (pairOf t).val])
theorem index_7 : ∀ t : Fin cfg0.N, (cfg0.win 7).index t = ![(resBlk t).val, 0, (pairOf t).val] :=
  (by decide +kernel : ∀ t : Fin cfg0.N, (cfg0.win 7).index t = ![(resBlk t).val, 0, (pairOf t).val])
theorem index_8 : ∀ t : Fin cfg0.N, (cfg0.win 8).index t = ![(resBlk t).val, 0, (pairOf t).val] :=
  (by decide +kernel : ∀ t : Fin cfg0.N, (cfg0.win 8).index t = ![(resBlk t).val, 0, (pairOf t).val])
theorem index_9 : ∀ t : Fin cfg0.N, (cfg0.win 9).index t = ![(resBlk t).val, 0, (pairOf t).val] :=
  (by decide +kernel : ∀ t : Fin cfg0.N, (cfg0.win 9).index t = ![(resBlk t).val, 0, (pairOf t).val])
theorem index_0 : ∀ t : Fin cfg0.N, (cfg0.win 0).index t = ![0] :=
  (by decide +kernel : ∀ t : Fin cfg0.N, (cfg0.win 0).index t = ![0])

section Any
variable {F : FTy → Type} [FloatOps F]
variable (m : (ℓ : Loc nD τ sig) → Buf (Elt F) ℓ) (c : Dev nD) (t : Fin cfg0.N)

theorem blk_0 (h : Fin 8) :
    (iblk m c 0 t : Vec F S8 .f32) (ix1 h) = (V m c main_cst : (⟨S8, .f32⟩ : BufTy).Contents (Elt F)) (ix1 h) := by
  blk_ext [iblk, index_0 t]

theorem blk_1 (r : Fin 4) (a : Fin 512) (l : Fin 128) :
    (iblk m c 1 t : Vec F S4x512x128 .bf16) (ix3 r a l) = (V m c main_v59 : (⟨S16x512x1536, .bf16⟩ : BufTy).Contents (Elt F))
      (ix3 (res t r) a ⟨128 * (pairOf t).val + l.val, by omega⟩) := by
  blk_ext [iblk, index_1 t, res]

theorem blk_2 (r : Fin 4) (a : Fin 512) (l : Fin 128) :
    (iblk m c 2 t : Vec F S4x512x128 .bf16) (ix3 r a l) = (V m c main_v59 : (⟨S16x512x1536, .bf16⟩ : BufTy).Contents (Elt F))
      (ix3 (res t r) a ⟨128 * (4 + (pairOf t).val) + l.val, by omega⟩) := by
  blk_ext [iblk, index_2 t, res]

theorem blk_3 (r : Fin 4) (a : Fin 512) (l : Fin 128) :
    (iblk m c 3 t : Vec F S4x512x128 .bf16) (ix3 r a l) = (V m c main_v59 : (⟨S16x512x1536, .bf16⟩ : BufTy).Contents (Elt F))
      (ix3 (res t r) a ⟨128 * (8 + (pairOf t).val) + l.val, by omega⟩) := by
  blk_ext [iblk, index_3 t, res]

theorem blk_4 (r : Fin 4) (a : Fin 512) (l : Fin 128) :
    (iblk m c 4 t : Vec F S4x512x128 .bf16) (ix3 r a l) = (V m c main_v60 : (⟨S16x512x512, .bf16⟩ : BufTy).Contents (Elt F)) (ix3 (res t r) a (laneAt t l)) := by
  blk_ext [iblk, index_4 t, res, laneAt]

theorem blk_5 (r : Fin 4) (a : Fin 512) (l : Fin 128) :
    (iblk m c 5 t : Vec F S4x512x128 .f32) (ix3 r a l) = (V m c main_v63 : (⟨S16x512x512, .f32⟩ : BufTy).Contents (Elt F)) (ix3 (res t r) a (laneAt t l)) := by
  blk_ext [iblk, index_5 t, res, laneAt]

theorem blk_6 (r : Fin 4) (a : Fin 512) (l : Fin 128) :
    (iblk m c 6 t : Vec F S4x512x128 .f32) (ix3 r a l) = (V m c main_v66 : (⟨S16x512x512, .f32⟩ : BufTy).Contents (Elt F)) (ix3 (res t r) a (laneAt t l)) := by
  blk_ext [iblk, index_6 t, res, laneAt]

/-- The two slopes a point reads are its two heads'. -/
theorem slopes_read (arg3 : Memref sig .tc .smem S8 .f32) (harg3 : arg3.IsWhole) (hc0 : cond0_0 (grid0.coords t)) (x0 : Vec F S8 .f32) (g : Fin 2) :
    slopes2 (F := F) c (grid0.coords t) arg3 harg3 hc0 x0 g = x0 (ix1 (headAt t g)) := by
  have h1 : ∀ u : Fin cfg0.N, k0_off1 (grid0.coords u) = ![2 * (pairOf u).val] := by decide +kernel
  have h2 : ∀ u : Fin cfg0.N, k0_off2 (grid0.coords u) = ![2 * (pairOf u).val + 1] := by decide +kernel
  match g with
  | ⟨0, _⟩ =>
    refine (congrFun (harg3.read_unread x0) _).trans (congrArg x0 (funext fun a => ?_))
    match a with
    | ⟨0, _⟩ =>
      refine Fin.ext ?_
      show k0_off1 (grid0.coords t) 0 + 0 * 1 = 2 * (pairOf t).val + 0
      rw [h1 t]
      rfl
  | ⟨1, _⟩ =>
    refine (congrFun (harg3.read_unread x0) _).trans (congrArg x0 (funext fun a => ?_))
    match a with
    | ⟨0, _⟩ =>
      refine Fin.ext ?_
      show k0_off2 (grid0.coords t) 0 + 0 * 1 = 2 * (pairOf t).val + 1
      rw [h2 t]
      rfl

end Any

section Real

variable (m : (ℓ : Loc nD τ sig) → Buf (Elt Ideal) ℓ) (c : Dev nD) (t : Fin cfg0.N)
variable (a0 a1 a2 a3 : S16x512x512.Idx → ℝ) (a4 : S16x512x8.Idx → ℝ)
variable {m c a0 a1 a2 a3 a4} (R : Reals m c a0 a1 a2 a3 a4)
include R

theorem q_piece : (iblk m c 1 t : Vec Ideal S4x512x128 .bf16) = up (piece t a0) := by
  funext y
  obtain ⟨r, a, l, rfl⟩ : ∃ (r : Fin 4) (a : Fin 512) (l : Fin 128), y = ix3 r a l := ⟨y 0, y 1, y 2, (eq_ix3 y)⟩
  rw [blk_1]
  exact q_entry R _ _ (laneAt t l) _ rfl

theorem k_piece : (iblk m c 2 t : Vec Ideal S4x512x128 .bf16) = up (piece t a1) := by
  funext y
  obtain ⟨r, a, l, rfl⟩ : ∃ (r : Fin 4) (a : Fin 512) (l : Fin 128), y = ix3 r a l := ⟨y 0, y 1, y 2, (eq_ix3 y)⟩
  rw [blk_2]
  exact k_entry R _ _ (laneAt t l) _ (by simp only [laneAt]; omega)

theorem v_piece : (iblk m c 3 t : Vec Ideal S4x512x128 .bf16) = up (piece t a2) := by
  funext y
  obtain ⟨r, a, l, rfl⟩ : ∃ (r : Fin 4) (a : Fin 512) (l : Fin 128), y = ix3 r a l := ⟨y 0, y 1, y 2, (eq_ix3 y)⟩
  rw [blk_3]
  exact v_entry R _ _ (laneAt t l) _ (by simp only [laneAt]; omega)

theorem do_piece : (iblk m c 4 t : Vec Ideal S4x512x128 .bf16) = up (piece t a3) := by
  funext y
  obtain ⟨r, a, l, rfl⟩ : ∃ (r : Fin 4) (a : Fin 512) (l : Fin 128), y = ix3 r a l := ⟨y 0, y 1, y 2, (eq_ix3 y)⟩
  rw [blk_4]
  exact do_entry R _ _ (laneAt t l)

/-- The slopes of a point's heads. -/
theorem slopes_point (arg3 : Memref sig .tc .smem S8 .f32) (harg3 : arg3.IsWhole) (hc0 : cond0_0 (grid0.coords t)) :
    slopes2 (F := Ideal) c (grid0.coords t) arg3 harg3 hc0 (iblk m c 0 t) = fun g => ((slope (headAt t g) : ℝ) : EReal) := by
  funext g
  rw [slopes_read, blk_0]
  exact slope_entry _

theorem lse_point (r : Fin 4) (a : Fin 512) (l : Fin 128) : (iblk m c 5 t : Vec Ideal S4x512x128 .f32) (ix3 r a l)
    = ((lse (slope (headAt t (hd l))) (headRows (piece t a0) r (hd l)) (headRows (piece t a1) r (hd l)) a : ℝ) : EReal) := by
  rw [blk_5, headRows_piece, headRows_piece, ← headOf_laneAt]
  exact lse_entry R _ _ _

theorem dmat_point (r : Fin 4) (a : Fin 512) (l : Fin 128) : (iblk m c 6 t : Vec Ideal S4x512x128 .f32) (ix3 r a l)
    = ((delta (slope (headAt t (hd l))) (headRows (piece t a0) r (hd l)) (headRows (piece t a1) r (hd l)) (headRows (piece t a2) r (hd l))
        (headRows (piece t a3) r (hd l)) a - col a4 (res t r) (headAt t (hd l)) a : ℝ) : EReal) := by
  rw [blk_6, headRows_piece, headRows_piece, headRows_piece, headRows_piece, ← headOf_laneAt]
  exact dmat_entry R _ _ _

end Real

end Cert.KernelIdeal.HostRead
-- ==== Proof.Assemble.lean ====
module

public import proofs.«01_k».proof.Proof.Blocks

@[expose] public section

set_option maxRecDepth 16384

noncomputable section

/-! # The three gradients of the kernel

The blocks a grid point writes back are the reference's gradients there, and the blocks tile the arrays. -/

namespace Cert.KernelIdeal.HostRead

open Idealize.ShloMosaic Idealize.ShloMosaic.TcCoe Idealize.SL.Sem Idealize.ShloMosaic.StableHlo
open Cert.KernelIdeal Cert.KernelIdeal.Gen Cert.KernelIdeal.Tile
open Cert.ReferenceIdeal.Read Cert.Window

/-- A word with a small positive exponent denotes a positive number. -/
theorem word_pos (w : BitVec 32) (h1 : ¬(w.extractLsb' 23 8).toNat = 2 ^ 8 - 1) (h2 : ¬(w.extractLsb' 23 8).toNat = 0)
    (h3 : (w.extractLsb' 31 1 == 1#1) = false) : 0 < (Ideal.ofBits .f32 w).toReal := by
  simp only [Ideal.ofBits, Ideal.ieee]
  rw [if_neg h1, if_neg h2]
  rw [if_neg (by simpa using h3), EReal.toReal_coe]
  positivity

/-- A head's slope is positive. -/
theorem slope_pos (h : Fin 8) : 0 < slope h :=
  word_pos _ ((by decide : ∀ h : Fin 8, ¬((slopeWord h).extractLsb' 23 8).toNat = 2 ^ 8 - 1) h)
    ((by decide : ∀ h : Fin 8, ¬((slopeWord h).extractLsb' 23 8).toNat = 0) h)
    ((by decide : ∀ h : Fin 8, ((slopeWord h).extractLsb' 31 1 == 1#1) = false) h)

/-- The place of a block's entry in its array. -/
theorem emb_7 (t : Fin cfg0.N) (r : Fin 4) (a : Fin 512) (l : Fin 128) :
    ((cfg0.win 7).blk t).view.emb (ix3 r a l) = (ix3 (res t r) a (lane (headAt t (hd l)) (dl l)) : S16x512x512.Idx) := by
  rw [← laneAt_ln, ln_hd]
  blk_ext [index_7 t, res, laneAt]

/-- The place of a block's entry in its array, of the second result. -/
theorem emb_8 (t : Fin cfg0.N) (r : Fin 4) (a : Fin 512) (l : Fin 128) :
    ((cfg0.win 8).blk t).view.emb (ix3 r a l) = (ix3 (res t r) a (lane (headAt t (hd l)) (dl l)) : S16x512x512.Idx) := by
  rw [← laneAt_ln, ln_hd]
  blk_ext [index_8 t, res, laneAt]

/-- The place of a block's entry in its array, of the third result. -/
theorem emb_9 (t : Fin cfg0.N) (r : Fin 4) (a : Fin 512) (l : Fin 128) :
    ((cfg0.win 9).blk t).view.emb (ix3 r a l) = (ix3 (res t r) a (lane (headAt t (hd l)) (dl l)) : S16x512x512.Idx) := by
  rw [← laneAt_ln, ln_hd]
  blk_ext [index_9 t, res, laneAt]

variable {m : (ℓ : Loc nD τ sig) → Buf (Elt Ideal) ℓ} {c : Dev nD}
variable {a0 a1 a2 a3 : S16x512x512.Idx → ℝ} {a4 : S16x512x8.Idx → ℝ} (R : Reals m c a0 a1 a2 a3 a4)
include R

/-- The first result is the reference's gradient with respect to the queries. -/
theorem dq_array : (dats m 0 c).arrAt 7 cfg0.N
    = (val_main_v100 (F := Ideal) (up a0) (up a1) (up a2) (up a3) (up a4) : (⟨S16x512x512, .bf16⟩ : BufTy).Contents (Elt Ideal)) := by
  refine (dats m 0 c).arrAt_eq_of_covers 7 _ (by decide +kernel) fun t hf y => ?_
  refine (show _ = (dats m 0 c).flushed 7 t y from rfl).trans ((congrFun (Value.flushed7_A m c t) y).trans ?_)
  rw [q_piece t R, k_piece t R, v_piece t R, do_piece t R]
  obtain ⟨r, a, l, rfl⟩ : ∃ (r : Fin 4) (a : Fin 512) (l : Fin 128), y = ix3 r a l := ⟨y 0, y 1, y 2, (eq_ix3 y)⟩
  refine (dq_value c (grid0.coords t) _ (hs0_0 t) _ (hs0_1 t) _ (hs0_2 t) _ (hs0_3 t) _ (hs0_4 t) _ (hs0_5 t) _ (hs0_6 t) _ (hs0_7 t) _ (hs0_8 t) _ (hs0_9 t)
    _ (Memref.isWhole_whole _) _ (Memref.isWhole_whole _) _ (Memref.isWhole_whole _) _ (Memref.isWhole_whole _) _ (Memref.isWhole_whole _)
    _ (Memref.isWhole_whole _) _ (Memref.isWhole_whole _) (hcond0_0 t) (hcond0_1 t) (iblk m c 0 t) (iblk m c 5 t) (iblk m c 6 t)
    (fun g => slope (headAt t g)) (fun g => slope_pos _) (piece t a0) (piece t a1) (piece t a2) (piece t a3) (fun r g => col a4 (res t r) (headAt t g))
    (slopes_point t R _ _ _) (lse_point t R) (dmat_point t R) VO0_7 r a l).trans ?_
  rw [emb_7]
  simp only [headRows_piece]
  exact (ref_dq a0 a1 a2 a3 a4 (res t r) (headAt t (hd l)) a (dl l)).symm

/-- The second result is the reference's gradient with respect to the keys. -/
theorem dk_array : (dats m 0 c).arrAt 8 cfg0.N
    = (val_main_v102 (F := Ideal) (up a0) (up a1) (up a2) (up a3) (up a4) : (⟨S16x512x512, .bf16⟩ : BufTy).Contents (Elt Ideal)) := by
  refine (dats m 0 c).arrAt_eq_of_covers 8 _ (by decide +kernel) fun t hf y => ?_
  refine (show _ = (dats m 0 c).flushed 8 t y from rfl).trans ((congrFun (Value.flushed8_A m c t) y).trans ?_)
  rw [q_piece t R, k_piece t R, v_piece t R, do_piece t R]
  obtain ⟨r, a, l, rfl⟩ : ∃ (r : Fin 4) (a : Fin 512) (l : Fin 128), y = ix3 r a l := ⟨y 0, y 1, y 2, (eq_ix3 y)⟩
  refine (dk_value c (grid0.coords t) _ (hs0_0 t) _ (hs0_1 t) _ (hs0_2 t) _ (hs0_3 t) _ (hs0_4 t) _ (hs0_5 t) _ (hs0_6 t) _ (hs0_7 t) _ (hs0_8 t) _ (hs0_9 t)
    _ (Memref.isWhole_whole _) _ (Memref.isWhole_whole _) _ (Memref.isWhole_whole _) _ (Memref.isWhole_whole _) _ (Memref.isWhole_whole _)
    _ (Memref.isWhole_whole _) _ (Memref.isWhole_whole _) (hcond0_0 t) (hcond0_1 t) (iblk m c 0 t) (iblk m c 5 t) (iblk m c 6 t)
    (fun g => slope (headAt t g)) (fun g => slope_pos _) (piece t a0) (piece t a1) (piece t a2) (piece t a3) (fun r g => col a4 (res t r) (headAt t g))
    (slopes_point t R _ _ _) (lse_point t R) (dmat_point t R) VO0_8 r a l).trans ?_
  rw [emb_8]
  simp only [headRows_piece]
  exact (ref_dk a0 a1 a2 a3 a4 (res t r) (headAt t (hd l)) a (dl l)).symm

/-- The third result is the reference's gradient with respect to the values. -/
theorem dv_array : (dats m 0 c).arrAt 9 cfg0.N
    = (val_main_v104 (F := Ideal) (up a0) (up a1) (up a3) : (⟨S16x512x512, .bf16⟩ : BufTy).Contents (Elt Ideal)) := by
  refine (dats m 0 c).arrAt_eq_of_covers 9 _ (by decide +kernel) fun t hf y => ?_
  refine (show _ = (dats m 0 c).flushed 9 t y from rfl).trans ((congrFun (Value.flushed9_A m c t) y).trans ?_)
  rw [q_piece t R, k_piece t R, do_piece t R]
  obtain ⟨r, a, l, rfl⟩ : ∃ (r : Fin 4) (a : Fin 512) (l : Fin 128), y = ix3 r a l := ⟨y 0, y 1, y 2, (eq_ix3 y)⟩
  refine (dv_value c (grid0.coords t) _ (hs0_0 t) _ (hs0_1 t) _ (hs0_2 t) _ (hs0_3 t) _ (hs0_4 t) _ (hs0_5 t) _ (hs0_6 t) _ (hs0_7 t) _ (hs0_8 t) _ (hs0_9 t)
    _ (Memref.isWhole_whole _) _ (Memref.isWhole_whole _) _ (Memref.isWhole_whole _) _ (Memref.isWhole_whole _) _ (Memref.isWhole_whole _)
    _ (Memref.isWhole_whole _) _ (Memref.isWhole_whole _) (hcond0_0 t) (hcond0_1 t) (iblk m c 0 t) (iblk m c 5 t) (iblk m c 6 t)
    (fun g => slope (headAt t g)) (fun g => slope_pos _) (piece t a0) (piece t a1) (piece t a3)
    (slopes_point t R _ _ _) (lse_point t R) (iblk m c 3 t) VO0_9 r a l).trans ?_
  rw [emb_9]
  simp only [headRows_piece]
  exact (ref_dv a0 a1 a3 (res t r) (headAt t (hd l)) a (dl l)).symm

end Cert.KernelIdeal.HostRead
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.Gen.Pre_finite
public import proofs.«01_k».proof.Proof.Gen.Pre_finite_norm
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Finite
public import proofs.«01_k».proof.Proof.Norm
public import proofs.«01_k».proof.Proof.Ffn
public import proofs.«01_k».proof.Proof.Adam
public import proofs.«01_k».proof.Proof.Gate
public import proofs.«01_k».proof.Proof.DwB
public import proofs.«01_k».proof.Proof.BranchB
public import proofs.«01_k».proof.Proof.DComb
public import proofs.«01_k».proof.Proof.BranchA
public import proofs.«01_k».proof.Proof.ProjQkv
public import proofs.«01_k».proof.Proof.ProjGates
public import proofs.«01_k».proof.Proof.ProjConv
public import proofs.«01_k».proof.Proof.DxQkv
public import proofs.«01_k».proof.Proof.DxGates
public import proofs.«01_k».proof.Proof.DxConv
public import proofs.«01_k».proof.Proof.DwConv
public import proofs.«01_k».proof.Proof.DwUp
public import proofs.«01_k».proof.Proof.DwDown
public import proofs.«01_k».proof.Proof.DwGates
public import proofs.«01_k».proof.Proof.DwQkv
public import proofs.«01_k».proof.Proof.DwO
public import proofs.«01_k».proof.Proof.Assemble

@[expose] public section

noncomputable section

namespace Cert.Proof

open Idealize.ShloMosaic Idealize.SL.Sem Cert.Kernel

/-- The kernel ends with its arguments as it found them. -/
theorem frame_kernel : Cert.quiescent_Kernel := fun m ρ _ => Cert.Kernel.Gen.frame m ρ

/-- So does the kernel read over the extended reals. -/
theorem frame_ideal : Cert.quiescent_KernelIdeal := fun m ρ _ => Cert.KernelIdeal.Gen.frame m ρ

/-- So does the reference read over the extended reals. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The mask's stand-in `1e32` is read as the infinity it stands for. -/
theorem preserves : Cert.preserves_Kernel_KernelIdeal :=
  IdealRules.named_const.statement Cert.KernelIdeal.κ "far" .f32 0x749DC5AE#32 ⊤ rfl

/-- The two frames under the precondition. -/
theorem frame_ideal_finite : Cert.quiescent_KernelIdeal_pre_finite := fun m ρ _ => Cert.KernelIdeal.Gen.frame m ρ

theorem frame_reference_finite : Cert.quiescent_ReferenceIdeal_pre_finite := fun m ρ _ => frame_reference m ρ trivial

section Reference

open Cert.ReferenceIdeal Cert.ReferenceIdeal.Read Cert.Window

variable (m' : (ℓ : Loc Cert.ReferenceIdeal.nD Cert.ReferenceIdeal.τ Cert.ReferenceIdeal.sig) → Buf (Elt Ideal) ℓ) (c : Dev Cert.ReferenceIdeal.nD)
variable (x0 x1 x2 x3 : (⟨Cert.ReferenceIdeal.S16x512x512, .f32⟩ : BufTy).Contents (Elt Ideal))
variable (x4 : (⟨Cert.ReferenceIdeal.S16x512x8, .f32⟩ : BufTy).Contents (Elt Ideal))

/-- The reference's three results are their stages at the arguments' contents. -/
theorem reference_results
    (n0 : m' ((c.tc : Thread Cert.ReferenceIdeal.nD Cert.ReferenceIdeal.τ).loc Cert.ReferenceIdeal.main_arg0) = x0)
    (n1 : m' ((c.tc : Thread Cert.ReferenceIdeal.nD Cert.ReferenceIdeal.τ).loc Cert.ReferenceIdeal.main_arg1) = x1)
    (n2 : m' ((c.tc : Thread Cert.ReferenceIdeal.nD Cert.ReferenceIdeal.τ).loc Cert.ReferenceIdeal.main_arg2) = x2)
    (n3 : m' ((c.tc : Thread Cert.ReferenceIdeal.nD Cert.ReferenceIdeal.τ).loc Cert.ReferenceIdeal.main_arg3) = x3)
    (n4 : m' ((c.tc : Thread Cert.ReferenceIdeal.nD Cert.ReferenceIdeal.τ).loc Cert.ReferenceIdeal.main_arg4) = x4) :
    val_main_v100 (F := Ideal) x0 x1 x2 x3 x4 = Cert.ReferenceIdeal.Value.res_main_v100 m' c
    ∧ val_main_v102 (F := Ideal) x0 x1 x2 x3 x4 = Cert.ReferenceIdeal.Value.res_main_v102 m' c
    ∧ val_main_v104 (F := Ideal) x0 x1 x3 = Cert.ReferenceIdeal.Value.res_main_v104 m' c := by
  subst n0 n1 n2 n3 n4
  exact ⟨(val_main_v100_eq m' c).symm, (val_main_v102_eq m' c).symm, (val_main_v104_eq m' c).symm⟩

end Reference

/-- On finite arguments the kernel's three results are the reference's. -/
theorem algebraic : Cert.algebraic_KernelIdeal_ReferenceIdeal_pre_finite := by
  intro m ρ m' ρ' hp hm
  refine ⟨fun c => Cert.ReferenceIdeal.Value.res_main_v100 m' c, fun c => Cert.ReferenceIdeal.Value.res_main_v102 m' c,
    fun c => Cert.ReferenceIdeal.Value.res_main_v104 m' c, ?_, Cert.ReferenceIdeal.Value.run (F := Ideal) m' ρ'⟩
  refine (θ_run Cert.KernelIdeal.defs _ _).mono (fun r h c => ?_) (Cert.KernelIdeal.Value.run_blocks (F := Ideal) m ρ)
  obtain ⟨e0, e1, e2, k0, k1, k2, k3, k4⟩ := h c
  obtain ⟨⟨a0, h0⟩, ⟨a1, h1⟩, ⟨a2, h2⟩, ⟨a3, h3⟩, ⟨a4, h4⟩⟩ := Cert.Window.reals_of_finite _ _ _ _ _ (hp c)
  obtain ⟨m0, m1, m2, m3, m4⟩ := hm c
  have R : Cert.KernelIdeal.HostRead.Reals m c a0 a1 a2 a3 a4 := ⟨h0, h1, h2, h3, h4⟩
  obtain ⟨r0, r1, r2⟩ := reference_results m' c _ _ _ _ _ (m0.trans h0) (m1.trans h1) (m2.trans h2) (m3.trans h3) (m4.trans h4)
  exact ⟨e0.trans ((Cert.KernelIdeal.HostRead.dq_array R).trans r0), e1.trans ((Cert.KernelIdeal.HostRead.dk_array R).trans r1),
    e2.trans ((Cert.KernelIdeal.HostRead.dv_array R).trans r2), k0, k1, k2, k3, k4⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Pre_finite.Gen.facts, Cert.Pre_finite_norm.Gen.facts,
  frame_kernel, frame_ideal, frame_ideal_finite, frame_reference, frame_reference_finite,
  Cert.Kernel2Ideal.Dw.frame_kernel, Cert.Kernel2Ideal.Dw.frame_ideal, Cert.Kernel2Ideal.Dw.frame_reference,
  Cert.Kernel3Ideal.Dw.frame_kernel, Cert.Kernel3Ideal.Dw.frame_ideal, Cert.Kernel3Ideal.Dw.frame_reference,
  Cert.Kernel4Ideal.Dw.frame_kernel, Cert.Kernel4Ideal.Dw.frame_ideal, Cert.Kernel4Ideal.Dw.frame_reference,
  Cert.Kernel5Ideal.Dw.frame_kernel, Cert.Kernel5Ideal.Dw.frame_ideal, Cert.Kernel5Ideal.Dw.frame_reference,
  Cert.Kernel6Ideal.Dw.frame_kernel, Cert.Kernel6Ideal.Dw.frame_ideal, Cert.Kernel6Ideal.Dw.frame_reference,
  Cert.Kernel7Ideal.Dw.frame_kernel, Cert.Kernel7Ideal.Dw.frame_ideal, Cert.Kernel7Ideal.Dw.frame_reference,
  Cert.Kernel8Ideal.Dx.frame_kernel, Cert.Kernel8Ideal.Dx.frame_ideal, Cert.Kernel8Ideal.Dx.frame_reference,
  Cert.Kernel9Ideal.Dx.frame_kernel, Cert.Kernel9Ideal.Dx.frame_ideal, Cert.Kernel9Ideal.Dx.frame_reference,
  Cert.Kernel10Ideal.Dx.frame_kernel, Cert.Kernel10Ideal.Dx.frame_ideal, Cert.Kernel10Ideal.Dx.frame_reference,
  Cert.Kernel11Ideal.Prod.frame_kernel, Cert.Kernel11Ideal.Prod.frame_ideal, Cert.Kernel11Ideal.Prod.frame_reference,
  Cert.Kernel12Ideal.Prod.frame_kernel, Cert.Kernel12Ideal.Prod.frame_ideal, Cert.Kernel12Ideal.Prod.frame_reference,
  Cert.Kernel13Ideal.Prod.frame_kernel, Cert.Kernel13Ideal.Prod.frame_ideal, Cert.Kernel13Ideal.Prod.frame_reference,
  Cert.Kernel14Ideal.Prod.frame_kernel, Cert.Kernel14Ideal.Prod.frame_ideal, Cert.Kernel14Ideal.Prod.frame_reference,
  Cert.Kernel15Ideal.Dx.frame_kernel, Cert.Kernel15Ideal.Dx.frame_ideal, Cert.Kernel15Ideal.Dx.frame_reference,
  Cert.Kernel16Ideal.Prod.frame_kernel, Cert.Kernel16Ideal.Prod.frame_ideal, Cert.Kernel16Ideal.Prod.frame_reference,
  Cert.Kernel17Ideal.Dw.frame_kernel, Cert.Kernel17Ideal.Dw.frame_ideal, Cert.Kernel17Ideal.Dw.frame_reference,
  Cert.Kernel18Ideal.Gate.frame_kernel, Cert.Kernel18Ideal.Gate.frame_ideal, Cert.Kernel18Ideal.Gate.frame_reference,
  Cert.Kernel19Ideal.Adam.frame_kernel, Cert.Kernel19Ideal.Adam.frame_ideal, Cert.Kernel19Ideal.Adam.frame_reference,
  Cert.Kernel20Ideal.Ffn.frame_kernel, Cert.Kernel20Ideal.Ffn.frame_ideal, Cert.Kernel20Ideal.Ffn.frame_reference,
  Cert.Kernel21Ideal.Norm.frame_kernel, Cert.Kernel21Ideal.Norm.frame_ideal, Cert.Kernel21Ideal.Norm.frame_ideal_finite, Cert.Kernel21Ideal.Norm.frame_reference, Cert.Kernel21Ideal.Norm.frame_reference_finite,
  preserves, algebraic,
  trivial, Cert.Kernel2Ideal.Dw.algebraic,
  trivial, Cert.Kernel3Ideal.Dw.algebraic,
  trivial, Cert.Kernel4Ideal.Dw.algebraic,
  trivial, Cert.Kernel5Ideal.Dw.algebraic,
  trivial, Cert.Kernel6Ideal.Dw.algebraic,
  trivial, Cert.Kernel7Ideal.Dw.algebraic,
  trivial, Cert.Kernel8Ideal.Dx.algebraic,
  trivial, Cert.Kernel9Ideal.Dx.algebraic,
  trivial, Cert.Kernel10Ideal.Dx.algebraic,
  trivial, Cert.Kernel11Ideal.Prod.algebraic,
  trivial, Cert.Kernel12Ideal.Prod.algebraic,
  trivial, Cert.Kernel13Ideal.Prod.algebraic,
  trivial, Cert.Kernel14Ideal.Prod.algebraic,
  trivial, Cert.Kernel15Ideal.Dx.algebraic,
  trivial, Cert.Kernel16Ideal.Prod.algebraic,
  trivial, Cert.Kernel17Ideal.Dw.algebraic,
  trivial, Cert.Kernel18Ideal.Gate.algebraic,
  trivial, Cert.Kernel19Ideal.Adam.algebraic,
  trivial, Cert.Kernel20Ideal.Ffn.algebraic,
  trivial, Cert.Kernel21Ideal.Norm.algebraic⟩

end Cert.Proof

end
